-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs5 [hPre_finite_inputs5 : Cert.Pre_finite_inputs5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs5 [hPre_finite_inputs5 : Cert.Pre_finite_inputs5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_inputs5 [hKernel5Ideal : Cert.Kernel5Ideal.Facts] [hPre_finite_inputs5 : Cert.Pre_finite_inputs5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_inputs5 [hReference5Ideal : Cert.Reference5Ideal.Facts] [hPre_finite_inputs5 : Cert.Pre_finite_inputs5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)) (v5 : (c : Dev Cert.KernelIdeal.nD) → Buf (Elt Ideal) ((c.tc : Thread Cert.KernelIdeal.nD Cert.KernelIdeal.τ).loc Cert.KernelIdeal.main_v46_5)) (v6 : (c : Dev Cert.KernelIdeal.nD) → Buf (Elt Ideal) ((c.tc : Thread Cert.KernelIdeal.nD Cert.KernelIdeal.τ).loc Cert.KernelIdeal.main_v46_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_v46_5) = v5 c
          ∧ r.2.mem ((c.tc : Thread Cert.KernelIdeal.nD Cert.KernelIdeal.τ).loc Cert.KernelIdeal.main_v46_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v141) = v5 c
          ∧ r.2.mem ((c.tc : Thread Cert.ReferenceIdeal.nD Cert.ReferenceIdeal.τ).loc Cert.ReferenceIdeal.main_v142) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_v90) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_inputs5 [hKernel5Ideal : Cert.Kernel5Ideal.Facts] [hReference5Ideal : Cert.Reference5Ideal.Facts] [hPre_finite_inputs5 : Cert.Pre_finite_inputs5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v73) = v3 c
          ∧ r.2.mem ((c.tc : Thread Cert.Reference5Ideal.nD Cert.Reference5Ideal.τ).loc Cert.Reference5Ideal.main_v74) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v20) = v2 c
          ∧ r.2.mem ((c.tc : Thread Cert.Reference12Ideal.nD Cert.Reference12Ideal.τ).loc Cert.Reference12Ideal.main_v31) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_v42) = v1 c
          ∧ r.2.mem ((c.tc : Thread Cert.Reference13Ideal.nD Cert.Reference13Ideal.τ).loc Cert.Reference13Ideal.main_v38) = v2 c
          ∧ r.2.mem ((c.tc : Thread Cert.Reference13Ideal.nD Cert.Reference13Ideal.τ).loc Cert.Reference13Ideal.main_v49) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  IdealRules.named_const.Statement Cert.Kernel19Ideal.κ "inv_corr1" .f32 0x3FC48605#32 ((8388608 / 5463681 : ℝ) : EReal)
  ∧ IdealRules.named_const.Statement Cert.Kernel19Ideal.κ "inv_corr2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_corr1" .f32 0x3FC48605#32 ((8388608 / 5463681 : ℝ) : EReal)
  ∧ IdealRules.named_const.Statement Cert.Kernel20Ideal.κ "inv_corr2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "inv_corr1" .f32 0x3FC48605#32 ((8388608 / 5463681 : ℝ) : EReal)
  ∧ IdealRules.named_const.Statement Cert.Kernel21Ideal.κ "inv_corr2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "inv_corr1" .f32 0x3FC48605#32 ((8388608 / 5463681 : ℝ) : EReal)
  ∧ IdealRules.named_const.Statement Cert.Kernel22Ideal.κ "inv_corr2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "inv_corr1" .f32 0x3FC48605#32 ((8388608 / 5463681 : ℝ) : EReal)
  ∧ IdealRules.named_const.Statement Cert.Kernel23Ideal.κ "inv_corr2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "inv_corr1" .f32 0x3FC48605#32 ((8388608 / 5463681 : ℝ) : EReal)
  ∧ IdealRules.named_const.Statement Cert.Kernel24Ideal.κ "inv_corr2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "inv_corr1" .f32 0x3FC48605#32 ((8388608 / 5463681 : ℝ) : EReal)
  ∧ IdealRules.named_const.Statement Cert.Kernel25Ideal.κ "inv_corr2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "inv_corr1" .f32 0x3FC48605#32 ((8388608 / 5463681 : ℝ) : EReal)
  ∧ IdealRules.named_const.Statement Cert.Kernel26Ideal.κ "inv_corr2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "inv_corr1" .f32 0x3FC48605#32 ((8388608 / 5463681 : ℝ) : EReal)
  ∧ IdealRules.named_const.Statement Cert.Kernel27Ideal.κ "inv_corr2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "inv_corr1" .f32 0x3FC48605#32 ((8388608 / 5463681 : ℝ) : EReal)
  ∧ IdealRules.named_const.Statement Cert.Kernel28Ideal.κ "inv_corr2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "inv_corr1" .f32 0x3FC48605#32 ((8388608 / 5463681 : ℝ) : EReal)
  ∧ IdealRules.named_const.Statement Cert.Kernel29Ideal.κ "inv_corr2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "inv_corr1" .f32 0x3FC48605#32 ((8388608 / 5463681 : ℝ) : EReal)
  ∧ IdealRules.named_const.Statement Cert.Kernel30Ideal.κ "inv_corr2" .f32 0x42C8E6D3#32 ((268435456 / 2672307 : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "inv_corr1" .f32 0x3FC48605#32 ((8388608 / 5463681 : ℝ) : EReal)
  ∧ IdealRules.named_const.Statement Cert.Kernel31Ideal.κ "inv_corr2" .f32 0x42C8E6D3#32 ((268435456 / 2672307 : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "inv_corr1" .f32 0x3FC48605#32 ((8388608 / 5463681 : ℝ) : EReal)
  ∧ IdealRules.named_const.Statement Cert.Kernel32Ideal.κ "inv_corr2" .f32 0x42C8E6D3#32 ((268435456 / 2672307 : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_v26) = v1 c
          ∧ r.2.mem ((c.tc : Thread Cert.Reference32Ideal.nD Cert.Reference32Ideal.τ).loc Cert.Reference32Ideal.main_v7) = v2 c
          ∧ r.2.mem ((c.tc : Thread Cert.Reference32Ideal.nD Cert.Reference32Ideal.τ).loc Cert.Reference32Ideal.main_v13) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "inv_corr1" .f32 0x3FC48605#32 ((8388608 / 5463681 : ℝ) : EReal)
  ∧ IdealRules.named_const.Statement Cert.Kernel33Ideal.κ "inv_corr2" .f32 0x42C8E6D3#32 ((268435456 / 2672307 : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_v26) = v1 c
          ∧ r.2.mem ((c.tc : Thread Cert.Reference33Ideal.nD Cert.Reference33Ideal.τ).loc Cert.Reference33Ideal.main_v7) = v2 c
          ∧ r.2.mem ((c.tc : Thread Cert.Reference33Ideal.nD Cert.Reference33Ideal.τ).loc Cert.Reference33Ideal.main_v13) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  IdealRules.named_const.Statement Cert.Kernel34Ideal.κ "inv_corr1" .f32 0x3FC48605#32 ((8388608 / 5463681 : ℝ) : EReal)
  ∧ IdealRules.named_const.Statement Cert.Kernel34Ideal.κ "inv_corr2" .f32 0x42C8E6D3#32 ((268435456 / 2672307 : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_v26) = v1 c
          ∧ r.2.mem ((c.tc : Thread Cert.Reference34Ideal.nD Cert.Reference34Ideal.τ).loc Cert.Reference34Ideal.main_v7) = v2 c
          ∧ r.2.mem ((c.tc : Thread Cert.Reference34Ideal.nD Cert.Reference34Ideal.τ).loc Cert.Reference34Ideal.main_v13) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  IdealRules.named_const.Statement Cert.Kernel35Ideal.κ "inv_corr1" .f32 0x3FC48605#32 ((8388608 / 5463681 : ℝ) : EReal)
  ∧ IdealRules.named_const.Statement Cert.Kernel35Ideal.κ "inv_corr2" .f32 0x42C8E6D3#32 ((268435456 / 2672307 : ℝ) : EReal)

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_v26) = v1 c
          ∧ r.2.mem ((c.tc : Thread Cert.Reference35Ideal.nD Cert.Reference35Ideal.τ).loc Cert.Reference35Ideal.main_v7) = v2 c
          ∧ r.2.mem ((c.tc : Thread Cert.Reference35Ideal.nD Cert.Reference35Ideal.τ).loc Cert.Reference35Ideal.main_v13) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  IdealRules.named_const.Statement Cert.Kernel36Ideal.κ "inv_corr1" .f32 0x3FC48605#32 ((8388608 / 5463681 : ℝ) : EReal)
  ∧ IdealRules.named_const.Statement Cert.Kernel36Ideal.κ "inv_corr2" .f32 0x42C8E6D3#32 ((268435456 / 2672307 : ℝ) : EReal)

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_v26) = v1 c
          ∧ r.2.mem ((c.tc : Thread Cert.Reference36Ideal.nD Cert.Reference36Ideal.τ).loc Cert.Reference36Ideal.main_v7) = v2 c
          ∧ r.2.mem ((c.tc : Thread Cert.Reference36Ideal.nD Cert.Reference36Ideal.τ).loc Cert.Reference36Ideal.main_v13) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  IdealRules.named_const.Statement Cert.Kernel37Ideal.κ "inv_corr1" .f32 0x3FC48605#32 ((8388608 / 5463681 : ℝ) : EReal)
  ∧ IdealRules.named_const.Statement Cert.Kernel37Ideal.κ "inv_corr2" .f32 0x42C8E6D3#32 ((268435456 / 2672307 : ℝ) : EReal)

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v2) = v0 c
          ∧ r.2.mem ((c.tc : Thread Cert.Reference37Ideal.nD Cert.Reference37Ideal.τ).loc Cert.Reference37Ideal.main_v26) = v1 c
          ∧ r.2.mem ((c.tc : Thread Cert.Reference37Ideal.nD Cert.Reference37Ideal.τ).loc Cert.Reference37Ideal.main_v7) = v2 c
          ∧ r.2.mem ((c.tc : Thread Cert.Reference37Ideal.nD Cert.Reference37Ideal.τ).loc Cert.Reference37Ideal.main_v13) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite_inputs : Cert.Pre_finite_inputs.Facts) (hPre_finite_inputs2 : Cert.Pre_finite_inputs2.Facts) (hPre_finite_inputs5 : Cert.Pre_finite_inputs5.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs5 (hKernel5Ideal := hKernel5Ideal) (hPre_finite_inputs5 := hPre_finite_inputs5)
    ∧ quiescent_Reference5Ideal (hReference5Ideal := hReference5Ideal)
    ∧ quiescent_Reference5Ideal_pre_finite_inputs5 (hReference5Ideal := hReference5Ideal) (hPre_finite_inputs5 := hPre_finite_inputs5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs5 (hKernel5Ideal := hKernel5Ideal) (hReference5Ideal := hReference5Ideal) (hPre_finite_inputs5 := hPre_finite_inputs5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Pre_finite_inputs.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S256x1024 .f32) (main_arg5 : FVec F S256x1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S256x1024 .f32) (main_arg5 : FVec F S256x1024 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Pre_finite_inputs2.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024x4096 .f32) (main_arg3 : FVec F S4096x1024 .f32) (main_arg4 : FVec F S1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite_inputs5.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩
abbrev S1024x256 : Shape := ⟨2, ![1024, 256]⟩
abbrev S512x256 : Shape := ⟨2, ![512, 256]⟩
abbrev S256x256 : Shape := ⟨2, ![256, 256]⟩

abbrev nBuf : Space → Nat
  | .hbm => 71
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x4x256, .f32⟩
  | .hbm, ⟨13, _⟩ => ⟨S256x4x256, .f32⟩
  | .hbm, ⟨14, _⟩ => ⟨S256x4x256, .f32⟩
  | .hbm, ⟨15, _⟩ => ⟨S4x8192x256, .f32⟩
  | .hbm, ⟨16, _⟩ => ⟨S_, .f32⟩
  | .hbm, ⟨17, _⟩ => ⟨S4x8192x256, .f32⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x256, .f32⟩
  | .hbm, ⟨32, _⟩ => ⟨S4x8192x256, .f32⟩
  | .hbm, ⟨33, _⟩ => ⟨S4x256x8192, .f32⟩
  | .hbm, ⟨34, _⟩ => ⟨S8192x4x256, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S1024x1024, .bf16⟩
  | .hbm, ⟨63, _⟩ => ⟨S1024x1024, .bf16⟩
  | .hbm, ⟨64, _⟩ => ⟨S8192x1024, .bf16⟩
  | .hbm, ⟨65, _⟩ => ⟨S8192x1024, .bf16⟩
  | .hbm, ⟨66, _⟩ => ⟨S8192x1024, .f32⟩
  | .hbm, ⟨67, _⟩ => ⟨S256x1024, .f32⟩
  | .hbm, ⟨68, _⟩ => ⟨S256x1024, .f32⟩
  | .hbm, ⟨69, _⟩ => ⟨S1x1024, .f32⟩
  | .hbm, ⟨70, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_v46_4 : Ref sig .tc := ⟨.hbm, 68, rfl⟩
abbrev main_v46_5 : Ref sig .tc := ⟨.hbm, 69, rfl⟩
abbrev main_v46_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩
abbrev S1024x256 : Shape := ⟨2, ![1024, 256]⟩
abbrev S512x256 : Shape := ⟨2, ![512, 256]⟩
abbrev S256x256 : Shape := ⟨2, ![256, 256]⟩

abbrev nBuf : Space → Nat
  | .hbm => 71
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x4x256, .f32⟩
  | .hbm, ⟨13, _⟩ => ⟨S256x4x256, .f32⟩
  | .hbm, ⟨14, _⟩ => ⟨S256x4x256, .f32⟩
  | .hbm, ⟨15, _⟩ => ⟨S4x8192x256, .f32⟩
  | .hbm, ⟨16, _⟩ => ⟨S_, .f32⟩
  | .hbm, ⟨17, _⟩ => ⟨S4x8192x256, .f32⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x256, .f32⟩
  | .hbm, ⟨32, _⟩ => ⟨S4x8192x256, .f32⟩
  | .hbm, ⟨33, _⟩ => ⟨S4x256x8192, .f32⟩
  | .hbm, ⟨34, _⟩ => ⟨S8192x4x256, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S1024x1024, .bf16⟩
  | .hbm, ⟨63, _⟩ => ⟨S1024x1024, .bf16⟩
  | .hbm, ⟨64, _⟩ => ⟨S8192x1024, .bf16⟩
  | .hbm, ⟨65, _⟩ => ⟨S8192x1024, .bf16⟩
  | .hbm, ⟨66, _⟩ => ⟨S8192x1024, .f32⟩
  | .hbm, ⟨67, _⟩ => ⟨S256x1024, .f32⟩
  | .hbm, ⟨68, _⟩ => ⟨S256x1024, .f32⟩
  | .hbm, ⟨69, _⟩ => ⟨S1x1024, .f32⟩
  | .hbm, ⟨70, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_v46_4 : Ref sig .tc := ⟨.hbm, 68, rfl⟩
abbrev main_v46_5 : Ref sig .tc := ⟨.hbm, 69, rfl⟩
abbrev main_v46_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩
abbrev S1x1024 : Shape := ⟨2, ![1, 1024]⟩
abbrev S4x256x256 : Shape := ⟨3, ![4, 256, 256]⟩

abbrev nBuf : Space → Nat
  | .hbm => 186
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .f32⟩
  | 3 => ⟨S1024x1024, .f32⟩
  | 4 => ⟨S256x1024, .f32⟩
  | 5 => ⟨S256x1024, .f32⟩
  | 6 => ⟨S1024, .f32⟩
  | 7 => ⟨S1024, .f32⟩
  | 8 => ⟨S_, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x4x256, .f32⟩
  | 16 => ⟨S256x4x256, .f32⟩
  | 17 => ⟨S256x4x256, .f32⟩
  | 18 => ⟨S4x8192x256, .f32⟩
  | 19 => ⟨S_, .f32⟩
  | 20 => ⟨S4x8192x256, .f32⟩
  | 21 => ⟨S4x8192x256, .f32⟩
  | 22 => ⟨S_, .f32⟩
  | 23 => ⟨S4x8192, .f32⟩
  | 24 => ⟨S4x8192x1, .f32⟩
  | 25 => ⟨S4x8192x256, .f32⟩
  | 26 => ⟨S4x8192x256, .i1⟩
  | 27 => ⟨S4x8192x256, .f32⟩
  | 28 => ⟨S_, .f32⟩
  | 29 => ⟨S4x8192, .f32⟩
  | 30 => ⟨S_, .f32⟩
  | 31 => ⟨S4x8192, .f32⟩
  | 32 => ⟨S4x8192, .f32⟩
  | 33 => ⟨S_, .f32⟩
  | 34 => ⟨S4x8192, .f32⟩
  | 35 => ⟨S4x8192, .i1⟩
  | 36 => ⟨S_, .f32⟩
  | 37 => ⟨S4x8192, .f32⟩
  | 38 => ⟨S4x8192, .i1⟩
  | 39 => ⟨S_, .f32⟩
  | 40 => ⟨S4x8192, .f32⟩
  | 41 => ⟨S_, .f32⟩
  | 42 => ⟨S4x8192, .f32⟩
  | 43 => ⟨S_, .f32⟩
  | 44 => ⟨S4x8192, .f32⟩
  | 45 => ⟨S4x8192, .f32⟩
  | 46 => ⟨S4x8192, .f32⟩
  | 47 => ⟨S4x8192x1, .f32⟩
  | 48 => ⟨S4x8192x256, .f32⟩
  | 49 => ⟨S4x8192x256, .f32⟩
  | 50 => ⟨S4x8192x256, .f32⟩
  | 51 => ⟨S_, .f32⟩
  | 52 => ⟨S4x8192, .f32⟩
  | 53 => ⟨S4x8192x1, .f32⟩
  | 54 => ⟨S4x8192x256, .f32⟩
  | 55 => ⟨S4x8192x256, .f32⟩
  | 56 => ⟨S4x8192x1, .f32⟩
  | 57 => ⟨S_, .f32⟩
  | 58 => ⟨S4x8192x1, .f32⟩
  | 59 => ⟨S4x8192x1, .f32⟩
  | 60 => ⟨S4x256x8192, .f32⟩
  | 61 => ⟨S8192x4x256, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S8192x1024, .f32⟩
  | 85 => ⟨S8192x1024, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1, .f32⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S8192x4x256, .f32⟩
  | 21 => ⟨S4x256x8192, .f32⟩
  | 22 => ⟨S4x8192x256, .f32⟩
  | 23 => ⟨S4x256x256, .f32⟩
  | 24 => ⟨S256x4x256, .f32⟩
  | 25 => ⟨S4x8192x256, .f32⟩
  | 26 => ⟨S4x8192x256, .f32⟩
  | 27 => ⟨S4x8192x256, .f32⟩
  | 28 => ⟨S_, .f32⟩
  | 29 => ⟨S4x8192, .f32⟩
  | 30 => ⟨S4x8192x1, .f32⟩
  | 31 => ⟨S4x8192x1, .f32⟩
  | 32 => ⟨S4x8192x256, .f32⟩
  | 33 => ⟨S4x8192x256, .f32⟩
  | 34 => ⟨S_, .f32⟩
  | 35 => ⟨S4x8192, .f32⟩
  | 36 => ⟨S4x8192x256, .f32⟩
  | 37 => ⟨S4x8192x256, .f32⟩
  | 38 => ⟨S4x8192x256, .f32⟩
  | 39 => ⟨S_, .f32⟩
  | 40 => ⟨S4x8192x256, .f32⟩
  | 41 => ⟨S4x8192x256, .f32⟩
  | 42 => ⟨S4x256x256, .f32⟩
  | 43 => ⟨S256x4x256, .f32⟩
  | 44 => ⟨S4x8192x256, .f32⟩
  | 45 => ⟨S8192x4x256, .f32⟩
  | 46 => ⟨S256x1024, .f32⟩
  | 47 => ⟨S256x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x1024, .bf16⟩
  | 55 => ⟨S8192x1024, .bf16⟩
  | 56 => ⟨S1x1024, .f32⟩
  | 57 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_24 : Ref sig .tc := ⟨.hbm, 124, rfl⟩
abbrev main_v91 : Ref sig .tc := ⟨.hbm, 125, rfl⟩
abbrev main_v92 : Ref sig .tc := ⟨.hbm, 126, rfl⟩
abbrev main_cst_25 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_27 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_28 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_30 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_31 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_32 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_33 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩
abbrev S256x1 : Shape := ⟨2, ![256, 1]⟩
abbrev S256x4096 : Shape := ⟨2, ![256, 4096]⟩
abbrev S2 : Shape := ⟨1, ![2]⟩
abbrev S1 : Shape := ⟨1, ![1]⟩
abbrev S256 : Shape := ⟨1, ![256]⟩
abbrev S1024x1024 : Shape := ⟨2, ![1024, 1024]⟩

abbrev nBuf : Space → Nat
  | .hbm => 48
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x4096, .bf16⟩
  | .hbm, ⟨41, _⟩ => ⟨S1024x4096, .bf16⟩
  | .hbm, ⟨42, _⟩ => ⟨S4096x1024, .bf16⟩
  | .hbm, ⟨43, _⟩ => ⟨S8192x1024, .bf16⟩
  | .hbm, ⟨44, _⟩ => ⟨S8192x4096, .bf16⟩
  | .hbm, ⟨45, _⟩ => ⟨S8192x1024, .f32⟩
  | .hbm, ⟨46, _⟩ => ⟨S1x1024, .f32⟩
  | .hbm, ⟨47, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S256x4096, .bf16⟩
  | .local _ .vmem, ⟨8, _⟩ => ⟨S256x4096, .bf16⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev main_v29_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .i1⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x4096, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S8192x4096, .f32⟩
  | .hbm, ⟨116, _⟩ => ⟨S_, .f32⟩
  | .hbm, ⟨117, _⟩ => ⟨S8192x4096, .f32⟩
  | .hbm, ⟨118, _⟩ => ⟨S8192x4096, .f32⟩
  | .hbm, ⟨119, _⟩ => ⟨S8192x1024, .f32⟩
  | .hbm, ⟨120, _⟩ => ⟨S8192x1024, .f32⟩
  | .hbm, ⟨121, _⟩ => ⟨S8192x1024, .bf16⟩
  | .hbm, ⟨122, _⟩ => ⟨S8192x4096, .bf16⟩
  | .hbm, ⟨123, _⟩ => ⟨S1x1024, .f32⟩
  | .hbm, ⟨124, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_24 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S4x8192x1024 : Shape := ⟨3, ![4, 8192, 1024]⟩
abbrev S1024x1024 : Shape := ⟨2, ![1024, 1024]⟩
abbrev S1024x2048 : Shape := ⟨2, ![1024, 2048]⟩
abbrev S2x1024x1024 : Shape := ⟨3, ![2, 1024, 1024]⟩
abbrev S1x1024x1024 : Shape := ⟨3, ![1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4x8192x1024, .f32⟩
  | .hbm, ⟨3, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2x1024x1024, .f32⟩
  | .local _ .vmem, ⟨5, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x4096 : Shape := ⟨2, ![8192, 4096]⟩
abbrev S4x8192x1024 : Shape := ⟨3, ![4, 8192, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x4096x1024 : Shape := ⟨3, ![4, 4096, 1024]⟩
abbrev S4x3072x1024 : Shape := ⟨3, ![4, 3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4x8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x4096x1024, .f32⟩
  | .hbm, ⟨12, _⟩ => ⟨S4x3072x1024, .f32⟩
  | .hbm, ⟨13, _⟩ => ⟨S4x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4x8192x1024 : Shape := ⟨3, ![4, 8192, 1024]⟩
abbrev S1024x2048 : Shape := ⟨2, ![1024, 2048]⟩
abbrev S1024x1024 : Shape := ⟨2, ![1024, 1024]⟩
abbrev S2x1024x1024 : Shape := ⟨3, ![2, 1024, 1024]⟩
abbrev S2048x1024 : Shape := ⟨2, ![2048, 1024]⟩
abbrev S1x1024x1024 : Shape := ⟨3, ![1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x8192x1024, .f32⟩
  | .hbm, ⟨3, _⟩ => ⟨S4x8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x1024, .f32⟩
  | .local _ .vmem, ⟨5, _⟩ => ⟨S2x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg0.toNat, c5_i32.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x4096 : Shape := ⟨2, ![8192, 4096]⟩
abbrev S8192x1024 : Shape := ⟨2, ![8192, 1024]⟩
abbrev S4x8192x1024 : Shape := ⟨3, ![4, 8192, 1024]⟩
abbrev S_ : Shape := ⟨0, ![]⟩
abbrev S4096x1024 : Shape := ⟨2, ![4096, 1024]⟩
abbrev S1024x4096 : Shape := ⟨2, ![1024, 4096]⟩
abbrev S4x5120x1024 : Shape := ⟨3, ![4, 5120, 1024]⟩
abbrev S4x1024x1024 : Shape := ⟨3, ![4, 1024, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x8192x1024, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x5120x1024, .f32⟩
  | .hbm, ⟨11, _⟩ => ⟨S4x1024x1024, .f32⟩
  | .hbm, ⟨12, _⟩ => ⟨S4x2048x1024, .f32⟩
  | .hbm, ⟨13, _⟩ => ⟨S4x8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 41
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S1024x1024, .bf16⟩
  | .hbm, ⟨36, _⟩ => ⟨S8192x1024, .bf16⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1024x2432 : Shape := ⟨2, ![1024, 2432]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S1024x2432, .f32⟩
  | .hbm, ⟨7, _⟩ => ⟨S8192x1024, .f32⟩
  | .hbm, ⟨8, _⟩ => ⟨S1024x2432, .bf16⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S1024x2432, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1024x2432 : Shape := ⟨2, ![1024, 2432]⟩
abbrev S8192x2432 : Shape := ⟨2, ![8192, 2432]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S1024x2432, .f32⟩
  | .hbm, ⟨7, _⟩ => ⟨S8192x1024, .f32⟩
  | .hbm, ⟨8, _⟩ => ⟨S8192x2432, .bf16⟩
  | .hbm, ⟨9, _⟩ => ⟨S8192x2432, .f32⟩
  | .hbm, ⟨10, _⟩ => ⟨S_, .f32⟩
  | .hbm, ⟨11, _⟩ => ⟨S8192x1024, .f32⟩
  | .hbm, ⟨12, _⟩ => ⟨S8192x2432, .f32⟩
  | .hbm, ⟨13, _⟩ => ⟨S8192x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1024x2432 : Shape := ⟨2, ![1024, 2432]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S8192x1024, .f32⟩
  | .hbm, ⟨7, _⟩ => ⟨S1024x2432, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S512x1024, .f32⟩
  | .local _ .vmem, ⟨13, _⟩ => ⟨S512x1024, .f32⟩
  | .local _ .vmem, ⟨14, _⟩ => ⟨S1024x2432, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S8192x2432 : Shape := ⟨2, ![8192, 2432]⟩
abbrev S_ : Shape := ⟨0, ![]⟩
abbrev S1024x2432 : Shape := ⟨2, ![1024, 2432]⟩
abbrev S2432x1024 : Shape := ⟨2, ![2432, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S8192x1024, .f32⟩
  | .hbm, ⟨7, _⟩ => ⟨S8192x2432, .bf16⟩
  | .hbm, ⟨8, _⟩ => ⟨S8192x2432, .f32⟩
  | .hbm, ⟨9, _⟩ => ⟨S_, .f32⟩
  | .hbm, ⟨10, _⟩ => ⟨S1024x2432, .f32⟩
  | .hbm, ⟨11, _⟩ => ⟨S8192x2432, .f32⟩
  | .hbm, ⟨12, _⟩ => ⟨S2432x1024, .f32⟩
  | .hbm, ⟨13, _⟩ => ⟨S1024x2432, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== Kernel8.lean ====
abbrev S8192x1024 : Shape := ⟨2, ![8192, 1024]⟩
abbrev S4x8192x1024 : Shape := ⟨3, ![4, 8192, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x8192x1024, .f32⟩
  | .hbm, ⟨3, _⟩ => ⟨S4x8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c28_i32 : BitVec 32 := 28#32
  let c0_i32_0 : BitVec 32 := 0#32
  let c0_i32_1 : BitVec 32 := 0#32
  ![c0_i32.toNat, c28_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8192x1024 : Shape := ⟨2, ![8192, 1024]⟩
abbrev S4x8192x1024 : Shape := ⟨3, ![4, 8192, 1024]⟩
abbrev S_ : Shape := ⟨0, ![]⟩
abbrev S1024x1024 : Shape := ⟨2, ![1024, 1024]⟩
abbrev S4x7168x1024 : Shape := ⟨3, ![4, 7168, 1024]⟩
abbrev S4x256x1024 : Shape := ⟨3, ![4, 256, 1024]⟩
abbrev S4x768x1024 : Shape := ⟨3, ![4, 768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S4x7168x1024, .f32⟩
  | .hbm, ⟨11, _⟩ => ⟨S4x256x1024, .f32⟩
  | .hbm, ⟨12, _⟩ => ⟨S4x768x1024, .f32⟩
  | .hbm, ⟨13, _⟩ => ⟨S4x8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel9.lean ====
abbrev S8192x1024 : Shape := ⟨2, ![8192, 1024]⟩
abbrev S4x8192x1024 : Shape := ⟨3, ![4, 8192, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x8192x1024, .f32⟩
  | .hbm, ⟨3, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c25_i32 : BitVec 32 := 25#32
  let c0_i32_0 : BitVec 32 := 0#32
  let c0_i32_1 : BitVec 32 := 0#32
  ![c0_i32.toNat, c25_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S8192x1024 : Shape := ⟨2, ![8192, 1024]⟩
abbrev S4x8192x1024 : Shape := ⟨3, ![4, 8192, 1024]⟩
abbrev S_ : Shape := ⟨0, ![]⟩
abbrev S1024x1024 : Shape := ⟨2, ![1024, 1024]⟩
abbrev S4x6400x1024 : Shape := ⟨3, ![4, 6400, 1024]⟩
abbrev S4x256x1024 : Shape := ⟨3, ![4, 256, 1024]⟩
abbrev S4x1536x1024 : Shape := ⟨3, ![4, 1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x6400x1024, .f32⟩
  | .hbm, ⟨10, _⟩ => ⟨S4x256x1024, .f32⟩
  | .hbm, ⟨11, _⟩ => ⟨S4x1536x1024, .f32⟩
  | .hbm, ⟨12, _⟩ => ⟨S4x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S8192x512 : Shape := ⟨2, ![8192, 512]⟩
abbrev S8192x256 : Shape := ⟨2, ![8192, 256]⟩
abbrev S8192x1024 : Shape := ⟨2, ![8192, 1024]⟩
abbrev S4x8192x1024 : Shape := ⟨3, ![4, 8192, 1024]⟩
abbrev S1024x512 : Shape := ⟨2, ![1024, 512]⟩
abbrev S1024x256 : Shape := ⟨2, ![1024, 256]⟩
abbrev S1024x1024 : Shape := ⟨2, ![1024, 1024]⟩
abbrev S4x256x1024 : Shape := ⟨3, ![4, 256, 1024]⟩
abbrev S512x1024 : Shape := ⟨2, ![512, 1024]⟩
abbrev S256x1024 : Shape := ⟨2, ![256, 1024]⟩
abbrev S1x256x1024 : Shape := ⟨3, ![1, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .bf16⟩
  | .hbm, ⟨4, _⟩ => ⟨S4x8192x1024, .f32⟩
  | .hbm, ⟨5, _⟩ => ⟨S4x8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S4x256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c24_i32 : BitVec 32 := 24#32
  let c0_i32_0 : BitVec 32 := 0#32
  let c0_i32_1 : BitVec 32 := 0#32
  ![c0_i32.toNat, c24_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S8192x512 : Shape := ⟨2, ![8192, 512]⟩
abbrev S8192x256 : Shape := ⟨2, ![8192, 256]⟩
abbrev S8192x1024 : Shape := ⟨2, ![8192, 1024]⟩
abbrev S4x8192x1024 : Shape := ⟨3, ![4, 8192, 1024]⟩
abbrev S_ : Shape := ⟨0, ![]⟩
abbrev S1024x1024 : Shape := ⟨2, ![1024, 1024]⟩
abbrev S4x6144x1024 : Shape := ⟨3, ![4, 6144, 1024]⟩
abbrev S4x256x1024 : Shape := ⟨3, ![4, 256, 1024]⟩
abbrev S4x1792x1024 : Shape := ⟨3, ![4, 1792, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .bf16⟩
  | .hbm, ⟨4, _⟩ => ⟨S4x8192x1024, .f32⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S4x6144x1024, .f32⟩
  | .hbm, ⟨14, _⟩ => ⟨S4x256x1024, .f32⟩
  | .hbm, ⟨15, _⟩ => ⟨S4x1792x1024, .f32⟩
  | .hbm, ⟨16, _⟩ => ⟨S4x8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel11.lean ====
abbrev S8192x1024 : Shape := ⟨2, ![8192, 1024]⟩
abbrev S1024x2432 : Shape := ⟨2, ![1024, 2432]⟩
abbrev S8192x2432 : Shape := ⟨2, ![8192, 2432]⟩
abbrev S512x1024 : Shape := ⟨2, ![512, 1024]⟩
abbrev S512x2432 : Shape := ⟨2, ![512, 2432]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2432, .f32⟩
  | .hbm, ⟨2, _⟩ => ⟨S1024x2432, .bf16⟩
  | .hbm, ⟨3, _⟩ => ⟨S8192x2432, .f32⟩
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S512x2432, .f32⟩
  | .local _ .vmem, ⟨4, _⟩ => ⟨S512x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1024x2432 : Shape := ⟨2, ![1024, 2432]⟩
abbrev S8192x2432 : Shape := ⟨2, ![8192, 2432]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2432, .f32⟩
  | .hbm, ⟨2, _⟩ => ⟨S8192x2432, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S8192x1 : Shape := ⟨2, ![8192, 1]⟩
abbrev S8192x4096 : Shape := ⟨2, ![8192, 4096]⟩
abbrev S512x1024 : Shape := ⟨2, ![512, 1024]⟩
abbrev S512x1 : Shape := ⟨2, ![512, 1]⟩
abbrev S512x4096 : Shape := ⟨2, ![512, 4096]⟩
abbrev S2 : Shape := ⟨1, ![2]⟩
abbrev S1 : Shape := ⟨1, ![1]⟩
abbrev S_ : Shape := ⟨0, ![]⟩
abbrev S1024x1024 : Shape := ⟨2, ![1024, 1024]⟩
abbrev S512 : Shape := ⟨1, ![512]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1, .f32⟩
  | .hbm, ⟨12, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x4096, .bf16⟩
  | .local _ .vmem, ⟨11, _⟩ => ⟨S512x4096, .bf16⟩
  | .local _ .vmem, ⟨12, _⟩ => ⟨S1024x4096, .bf16⟩
  | .local _ .vmem, ⟨13, _⟩ => ⟨S4096x1024, .bf16⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S1024x256 : Shape := ⟨2, ![1024, 256]⟩
abbrev S512x256 : Shape := ⟨2, ![512, 256]⟩
abbrev S256x256 : Shape := ⟨2, ![256, 256]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S8192x1024 : Shape := ⟨2, ![8192, 1024]⟩
abbrev S1024x1024 : Shape := ⟨2, ![1024, 1024]⟩
abbrev S256x1024 : Shape := ⟨2, ![256, 1024]⟩
abbrev S1024 : Shape := ⟨1, ![1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S_, .f32⟩
  | .hbm, ⟨18, _⟩ => ⟨S4x8192, .f32⟩
  | .hbm, ⟨19, _⟩ => ⟨S4x8192, .f32⟩
  | .hbm, ⟨20, _⟩ => ⟨S4x8192x1, .f32⟩
  | .hbm, ⟨21, _⟩ => ⟨S4x8192x256, .f32⟩
  | .hbm, ⟨22, _⟩ => ⟨S4x8192x256, .f32⟩
  | .hbm, ⟨23, _⟩ => ⟨S4x8192x256, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x256, .f32⟩
  | .hbm, ⟨28, _⟩ => ⟨S4x8192x256, .f32⟩
  | .hbm, ⟨29, _⟩ => ⟨S4x256x8192, .f32⟩
  | .hbm, ⟨30, _⟩ => ⟨S8192x4x256, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel14.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x512 : Shape := ⟨2, ![512, 512]⟩
abbrev S512x256 : Shape := ⟨2, ![512, 256]⟩
abbrev S512x1024 : Shape := ⟨2, ![512, 1024]⟩
abbrev S512x1 : Shape := ⟨2, ![512, 1]⟩
abbrev S256x1024 : Shape := ⟨2, ![256, 1024]⟩
abbrev S512 : Shape := ⟨1, ![512]⟩

abbrev nBuf : Space → Nat
  | .hbm => 13
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8192x1024, .bf16⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel15.lean ====
abbrev S256x1024 : Shape := ⟨2, ![256, 1024]⟩
abbrev S4x8192x1024 : Shape := ⟨3, ![4, 8192, 1024]⟩
abbrev S4x256x1024 : Shape := ⟨3, ![4, 256, 1024]⟩
abbrev S1024x1024 : Shape := ⟨2, ![1024, 1024]⟩
abbrev S1x256x1024 : Shape := ⟨3, ![1, 256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x8192x1024, .f32⟩
  | .hbm, ⟨3, _⟩ => ⟨S4x8192x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c26_i32 : BitVec 32 := 26#32
  let c0_i32_0 : BitVec 32 := 0#32
  let c0_i32_1 : BitVec 32 := 0#32
  ![c0_i32.toNat, c26_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference15Ideal.lean ====
abbrev S256x1024 : Shape := ⟨2, ![256, 1024]⟩
abbrev S4x8192x1024 : Shape := ⟨3, ![4, 8192, 1024]⟩
abbrev S_ : Shape := ⟨0, ![]⟩
abbrev S1024x1024 : Shape := ⟨2, ![1024, 1024]⟩
abbrev S4x6656x1024 : Shape := ⟨3, ![4, 6656, 1024]⟩
abbrev S4x256x1024 : Shape := ⟨3, ![4, 256, 1024]⟩
abbrev S4x1280x1024 : Shape := ⟨3, ![4, 1280, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x8192x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x6656x1024, .f32⟩
  | .hbm, ⟨9, _⟩ => ⟨S4x256x1024, .f32⟩
  | .hbm, ⟨10, _⟩ => ⟨S4x1280x1024, .f32⟩
  | .hbm, ⟨11, _⟩ => ⟨S4x8192x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel16.lean ====
abbrev S256x1024 : Shape := ⟨2, ![256, 1024]⟩
abbrev S4x8192x1024 : Shape := ⟨3, ![4, 8192, 1024]⟩
abbrev S4x256x1024 : Shape := ⟨3, ![4, 256, 1024]⟩
abbrev S1024x1024 : Shape := ⟨2, ![1024, 1024]⟩
abbrev S1x256x1024 : Shape := ⟨3, ![1, 256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x8192x1024, .f32⟩
  | .hbm, ⟨3, _⟩ => ⟨S4x8192x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c27_i32 : BitVec 32 := 27#32
  let c0_i32_0 : BitVec 32 := 0#32
  let c0_i32_1 : BitVec 32 := 0#32
  ![c0_i32.toNat, c27_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference16Ideal.lean ====
abbrev S256x1024 : Shape := ⟨2, ![256, 1024]⟩
abbrev S4x8192x1024 : Shape := ⟨3, ![4, 8192, 1024]⟩
abbrev S_ : Shape := ⟨0, ![]⟩
abbrev S1024x1024 : Shape := ⟨2, ![1024, 1024]⟩
abbrev S4x6912x1024 : Shape := ⟨3, ![4, 6912, 1024]⟩
abbrev S4x256x1024 : Shape := ⟨3, ![4, 256, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x8192x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x6912x1024, .f32⟩
  | .hbm, ⟨9, _⟩ => ⟨S4x256x1024, .f32⟩
  | .hbm, ⟨10, _⟩ => ⟨S4x1024x1024, .f32⟩
  | .hbm, ⟨11, _⟩ => ⟨S4x8192x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel17.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference17Ideal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel19.lean ====
abbrev S2048x1024 : Shape := ⟨2, ![2048, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 1 := Scalar.cmpi .slt arg0 c4_i32
  let c16_i32 : BitVec 32 := 16#32
  let v1 : BitVec 32 := Scalar.addi c16_i32 arg0
  let c0_i32 : BitVec 32 := 0#32
  let v2 : BitVec 32 := Scalar.addi c0_i32 arg0
  let c4_i32_0 : BitVec 32 := 4#32
  let v3 : BitVec 32 := Scalar.subi v2 c4_i32_0
  let v4 : BitVec 32 := Scalar.select v0 v1 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S2048x1024 : Shape := ⟨2, ![2048, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 1 := Scalar.cmpi .slt arg0 c4_i32
  let c16_i32 : BitVec 32 := 16#32
  let v1 : BitVec 32 := Scalar.addi c16_i32 arg0
  let c0_i32 : BitVec 32 := 0#32
  let v2 : BitVec 32 := Scalar.addi c0_i32 arg0
  let c4_i32_0 : BitVec 32 := 4#32
  let v3 : BitVec 32 := Scalar.subi v2 c4_i32_0
  let v4 : BitVec 32 := Scalar.select v0 v1 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2048x1024 : Shape := ⟨2, ![2048, 1024]⟩
abbrev S8192x1024 : Shape := ⟨2, ![8192, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S32x64 : Shape := ⟨2, ![32, 64]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S32x64 : Shape := ⟨2, ![32, 64]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S32x64 : Shape := ⟨2, ![32, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S_, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8x64 : Shape := ⟨2, ![8, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S8x64, .f32⟩
  | .hbm, ⟨6, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S8x64 : Shape := ⟨2, ![8, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S8x64, .f32⟩
  | .hbm, ⟨6, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S8x64 : Shape := ⟨2, ![8, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S_, .f32⟩
  | .hbm, ⟨5, _⟩ => ⟨S8x64, .f32⟩
  | .hbm, ⟨6, _⟩ => ⟨S8x64, .f32⟩
  | .hbm, ⟨7, _⟩ => ⟨S_, .f32⟩
  | .hbm, ⟨8, _⟩ => ⟨S8x64, .f32⟩
  | .hbm, ⟨9, _⟩ => ⟨S8x64, .f32⟩
  | .hbm, ⟨10, _⟩ => ⟨S8x64, .f32⟩
  | .hbm, ⟨11, _⟩ => ⟨S_, .f32⟩
  | .hbm, ⟨12, _⟩ => ⟨S8x64, .f32⟩
  | .hbm, ⟨13, _⟩ => ⟨S8x64, .f32⟩
  | .hbm, ⟨14, _⟩ => ⟨S8x64, .f32⟩
  | .hbm, ⟨15, _⟩ => ⟨S_, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S_, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S_, .f32⟩
  | .hbm, ⟨31, _⟩ => ⟨S8x64, .f32⟩
  | .hbm, ⟨32, _⟩ => ⟨S8x64, .f32⟩
  | .hbm, ⟨33, _⟩ => ⟨S8x64, .f32⟩
  | .hbm, ⟨34, _⟩ => ⟨S_, .f32⟩
  | .hbm, ⟨35, _⟩ => ⟨S8x64, .f32⟩
  | .hbm, ⟨36, _⟩ => ⟨S8x64, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S512x64 : Shape := ⟨2, ![512, 64]⟩
abbrev S256x64 : Shape := ⟨2, ![256, 64]⟩

abbrev nBuf : Space → Nat
  | .hbm => 7
  | .vmem => 14
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel29Ideal.lean ====
abbrev S512x64 : Shape := ⟨2, ![512, 64]⟩
abbrev S256x64 : Shape := ⟨2, ![256, 64]⟩

abbrev nBuf : Space → Nat
  | .hbm => 7
  | .vmem => 14
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S512x64 : Shape := ⟨2, ![512, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S_, .f32⟩
  | .hbm, ⟨5, _⟩ => ⟨S512x64, .f32⟩
  | .hbm, ⟨6, _⟩ => ⟨S512x64, .f32⟩
  | .hbm, ⟨7, _⟩ => ⟨S_, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S_, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S_, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S_, .f32⟩
  | .hbm, ⟨20, _⟩ => ⟨S512x64, .f32⟩
  | .hbm, ⟨21, _⟩ => ⟨S512x64, .f32⟩
  | .hbm, ⟨22, _⟩ => ⟨S_, .f32⟩
  | .hbm, ⟨23, _⟩ => ⟨S512x64, .f32⟩
  | .hbm, ⟨24, _⟩ => ⟨S512x64, .f32⟩
  | .hbm, ⟨25, _⟩ => ⟨S512x64, .f32⟩
  | .hbm, ⟨26, _⟩ => ⟨S_, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S_, .f32⟩
  | .hbm, ⟨31, _⟩ => ⟨S512x64, .f32⟩
  | .hbm, ⟨32, _⟩ => ⟨S512x64, .f32⟩
  | .hbm, ⟨33, _⟩ => ⟨S512x64, .f32⟩
  | .hbm, ⟨34, _⟩ => ⟨S_, .f32⟩
  | .hbm, ⟨35, _⟩ => ⟨S512x64, .f32⟩
  | .hbm, ⟨36, _⟩ => ⟨S512x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2048x16 : Shape := ⟨2, ![2048, 16]⟩
abbrev S256x16 : Shape := ⟨2, ![256, 16]⟩

abbrev nBuf : Space → Nat
  | .hbm => 7
  | .vmem => 14
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x16, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel30Ideal.lean ====
abbrev S2048x16 : Shape := ⟨2, ![2048, 16]⟩
abbrev S256x16 : Shape := ⟨2, ![256, 16]⟩

abbrev nBuf : Space → Nat
  | .hbm => 7
  | .vmem => 14
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x16, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S2048x16 : Shape := ⟨2, ![2048, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x16, .f32⟩
  | .hbm, ⟨3, _⟩ => ⟨S2048x16, .f32⟩
  | .hbm, ⟨4, _⟩ => ⟨S_, .f32⟩
  | .hbm, ⟨5, _⟩ => ⟨S2048x16, .f32⟩
  | .hbm, ⟨6, _⟩ => ⟨S2048x16, .f32⟩
  | .hbm, ⟨7, _⟩ => ⟨S_, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S_, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S_, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S_, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S_, .f32⟩
  | .hbm, ⟨35, _⟩ => ⟨S2048x16, .f32⟩
  | .hbm, ⟨36, _⟩ => ⟨S2048x16, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2048x578 : Shape := ⟨2, ![2048, 578]⟩
abbrev S256x578 : Shape := ⟨2, ![256, 578]⟩

abbrev nBuf : Space → Nat
  | .hbm => 7
  | .vmem => 14
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S2048x578, .f32⟩
  | .hbm, ⟨5, _⟩ => ⟨S2048x578, .f32⟩
  | .hbm, ⟨6, _⟩ => ⟨S2048x578, .f32⟩
  | .local _ .vmem, ⟨0, _⟩ => ⟨S256x578, .f32⟩
  | .local _ .vmem, ⟨1, _⟩ => ⟨S256x578, .f32⟩
  | .local _ .vmem, ⟨2, _⟩ => ⟨S256x578, .f32⟩
  | .local _ .vmem, ⟨3, _⟩ => ⟨S256x578, .f32⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | _, _ => ⟨S2048x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x578 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
variable {F : FTy → Type} [FloatOps F] [Named F]
def κ : String → Option EReal := fun
  | "inv_corr1" => some ((8388608 / 5463681 : ℝ) : EReal)
  | "inv_corr2" => some ((268435456 / 2672307 : ℝ) : EReal)
  | _ => none
-- ==== Reference31Ideal.lean ====
abbrev S2048x578 : Shape := ⟨2, ![2048, 578]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S_, .f32⟩
  | .hbm, ⟨5, _⟩ => ⟨S2048x578, .f32⟩
  | .hbm, ⟨6, _⟩ => ⟨S2048x578, .f32⟩
  | .hbm, ⟨7, _⟩ => ⟨S_, .f32⟩
  | .hbm, ⟨8, _⟩ => ⟨S2048x578, .f32⟩
  | .hbm, ⟨9, _⟩ => ⟨S2048x578, .f32⟩
  | .hbm, ⟨10, _⟩ => ⟨S2048x578, .f32⟩
  | .hbm, ⟨11, _⟩ => ⟨S_, .f32⟩
  | .hbm, ⟨12, _⟩ => ⟨S2048x578, .f32⟩
  | .hbm, ⟨13, _⟩ => ⟨S2048x578, .f32⟩
  | .hbm, ⟨14, _⟩ => ⟨S2048x578, .f32⟩
  | .hbm, ⟨15, _⟩ => ⟨S_, .f32⟩
  | .hbm, ⟨16, _⟩ => ⟨S2048x578, .f32⟩
  | .hbm, ⟨17, _⟩ => ⟨S2048x578, .f32⟩
  | .hbm, ⟨18, _⟩ => ⟨S2048x578, .f32⟩
  | .hbm, ⟨19, _⟩ => ⟨S_, .f32⟩
  | .hbm, ⟨20, _⟩ => ⟨S2048x578, .f32⟩
  | .hbm, ⟨21, _⟩ => ⟨S2048x578, .f32⟩
  | .hbm, ⟨22, _⟩ => ⟨S_, .f32⟩
  | .hbm, ⟨23, _⟩ => ⟨S2048x578, .f32⟩
  | .hbm, ⟨24, _⟩ => ⟨S2048x578, .f32⟩
  | .hbm, ⟨25, _⟩ => ⟨S2048x578, .f32⟩
  | .hbm, ⟨26, _⟩ => ⟨S_, .f32⟩
  | .hbm, ⟨27, _⟩ => ⟨S2048x578, .f32⟩
  | .hbm, ⟨28, _⟩ => ⟨S2048x578, .f32⟩
  | .hbm, ⟨29, _⟩ => ⟨S2048x578, .f32⟩
  | .hbm, ⟨30, _⟩ => ⟨S_, .f32⟩
  | .hbm, ⟨31, _⟩ => ⟨S2048x578, .f32⟩
  | .hbm, ⟨32, _⟩ => ⟨S2048x578, .f32⟩
  | .hbm, ⟨33, _⟩ => ⟨S2048x578, .f32⟩
  | .hbm, ⟨34, _⟩ => ⟨S_, .f32⟩
  | .hbm, ⟨35, _⟩ => ⟨S2048x578, .f32⟩
  | .hbm, ⟨36, _⟩ => ⟨S2048x578, .f32⟩
  | _, _ => ⟨S2048x578, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2048x1024 : Shape := ⟨2, ![2048, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 1 := Scalar.cmpi .slt arg0 c4_i32
  let c20_i32 : BitVec 32 := 20#32
  let v1 : BitVec 32 := Scalar.addi c20_i32 arg0
  let c4_i32_0 : BitVec 32 := 4#32
  let v2 : BitVec 32 := Scalar.addi c4_i32_0 arg0
  let c4_i32_1 : BitVec 32 := 4#32
  let v3 : BitVec 32 := Scalar.subi v2 c4_i32_1
  let v4 : BitVec 32 := Scalar.select v0 v1 v3
  let c0_i32 : BitVec 32 := 0#32
  let c0_i32_2 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel32Ideal.lean ====
abbrev S2048x1024 : Shape := ⟨2, ![2048, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 1 := Scalar.cmpi .slt arg0 c4_i32
  let c20_i32 : BitVec 32 := 20#32
  let v1 : BitVec 32 := Scalar.addi c20_i32 arg0
  let c4_i32_0 : BitVec 32 := 4#32
  let v2 : BitVec 32 := Scalar.addi c4_i32_0 arg0
  let c4_i32_1 : BitVec 32 := 4#32
  let v3 : BitVec 32 := Scalar.subi v2 c4_i32_1
  let v4 : BitVec 32 := Scalar.select v0 v1 v3
  let c0_i32 : BitVec 32 := 0#32
  let c0_i32_2 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S2048x1024 : Shape := ⟨2, ![2048, 1024]⟩
abbrev S8192x1024 : Shape := ⟨2, ![8192, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c24_i32 : BitVec 32 := 24#32
  let v1 : BitVec 32 := Scalar.addi c24_i32 arg0
  let c8_i32 : BitVec 32 := 8#32
  let v2 : BitVec 32 := Scalar.addi c8_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel33Ideal.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c24_i32 : BitVec 32 := 24#32
  let v1 : BitVec 32 := Scalar.addi c24_i32 arg0
  let c8_i32 : BitVec 32 := 8#32
  let v2 : BitVec 32 := Scalar.addi c8_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S512x1024 : Shape := ⟨2, ![512, 1024]⟩
abbrev S8192x1024 : Shape := ⟨2, ![8192, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c25_i32 : BitVec 32 := 25#32
  let v1 : BitVec 32 := Scalar.addi c25_i32 arg0
  let c9_i32 : BitVec 32 := 9#32
  let v2 : BitVec 32 := Scalar.addi c9_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel34Ideal.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c25_i32 : BitVec 32 := 25#32
  let v1 : BitVec 32 := Scalar.addi c25_i32 arg0
  let c9_i32 : BitVec 32 := 9#32
  let v2 : BitVec 32 := Scalar.addi c9_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S512x1024 : Shape := ⟨2, ![512, 1024]⟩
abbrev S8192x1024 : Shape := ⟨2, ![8192, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c26_i32 : BitVec 32 := 26#32
  let v1 : BitVec 32 := Scalar.addi c26_i32 arg0
  let c10_i32 : BitVec 32 := 10#32
  let v2 : BitVec 32 := Scalar.addi c10_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel35Ideal.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c26_i32 : BitVec 32 := 26#32
  let v1 : BitVec 32 := Scalar.addi c26_i32 arg0
  let c10_i32 : BitVec 32 := 10#32
  let v2 : BitVec 32 := Scalar.addi c10_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S512x1024 : Shape := ⟨2, ![512, 1024]⟩
abbrev S8192x1024 : Shape := ⟨2, ![8192, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c27_i32 : BitVec 32 := 27#32
  let v1 : BitVec 32 := Scalar.addi c27_i32 arg0
  let c11_i32 : BitVec 32 := 11#32
  let v2 : BitVec 32 := Scalar.addi c11_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel36Ideal.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c27_i32 : BitVec 32 := 27#32
  let v1 : BitVec 32 := Scalar.addi c27_i32 arg0
  let c11_i32 : BitVec 32 := 11#32
  let v2 : BitVec 32 := Scalar.addi c11_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S512x1024 : Shape := ⟨2, ![512, 1024]⟩
abbrev S8192x1024 : Shape := ⟨2, ![8192, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S512x1024 : Shape := ⟨2, ![512, 1024]⟩
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c28_i32 : BitVec 32 := 28#32
  let v1 : BitVec 32 := Scalar.addi c28_i32 arg0
  let c12_i32 : BitVec 32 := 12#32
  let v2 : BitVec 32 := Scalar.addi c12_i32 arg0
  let c1_i32_0 : BitVec 32 := 1#32
  let v3 : BitVec 32 := Scalar.subi v2 c1_i32_0
  let v4 : BitVec 32 := Scalar.select v0 v1 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel37Ideal.lean ====
variable {F : FTy → Type} [FloatOps F] [Named F]
def κ : String → Option EReal := fun
  | "inv_corr1" => some ((8388608 / 5463681 : ℝ) : EReal)
  | "inv_corr2" => some ((268435456 / 2672307 : ℝ) : EReal)
  | _ => none
-- ==== Reference37Ideal.lean ====
abbrev S512x1024 : Shape := ⟨2, ![512, 1024]⟩
abbrev S8192x1024 : Shape := ⟨2, ![8192, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.RealStep.lean ====
/- The layer's mathematics over the real numbers: layer normalisation and its gradient, and the two facts about extended
   reals by which a program's value at finite arguments is a real number. -/
module

public import Idealize.ShloMosaic.Lib.ValueIdx
public import Idealize.ShloMosaic.PureOps.Ideal
public import Idealize.ShloMosaic.PureOps.Ideal.Laws

@[expose] public section

noncomputable section

namespace Cert.RealStep

open Idealize.ShloMosaic

/-! ## Real numbers among the extended reals -/

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg h.not_gt, if_neg h.ne']

theorem sqrt_real {x : ℝ} (h : 0 ≤ x) : Ideal.sqrt (x : EReal) = ((Real.sqrt x : ℝ) : EReal) := by
  rw [Ideal.sqrt_coe, if_neg h.not_gt]

/-- The greatest of finitely many real numbers, folded from −∞, is their greatest as real numbers. -/
theorem fold_max_coe {ι : Type*} (s : Finset ι) (hs : s.Nonempty) (f : ι → ℝ) :
    s.fold max (⊥ : EReal) (fun k => ((f k : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A finite extended real is its real part. -/
theorem exists_real {x : EReal} (h : max x (-x) < ⊤) : ∃ r : ℝ, x = (r : EReal) := by
  induction x using EReal.rec with
  | bot => simp at h
  | coe r => exact ⟨r, rfl⟩
  | top => simp at h

/-! ## The constants -/

/-- The layer norm's ε: the literal's own value. -/
def eps : ℝ := 10995116 / 1099511627776
/-- The residual's factor: the literal's own value. -/
def alpha : ℝ := 11863283 / 8388608

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num
theorem ofBits_alpha : Ideal.ofBits .f32 0x3FB504F3#32 = ((alpha : ℝ) : EReal) := by
  unfold alpha
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]
theorem ofBits_neg_inf : Ideal.ofBits .f32 0xFF800000#32 = (⊥ : EReal) := by
  simp [Ideal.ofBits, Ideal.ieee, -EReal.coe_mul]
theorem ofBits_inf : Ideal.ofBits .f32 0x7F800000#32 = (⊤ : EReal) := by
  simp [Ideal.ofBits, Ideal.ieee, -EReal.coe_mul]

/-! ## Layer normalisation of a row of 1024 -/

/-- The row's mean. -/
def mean (r : Fin 1024 → ℝ) : ℝ := (∑ d, r d) / 1024
/-- The row less its mean. -/
def cen (r : Fin 1024 → ℝ) (d : Fin 1024) : ℝ := r d - mean r
/-- The row's variance. -/
def var (r : Fin 1024 → ℝ) : ℝ := (∑ d, cen r d * cen r d) / 1024
/-- The reciprocal of the row's deviation. -/
def rstd (r : Fin 1024 → ℝ) : ℝ := (Real.sqrt (var r + eps))⁻¹
/-- The normed row. -/
def xhat (r : Fin 1024 → ℝ) (d : Fin 1024) : ℝ := cen r d * rstd r

/-- The gradient of the layer norm at the row, as the kernel computes it of the saved normed row and reciprocal deviation. -/
def lnBack (r g ct : Fin 1024 → ℝ) (d : Fin 1024) : ℝ :=
  rstd r * (ct d * g d - (∑ e, ct e * g e) / 1024 - xhat r d * ((∑ e, ct e * g e * xhat r e) / 1024))

theorem var_nonneg (r : Fin 1024 → ℝ) : 0 ≤ var r :=
  div_nonneg (Finset.sum_nonneg fun d _ => mul_self_nonneg _) (by norm_num)

theorem var_eps_pos (r : Fin 1024 → ℝ) : 0 < var r + eps := add_pos_of_nonneg_of_pos (var_nonneg r) eps_pos

theorem sum_cen (r : Fin 1024 → ℝ) : ∑ d, cen r d = 0 := by
  unfold cen mean
  rw [Finset.sum_sub_distrib, Finset.sum_const, Finset.card_univ, Fintype.card_fin, nsmul_eq_mul]
  push_cast; ring

theorem rstd_sq (r : Fin 1024 → ℝ) : rstd r / (var r + eps) = rstd r * rstd r * rstd r := by
  have h := var_eps_pos r
  have hs : Real.sqrt (var r + eps) ≠ 0 := (Real.sqrt_pos.mpr h).ne'
  have hq : var r + eps = Real.sqrt (var r + eps) * Real.sqrt (var r + eps) := (Real.mul_self_sqrt h.le).symm
  unfold rstd
  rw [div_eq_mul_inv]
  nth_rewrite 2 [hq]
  rw [mul_inv, mul_assoc]

/-- The gradient in the form the reference's differentiation gives it: through the product, the reciprocal root of the
    variance and the two means, each mean's pullback a sum over the row. -/
def lnVjp (r g ct : Fin 1024 → ℝ) (d : Fin 1024) : ℝ :=
  (ct d * g d * rstd r + (∑ e, cen r e * (ct e * g e)) * (-(1 / 2) * (rstd r / (var r + eps))) / 1024 * (2 * cen r d))
    + ((∑ e, -(ct e * g e * rstd r))
      + ∑ e, -((∑ e, cen r e * (ct e * g e)) * (-(1 / 2) * (rstd r / (var r + eps))) / 1024 * (2 * cen r e))) / 1024

theorem lnVjp_eq (r g ct : Fin 1024 → ℝ) (d : Fin 1024) : lnVjp r g ct d = lnBack r g ct d := by
  unfold lnVjp lnBack
  have h1 : ∑ e, -(ct e * g e * rstd r) = -((∑ e, ct e * g e) * rstd r) := by
    rw [Finset.sum_neg_distrib, Finset.sum_mul]
  have h2 : ∀ A : ℝ, ∑ e, -(A * (2 * cen r e)) = 0 := fun A => by
    rw [Finset.sum_neg_distrib, ← Finset.mul_sum, ← Finset.mul_sum, sum_cen]; ring
  have h3 : ∑ e, ct e * g e * xhat r e = (∑ e, cen r e * (ct e * g e)) * rstd r := by
    rw [Finset.sum_mul]; exact Finset.sum_congr rfl fun e _ => by unfold xhat; ring
  rw [h1, h2, h3, rstd_sq]
  unfold xhat
  ring

end Cert.RealStep

end
-- ==== Proof.Host.lean ====
/- What the kernel's host lines leave in the arrays of the call: the normed row, its reciprocal deviation, and the arguments. -/
module

public import proofs.«01_k».proof.Proof.Gen.KernelIdeal.Value
public import proofs.«01_k».proof.Proof.Gen.ReferenceIdeal.Read
public import proofs.«01_k».proof.Proof.RealStep
public import Idealize.ShloMosaic.Lib.StableHlo.ReadAt
public import Idealize.ShloMosaic.Lib.StableHlo.RunRead

@[expose] public section

noncomputable section

namespace Cert.KernelIdeal.Gen

open Cert.KernelIdeal Cert.KernelIdeal.Gen Idealize.ShloMosaic Idealize.ShloMosaic.TcCoe Idealize.SL.Sem

variable (m : (ℓ : Loc nD τ sig) → Buf (Elt Ideal) ℓ) (c : Dev nD)

open Cert.ReferenceIdeal.Read in
/-- Adding the zero cotangent seed leaves the query as it is. -/
theorem ref_v2 (x1 x2) : val_main_v2 (F := Ideal) x1 x2 = val_main_v1 x1 x2 := by
  funext i
  rw [val_main_v2_apply, val_main_v0_apply]
  simp only [val_main_cst_apply, Ideal.ofBits_def, Ideal.addf_def, Cert.RealStep.ofBits_zero, EReal.coe_zero, add_zero]

open Cert.ReferenceIdeal.Read in
theorem ref_v44 (x1 x2 x3 x4 x5) : val_main_v44 (F := Ideal) x1 x2 x3 x4 x5 = val_main_v43 x1 x2 x3 x4 x5 := by
  funext i
  rw [val_main_v44_apply, val_main_v0_apply]
  simp only [val_main_cst_apply, Ideal.ofBits_def, Ideal.addf_def, Cert.RealStep.ofBits_zero, EReal.coe_zero, add_zero]

/-- The reciprocal deviation handed to the call is the reference's. -/
theorem host_rstd : V m c main_v38 = Cert.ReferenceIdeal.Read.val_main_v62 (F := Ideal) (m (c.tc.loc main_arg1)) (m (c.tc.loc main_arg2))
    (m (c.tc.loc main_arg3)) (m (c.tc.loc main_arg4)) (m (c.tc.loc main_arg5)) := by
  open Cert.ReferenceIdeal.Read in
  unfold V
  after_reads_simp
  unfold val_main_v62 val_main_v61 val_main_v60 val_main_v57 val_main_v56 val_main_v55 val_main_v54 val_main_v51 val_main_v50 val_main_v49 val_main_v48 val_main_v47 val_main_v46 val_main_v45
  rw [ref_v44]
  unfold val_main_v43 val_main_v42 val_main_v41 val_main_v40 val_main_v39 val_main_v35 val_main_v34 val_main_v33 val_main_v32 val_main_v31 val_main_v30 val_main_v29 val_main_v28 val_main_v18 val_main_v17 val_main_v11 val_main_v10 val_main_v9 val_main_v8 val_main_v7 val_main_v6 val_main_v5 val_main_v4 val_main_v3
  rw [ref_v2]
  rfl

/-- The normed row handed to the call is the reference's. -/
theorem host_xhat : V m c main_v42 = Cert.ReferenceIdeal.Read.val_main_v67 (F := Ideal) (m (c.tc.loc main_arg1)) (m (c.tc.loc main_arg2))
    (m (c.tc.loc main_arg3)) (m (c.tc.loc main_arg4)) (m (c.tc.loc main_arg5)) := by
  open Cert.ReferenceIdeal.Read in
  unfold V
  after_reads_simp
  unfold val_main_v67 val_main_v66 val_main_v59 val_main_v58 val_main_v62 val_main_v61 val_main_v60 val_main_v57 val_main_v56 val_main_v55 val_main_v54 val_main_v51 val_main_v50 val_main_v49 val_main_v48 val_main_v47 val_main_v46 val_main_v45
  rw [ref_v44]
  unfold val_main_v43 val_main_v42 val_main_v41 val_main_v40 val_main_v39 val_main_v35 val_main_v34 val_main_v33 val_main_v32 val_main_v31 val_main_v30 val_main_v29 val_main_v28 val_main_v18 val_main_v17 val_main_v11 val_main_v10 val_main_v9 val_main_v8 val_main_v7 val_main_v6 val_main_v5 val_main_v4 val_main_v3
  rw [ref_v2]
  rfl

theorem host_g (i : S1x1024.Idx) : V m c main_v43 i = (m (c.tc.loc main_arg6) : (⟨S1024, .f32⟩ : BufTy).Contents (Elt Ideal)) (ValueIdx.ix1 (i 1)) := by
  unfold V
  after_reads_at
  rfl

theorem host_wq : V m c main_v44 = m (c.tc.loc main_arg2) := by
  unfold V
  after_reads_simp
  rfl

theorem host_wo : V m c main_v45 = m (c.tc.loc main_arg3) := by
  unfold V
  after_reads_simp
  rfl

end Cert.KernelIdeal.Gen

end
-- ==== Proof.AttnReal.lean ====
/- The cross-attention layer and its gradient over the real numbers: 8192 query rows of 1024, 256 memory rows of 1024, four
   heads of 256, and what the kernel and the reference both compute of them. -/
module

public import proofs.«01_k».proof.Proof.RealStep

@[expose] public section

noncomputable section

namespace Cert.RealStep

/-- The column of a head's `c`-th component. -/
def hc (h : Fin 4) (c : Fin 256) : Fin 1024 := ⟨h.val * 256 + c.val, by omega⟩
/-- The head of a column. -/
def hd (d : Fin 1024) : Fin 4 := ⟨d.val / 256, by omega⟩
/-- A column's place in its head. -/
def cd (d : Fin 1024) : Fin 256 := ⟨d.val % 256, by omega⟩

theorem hd_hc (h : Fin 4) (c : Fin 256) : hd (hc h c) = h := Fin.ext (by show (h.val * 256 + c.val) / 256 = h.val; omega)
theorem cd_hc (h : Fin 4) (c : Fin 256) : cd (hc h c) = c := Fin.ext (by show (h.val * 256 + c.val) % 256 = c.val; omega)
theorem hc_hd_cd (d : Fin 1024) : hc (hd d) (cd d) = d := Fin.ext (by show d.val / 256 * 256 + d.val % 256 = d.val; omega)

/-- The layer's arguments as real numbers: the cotangent of its result, the stream, the two projections, the memory's keys and
    values, and the norm's factor and offset. -/
structure Attn where
  dh : Fin 8192 → Fin 1024 → ℝ
  h : Fin 8192 → Fin 1024 → ℝ
  wq : Fin 1024 → Fin 1024 → ℝ
  wo : Fin 1024 → Fin 1024 → ℝ
  k : Fin 256 → Fin 1024 → ℝ
  v : Fin 256 → Fin 1024 → ℝ
  g : Fin 1024 → ℝ
  b : Fin 1024 → ℝ

namespace Attn

variable (D : Attn)

/-- The query. -/
def q (t : Fin 8192) (e : Fin 1024) : ℝ := ∑ d, D.h t d * D.wq d e
/-- The scaled score of a head. -/
def s (h : Fin 4) (t : Fin 8192) (m : Fin 256) : ℝ := (∑ c, D.q t (hc h c) * D.k m (hc h c)) * (1 / 16)
/-- The greatest score of a query row. -/
def top (h : Fin 4) (t : Fin 8192) : ℝ := Finset.univ.sup' Finset.univ_nonempty fun m => D.s h t m
/-- The exponential of a score less the greatest. -/
def ex (h : Fin 4) (t : Fin 8192) (m : Fin 256) : ℝ := Real.exp (D.s h t m - D.top h t)
/-- A row's sum of exponentials. -/
def sm (h : Fin 4) (t : Fin 8192) : ℝ := ∑ m, D.ex h t m
/-- The attention's weight. -/
def p (h : Fin 4) (t : Fin 8192) (m : Fin 256) : ℝ := D.ex h t m / D.sm h t
/-- The heads' outputs, side by side. -/
def o (t : Fin 8192) (d : Fin 1024) : ℝ := ∑ m, D.v m d * D.p (hd d) t m
/-- The sum that is normed. -/
def r (t : Fin 8192) (d : Fin 1024) : ℝ := alpha * D.h t d + ∑ e, D.o t e * D.wo e d

/-- The gradient at the normed sum. -/
def dr (t : Fin 8192) (d : Fin 1024) : ℝ := lnBack (D.r t) D.g (D.dh t) d
/-- The gradient at the heads' outputs. -/
def dout (t : Fin 8192) (e : Fin 1024) : ℝ := ∑ d, D.dr t d * D.wo e d
/-- The gradient at a weight. -/
def dp (h : Fin 4) (t : Fin 8192) (m : Fin 256) : ℝ := ∑ c, D.dout t (hc h c) * D.v m (hc h c)
/-- The gradient at an unscaled score. -/
def ds (h : Fin 4) (t : Fin 8192) (m : Fin 256) : ℝ :=
  D.p h t m * (D.dp h t m - ∑ n, D.dp h t n * D.p h t n) * (1 / 16)
/-- The gradient at the query. -/
def dq (t : Fin 8192) (d : Fin 1024) : ℝ := ∑ m, D.ds (hd d) t m * D.k m d
/-- The gradient at the stream. -/
def dh1 (t : Fin 8192) (d : Fin 1024) : ℝ := alpha * D.dr t d + ∑ e, D.dq t e * D.wq d e
/-- The gradient at the keys. -/
def dk (m : Fin 256) (d : Fin 1024) : ℝ := ∑ t, D.ds (hd d) t m * D.q t d
/-- The gradient at the values. -/
def dv (m : Fin 256) (d : Fin 1024) : ℝ := ∑ t, D.p (hd d) t m * D.dout t d
/-- The gradient at the norm's factor. -/
def dg (d : Fin 1024) : ℝ := ∑ t, D.dh t d * xhat (D.r t) d
/-- The gradient at the norm's offset. -/
def db (d : Fin 1024) : ℝ := ∑ t, D.dh t d

theorem sm_pos (h : Fin 4) (t : Fin 8192) : 0 < D.sm h t :=
  Finset.sum_pos (fun _ _ => Real.exp_pos _) Finset.univ_nonempty

/-- The softmax's pullback as differentiation of the quotient gives it is the weight's form of it. -/
theorem ds_eq (h : Fin 4) (t : Fin 8192) (m : Fin 256) :
    (D.dp h t m / D.sm h t + -(∑ n, D.dp h t n * (1 / (D.sm h t * D.sm h t)) * D.ex h t n)) * D.ex h t m * (1 / 16)
      = D.ds h t m := by
  have hs := (D.sm_pos h t).ne'
  have h1 : ∑ n, D.dp h t n * (1 / (D.sm h t * D.sm h t)) * D.ex h t n = (∑ n, D.dp h t n * D.p h t n) / D.sm h t := by
    rw [Finset.sum_div]
    exact Finset.sum_congr rfl fun n _ => by unfold p; field_simp
  rw [h1]
  unfold ds p
  field_simp
  ring

end Attn

end Cert.RealStep

end
-- ==== Proof.RefValue.lean ====
/- The reference read at an index, one operation after another: at real arguments each of its values is the real number the
   layer's mathematics names. -/
module

public import proofs.«01_k».proof.Proof.AttnReal
public import proofs.«01_k».proof.Proof.Gen.ReferenceIdeal.Read
public import Idealize.ShloMosaic.Lib.Pointwise

@[expose] public section

noncomputable section

namespace Cert.RealStep.Attn

open Cert.ReferenceIdeal Cert.ReferenceIdeal.Gen Cert.ReferenceIdeal.Read Idealize.ShloMosaic Idealize.ShloMosaic.ValueIdx

variable (D : Attn)

def x0 : (⟨S8192x1024, .f32⟩ : BufTy).Contents (Elt Ideal) := fun i => ((D.dh (i 0) (i 1) : ℝ) : EReal)
def x1 : (⟨S8192x1024, .f32⟩ : BufTy).Contents (Elt Ideal) := fun i => ((D.h (i 0) (i 1) : ℝ) : EReal)
def x2 : (⟨S1024x1024, .f32⟩ : BufTy).Contents (Elt Ideal) := fun i => ((D.wq (i 0) (i 1) : ℝ) : EReal)
def x3 : (⟨S1024x1024, .f32⟩ : BufTy).Contents (Elt Ideal) := fun i => ((D.wo (i 0) (i 1) : ℝ) : EReal)
def x4 : (⟨S256x1024, .f32⟩ : BufTy).Contents (Elt Ideal) := fun i => ((D.k (i 0) (i 1) : ℝ) : EReal)
def x5 : (⟨S256x1024, .f32⟩ : BufTy).Contents (Elt Ideal) := fun i => ((D.v (i 0) (i 1) : ℝ) : EReal)
def x6 : (⟨S1024, .f32⟩ : BufTy).Contents (Elt Ideal) := fun i => ((D.g (i 0) : ℝ) : EReal)
def x7 : (⟨S1024, .f32⟩ : BufTy).Contents (Elt Ideal) := fun i => ((D.b (i 0) : ℝ) : EReal)

theorem v1 (i : S8192x1024.Idx) : val_main_v1 (F := Ideal) D.x1 D.x2 i = ((D.q (i 0) (i 1) : ℝ) : EReal) := by
  rw [val_main_v1_apply]
  simp only [x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v2 (i : S8192x1024.Idx) : val_main_v2 (F := Ideal) D.x1 D.x2 i = ((D.q (i 0) (i 1) : ℝ) : EReal) := by
  rw [val_main_v2_apply]
  simp only [v1, val_main_v0_apply, val_main_cst_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [add_zero]

theorem v4 (i : S8192x1024.Idx) : val_main_v4 (F := Ideal) D.x1 i = ((alpha * D.h (i 0) (i 1) : ℝ) : EReal) := by
  rw [val_main_v4_apply]
  simp only [val_main_v3_apply, val_main_cst_0_apply, ofBits_alpha, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v5 (i : S8192x4x256.Idx) : val_main_v5 (F := Ideal) D.x1 D.x2 i = ((D.q (i 0) (hc (i 1) (i 2)) : ℝ) : EReal) := by
  rw [val_main_v5_apply, v2]
  refine congrArg Real.toEReal (congrArg₂ D.q ?_ ?_)
  · exact Fin.ext (by have h0 : (i 0).val < 8192 := (i 0).isLt; have h1 : (i 1).val < 4 := (i 1).isLt; have h2 : (i 2).val < 256 := (i 2).isLt; show (((i 0).val * 4 + (i 1).val) * 256 + (i 2).val) / 1024 = (i 0).val; omega)
  · exact Fin.ext (by have h0 : (i 0).val < 8192 := (i 0).isLt; have h1 : (i 1).val < 4 := (i 1).isLt; have h2 : (i 2).val < 256 := (i 2).isLt; show (((i 0).val * 4 + (i 1).val) * 256 + (i 2).val) % 1024 = (i 1).val * 256 + (i 2).val; omega)

theorem v6 (i : S256x4x256.Idx) : val_main_v6 (F := Ideal) D.x4 i = ((D.k (i 0) (hc (i 1) (i 2)) : ℝ) : EReal) := by
  rw [val_main_v6_apply, x4]
  refine congrArg Real.toEReal (congrArg₂ D.k ?_ ?_)
  · exact Fin.ext (by have h0 : (i 0).val < 256 := (i 0).isLt; have h1 : (i 1).val < 4 := (i 1).isLt; have h2 : (i 2).val < 256 := (i 2).isLt; show (((i 0).val * 4 + (i 1).val) * 256 + (i 2).val) / 1024 = (i 0).val; omega)
  · exact Fin.ext (by have h0 : (i 0).val < 256 := (i 0).isLt; have h1 : (i 1).val < 4 := (i 1).isLt; have h2 : (i 2).val < 256 := (i 2).isLt; show (((i 0).val * 4 + (i 1).val) * 256 + (i 2).val) % 1024 = (i 1).val * 256 + (i 2).val; omega)

theorem v7 (i : S256x4x256.Idx) : val_main_v7 (F := Ideal) D.x5 i = ((D.v (i 0) (hc (i 1) (i 2)) : ℝ) : EReal) := by
  rw [val_main_v7_apply, x5]
  refine congrArg Real.toEReal (congrArg₂ D.v ?_ ?_)
  · exact Fin.ext (by have h0 : (i 0).val < 256 := (i 0).isLt; have h1 : (i 1).val < 4 := (i 1).isLt; have h2 : (i 2).val < 256 := (i 2).isLt; show (((i 0).val * 4 + (i 1).val) * 256 + (i 2).val) / 1024 = (i 0).val; omega)
  · exact Fin.ext (by have h0 : (i 0).val < 256 := (i 0).isLt; have h1 : (i 1).val < 4 := (i 1).isLt; have h2 : (i 2).val < 256 := (i 2).isLt; show (((i 0).val * 4 + (i 1).val) * 256 + (i 2).val) % 1024 = (i 1).val * 256 + (i 2).val; omega)

theorem v8 (i : S4x8192x256.Idx) : val_main_v8 (F := Ideal) D.x1 D.x2 D.x4 i = ((∑ c, D.q (i 1) (hc (i 0) c) * D.k (i 2) (hc (i 0) c) : ℝ) : EReal) := by
  rw [val_main_v8_apply]
  simp only [v5, v6, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v10 (i : S4x8192x256.Idx) : val_main_v10 (F := Ideal) D.x1 D.x2 D.x4 i = ((D.s (i 0) (i 1) (i 2) : ℝ) : EReal) := by
  rw [val_main_v10_apply]
  simp only [v8, val_main_v9_apply, val_main_cst_1_apply, ofBits_sixteenth, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v11 (i : S4x8192.Idx) : val_main_v11 (F := Ideal) D.x1 D.x2 D.x4 i = ((D.top (i 0) (i 1) : ℝ) : EReal) := by
  have e : val_main_v11 (F := Ideal) D.x1 D.x2 D.x4 i
      = Finset.univ.fold max (Ideal.ofBits .f32 0xFF800000#32) fun k : Fin 256 =>
          val_main_v10 (F := Ideal) D.x1 D.x2 D.x4 ((ValueIdx.ix3 (i 0) (i 1) k : (⟨3, ![4, 8192, 256]⟩ : Shape).Idx)) := by
    unfold val_main_v11
    generalize val_main_v10 (F := Ideal) D.x1 D.x2 D.x4 = w
    pointwise
    rfl
  rw [e, ofBits_neg_inf]
  simp only [v10]
  exact fold_max_coe Finset.univ Finset.univ_nonempty _

theorem v18 (i : S4x8192.Idx) : val_main_v18 (F := Ideal) D.x1 D.x2 D.x4 i = ((D.top (i 0) (i 1) : ℝ) : EReal) := by
  rw [val_main_v18_apply]
  simp only [v11, val_main_v17_apply, val_main_cst_4_apply, ofBits_neg_inf, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact max_eq_right bot_le

theorem v28 (i : S4x8192x1.Idx) : val_main_v28 (F := Ideal) D.x1 D.x2 D.x4 i = ((D.top (i 0) (i 1) : ℝ) : EReal) := by
  rw [val_main_v28_apply]
  simp only [v18, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v29 (i : S4x8192x256.Idx) : val_main_v29 (F := Ideal) D.x1 D.x2 D.x4 i = ((D.top (i 0) (i 1) : ℝ) : EReal) := by
  rw [val_main_v29_apply]
  simp only [v28, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v30 (i : S4x8192x256.Idx) : val_main_v30 (F := Ideal) D.x1 D.x2 D.x4 i = ((D.s (i 0) (i 1) (i 2) - D.top (i 0) (i 1) : ℝ) : EReal) := by
  rw [val_main_v30_apply]
  simp only [v10, v29, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v31 (i : S4x8192x256.Idx) : val_main_v31 (F := Ideal) D.x1 D.x2 D.x4 i = ((D.ex (i 0) (i 1) (i 2) : ℝ) : EReal) := by
  rw [val_main_v31_apply]
  simp only [v30, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v32 (i : S4x8192.Idx) : val_main_v32 (F := Ideal) D.x1 D.x2 D.x4 i = ((D.sm (i 0) (i 1) : ℝ) : EReal) := by
  rw [val_main_v32_apply]
  simp only [v31, val_main_cst_10_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v33 (i : S4x8192x1.Idx) : val_main_v33 (F := Ideal) D.x1 D.x2 D.x4 i = ((D.sm (i 0) (i 1) : ℝ) : EReal) := by
  rw [val_main_v33_apply]
  simp only [v32, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v34 (i : S4x8192x256.Idx) : val_main_v34 (F := Ideal) D.x1 D.x2 D.x4 i = ((D.sm (i 0) (i 1) : ℝ) : EReal) := by
  rw [val_main_v34_apply]
  simp only [v33, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v35 (i : S4x8192x256.Idx) : val_main_v35 (F := Ideal) D.x1 D.x2 D.x4 i = ((D.p (i 0) (i 1) (i 2) : ℝ) : EReal) := by
  rw [val_main_v35_apply]
  simp only [v31, v34, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (D.sm_pos _ _).ne'

theorem v36 (i : S4x8192x1.Idx) : val_main_v36 (F := Ideal) D.x1 D.x2 D.x4 i = ((D.sm (i 0) (i 1) * D.sm (i 0) (i 1) : ℝ) : EReal) := by
  rw [val_main_v36_apply]
  simp only [v33, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v38 (i : S4x8192x1.Idx) : val_main_v38 (F := Ideal) D.x1 D.x2 D.x4 i = ((1 / (D.sm (i 0) (i 1) * D.sm (i 0) (i 1)) : ℝ) : EReal) := by
  rw [val_main_v38_apply]
  simp only [v36, val_main_v37_apply, val_main_cst_11_apply, ofBits_one, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (mul_pos (D.sm_pos _ _) (D.sm_pos _ _)).ne'

theorem v39 (i : S4x256x8192.Idx) : val_main_v39 (F := Ideal) D.x1 D.x2 D.x4 D.x5 i = ((∑ m, D.v m (hc (i 0) (i 1)) * D.p (i 0) (i 2) m : ℝ) : EReal) := by
  rw [val_main_v39_apply]
  simp only [v7, v35, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v40 (i : S8192x4x256.Idx) : val_main_v40 (F := Ideal) D.x1 D.x2 D.x4 D.x5 i = ((∑ m, D.v m (hc (i 1) (i 2)) * D.p (i 1) (i 0) m : ℝ) : EReal) := by
  rw [val_main_v40_apply]
  simp only [v39, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v41 (i : S8192x1024.Idx) : val_main_v41 (F := Ideal) D.x1 D.x2 D.x4 D.x5 i = ((D.o (i 0) (i 1) : ℝ) : EReal) := by
  rw [val_main_v41_apply, v40]
  have e0 : idx_main_v41 i 0 = i 0 := Fin.ext (by have h0 : (i 0).val < 8192 := (i 0).isLt; have h1 : (i 1).val < 1024 := (i 1).isLt; show ((i 0).val * 1024 + (i 1).val) / 1024 = (i 0).val; omega)
  have e1 : idx_main_v41 i 1 = hd (i 1) := Fin.ext (by have h0 : (i 0).val < 8192 := (i 0).isLt; have h1 : (i 1).val < 1024 := (i 1).isLt; show ((i 0).val * 1024 + (i 1).val) / 256 % 4 = (i 1).val / 256; omega)
  have e2 : idx_main_v41 i 2 = cd (i 1) := Fin.ext (by have h0 : (i 0).val < 8192 := (i 0).isLt; have h1 : (i 1).val < 1024 := (i 1).isLt; show ((i 0).val * 1024 + (i 1).val) % 256 = (i 1).val % 256; omega)
  rw [e0, e1, e2]
  exact congrArg Real.toEReal (Finset.sum_congr rfl fun m _ => congrArg₂ (· * ·) (congrArg (D.v m) (hc_hd_cd _)) rfl)

theorem v42 (i : S8192x1024.Idx) : val_main_v42 (F := Ideal) D.x1 D.x2 D.x3 D.x4 D.x5 i = ((∑ e, D.o (i 0) e * D.wo e (i 1) : ℝ) : EReal) := by
  rw [val_main_v42_apply]
  simp only [v41, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v43 (i : S8192x1024.Idx) : val_main_v43 (F := Ideal) D.x1 D.x2 D.x3 D.x4 D.x5 i = ((D.r (i 0) (i 1) : ℝ) : EReal) := by
  rw [val_main_v43_apply]
  simp only [v4, v42, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v44 (i : S8192x1024.Idx) : val_main_v44 (F := Ideal) D.x1 D.x2 D.x3 D.x4 D.x5 i = ((D.r (i 0) (i 1) : ℝ) : EReal) := by
  rw [val_main_v44_apply]
  simp only [v43, val_main_v0_apply, val_main_cst_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [add_zero]

theorem v45 (i : S8192.Idx) : val_main_v45 (F := Ideal) D.x1 D.x2 D.x3 D.x4 D.x5 i = ((∑ d, D.r (i 0) d : ℝ) : EReal) := by
  rw [val_main_v45_apply]
  simp only [v44, val_main_cst_12_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v46 (i : S8192x1.Idx) : val_main_v46 (F := Ideal) D.x1 D.x2 D.x3 D.x4 D.x5 i = ((∑ d, D.r (i 0) d : ℝ) : EReal) := by
  rw [val_main_v46_apply]
  simp only [v45, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v48 (i : S8192x1.Idx) : val_main_v48 (F := Ideal) D.x1 D.x2 D.x3 D.x4 D.x5 i = ((mean (D.r (i 0)) : ℝ) : EReal) := by
  rw [val_main_v48_apply]
  simp only [v46, val_main_v47_apply, val_main_cst_13_apply, ofBits_1024, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v49 (i : S8192x1024.Idx) : val_main_v49 (F := Ideal) D.x1 D.x2 D.x3 D.x4 D.x5 i = ((mean (D.r (i 0)) : ℝ) : EReal) := by
  rw [val_main_v49_apply]
  simp only [v48, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v50 (i : S8192x1024.Idx) : val_main_v50 (F := Ideal) D.x1 D.x2 D.x3 D.x4 D.x5 i = ((cen (D.r (i 0)) (i 1) : ℝ) : EReal) := by
  rw [val_main_v50_apply]
  simp only [v44, v49, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v51 (i : S8192x1024.Idx) : val_main_v51 (F := Ideal) D.x1 D.x2 D.x3 D.x4 D.x5 i = ((cen (D.r (i 0)) (i 1) * cen (D.r (i 0)) (i 1) : ℝ) : EReal) := by
  rw [val_main_v51_apply]
  simp only [v50, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v53 (i : S8192x1024.Idx) : val_main_v53 (F := Ideal) D.x1 D.x2 D.x3 D.x4 D.x5 i = ((2 * cen (D.r (i 0)) (i 1) : ℝ) : EReal) := by
  rw [val_main_v53_apply]
  simp only [v50, val_main_v52_apply, val_main_cst_14_apply, ofBits_two, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v54 (i : S8192.Idx) : val_main_v54 (F := Ideal) D.x1 D.x2 D.x3 D.x4 D.x5 i = ((∑ d, cen (D.r (i 0)) d * cen (D.r (i 0)) d : ℝ) : EReal) := by
  rw [val_main_v54_apply]
  simp only [v51, val_main_cst_15_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v55 (i : S8192x1.Idx) : val_main_v55 (F := Ideal) D.x1 D.x2 D.x3 D.x4 D.x5 i = ((∑ d, cen (D.r (i 0)) d * cen (D.r (i 0)) d : ℝ) : EReal) := by
  rw [val_main_v55_apply]
  simp only [v54, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v57 (i : S8192x1.Idx) : val_main_v57 (F := Ideal) D.x1 D.x2 D.x3 D.x4 D.x5 i = ((var (D.r (i 0)) : ℝ) : EReal) := by
  rw [val_main_v57_apply]
  simp only [v55, val_main_v56_apply, val_main_cst_16_apply, ofBits_1024, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v58 (i : S8192x1024.Idx) : val_main_v58 (F := Ideal) D.x1 D.x2 D.x3 D.x4 D.x5 i = ((mean (D.r (i 0)) : ℝ) : EReal) := by
  rw [val_main_v58_apply]
  simp only [v48, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v59 (i : S8192x1024.Idx) : val_main_v59 (F := Ideal) D.x1 D.x2 D.x3 D.x4 D.x5 i = ((cen (D.r (i 0)) (i 1) : ℝ) : EReal) := by
  rw [val_main_v59_apply]
  simp only [v44, v58, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v61 (i : S8192x1.Idx) : val_main_v61 (F := Ideal) D.x1 D.x2 D.x3 D.x4 D.x5 i = ((var (D.r (i 0)) + eps : ℝ) : EReal) := by
  rw [val_main_v61_apply]
  simp only [v57, val_main_v60_apply, val_main_cst_17_apply, ofBits_eps, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v62 (i : S8192x1.Idx) : val_main_v62 (F := Ideal) D.x1 D.x2 D.x3 D.x4 D.x5 i = ((rstd (D.r (i 0)) : ℝ) : EReal) := by
  rw [val_main_v62_apply]
  simp only [v61, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact rsqrt_real (var_eps_pos _)

theorem v63 (i : S8192x1.Idx) : val_main_v63 (F := Ideal) D.x1 D.x2 D.x3 D.x4 D.x5 i = ((rstd (D.r (i 0)) / (var (D.r (i 0)) + eps) : ℝ) : EReal) := by
  rw [val_main_v63_apply]
  simp only [v61, v62, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (var_eps_pos _).ne'

theorem v65 (i : S8192x1.Idx) : val_main_v65 (F := Ideal) D.x1 D.x2 D.x3 D.x4 D.x5 i = ((-(1 / 2) * (rstd (D.r (i 0)) / (var (D.r (i 0)) + eps)) : ℝ) : EReal) := by
  rw [val_main_v65_apply]
  simp only [v63, val_main_v64_apply, val_main_cst_18_apply, ofBits_neg_half, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v66 (i : S8192x1024.Idx) : val_main_v66 (F := Ideal) D.x1 D.x2 D.x3 D.x4 D.x5 i = ((rstd (D.r (i 0)) : ℝ) : EReal) := by
  rw [val_main_v66_apply]
  simp only [v62, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v67 (i : S8192x1024.Idx) : val_main_v67 (F := Ideal) D.x1 D.x2 D.x3 D.x4 D.x5 i = ((xhat (D.r (i 0)) (i 1) : ℝ) : EReal) := by
  rw [val_main_v67_apply]
  simp only [v59, v66, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v68 (i : S1x1024.Idx) : val_main_v68 (F := Ideal) D.x6 i = ((D.g (i 1) : ℝ) : EReal) := by
  rw [val_main_v68_apply]
  simp only [x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v69 (i : S8192x1024.Idx) : val_main_v69 (F := Ideal) D.x6 i = ((D.g (i 1) : ℝ) : EReal) := by
  rw [val_main_v69_apply]
  simp only [v68, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v74 (i : S8192x1024.Idx) : val_main_v74 (F := Ideal) D.x0 i = ((D.dh (i 0) (i 1) : ℝ) : EReal) := by
  rw [val_main_v74_apply, x0]
  refine congrArg Real.toEReal (congrArg₂ D.dh ?_ ?_)
  · exact Fin.ext (by have h0 : (i 0).val < 8192 := (i 0).isLt; have h1 : (i 1).val < 1024 := (i 1).isLt; show ((i 0).val * 1024 + (i 1).val) / 1024 = (i 0).val; omega)
  · exact Fin.ext (by have h0 : (i 0).val < 8192 := (i 0).isLt; have h1 : (i 1).val < 1024 := (i 1).isLt; show ((i 0).val * 1024 + (i 1).val) % 1024 = (i 1).val; omega)

theorem v75 (i : S1024.Idx) : val_main_v75 (F := Ideal) D.x0 i = ((D.db (i 0) : ℝ) : EReal) := by
  rw [val_main_v75_apply]
  simp only [val_main_cst_19_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v76 (i : S1x1024.Idx) : val_main_v76 (F := Ideal) D.x0 i = ((D.db (i 1) : ℝ) : EReal) := by
  rw [val_main_v76_apply, v75]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

theorem v77 (i : S1024.Idx) : val_main_v77 (F := Ideal) D.x0 i = ((D.db (i 0) : ℝ) : EReal) := by
  rw [val_main_v77_apply]
  simp only [v76, val_main_cst_20_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v78 (i : S8192x1024.Idx) : val_main_v78 (F := Ideal) D.x0 D.x1 D.x2 D.x3 D.x4 D.x5 i = ((xhat (D.r (i 0)) (i 1) * D.dh (i 0) (i 1) : ℝ) : EReal) := by
  rw [val_main_v78_apply]
  simp only [v67, v74, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v79 (i : S1024.Idx) : val_main_v79 (F := Ideal) D.x0 D.x1 D.x2 D.x3 D.x4 D.x5 i = ((D.dg (i 0) : ℝ) : EReal) := by
  rw [val_main_v79_apply]
  simp only [v78, val_main_cst_21_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (Finset.sum_congr rfl fun t _ => mul_comm _ _)

theorem v80 (i : S1x1024.Idx) : val_main_v80 (F := Ideal) D.x0 D.x1 D.x2 D.x3 D.x4 D.x5 i = ((D.dg (i 1) : ℝ) : EReal) := by
  rw [val_main_v80_apply, v79]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v81 (i : S8192x1024.Idx) : val_main_v81 (F := Ideal) D.x6 i = ((D.g (i 1) : ℝ) : EReal) := by
  rw [val_main_v81_apply]
  simp only [v68, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v82 (i : S8192x1024.Idx) : val_main_v82 (F := Ideal) D.x0 D.x6 i = ((D.dh (i 0) (i 1) * D.g (i 1) : ℝ) : EReal) := by
  rw [val_main_v82_apply]
  simp only [v74, v81, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v83 (i : S1024.Idx) : val_main_v83 (F := Ideal) D.x0 D.x1 D.x2 D.x3 D.x4 D.x5 i = ((D.dg (i 0) : ℝ) : EReal) := by
  rw [val_main_v83_apply]
  simp only [v80, val_main_cst_22_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v84 (i : S8192x1024.Idx) : val_main_v84 (F := Ideal) D.x0 D.x1 D.x2 D.x3 D.x4 D.x5 D.x6 i = ((cen (D.r (i 0)) (i 1) * (D.dh (i 0) (i 1) * D.g (i 1)) : ℝ) : EReal) := by
  rw [val_main_v84_apply]
  simp only [v59, v82, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v85 (i : S8192.Idx) : val_main_v85 (F := Ideal) D.x0 D.x1 D.x2 D.x3 D.x4 D.x5 D.x6 i = ((∑ e, cen (D.r (i 0)) e * (D.dh (i 0) e * D.g e) : ℝ) : EReal) := by
  rw [val_main_v85_apply]
  simp only [v84, val_main_cst_23_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v86 (i : S8192x1.Idx) : val_main_v86 (F := Ideal) D.x0 D.x1 D.x2 D.x3 D.x4 D.x5 D.x6 i = ((∑ e, cen (D.r (i 0)) e * (D.dh (i 0) e * D.g e) : ℝ) : EReal) := by
  rw [val_main_v86_apply, v85]
  have e0 : idx_main_v86 i 0 = i 0 := Fin.ext (by have h0 : (i 0).val < 8192 := (i 0).isLt; have h1 : (i 1).val < 1 := (i 1).isLt; show (i 0).val * 1 + (i 1).val = (i 0).val; omega)
  rw [e0]

theorem v87 (i : S8192x1024.Idx) : val_main_v87 (F := Ideal) D.x1 D.x2 D.x3 D.x4 D.x5 i = ((rstd (D.r (i 0)) : ℝ) : EReal) := by
  rw [val_main_v87_apply]
  simp only [v62, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v88 (i : S8192x1024.Idx) : val_main_v88 (F := Ideal) D.x0 D.x1 D.x2 D.x3 D.x4 D.x5 D.x6 i = ((D.dh (i 0) (i 1) * D.g (i 1) * rstd (D.r (i 0)) : ℝ) : EReal) := by
  rw [val_main_v88_apply]
  simp only [v82, v87, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v89 (i : S8192x1.Idx) : val_main_v89 (F := Ideal) D.x0 D.x1 D.x2 D.x3 D.x4 D.x5 D.x6 i = (((∑ e, cen (D.r (i 0)) e * (D.dh (i 0) e * D.g e)) * (-(1 / 2) * (rstd (D.r (i 0)) / (var (D.r (i 0)) + eps))) : ℝ) : EReal) := by
  rw [val_main_v89_apply]
  simp only [v86, v65, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v90 (i : S8192x1024.Idx) : val_main_v90 (F := Ideal) D.x0 D.x1 D.x2 D.x3 D.x4 D.x5 D.x6 i = ((-(D.dh (i 0) (i 1) * D.g (i 1) * rstd (D.r (i 0))) : ℝ) : EReal) := by
  rw [val_main_v90_apply]
  simp only [v88, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v91 (i : S8192.Idx) : val_main_v91 (F := Ideal) D.x0 D.x1 D.x2 D.x3 D.x4 D.x5 D.x6 i = ((∑ e, -(D.dh (i 0) e * D.g e * rstd (D.r (i 0))) : ℝ) : EReal) := by
  rw [val_main_v91_apply]
  simp only [v90, val_main_cst_24_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v92 (i : S8192x1.Idx) : val_main_v92 (F := Ideal) D.x0 D.x1 D.x2 D.x3 D.x4 D.x5 D.x6 i = ((∑ e, -(D.dh (i 0) e * D.g e * rstd (D.r (i 0))) : ℝ) : EReal) := by
  rw [val_main_v92_apply, v91]
  have e0 : idx_main_v92 i 0 = i 0 := Fin.ext (by have h0 : (i 0).val < 8192 := (i 0).isLt; have h1 : (i 1).val < 1 := (i 1).isLt; show (i 0).val * 1 + (i 1).val = (i 0).val; omega)
  rw [e0]

theorem v94 (i : S8192x1.Idx) : val_main_v94 (F := Ideal) D.x0 D.x1 D.x2 D.x3 D.x4 D.x5 D.x6 i = (((∑ e, cen (D.r (i 0)) e * (D.dh (i 0) e * D.g e)) * (-(1 / 2) * (rstd (D.r (i 0)) / (var (D.r (i 0)) + eps))) / 1024 : ℝ) : EReal) := by
  rw [val_main_v94_apply]
  simp only [v89, val_main_v93_apply, val_main_cst_25_apply, ofBits_1024, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v95 (i : S8192.Idx) : val_main_v95 (F := Ideal) D.x0 D.x1 D.x2 D.x3 D.x4 D.x5 D.x6 i = (((∑ e, cen (D.r (i 0)) e * (D.dh (i 0) e * D.g e)) * (-(1 / 2) * (rstd (D.r (i 0)) / (var (D.r (i 0)) + eps))) / 1024 : ℝ) : EReal) := by
  rw [val_main_v95_apply]
  simp only [v94, val_main_cst_26_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v96 (i : S8192x1024.Idx) : val_main_v96 (F := Ideal) D.x0 D.x1 D.x2 D.x3 D.x4 D.x5 D.x6 i = (((∑ e, cen (D.r (i 0)) e * (D.dh (i 0) e * D.g e)) * (-(1 / 2) * (rstd (D.r (i 0)) / (var (D.r (i 0)) + eps))) / 1024 : ℝ) : EReal) := by
  rw [val_main_v96_apply]
  simp only [v95, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v97 (i : S8192x1024.Idx) : val_main_v97 (F := Ideal) D.x0 D.x1 D.x2 D.x3 D.x4 D.x5 D.x6 i = (((∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v97_apply]
  simp only [v96, v53, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v98 (i : S8192x1024.Idx) : val_main_v98 (F := Ideal) D.x0 D.x1 D.x2 D.x3 D.x4 D.x5 D.x6 i = ((-((∑ e, cen (D.r (i 0)) e * (D.dh (i 0) e * D.g e)) * (-(1 / 2) * (rstd (D.r (i 0)) / (var (D.r (i 0)) + eps))) / 1024 * (2 * cen (D.r (i 0)) (i 1))) : ℝ) : EReal) := by
  rw [val_main_v98_apply]
  simp only [v97, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v99 (i : S8192.Idx) : val_main_v99 (F := Ideal) D.x0 D.x1 D.x2 D.x3 D.x4 D.x5 D.x6 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v99_apply]
  simp only [v98, val_main_cst_27_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v100 (i : S8192x1.Idx) : val_main_v100 (F := Ideal) D.x0 D.x1 D.x2 D.x3 D.x4 D.x5 D.x6 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v100_apply, v99]
  have e0 : idx_main_v100 i 0 = i 0 := Fin.ext (by have h0 : (i 0).val < 8192 := (i 0).isLt; have h1 : (i 1).val < 1 := (i 1).isLt; show (i 0).val * 1 + (i 1).val = (i 0).val; omega)
  rw [e0]

theorem v101 (i : S8192x1024.Idx) : val_main_v101 (F := Ideal) D.x0 D.x1 D.x2 D.x3 D.x4 D.x5 D.x6 i = ((D.dh (i 0) (i 1) * D.g (i 1) * rstd (D.r (i 0)) + (∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v101_apply]
  simp only [v88, v97, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v102 (i : S8192x1.Idx) : val_main_v102 (F := Ideal) D.x0 D.x1 D.x2 D.x3 D.x4 D.x5 D.x6 i = (((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d))) : ℝ) : EReal) := by
  rw [val_main_v102_apply]
  simp only [v92, v100, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v104 (i : S8192x1.Idx) : val_main_v104 (F := Ideal) D.x0 D.x1 D.x2 D.x3 D.x4 D.x5 D.x6 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v104_apply]
  simp only [v102, val_main_v103_apply, val_main_cst_28_apply, ofBits_1024, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v105 (i : S8192.Idx) : val_main_v105 (F := Ideal) D.x0 D.x1 D.x2 D.x3 D.x4 D.x5 D.x6 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v105_apply]
  simp only [v104, val_main_cst_29_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v106 (i : S8192x1024.Idx) : val_main_v106 (F := Ideal) D.x0 D.x1 D.x2 D.x3 D.x4 D.x5 D.x6 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v106_apply]
  simp only [v105, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v107 (i : S8192x1024.Idx) : val_main_v107 (F := Ideal) D.x0 D.x1 D.x2 D.x3 D.x4 D.x5 D.x6 i = ((D.dr (i 0) (i 1) : ℝ) : EReal) := by
  rw [val_main_v107_apply]
  simp only [v101, v106, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (lnVjp_eq (D.r (i 0)) D.g (D.dh (i 0)) (i 1))

theorem v108 (i : S8192x1024.Idx) : val_main_v108 (F := Ideal) D.x0 D.x1 D.x2 D.x3 D.x4 D.x5 D.x6 i = ((D.dout (i 0) (i 1) : ℝ) : EReal) := by
  rw [val_main_v108_apply]
  simp only [v107, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v109 (i : S8192x4x256.Idx) : val_main_v109 (F := Ideal) D.x0 D.x1 D.x2 D.x3 D.x4 D.x5 D.x6 i = ((D.dout (i 0) (hc (i 1) (i 2)) : ℝ) : EReal) := by
  rw [val_main_v109_apply, v108]
  refine congrArg Real.toEReal (congrArg₂ D.dout ?_ ?_)
  · exact Fin.ext (by have h0 : (i 0).val < 8192 := (i 0).isLt; have h1 : (i 1).val < 4 := (i 1).isLt; have h2 : (i 2).val < 256 := (i 2).isLt; show (((i 0).val * 4 + (i 1).val) * 256 + (i 2).val) / 1024 = (i 0).val; omega)
  · exact Fin.ext (by have h0 : (i 0).val < 8192 := (i 0).isLt; have h1 : (i 1).val < 4 := (i 1).isLt; have h2 : (i 2).val < 256 := (i 2).isLt; show (((i 0).val * 4 + (i 1).val) * 256 + (i 2).val) % 1024 = (i 1).val * 256 + (i 2).val; omega)

theorem v110 (i : S4x256x8192.Idx) : val_main_v110 (F := Ideal) D.x0 D.x1 D.x2 D.x3 D.x4 D.x5 D.x6 i = ((D.dout (i 2) (hc (i 0) (i 1)) : ℝ) : EReal) := by
  rw [val_main_v110_apply]
  simp only [v109, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v111 (i : S4x8192x256.Idx) : val_main_v111 (F := Ideal) D.x0 D.x1 D.x2 D.x3 D.x4 D.x5 D.x6 i = ((D.dp (i 0) (i 1) (i 2) : ℝ) : EReal) := by
  rw [val_main_v111_apply]
  simp only [v110, v7, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v112 (i : S4x256x256.Idx) : val_main_v112 (F := Ideal) D.x0 D.x1 D.x2 D.x3 D.x4 D.x5 D.x6 i = ((∑ t, D.dout t (hc (i 0) (i 1)) * D.p (i 0) t (i 2) : ℝ) : EReal) := by
  rw [val_main_v112_apply]
  simp only [v110, v35, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v113 (i : S256x4x256.Idx) : val_main_v113 (F := Ideal) D.x0 D.x1 D.x2 D.x3 D.x4 D.x5 D.x6 i = ((∑ t, D.dout t (hc (i 1) (i 2)) * D.p (i 1) t (i 0) : ℝ) : EReal) := by
  rw [val_main_v113_apply]
  simp only [v112, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v114 (i : S4x8192x256.Idx) : val_main_v114 (F := Ideal) D.x1 D.x2 D.x4 i = ((1 / (D.sm (i 0) (i 1) * D.sm (i 0) (i 1)) : ℝ) : EReal) := by
  rw [val_main_v114_apply]
  simp only [v38, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v115 (i : S4x8192x256.Idx) : val_main_v115 (F := Ideal) D.x0 D.x1 D.x2 D.x3 D.x4 D.x5 D.x6 i = ((D.dp (i 0) (i 1) (i 2) * (1 / (D.sm (i 0) (i 1) * D.sm (i 0) (i 1))) : ℝ) : EReal) := by
  rw [val_main_v115_apply]
  simp only [v111, v114, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v116 (i : S4x8192x256.Idx) : val_main_v116 (F := Ideal) D.x0 D.x1 D.x2 D.x3 D.x4 D.x5 D.x6 i = ((D.dp (i 0) (i 1) (i 2) * (1 / (D.sm (i 0) (i 1) * D.sm (i 0) (i 1))) * D.ex (i 0) (i 1) (i 2) : ℝ) : EReal) := by
  rw [val_main_v116_apply]
  simp only [v115, v31, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v117 (i : S4x8192.Idx) : val_main_v117 (F := Ideal) D.x0 D.x1 D.x2 D.x3 D.x4 D.x5 D.x6 i = ((∑ n, D.dp (i 0) (i 1) n * (1 / (D.sm (i 0) (i 1) * D.sm (i 0) (i 1))) * D.ex (i 0) (i 1) n : ℝ) : EReal) := by
  rw [val_main_v117_apply]
  simp only [v116, val_main_cst_30_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v118 (i : S4x8192x1.Idx) : val_main_v118 (F := Ideal) D.x0 D.x1 D.x2 D.x3 D.x4 D.x5 D.x6 i = ((∑ n, D.dp (i 0) (i 1) n * (1 / (D.sm (i 0) (i 1) * D.sm (i 0) (i 1))) * D.ex (i 0) (i 1) n : ℝ) : EReal) := by
  rw [val_main_v118_apply, v117]
  have e0 : idx_main_v118 i 0 = i 0 := Fin.ext (by have h0 : (i 0).val < 4 := (i 0).isLt; have h1 : (i 1).val < 8192 := (i 1).isLt; have h2 : (i 2).val < 1 := (i 2).isLt; show (((i 0).val * 8192 + (i 1).val) * 1 + (i 2).val) / 8192 = (i 0).val; omega)
  have e1 : idx_main_v118 i 1 = i 1 := Fin.ext (by have h0 : (i 0).val < 4 := (i 0).isLt; have h1 : (i 1).val < 8192 := (i 1).isLt; have h2 : (i 2).val < 1 := (i 2).isLt; show (((i 0).val * 8192 + (i 1).val) * 1 + (i 2).val) % 8192 = (i 1).val; omega)
  rw [e0, e1]

theorem v119 (i : S4x8192x1.Idx) : val_main_v119 (F := Ideal) D.x0 D.x1 D.x2 D.x3 D.x4 D.x5 D.x6 i = ((-(∑ n, D.dp (i 0) (i 1) n * (1 / (D.sm (i 0) (i 1) * D.sm (i 0) (i 1))) * D.ex (i 0) (i 1) n) : ℝ) : EReal) := by
  rw [val_main_v119_apply]
  simp only [v118, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v120 (i : S4x8192x256.Idx) : val_main_v120 (F := Ideal) D.x1 D.x2 D.x4 i = ((D.sm (i 0) (i 1) : ℝ) : EReal) := by
  rw [val_main_v120_apply]
  simp only [v33, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v121 (i : S4x8192x256.Idx) : val_main_v121 (F := Ideal) D.x0 D.x1 D.x2 D.x3 D.x4 D.x5 D.x6 i = ((D.dp (i 0) (i 1) (i 2) / D.sm (i 0) (i 1) : ℝ) : EReal) := by
  rw [val_main_v121_apply]
  simp only [v111, v120, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (D.sm_pos _ _).ne'

theorem v122 (i : S4x8192.Idx) : val_main_v122 (F := Ideal) D.x0 D.x1 D.x2 D.x3 D.x4 D.x5 D.x6 i = ((-(∑ n, D.dp (i 0) (i 1) n * (1 / (D.sm (i 0) (i 1) * D.sm (i 0) (i 1))) * D.ex (i 0) (i 1) n) : ℝ) : EReal) := by
  rw [val_main_v122_apply]
  simp only [v119, val_main_cst_31_apply, ofBits_zero, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v123 (i : S4x8192x256.Idx) : val_main_v123 (F := Ideal) D.x0 D.x1 D.x2 D.x3 D.x4 D.x5 D.x6 i = ((-(∑ n, D.dp (i 0) (i 1) n * (1 / (D.sm (i 0) (i 1) * D.sm (i 0) (i 1))) * D.ex (i 0) (i 1) n) : ℝ) : EReal) := by
  rw [val_main_v123_apply]
  simp only [v122, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v124 (i : S4x8192x256.Idx) : val_main_v124 (F := Ideal) D.x0 D.x1 D.x2 D.x3 D.x4 D.x5 D.x6 i = ((D.dp (i 0) (i 1) (i 2) / D.sm (i 0) (i 1) + -(∑ n, D.dp (i 0) (i 1) n * (1 / (D.sm (i 0) (i 1) * D.sm (i 0) (i 1))) * D.ex (i 0) (i 1) n) : ℝ) : EReal) := by
  rw [val_main_v124_apply]
  simp only [v121, v123, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v125 (i : S4x8192x256.Idx) : val_main_v125 (F := Ideal) D.x0 D.x1 D.x2 D.x3 D.x4 D.x5 D.x6 i = (((D.dp (i 0) (i 1) (i 2) / D.sm (i 0) (i 1) + -(∑ n, D.dp (i 0) (i 1) n * (1 / (D.sm (i 0) (i 1) * D.sm (i 0) (i 1))) * D.ex (i 0) (i 1) n)) * D.ex (i 0) (i 1) (i 2) : ℝ) : EReal) := by
  rw [val_main_v125_apply]
  simp only [v124, v31, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v127 (i : S4x8192x256.Idx) : val_main_v127 (F := Ideal) D.x0 D.x1 D.x2 D.x3 D.x4 D.x5 D.x6 i = ((D.ds (i 0) (i 1) (i 2) : ℝ) : EReal) := by
  rw [val_main_v127_apply]
  simp only [v125, val_main_v126_apply, val_main_cst_32_apply, ofBits_sixteenth, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (D.ds_eq (i 0) (i 1) (i 2))

theorem v128 (i : S4x256x256.Idx) : val_main_v128 (F := Ideal) D.x0 D.x1 D.x2 D.x3 D.x4 D.x5 D.x6 i = ((∑ t, D.ds (i 0) t (i 1) * D.q t (hc (i 0) (i 2)) : ℝ) : EReal) := by
  rw [val_main_v128_apply]
  simp only [v127, v5, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v129 (i : S256x4x256.Idx) : val_main_v129 (F := Ideal) D.x0 D.x1 D.x2 D.x3 D.x4 D.x5 D.x6 i = ((∑ t, D.ds (i 1) t (i 0) * D.q t (hc (i 1) (i 2)) : ℝ) : EReal) := by
  rw [val_main_v129_apply]
  simp only [v128, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v130 (i : S4x8192x256.Idx) : val_main_v130 (F := Ideal) D.x0 D.x1 D.x2 D.x3 D.x4 D.x5 D.x6 i = ((∑ m, D.ds (i 0) (i 1) m * D.k m (hc (i 0) (i 2)) : ℝ) : EReal) := by
  rw [val_main_v130_apply]
  simp only [v127, v6, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v131 (i : S8192x4x256.Idx) : val_main_v131 (F := Ideal) D.x0 D.x1 D.x2 D.x3 D.x4 D.x5 D.x6 i = ((∑ m, D.ds (i 1) (i 0) m * D.k m (hc (i 1) (i 2)) : ℝ) : EReal) := by
  rw [val_main_v131_apply]
  simp only [v130, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v132 (i : S256x1024.Idx) : val_main_v132 (F := Ideal) D.x0 D.x1 D.x2 D.x3 D.x4 D.x5 D.x6 i = ((D.dv (i 0) (i 1) : ℝ) : EReal) := by
  rw [val_main_v132_apply, v113]
  have e0 : idx_main_v132 i 0 = i 0 := Fin.ext (by have h0 : (i 0).val < 256 := (i 0).isLt; have h1 : (i 1).val < 1024 := (i 1).isLt; show ((i 0).val * 1024 + (i 1).val) / 1024 = (i 0).val; omega)
  have e1 : idx_main_v132 i 1 = hd (i 1) := Fin.ext (by have h0 : (i 0).val < 256 := (i 0).isLt; have h1 : (i 1).val < 1024 := (i 1).isLt; show ((i 0).val * 1024 + (i 1).val) / 256 % 4 = (i 1).val / 256; omega)
  have e2 : idx_main_v132 i 2 = cd (i 1) := Fin.ext (by have h0 : (i 0).val < 256 := (i 0).isLt; have h1 : (i 1).val < 1024 := (i 1).isLt; show ((i 0).val * 1024 + (i 1).val) % 256 = (i 1).val % 256; omega)
  rw [e0, e1, e2]
  exact congrArg Real.toEReal (Finset.sum_congr rfl fun m _ => (congrArg₂ (· * ·) (congrArg (D.dout m) (hc_hd_cd _)) rfl).trans (mul_comm _ _))

theorem v133 (i : S256x1024.Idx) : val_main_v133 (F := Ideal) D.x0 D.x1 D.x2 D.x3 D.x4 D.x5 D.x6 i = ((D.dk (i 0) (i 1) : ℝ) : EReal) := by
  rw [val_main_v133_apply, v129]
  have e0 : idx_main_v133 i 0 = i 0 := Fin.ext (by have h0 : (i 0).val < 256 := (i 0).isLt; have h1 : (i 1).val < 1024 := (i 1).isLt; show ((i 0).val * 1024 + (i 1).val) / 1024 = (i 0).val; omega)
  have e1 : idx_main_v133 i 1 = hd (i 1) := Fin.ext (by have h0 : (i 0).val < 256 := (i 0).isLt; have h1 : (i 1).val < 1024 := (i 1).isLt; show ((i 0).val * 1024 + (i 1).val) / 256 % 4 = (i 1).val / 256; omega)
  have e2 : idx_main_v133 i 2 = cd (i 1) := Fin.ext (by have h0 : (i 0).val < 256 := (i 0).isLt; have h1 : (i 1).val < 1024 := (i 1).isLt; show ((i 0).val * 1024 + (i 1).val) % 256 = (i 1).val % 256; omega)
  rw [e0, e1, e2]
  exact congrArg Real.toEReal (Finset.sum_congr rfl fun m _ => congrArg₂ (· * ·) rfl (congrArg (D.q m) (hc_hd_cd _)))

theorem v134 (i : S8192x1024.Idx) : val_main_v134 (F := Ideal) D.x0 D.x1 D.x2 D.x3 D.x4 D.x5 D.x6 i = ((D.dq (i 0) (i 1) : ℝ) : EReal) := by
  rw [val_main_v134_apply, v131]
  have e0 : idx_main_v134 i 0 = i 0 := Fin.ext (by have h0 : (i 0).val < 8192 := (i 0).isLt; have h1 : (i 1).val < 1024 := (i 1).isLt; show ((i 0).val * 1024 + (i 1).val) / 1024 = (i 0).val; omega)
  have e1 : idx_main_v134 i 1 = hd (i 1) := Fin.ext (by have h0 : (i 0).val < 8192 := (i 0).isLt; have h1 : (i 1).val < 1024 := (i 1).isLt; show ((i 0).val * 1024 + (i 1).val) / 256 % 4 = (i 1).val / 256; omega)
  have e2 : idx_main_v134 i 2 = cd (i 1) := Fin.ext (by have h0 : (i 0).val < 8192 := (i 0).isLt; have h1 : (i 1).val < 1024 := (i 1).isLt; show ((i 0).val * 1024 + (i 1).val) % 256 = (i 1).val % 256; omega)
  rw [e0, e1, e2]
  exact congrArg Real.toEReal (Finset.sum_congr rfl fun m _ => congrArg₂ (· * ·) rfl (congrArg (D.k m) (hc_hd_cd _)))

theorem v136 (i : S8192x1024.Idx) : val_main_v136 (F := Ideal) D.x0 D.x1 D.x2 D.x3 D.x4 D.x5 D.x6 i = ((alpha * D.dr (i 0) (i 1) : ℝ) : EReal) := by
  rw [val_main_v136_apply]
  simp only [v107, val_main_v135_apply, val_main_cst_33_apply, ofBits_alpha, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v137 (i : S8192x1024.Idx) : val_main_v137 (F := Ideal) D.x0 D.x1 D.x2 D.x3 D.x4 D.x5 D.x6 i = ((∑ e, D.dq (i 0) e * D.wq (i 1) e : ℝ) : EReal) := by
  rw [val_main_v137_apply]
  simp only [v134, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v138 (i : S8192x1024.Idx) : val_main_v138 (F := Ideal) D.x0 D.x1 D.x2 D.x3 D.x4 D.x5 D.x6 i = ((D.dh1 (i 0) (i 1) : ℝ) : EReal) := by
  rw [val_main_v138_apply]
  simp only [v136, v137, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v139 (i : S8192x1024.Idx) : val_main_v139 (F := Ideal) D.x0 D.x1 D.x2 D.x3 D.x4 D.x5 D.x6 i = ((D.dr (i 0) (i 1) : ℝ) : EReal) := by
  rw [val_main_v139_apply]
  simp only [v107, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v140 (i : S8192x1024.Idx) : val_main_v140 (F := Ideal) D.x0 D.x1 D.x2 D.x3 D.x4 D.x5 D.x6 i = ((D.dq (i 0) (i 1) : ℝ) : EReal) := by
  rw [val_main_v140_apply]
  simp only [v134, x0, x1, x2, x3, x4, x5, x6, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v141 (i : S1x1024.Idx) : val_main_v141 (F := Ideal) D.x0 D.x1 D.x2 D.x3 D.x4 D.x5 i = ((D.dg (i 1) : ℝ) : EReal) := by
  rw [val_main_v141_apply, v83]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v142 (i : S1x1024.Idx) : val_main_v142 (F := Ideal) D.x0 i = ((D.db (i 1) : ℝ) : EReal) := by
  rw [val_main_v142_apply, v77]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

end Cert.RealStep.Attn

end
-- ==== Proof.Lift.lean ====
/- A vector of real numbers among a program's vectors, and the vector operations on such vectors: each gives such a vector
   again, of the real operation. -/
module

public import proofs.«01_k».proof.Proof.RealStep
public import Idealize.ShloMosaic.Lib.Pointwise
public import Idealize.ShloMosaic.Lib.Pipeline.Value

@[expose] public section

noncomputable section

namespace Cert.RealStep

open Idealize.ShloMosaic

/-- A matrix of real numbers as a vector over a rank-two shape. -/
def L2 {a b : ℕ} (f : Fin a → Fin b → ℝ) : (⟨2, ![a, b]⟩ : Shape).Idx → EReal := fun i => ((f (i 0) (i 1) : ℝ) : EReal)
/-- A row of real numbers as a vector over a rank-one shape. -/
def L1 {a : ℕ} (f : Fin a → ℝ) : (⟨1, ![a]⟩ : Shape).Idx → EReal := fun i => ((f (i 0) : ℝ) : EReal)

section Elementwise

variable {a b : ℕ} (φ : FTy) (f g : Fin a → Fin b → ℝ)

theorem lift_mulf : mulf (F := Ideal) (φ := φ) (L2 f) (L2 g) = L2 fun i j => f i j * g i j := rfl
theorem lift_addf : addf (F := Ideal) (φ := φ) (L2 f) (L2 g) = L2 fun i j => f i j + g i j := rfl
theorem lift_subf : subf (F := Ideal) (φ := φ) (L2 f) (L2 g) = L2 fun i j => f i j - g i j := rfl
theorem lift_maximumf : maximumf (F := Ideal) (φ := φ) (L2 f) (L2 g) = L2 fun i j => max (f i j) (g i j) :=
  funext fun i => (EReal.coe_strictMono.monotone.map_max).symm
theorem lift_exp : exp (F := Ideal) (φ := φ) (L2 f) = L2 fun i j => Real.exp (f i j) := rfl
theorem lift_divf (h : ∀ i j, g i j ≠ 0) : divf (F := Ideal) (φ := φ) (L2 f) (L2 g) = L2 fun i j => f i j / g i j :=
  funext fun i => div_real _ (h _ _)
theorem lift_truncf (h : FTy.bits .bf16 < FTy.bits .f32) : truncf (F := Ideal) .bf16 (L2 f) h = L2 f := rfl
theorem lift_extf (h : FTy.bits .bf16 < FTy.bits .f32) : extf (F := Ideal) .f32 (L2 f) h = L2 f := rfl

theorem lift_sixteenth : broadcast ⟨2, ![a, b]⟩ (Scalar.ofBits (F := Ideal) .f32 0x3D800000#32) = L2 fun (_ : Fin a) (_ : Fin b) => (1 / 16 : ℝ) :=
  funext fun _ => ofBits_sixteenth
theorem lift_1024 : broadcast ⟨2, ![a, b]⟩ (Scalar.ofBits (F := Ideal) .f32 0x44800000#32) = L2 fun (_ : Fin a) (_ : Fin b) => (1024 : ℝ) :=
  funext fun _ => ofBits_1024
theorem lift_alpha : broadcast ⟨2, ![a, b]⟩ (Scalar.ofBits (F := Ideal) .f32 0x3FB504F3#32) = L2 fun (_ : Fin a) (_ : Fin b) => alpha :=
  funext fun _ => ofBits_alpha
theorem lift_zero : broadcast ⟨2, ![a, b]⟩ (Scalar.ofBits (F := Ideal) .f32 0x00000000#32) = L2 fun (_ : Fin a) (_ : Fin b) => (0 : ℝ) :=
  funext fun _ => ofBits_zero

theorem lift_div1024 : divf (F := Ideal) (φ := φ) (L2 f) (L2 fun (_ : Fin a) (_ : Fin b) => (1024 : ℝ)) = L2 fun i j => f i j / 1024 :=
  lift_divf φ f _ fun _ _ => by norm_num

end Elementwise

end Cert.RealStep

end
-- ==== Proof.KerBlocks.lean ====
/- The blocks that the call's points read, at real arguments: 512 rows of each row array, the other arrays whole. -/
module

public import proofs.«01_k».proof.Proof.Host
public import proofs.«01_k».proof.Proof.RefValue
public import proofs.«01_k».proof.Proof.Lift
public import Idealize.ShloMosaic.Lib.Pipeline.ValueKit

@[expose] public section

noncomputable section

namespace Cert.KernelIdeal.Gen

open Cert.KernelIdeal Cert.KernelIdeal.Gen Idealize.ShloMosaic Idealize.ShloMosaic.TcCoe Idealize.SL.Sem Cert.RealStep

variable (m : (ℓ : Loc nD τ sig) → Buf (Elt Ideal) ℓ) (c : Dev nD)

/-- The arguments are the arrays of real numbers `D`. -/
structure Holds (D : Attn) : Prop where
  h0 : m (c.tc.loc main_arg0) = D.x0
  h1 : m (c.tc.loc main_arg1) = D.x1
  h2 : m (c.tc.loc main_arg2) = D.x2
  h3 : m (c.tc.loc main_arg3) = D.x3
  h4 : m (c.tc.loc main_arg4) = D.x4
  h5 : m (c.tc.loc main_arg5) = D.x5
  h6 : m (c.tc.loc main_arg6) = D.x6
  h7 : m (c.tc.loc main_arg7) = D.x7

/-- Row `l` of the block of rows that point `t` takes. -/
def row (t : Fin cfg0.N) (l : Fin 512) : Fin 8192 := ⟨t.val * 512 + l.val, by have h := t.isLt; have : cfg0.N = 16 := rfl; omega⟩

theorem idx_rows : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_4.index t 0 = t.val ∧ win0_4.index t 1 = 0) ∧ (win0_9.index t 0 = t.val ∧ win0_9.index t 1 = 0) ∧
    (win0_10.index t 0 = t.val ∧ win0_10.index t 1 = 0) ∧ (win0_11.index t 0 = t.val ∧ win0_11.index t 1 = 0) :=
  (by decide +kernel : ∀ t : Fin grid0.N, _)

theorem idx_whole : ∀ t : Fin cfg0.N, (win0_3.index t 0 = 0 ∧ win0_3.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, _)

variable {m c} {D : Attn} (H : Holds m c D) (t : Fin cfg0.N)
include H

theorem blk0 : iblk m c 0 t = L2 fun l d => D.dh (row t l) d := by
  funext i
  have e : iblk m c 0 t i = (V m c main_arg0 : (⟨S8192x1024, .f32⟩ : BufTy).Contents (Elt Ideal)) (ValueIdx.ix2 (row t (i 0)) (i 1)) := by
    blk_ext [iblk, idx_rows t, row]
  rw [e, V_main_arg0, H.h0]; rfl

theorem blk1 : iblk m c 1 t = L2 fun l d => xhat (D.r (row t l)) d := by
  funext i
  have e : iblk m c 1 t i = (V m c main_v42 : (⟨S8192x1024, .f32⟩ : BufTy).Contents (Elt Ideal)) (ValueIdx.ix2 (row t (i 0)) (i 1)) := by
    blk_ext [iblk, idx_rows t, row]
  rw [e, host_xhat, H.h1, H.h2, H.h3, H.h4, H.h5]; exact D.v67 _

theorem blk2 : iblk m c 2 t = L2 fun l (_ : Fin 1) => rstd (D.r (row t l)) := by
  funext i
  have e : iblk m c 2 t i = (V m c main_v38 : (⟨S8192x1, .f32⟩ : BufTy).Contents (Elt Ideal)) (ValueIdx.ix2 (row t (i 0)) (i 1)) := by
    blk_ext [iblk, idx_rows t, row]
  rw [e, host_rstd, H.h1, H.h2, H.h3, H.h4, H.h5]; exact D.v62 _

theorem blk3 : iblk m c 3 t = L2 fun (_ : Fin 1) d => D.g d := by
  funext i
  have e : iblk m c 3 t i = (V m c main_v43 : (⟨S1x1024, .f32⟩ : BufTy).Contents (Elt Ideal)) (ValueIdx.ix2 (i 0) (i 1)) := by
    blk_ext [iblk, idx_whole t, row]
  rw [e, host_g, H.h6]; rfl

theorem blk4 : iblk m c 4 t = L2 fun l d => D.h (row t l) d := by
  funext i
  have e : iblk m c 4 t i = (V m c main_arg1 : (⟨S8192x1024, .f32⟩ : BufTy).Contents (Elt Ideal)) (ValueIdx.ix2 (row t (i 0)) (i 1)) := by
    blk_ext [iblk, idx_rows t, row]
  rw [e, V_main_arg1, H.h1]; rfl

theorem blk5 : iblk m c 5 t = L2 D.wq := by
  funext i
  have e : iblk m c 5 t i = (V m c main_v44 : (⟨S1024x1024, .bf16⟩ : BufTy).Contents (Elt Ideal)) (ValueIdx.ix2 (i 0) (i 1)) := by
    blk_ext [iblk, idx_whole t, row]
  rw [e, host_wq, H.h2]; rfl

theorem blk6 : iblk m c 6 t = L2 D.wo := by
  funext i
  have e : iblk m c 6 t i = (V m c main_v45 : (⟨S1024x1024, .bf16⟩ : BufTy).Contents (Elt Ideal)) (ValueIdx.ix2 (i 0) (i 1)) := by
    blk_ext [iblk, idx_whole t, row]
  rw [e, host_wo, H.h3]; rfl

theorem blk7 : iblk m c 7 t = L2 D.k := by
  funext i
  have e : iblk m c 7 t i = (V m c main_arg4 : (⟨S256x1024, .f32⟩ : BufTy).Contents (Elt Ideal)) (ValueIdx.ix2 (i 0) (i 1)) := by
    blk_ext [iblk, idx_whole t, row]
  rw [e, V_main_arg4, H.h4]; rfl

theorem blk8 : iblk m c 8 t = L2 D.v := by
  funext i
  have e : iblk m c 8 t i = (V m c main_arg5 : (⟨S256x1024, .f32⟩ : BufTy).Contents (Elt Ideal)) (ValueIdx.ix2 (i 0) (i 1)) := by
    blk_ext [iblk, idx_whole t, row]
  rw [e, V_main_arg5, H.h5]; rfl

end Cert.KernelIdeal.Gen

end
-- ==== Proof.Finite.lean ====
/- The precondition read at an argument's elements: every element is a real number, so the arguments are the arrays of a layer. -/
module

public import proofs.«01_k».proof.Defs
public import proofs.«01_k».proof.Proof.KerBlocks
public import proofs.«01_k».proof.Proof.Gen.Pre_finite_inputs
public import Idealize.ShloMosaic.Lib.ReduceAll
public import Idealize.ShloMosaic.Lib.Affine

@[expose] public section

noncomputable section

namespace Cert.RealStep

open Cert.Pre_finite_inputs Idealize.ShloMosaic

/-- The check of one argument passed, so each of its elements is a real number. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant (F := Ideal) S_ .f32 0x7F800000#32)))
      (constantI S_ 1 1#1) h hu j = 1#1) (i : s.Idx) : ∃ r : ℝ, (x i : EReal) = (r : EReal) := by
  have k := Host.reduce_andi_all _ _ h hu j e i
  have k' : Ideal.cmp .olt (max (x i : EReal) (-(x i : EReal))) (Ideal.ofBits .f32 0x7F800000#32) = 1 := k
  rw [Ideal.cmp_olt_eq_one, ofBits_inf] at k'
  exact exists_real k'

/-- A conjunction of two checks passed, so each did. -/
theorem both {p q : IVec S_ 1} {j : S_.Idx} (e : andi p q j = 1#1) : p j = 1#1 ∧ q j = 1#1 := IntOp.andi_eq_one.1 e

/-- A matrix of real elements is the array of a table of real numbers. -/
theorem table2 {a b : ℕ} (x : (⟨2, ![a, b]⟩ : Shape).Idx → EReal) (h : ∀ i, ∃ r : ℝ, x i = (r : EReal)) :
    ∃ f : Fin a → Fin b → ℝ, x = fun i => ((f (i 0) (i 1) : ℝ) : EReal) := by
  choose f hf using h
  refine ⟨fun p q => f (ValueIdx.ix2 p q), funext fun i => ?_⟩
  rw [hf]
  exact congrArg (fun k => ((f k : ℝ) : EReal)) (funext fun d => by fin_cases d <;> rfl)

/-- A vector of real elements is the array of a row of real numbers. -/
theorem table1 {a : ℕ} (x : (⟨1, ![a]⟩ : Shape).Idx → EReal) (h : ∀ i, ∃ r : ℝ, x i = (r : EReal)) :
    ∃ f : Fin a → ℝ, x = fun i => ((f (i 0) : ℝ) : EReal) := by
  choose f hf using h
  refine ⟨fun p => f (ValueIdx.ix1 p), funext fun i => ?_⟩
  rw [hf]
  exact congrArg (fun k => ((f k : ℝ) : EReal)) (funext fun d => by fin_cases d; rfl)

/-- Where the precondition holds, the arguments on every device are the arrays of a layer of real numbers. -/
theorem layer (m : (ℓ : Loc Cert.KernelIdeal.nD Cert.KernelIdeal.τ Cert.KernelIdeal.sig) → Buf (Elt Ideal) ℓ)
    (hm : Cert.Pre_KernelIdeal_finite_inputs m) (c : Dev Cert.KernelIdeal.nD) :
    ∃ D : Attn, Cert.KernelIdeal.Gen.Holds m c D := by
  have e := congrFun (hm c) (fun d => d.elim0)
  dsimp only [fn, fn_part1, fn_part2] at e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  obtain ⟨f0, h0⟩ := table2 _ (real_of_all _ _ _ _ _ e0)
  obtain ⟨f1, h1⟩ := table2 _ (real_of_all _ _ _ _ _ e1)
  obtain ⟨f2, h2⟩ := table2 _ (real_of_all _ _ _ _ _ e2)
  obtain ⟨f3, h3⟩ := table2 _ (real_of_all _ _ _ _ _ e3)
  obtain ⟨f4, h4⟩ := table2 _ (real_of_all _ _ _ _ _ e4)
  obtain ⟨f5, h5⟩ := table2 _ (real_of_all _ _ _ _ _ e5)
  obtain ⟨f6, h6⟩ := table1 _ (real_of_all _ _ _ _ _ e6)
  obtain ⟨f7, h7⟩ := table1 _ (real_of_all _ _ _ _ _ e7)
  exact ⟨⟨f0, f1, f2, f3, f4, f5, f6, f7⟩, ⟨h0, h1, h2, h3, h4, h5, h6, h7⟩⟩

end Cert.RealStep

end
-- ==== Proof.KerOps.lean ====
/- The attention kernel's products, row sums, row maxima and loads on vectors of real numbers. -/
module

public import proofs.«01_k».proof.Proof.Lift
public import proofs.«01_k».proof.Proof.AttnReal
public import proofs.«01_k».proof.Proof.Gen.KernelIdeal.Value

@[expose] public section

noncomputable section

namespace Cert.RealStep.Ker

open Cert.KernelIdeal Cert.KernelIdeal.Gen Idealize.ShloMosaic Idealize.ShloMosaic.TcCoe

/-! ## Products -/

theorem mm_q (f : Fin 512 → Fin 1024 → ℝ) (g : Fin 1024 → Fin 256 → ℝ) :
    matmul (F := Ideal) (φ₁ := .bf16) (φ₂ := .bf16) dot_S512x1024_S1024x256_S512x256_1_0_0_1_n_n none (L2 f) (L2 g)
      (constant (F := Ideal) S512x256 .f32 0x00000000#32) = L2 fun i j => ∑ c, f i c * g c j := by
  funext i
  pointwise [L2]
  simp only [← EReal.coe_mul, coe_sum, zero_add]

theorem mm_do (f : Fin 512 → Fin 1024 → ℝ) (g : Fin 256 → Fin 1024 → ℝ) :
    matmul (F := Ideal) (φ₁ := .bf16) (φ₂ := .bf16) dot_S512x1024_S256x1024_S512x256_1_1_0_0_n_n none (L2 f) (L2 g)
      (constant (F := Ideal) S512x256 .f32 0x00000000#32) = L2 fun i j => ∑ c, f i c * g j c := by
  funext i
  pointwise [L2]
  simp only [← EReal.coe_mul, coe_sum, zero_add]

theorem mm_s (f : Fin 512 → Fin 256 → ℝ) (g : Fin 256 → Fin 256 → ℝ) :
    matmul (F := Ideal) (φ₁ := .bf16) (φ₂ := .bf16) dot_S512x256_S256x256_S512x256_1_1_0_0_n_n none (L2 f) (L2 g)
      (constant (F := Ideal) S512x256 .f32 0x00000000#32) = L2 fun i j => ∑ c, f i c * g j c := by
  funext i
  pointwise [L2]
  simp only [← EReal.coe_mul, coe_sum, zero_add]

theorem mm_dq (f : Fin 512 → Fin 256 → ℝ) (g : Fin 256 → Fin 256 → ℝ) :
    matmul (F := Ideal) (φ₁ := .bf16) (φ₂ := .bf16) dot_S512x256_S256x256_S512x256_1_0_0_1_n_n none (L2 f) (L2 g)
      (constant (F := Ideal) S512x256 .f32 0x00000000#32) = L2 fun i j => ∑ c, f i c * g c j := by
  funext i
  pointwise [L2]
  simp only [← EReal.coe_mul, coe_sum, zero_add]

theorem mm_dk (f : Fin 512 → Fin 256 → ℝ) (g : Fin 512 → Fin 256 → ℝ) :
    matmul (F := Ideal) (φ₁ := .bf16) (φ₂ := .bf16) dot_S512x256_S512x256_S256x256_0_0_1_1_n_n none (L2 f) (L2 g)
      (constant (F := Ideal) S256x256 .f32 0x00000000#32) = L2 fun i j => ∑ c, f c i * g c j := by
  funext i
  pointwise [L2]
  simp only [← EReal.coe_mul, coe_sum, zero_add]

theorem mm_dh (f : Fin 512 → Fin 1024 → ℝ) (g : Fin 1024 → Fin 1024 → ℝ) :
    matmul (F := Ideal) (φ₁ := .bf16) (φ₂ := .bf16) dot_S512x1024_S1024x1024_S512x1024_1_1_0_0_n_n none (L2 f) (L2 g)
      (constant (F := Ideal) S512x1024 .f32 0x00000000#32) = L2 fun i j => ∑ c, f i c * g j c := by
  funext i
  pointwise [L2]
  simp only [← EReal.coe_mul, coe_sum, zero_add]

/-! ## Row sums and maxima, kept as a column and spread over the row -/

theorem rowsum_col (f : Fin 512 → Fin 1024 → ℝ) :
    shapeCast S512x1 (multiReduction (F := Ideal) (φ := .f32) .add [1] S512 (L2 f) 0x00000000#32 reduces_S512x1024_S512 (.inl rfl) rfl) shapeCasts_S512_S512x1
      = L2 fun i (_ : Fin 1) => ∑ d, f i d := by
  funext i
  pointwise [L2]
  simp only [coe_sum]

theorem rowsum (f : Fin 512 → Fin 256 → ℝ) :
    broadcastTo S512x256 (shapeCast S512x1 (multiReduction (F := Ideal) (φ := .f32) .add [1] S512 (L2 f) 0x00000000#32 reduces_S512x256_S512 (.inl rfl) rfl) shapeCasts_S512_S512x1) broadcasts_S512x1_S512x256
      = L2 fun i (_ : Fin 256) => ∑ d, f i d := by
  funext i
  pointwise [L2]
  simp only [coe_sum]

theorem rowmax (f : Fin 512 → Fin 256 → ℝ) :
    broadcastTo S512x256 (shapeCast S512x1 (multiReduction (F := Ideal) (φ := .f32) .maximumf [1] S512 (L2 f) 0xFF800000#32 reduces_S512x256_S512 (.inl rfl) rfl) shapeCasts_S512_S512x1) broadcasts_S512x1_S512x256
      = L2 fun i (_ : Fin 256) => Finset.univ.sup' Finset.univ_nonempty (f i) := by
  funext i
  pointwise [L2]
  rw [ofBits_neg_inf]
  exact fold_max_coe Finset.univ Finset.univ_nonempty _

theorem colsum (f : Fin 512 → Fin 1024 → ℝ) :
    shapeCast S1x1024 (multiReduction (F := Ideal) (φ := .f32) .add [0] S1024 (L2 f) 0x00000000#32 reduces_S512x1024_S1024 (.inl rfl) rfl) shapeCasts_S1024_S1x1024
      = L2 fun (_ : Fin 1) j => ∑ l, f l j := by
  funext i
  pointwise [L2]
  simp only [coe_sum]

theorem bcast_row (f : Fin 1 → Fin 1024 → ℝ) :
    broadcastTo S512x1024 (L2 f) broadcasts_S1x1024_S512x1024 = L2 fun (_ : Fin 512) j => f 0 j := by
  funext i
  pointwise [L2]

theorem bcast_col (f : Fin 512 → Fin 1 → ℝ) :
    broadcastTo S512x1024 (L2 f) broadcasts_S512x1_S512x1024 = L2 fun i (_ : Fin 1024) => f i 0 := by
  funext i
  pointwise [L2]

/-! ## Loads -/

theorem ldf (f : Fin 512 → Fin 1024 → ℝ) :
    View.ld (Val := Elt Ideal) (S := S512x1024) (e' := .f32) (L2 f) (Rect.unit ![0, 0] ![512, 1024] inb_S512x1024_S512x1024_0_0) = L2 f :=
  funext fun i => congrArg Real.toEReal (congrArg₂ f (Fin.ext (by show 0 + 1 * (i 0).val = (i 0).val; omega)) (Fin.ext (by show 0 + 1 * (i 1).val = (i 1).val; omega)))
theorem ldf1 (f : Fin 512 → Fin 1 → ℝ) :
    View.ld (Val := Elt Ideal) (S := S512x1) (e' := .f32) (L2 f) (Rect.unit ![0, 0] ![512, 1] inb_S512x1_S512x1_0_0) = L2 f :=
  funext fun i => congrArg Real.toEReal (congrArg₂ f (Fin.ext (by show 0 + 1 * (i 0).val = (i 0).val; omega)) (Fin.ext (by show 0 + 1 * (i 1).val = (i 1).val; omega)))
theorem ldr (f : Fin 1 → Fin 1024 → ℝ) :
    View.ld (Val := Elt Ideal) (S := S1x1024) (e' := .f32) (L2 f) (Rect.unit ![0, 0] ![1, 1024] inb_S1x1024_S1x1024_0_0) = L2 f :=
  funext fun i => congrArg Real.toEReal (congrArg₂ f (Fin.ext (by show 0 + 1 * (i 0).val = (i 0).val; omega)) (Fin.ext (by show 0 + 1 * (i 1).val = (i 1).val; omega)))
theorem ldw (f : Fin 1024 → Fin 1024 → ℝ) :
    View.ld (Val := Elt Ideal) (S := S1024x1024) (e' := .bf16) (L2 f) (Rect.unit ![0, 0] ![1024, 1024] inb_S1024x1024_S1024x1024_0_0) = L2 f :=
  funext fun i => congrArg Real.toEReal (congrArg₂ f (Fin.ext (by show 0 + 1 * (i 0).val = (i 0).val; omega)) (Fin.ext (by show 0 + 1 * (i 1).val = (i 1).val; omega)))
theorem ldb (f : Fin 512 → Fin 1024 → ℝ) :
    View.ld (Val := Elt Ideal) (S := S512x1024) (e' := .bf16) (L2 f) (Rect.unit ![0, 0] ![512, 1024] inb_S512x1024_S512x1024_0_0) = L2 f :=
  funext fun i => congrArg Real.toEReal (congrArg₂ f (Fin.ext (by show 0 + 1 * (i 0).val = (i 0).val; omega)) (Fin.ext (by show 0 + 1 * (i 1).val = (i 1).val; omega)))
theorem ldc0 (f : Fin 1024 → Fin 1024 → ℝ) :
    View.ld (Val := Elt Ideal) (S := S1024x1024) (e' := .bf16) (L2 f) (Rect.unit ![0, 0] ![1024, 256] inb_S1024x1024_S1024x256_0_0) = L2 fun (i : Fin 1024) (j : Fin 256) => f i (hc 0 j) :=
  funext fun i => congrArg Real.toEReal (congrArg₂ f (Fin.ext (by show 0 + 1 * (i 0).val = (i 0).val; omega)) (Fin.ext (by show 0 + 1 * (i 1).val = 0 * 256 + (i 1).val; omega)))
theorem ldo0 (f : Fin 1024 → Fin 1024 → ℝ) :
    View.ld (Val := Elt Ideal) (S := S1024x1024) (e' := .bf16) (L2 f) (Rect.unit ![0, 0] ![256, 1024] inb_S1024x1024_S256x1024_0_0) = L2 fun (i : Fin 256) (j : Fin 1024) => f (hc 0 i) j :=
  funext fun i => congrArg Real.toEReal (congrArg₂ f (Fin.ext (by show 0 + 1 * (i 0).val = 0 * 256 + (i 0).val; omega)) (Fin.ext (by show 0 + 1 * (i 1).val = (i 1).val; omega)))
theorem ldk0 (f : Fin 256 → Fin 1024 → ℝ) :
    View.ld (Val := Elt Ideal) (S := S256x1024) (e' := .f32) (L2 f) (Rect.unit ![0, 0] ![256, 256] inb_S256x1024_S256x256_0_0) = L2 fun (i : Fin 256) (j : Fin 256) => f i (hc 0 j) :=
  funext fun i => congrArg Real.toEReal (congrArg₂ f (Fin.ext (by show 0 + 1 * (i 0).val = (i 0).val; omega)) (Fin.ext (by show 0 + 1 * (i 1).val = 0 * 256 + (i 1).val; omega)))
theorem ldc1 (f : Fin 1024 → Fin 1024 → ℝ) :
    View.ld (Val := Elt Ideal) (S := S1024x1024) (e' := .bf16) (L2 f) (Rect.unit ![0, 256] ![1024, 256] inb_S1024x1024_S1024x256_0_256) = L2 fun (i : Fin 1024) (j : Fin 256) => f i (hc 1 j) :=
  funext fun i => congrArg Real.toEReal (congrArg₂ f (Fin.ext (by show 0 + 1 * (i 0).val = (i 0).val; omega)) (Fin.ext (by show 256 + 1 * (i 1).val = 1 * 256 + (i 1).val; omega)))
theorem ldo1 (f : Fin 1024 → Fin 1024 → ℝ) :
    View.ld (Val := Elt Ideal) (S := S1024x1024) (e' := .bf16) (L2 f) (Rect.unit ![256, 0] ![256, 1024] inb_S1024x1024_S256x1024_256_0) = L2 fun (i : Fin 256) (j : Fin 1024) => f (hc 1 i) j :=
  funext fun i => congrArg Real.toEReal (congrArg₂ f (Fin.ext (by show 256 + 1 * (i 0).val = 1 * 256 + (i 0).val; omega)) (Fin.ext (by show 0 + 1 * (i 1).val = (i 1).val; omega)))
theorem ldk1 (f : Fin 256 → Fin 1024 → ℝ) :
    View.ld (Val := Elt Ideal) (S := S256x1024) (e' := .f32) (L2 f) (Rect.unit ![0, 256] ![256, 256] inb_S256x1024_S256x256_0_256) = L2 fun (i : Fin 256) (j : Fin 256) => f i (hc 1 j) :=
  funext fun i => congrArg Real.toEReal (congrArg₂ f (Fin.ext (by show 0 + 1 * (i 0).val = (i 0).val; omega)) (Fin.ext (by show 256 + 1 * (i 1).val = 1 * 256 + (i 1).val; omega)))
theorem ldc2 (f : Fin 1024 → Fin 1024 → ℝ) :
    View.ld (Val := Elt Ideal) (S := S1024x1024) (e' := .bf16) (L2 f) (Rect.unit ![0, 512] ![1024, 256] inb_S1024x1024_S1024x256_0_512) = L2 fun (i : Fin 1024) (j : Fin 256) => f i (hc 2 j) :=
  funext fun i => congrArg Real.toEReal (congrArg₂ f (Fin.ext (by show 0 + 1 * (i 0).val = (i 0).val; omega)) (Fin.ext (by show 512 + 1 * (i 1).val = 2 * 256 + (i 1).val; omega)))
theorem ldo2 (f : Fin 1024 → Fin 1024 → ℝ) :
    View.ld (Val := Elt Ideal) (S := S1024x1024) (e' := .bf16) (L2 f) (Rect.unit ![512, 0] ![256, 1024] inb_S1024x1024_S256x1024_512_0) = L2 fun (i : Fin 256) (j : Fin 1024) => f (hc 2 i) j :=
  funext fun i => congrArg Real.toEReal (congrArg₂ f (Fin.ext (by show 512 + 1 * (i 0).val = 2 * 256 + (i 0).val; omega)) (Fin.ext (by show 0 + 1 * (i 1).val = (i 1).val; omega)))
theorem ldk2 (f : Fin 256 → Fin 1024 → ℝ) :
    View.ld (Val := Elt Ideal) (S := S256x1024) (e' := .f32) (L2 f) (Rect.unit ![0, 512] ![256, 256] inb_S256x1024_S256x256_0_512) = L2 fun (i : Fin 256) (j : Fin 256) => f i (hc 2 j) :=
  funext fun i => congrArg Real.toEReal (congrArg₂ f (Fin.ext (by show 0 + 1 * (i 0).val = (i 0).val; omega)) (Fin.ext (by show 512 + 1 * (i 1).val = 2 * 256 + (i 1).val; omega)))
theorem ldc3 (f : Fin 1024 → Fin 1024 → ℝ) :
    View.ld (Val := Elt Ideal) (S := S1024x1024) (e' := .bf16) (L2 f) (Rect.unit ![0, 768] ![1024, 256] inb_S1024x1024_S1024x256_0_768) = L2 fun (i : Fin 1024) (j : Fin 256) => f i (hc 3 j) :=
  funext fun i => congrArg Real.toEReal (congrArg₂ f (Fin.ext (by show 0 + 1 * (i 0).val = (i 0).val; omega)) (Fin.ext (by show 768 + 1 * (i 1).val = 3 * 256 + (i 1).val; omega)))
theorem ldo3 (f : Fin 1024 → Fin 1024 → ℝ) :
    View.ld (Val := Elt Ideal) (S := S1024x1024) (e' := .bf16) (L2 f) (Rect.unit ![768, 0] ![256, 1024] inb_S1024x1024_S256x1024_768_0) = L2 fun (i : Fin 256) (j : Fin 1024) => f (hc 3 i) j :=
  funext fun i => congrArg Real.toEReal (congrArg₂ f (Fin.ext (by show 768 + 1 * (i 0).val = 3 * 256 + (i 0).val; omega)) (Fin.ext (by show 0 + 1 * (i 1).val = (i 1).val; omega)))
theorem ldk3 (f : Fin 256 → Fin 1024 → ℝ) :
    View.ld (Val := Elt Ideal) (S := S256x1024) (e' := .f32) (L2 f) (Rect.unit ![0, 768] ![256, 256] inb_S256x1024_S256x256_0_768) = L2 fun (i : Fin 256) (j : Fin 256) => f i (hc 3 j) :=
  funext fun i => congrArg Real.toEReal (congrArg₂ f (Fin.ext (by show 0 + 1 * (i 0).val = (i 0).val; omega)) (Fin.ext (by show 768 + 1 * (i 1).val = 3 * 256 + (i 1).val; omega)))

end Cert.RealStep.Ker

end
-- ==== Proof.KerPay.lean ====
/- The attention kernel's stored terms on vectors of real numbers, one after another. -/
module

public import proofs.«01_k».proof.Proof.KerOps

@[expose] public section

noncomputable section

namespace Cert.RealStep

/-- The softmax of a row of 256 scores. -/
def smax (s : Fin 256 → ℝ) (m : Fin 256) : ℝ :=
  Real.exp (s m - Finset.univ.sup' Finset.univ_nonempty s) / ∑ n, Real.exp (s n - Finset.univ.sup' Finset.univ_nonempty s)

/-- Its pullback, scaled. -/
def sback (p dp : Fin 256 → ℝ) (m : Fin 256) : ℝ := p m * (dp m - ∑ n, dp n * p n) * (1 / 16)

namespace Ker

open Cert.KernelIdeal Cert.KernelIdeal.Gen Idealize.ShloMosaic Idealize.ShloMosaic.TcCoe

theorem soft (s : Fin 512 → Fin 256 → ℝ) :
    divf (F := Ideal) (φ := .f32)
      (L2 fun i j => Real.exp (s i j - Finset.univ.sup' Finset.univ_nonempty (s i)))
      (L2 fun i (_ : Fin 256) => ∑ d, Real.exp (s i d - Finset.univ.sup' Finset.univ_nonempty (s i)))
      = L2 fun i j => smax (s i) j :=
  lift_divf _ _ _ fun _ _ => (Finset.sum_pos (fun _ _ => Real.exp_pos _) Finset.univ_nonempty).ne'

theorem pay3  : k0_pay3 (F := Ideal)  = L2 fun i j => (fun (_ : Fin 256) (_ : Fin 1024) => (0 : ℝ)) i j := by
  unfold k0_pay3
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay4  : k0_pay4 (F := Ideal)  = L2 fun i j => (fun (_ : Fin 256) (_ : Fin 1024) => (0 : ℝ)) i j := by
  unfold k0_pay4
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay5  : k0_pay5 (F := Ideal)  = L2 fun i j => (fun (_ : Fin 1) (_ : Fin 1024) => (0 : ℝ)) i j := by
  unfold k0_pay5
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay6  : k0_pay6 (F := Ideal)  = L2 fun i j => (fun (_ : Fin 1) (_ : Fin 1024) => (0 : ℝ)) i j := by
  unfold k0_pay6
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay7 (f : Fin 512 → Fin 1024 → ℝ) : k0_pay7 (F := Ideal) (L2 f) = L2 fun i j => f i j := by
  unfold k0_pay7
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay8 (f : Fin 512 → Fin 1024 → ℝ) (x : Fin 512 → Fin 1024 → ℝ) (g : Fin 1 → Fin 1024 → ℝ) : k0_pay8 (F := Ideal) (L2 f) (L2 x) (L2 g) = L2 fun i j => g i j + ∑ l, f l j * x l j := by
  unfold k0_pay8
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay7]
  rw [colsum]
  simp only [lift_addf]

theorem pay9 (f : Fin 512 → Fin 1024 → ℝ) (g : Fin 1 → Fin 1024 → ℝ) : k0_pay9 (F := Ideal) (L2 f) (L2 g) = L2 fun i j => g i j + ∑ l, f l j := by
  unfold k0_pay9
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]
  rw [colsum]
  simp only [lift_addf]

theorem pay10 (f : Fin 512 → Fin 1 → ℝ) : k0_pay10 (F := Ideal) (L2 f) = L2 fun i j => f i j := by
  unfold k0_pay10
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay11 (f : Fin 512 → Fin 1024 → ℝ) (g : Fin 1 → Fin 1024 → ℝ) : k0_pay11 (F := Ideal) (L2 f) (L2 g) = L2 fun i j => f i j * g 0 j := by
  unfold k0_pay11
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay12 (f : Fin 512 → Fin 1024 → ℝ) (g : Fin 1 → Fin 1024 → ℝ) : k0_pay12 (F := Ideal) (L2 f) (L2 g) = L2 fun i (_ : Fin 1) => (∑ d, f i d * g 0 d) / 1024 := by
  unfold k0_pay12
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay11]
  rw [rowsum_col]
  simp only [lift_div1024]

theorem pay13 (f : Fin 512 → Fin 1024 → ℝ) (x : Fin 512 → Fin 1024 → ℝ) (g : Fin 1 → Fin 1024 → ℝ) : k0_pay13 (F := Ideal) (L2 f) (L2 x) (L2 g) = L2 fun i (_ : Fin 1) => ∑ d, f i d * g 0 d * x i d := by
  unfold k0_pay13
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay11, pay7]
  rw [rowsum_col]

theorem cst_1024 : broadcast ⟨2, ![512, 1]⟩ (FloatOps.ofBits (F := Ideal) .f32 0x44800000#32) = L2 fun (_ : Fin 512) (_ : Fin 1) => (1024 : ℝ) := lift_1024

theorem pay14 (x : Fin 512 → Fin 1024 → ℝ) (rs : Fin 512 → Fin 1 → ℝ) (a : Fin 512 → Fin 1024 → ℝ) (m1 m2 : Fin 512 → Fin 1 → ℝ) : k0_pay14 (F := Ideal) (L2 x) (L2 rs) (L2 a) (L2 m1) (L2 m2) (FloatOps.ofBits .f32 0x44800000#32) = L2 fun i j => rs i 0 * (a i j - m1 i 0 - x i j * (m2 i 0 / 1024)) := by
  unfold k0_pay14
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, cst_1024]

theorem pay15 (x : Fin 512 → Fin 1024 → ℝ) (rs : Fin 512 → Fin 1 → ℝ) (a : Fin 512 → Fin 1024 → ℝ) (m1 m2 : Fin 512 → Fin 1 → ℝ) : k0_pay15 (F := Ideal) (L2 x) (L2 rs) (L2 a) (L2 m1) (L2 m2) (FloatOps.ofBits .f32 0x44800000#32) = L2 fun i j => rs i 0 * (a i j - m1 i 0 - x i j * (m2 i 0 / 1024)) := by
  unfold k0_pay15
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay14]

theorem pay16 (f : Fin 512 → Fin 1024 → ℝ) : k0_pay16 (F := Ideal) (L2 f) = L2 fun i j => f i j := by
  unfold k0_pay16
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay17 (f : Fin 512 → Fin 1024 → ℝ) (w : Fin 1024 → Fin 256 → ℝ) : k0_pay17 (F := Ideal) (L2 f) (L2 w) = L2 fun i j => ∑ c, f i c * w c j := by
  unfold k0_pay17
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay16]

theorem pay18 (x : Fin 512 → Fin 1024 → ℝ) (rs : Fin 512 → Fin 1 → ℝ) (a : Fin 512 → Fin 1024 → ℝ) (m1 m2 : Fin 512 → Fin 1 → ℝ) (wo : Fin 256 → Fin 1024 → ℝ) : k0_pay18 (F := Ideal) (L2 x) (L2 rs) (L2 a) (L2 m1) (L2 m2) (FloatOps.ofBits .f32 0x44800000#32) (L2 wo) = L2 fun i j => ∑ c, (rs i 0 * (a i c - m1 i 0 - x i c * (m2 i 0 / 1024))) * wo j c := by
  unfold k0_pay18
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay15]

theorem pay19 (f : Fin 512 → Fin 1024 → ℝ) (w : Fin 1024 → Fin 256 → ℝ) (k : Fin 256 → Fin 256 → ℝ) : k0_pay19 (F := Ideal) (L2 f) (L2 w) (L2 k) = L2 fun i j => smax (fun m => (∑ c, (∑ d, f i d * w d c) * k m c) * (1 / 16)) j := by
  unfold k0_pay19
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay17]
  rw [rowmax]
  simp only [lift_subf, lift_exp]
  rw [rowsum]
  exact soft _

theorem pay20 (x : Fin 512 → Fin 1024 → ℝ) (rs : Fin 512 → Fin 1 → ℝ) (a : Fin 512 → Fin 1024 → ℝ) (m1 m2 : Fin 512 → Fin 1 → ℝ) (wo : Fin 256 → Fin 1024 → ℝ) (v : Fin 256 → Fin 256 → ℝ) : k0_pay20 (F := Ideal) (L2 x) (L2 rs) (L2 a) (L2 m1) (L2 m2) (FloatOps.ofBits .f32 0x44800000#32) (L2 wo) (L2 v) = L2 fun i j => ∑ e, (∑ c, (rs i 0 * (a i c - m1 i 0 - x i c * (m2 i 0 / 1024))) * wo e c) * v j e := by
  unfold k0_pay20
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay18]

theorem pay21 (x : Fin 512 → Fin 1024 → ℝ) (rs : Fin 512 → Fin 1 → ℝ) (a : Fin 512 → Fin 1024 → ℝ) (m1 m2 : Fin 512 → Fin 1 → ℝ) (f : Fin 512 → Fin 1024 → ℝ) (w : Fin 1024 → Fin 256 → ℝ) (wo : Fin 256 → Fin 1024 → ℝ) (k : Fin 256 → Fin 256 → ℝ) (v : Fin 256 → Fin 256 → ℝ) : k0_pay21 (F := Ideal) (L2 x) (L2 rs) (L2 a) (L2 m1) (L2 m2) (FloatOps.ofBits .f32 0x44800000#32) (L2 f) (L2 w) (L2 wo) (L2 k) (L2 v) = L2 fun i j => (∑ e, (∑ c, (rs i 0 * (a i c - m1 i 0 - x i c * (m2 i 0 / 1024))) * wo e c) * v j e) * smax (fun m => (∑ c, (∑ d, f i d * w d c) * k m c) * (1 / 16)) j := by
  unfold k0_pay21
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay20, pay19]

theorem pay22 (p : Fin 512 → Fin 256 → ℝ) (dp : Fin 512 → Fin 256 → ℝ) : k0_pay22 (F := Ideal) (L2 p) (L2 dp) (L2 fun i j => dp i j * p i j) = L2 fun i j => sback (p i) (dp i) j := by
  unfold k0_pay22
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]
  rw [rowsum]
  rfl

theorem pay23 (p : Fin 512 → Fin 256 → ℝ) (dp : Fin 512 → Fin 256 → ℝ) (k : Fin 256 → Fin 256 → ℝ) : k0_pay23 (F := Ideal) (L2 p) (L2 dp) (L2 fun i j => dp i j * p i j) (L2 k) = L2 fun i j => ∑ m, sback (p i) (dp i) m * k m j := by
  unfold k0_pay23
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay22]

theorem pay24 (q : Fin 512 → Fin 256 → ℝ) (p : Fin 512 → Fin 256 → ℝ) (dp : Fin 512 → Fin 256 → ℝ) (ac : Fin 256 → Fin 256 → ℝ) : k0_pay24 (F := Ideal) (L2 q) (L2 p) (L2 dp) (L2 fun i j => dp i j * p i j) (L2 ac) = L2 fun i j => ac i j + ∑ l, sback (p l) (dp l) i * q l j := by
  unfold k0_pay24
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay22]

theorem pay25 (o : Fin 512 → Fin 256 → ℝ) (p : Fin 512 → Fin 256 → ℝ) (ac : Fin 256 → Fin 256 → ℝ) : k0_pay25 (F := Ideal) (L2 o) (L2 p) (L2 ac) = L2 fun i j => ac i j + ∑ l, p l i * o l j := by
  unfold k0_pay25
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay26 (f : Fin 512 → Fin 1024 → ℝ) (w : Fin 1024 → Fin 256 → ℝ) : k0_pay26 (F := Ideal) (L2 f) (L2 w) = L2 fun i j => ∑ c, f i c * w c j := by
  unfold k0_pay26
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay27 (f : Fin 512 → Fin 1024 → ℝ) (wo : Fin 256 → Fin 1024 → ℝ) : k0_pay27 (F := Ideal) (L2 f) (L2 wo) = L2 fun i j => ∑ c, f i c * wo j c := by
  unfold k0_pay27
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay33 (f : Fin 512 → Fin 1024 → ℝ) (w : Fin 1024 → Fin 256 → ℝ) : k0_pay33 (F := Ideal) (L2 f) (L2 w) = L2 fun i j => ∑ c, f i c * w c j := by
  unfold k0_pay33
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay34 (f : Fin 512 → Fin 1024 → ℝ) (wo : Fin 256 → Fin 1024 → ℝ) : k0_pay34 (F := Ideal) (L2 f) (L2 wo) = L2 fun i j => ∑ c, f i c * wo j c := by
  unfold k0_pay34
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay41 (f : Fin 512 → Fin 1024 → ℝ) (w : Fin 1024 → Fin 256 → ℝ) : k0_pay41 (F := Ideal) (L2 f) (L2 w) = L2 fun i j => ∑ c, f i c * w c j := by
  unfold k0_pay41
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay42 (f : Fin 512 → Fin 1024 → ℝ) (wo : Fin 256 → Fin 1024 → ℝ) : k0_pay42 (F := Ideal) (L2 f) (L2 wo) = L2 fun i j => ∑ c, f i c * wo j c := by
  unfold k0_pay42
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay28 (q : Fin 512 → Fin 256 → ℝ) (k : Fin 256 → Fin 256 → ℝ) : k0_pay28 (F := Ideal) (L2 q) (L2 k) = L2 fun i j => smax (fun m => (∑ c, q i c * k m c) * (1 / 16)) j := by
  unfold k0_pay28
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]
  rw [rowmax]
  simp only [lift_subf, lift_exp]
  rw [rowsum]
  exact soft _

theorem pay29 (q : Fin 512 → Fin 256 → ℝ) (o : Fin 512 → Fin 256 → ℝ) (k : Fin 256 → Fin 256 → ℝ) (v : Fin 256 → Fin 256 → ℝ) : k0_pay29 (F := Ideal) (L2 q) (L2 o) (L2 k) (L2 v) = L2 fun i j => sback (smax (fun m => (∑ c, q i c * k m c) * (1 / 16))) (fun m => ∑ c, o i c * v m c) j := by
  unfold k0_pay29
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay28]
  rw [rowsum]
  rfl

theorem pay30 (q : Fin 512 → Fin 256 → ℝ) (o : Fin 512 → Fin 256 → ℝ) (k : Fin 256 → Fin 256 → ℝ) (v : Fin 256 → Fin 256 → ℝ) (k' : Fin 256 → Fin 256 → ℝ) : k0_pay30 (F := Ideal) (L2 q) (L2 o) (L2 k) (L2 v) (L2 k') = L2 fun i j => ∑ n, sback (smax (fun m => (∑ c, q i c * k m c) * (1 / 16))) (fun m => ∑ c, o i c * v m c) n * k' n j := by
  unfold k0_pay30
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay29]

theorem pay31 (q : Fin 512 → Fin 256 → ℝ) (o : Fin 512 → Fin 256 → ℝ) (k : Fin 256 → Fin 256 → ℝ) (v : Fin 256 → Fin 256 → ℝ) (ac : Fin 256 → Fin 256 → ℝ) : k0_pay31 (F := Ideal) (L2 q) (L2 o) (L2 k) (L2 v) (L2 ac) = L2 fun i j => ac i j + ∑ l, sback (smax (fun m => (∑ c, q l c * k m c) * (1 / 16))) (fun m => ∑ c, o l c * v m c) i * q l j := by
  unfold k0_pay31
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay29]

theorem pay32 (o : Fin 512 → Fin 256 → ℝ) (p : Fin 512 → Fin 256 → ℝ) (ac : Fin 256 → Fin 256 → ℝ) : k0_pay32 (F := Ideal) (L2 o) (L2 p) (L2 ac) = L2 fun i j => ac i j + ∑ l, p l i * o l j := by
  unfold k0_pay32
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay35 (f : Fin 512 → Fin 1024 → ℝ) (w : Fin 1024 → Fin 256 → ℝ) (k : Fin 256 → Fin 256 → ℝ) : k0_pay35 (F := Ideal) (L2 f) (L2 w) (L2 k) = L2 fun i j => smax (fun m => (∑ c, (∑ d, f i d * w d c) * k m c) * (1 / 16)) j := by
  unfold k0_pay35
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay33]
  rw [rowmax]
  simp only [lift_subf, lift_exp]
  rw [rowsum]
  exact soft _

theorem pay36 (x : Fin 512 → Fin 1024 → ℝ) (f : Fin 512 → Fin 1024 → ℝ) (w : Fin 1024 → Fin 256 → ℝ) (wo : Fin 256 → Fin 1024 → ℝ) (k : Fin 256 → Fin 256 → ℝ) (v : Fin 256 → Fin 256 → ℝ) : k0_pay36 (F := Ideal) (L2 x) (L2 f) (L2 w) (L2 wo) (L2 k) (L2 v) = L2 fun i j => (∑ c, (∑ d, x i d * wo c d) * v j c) - ∑ n, (∑ c, (∑ d, x i d * wo c d) * v n c) * smax (fun m => (∑ c, (∑ d, f i d * w d c) * k m c) * (1 / 16)) n := by
  unfold k0_pay36
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay34, pay35]
  rw [rowsum]
  rfl

theorem pay37 (p : Fin 512 → Fin 256 → ℝ) (dp : Fin 512 → Fin 256 → ℝ) : k0_pay37 (F := Ideal) (L2 p) (L2 dp) = L2 fun i j => p i j * dp i j * (1 / 16) := by
  unfold k0_pay37
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay38 (p : Fin 512 → Fin 256 → ℝ) (dp : Fin 512 → Fin 256 → ℝ) (k : Fin 256 → Fin 256 → ℝ) : k0_pay38 (F := Ideal) (L2 p) (L2 dp) (L2 k) = L2 fun i j => ∑ m, p i m * dp i m * (1 / 16) * k m j := by
  unfold k0_pay38
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay37]

theorem pay39 (q : Fin 512 → Fin 256 → ℝ) (p : Fin 512 → Fin 256 → ℝ) (dp : Fin 512 → Fin 256 → ℝ) (ac : Fin 256 → Fin 256 → ℝ) : k0_pay39 (F := Ideal) (L2 q) (L2 p) (L2 dp) (L2 ac) = L2 fun i j => ac i j + ∑ l, p l i * dp l i * (1 / 16) * q l j := by
  unfold k0_pay39
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay37]

theorem pay40 (o : Fin 512 → Fin 256 → ℝ) (p : Fin 512 → Fin 256 → ℝ) (ac : Fin 256 → Fin 256 → ℝ) : k0_pay40 (F := Ideal) (L2 o) (L2 p) (L2 ac) = L2 fun i j => ac i j + ∑ l, p l i * o l j := by
  unfold k0_pay40
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay43 (f : Fin 512 → Fin 1024 → ℝ) (w : Fin 1024 → Fin 256 → ℝ) : k0_pay43 (F := Ideal) (L2 f) (L2 w) = L2 fun i j => ∑ c, f i c * w c j := by
  unfold k0_pay43
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay41]

theorem pay44 (k : Fin 256 → Fin 256 → ℝ) : k0_pay44 (F := Ideal) (L2 k) = L2 fun i j => k i j := by
  unfold k0_pay44
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay45 (q : Fin 512 → Fin 256 → ℝ) (k : Fin 256 → Fin 256 → ℝ) : k0_pay45 (F := Ideal) (L2 q) (L2 k) (constant (F := Ideal) S512x256 .f32 0x00000000#32) = L2 fun i j => smax (fun m => (∑ c, q i c * k m c) * (1 / 16)) j := by
  unfold k0_pay45
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]
  rw [rowmax]
  simp only [lift_subf, lift_exp]
  rw [rowsum]
  exact soft _

theorem pay46 (o : Fin 512 → Fin 256 → ℝ) (q : Fin 512 → Fin 256 → ℝ) (k : Fin 256 → Fin 256 → ℝ) (v : Fin 256 → Fin 256 → ℝ) : k0_pay46 (F := Ideal) (L2 o) (L2 q) (L2 k) (constant (F := Ideal) S512x256 .f32 0x00000000#32) (L2 v) = L2 fun i j => sback (smax (fun m => (∑ c, q i c * k m c) * (1 / 16))) (fun m => ∑ c, o i c * v m c) j := by
  unfold k0_pay46
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay45]
  rw [rowsum]
  rfl

theorem pay47 (o : Fin 512 → Fin 256 → ℝ) (q : Fin 512 → Fin 256 → ℝ) (k : Fin 256 → Fin 256 → ℝ) (v : Fin 256 → Fin 256 → ℝ) (k' : Fin 256 → Fin 256 → ℝ) : k0_pay47 (F := Ideal) (L2 o) (L2 q) (L2 k) (constant (F := Ideal) S512x256 .f32 0x00000000#32) (L2 v) (L2 k') = L2 fun i j => ∑ n, sback (smax (fun m => (∑ c, q i c * k m c) * (1 / 16))) (fun m => ∑ c, o i c * v m c) n * k' n j := by
  unfold k0_pay47
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay46]

theorem pay48 (q' : Fin 512 → Fin 256 → ℝ) (o : Fin 512 → Fin 256 → ℝ) (q : Fin 512 → Fin 256 → ℝ) (k : Fin 256 → Fin 256 → ℝ) (v : Fin 256 → Fin 256 → ℝ) (ac : Fin 256 → Fin 256 → ℝ) : k0_pay48 (F := Ideal) (L2 q') (L2 o) (L2 q) (L2 k) (constant (F := Ideal) S512x256 .f32 0x00000000#32) (L2 v) (L2 ac) = L2 fun i j => ac i j + ∑ l, sback (smax (fun m => (∑ c, q l c * k m c) * (1 / 16))) (fun m => ∑ c, o l c * v m c) i * q' l j := by
  unfold k0_pay48
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self, pay46]

theorem pay1 (o : Fin 512 → Fin 256 → ℝ) (p : Fin 512 → Fin 256 → ℝ) (ac : Fin 256 → Fin 256 → ℝ) : k0_pay1 (F := Ideal) (L2 o) (L2 p) (L2 ac) = L2 fun i j => ac i j + ∑ l, p l i * o l j := by
  unfold k0_pay1
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

theorem pay2 (f : Fin 512 → Fin 1024 → ℝ) (x : Fin 512 → Fin 1024 → ℝ) (w : Fin 1024 → Fin 1024 → ℝ) : k0_pay2 (F := Ideal) (L2 f) (L2 x) (L2 w) = L2 fun i j => alpha * f i j + ∑ e, x i e * w j e := by
  unfold k0_pay2
  simp only [lift_truncf, lift_sixteenth, lift_alpha, lift_1024, lift_zero, lift_div1024, lift_mulf, lift_subf, lift_addf, lift_exp, mm_q, mm_do, mm_s, mm_dq, mm_dk, mm_dh, rowsum_col, colsum, bcast_row, bcast_col, shapeCast_self]

end Ker

end Cert.RealStep

end
-- ==== Proof.KerOut.lean ====
/- What a point of the call leaves in its outputs' blocks, at real arguments. -/
module

public import proofs.«01_k».proof.Proof.KerBlocks
public import proofs.«01_k».proof.Proof.KerPay
public import Idealize.ShloMosaic.Lib.Pipeline.ReadBack

@[expose] public section

noncomputable section

namespace Cert.KernelIdeal.Gen

open Cert.KernelIdeal Cert.KernelIdeal.Gen Idealize.ShloMosaic Idealize.ShloMosaic.TcCoe Idealize.SL.Sem Cert.RealStep Cert.RealStep.Ker

/-- A store of 256 columns read back at one of them. -/
theorem canon_hit {n : ℕ} {e : EltTy} [∀ e, Nonempty (Elt Ideal e)] (o : ℕ) (inb) (w : (⟨2, ![n, 256]⟩ : Shape).Idx → Elt Ideal e)
    (L : List (View.Piece (Elt Ideal) ⟨2, ![n, 1024]⟩ e)) (y : (⟨2, ![n, 1024]⟩ : Shape).Idx) (x : Fin 256) (h : (y 1).val = o + x.val) :
    View.canon ((⟨Rect.unit ![0, o] ![n, 256] inb, w⟩ : View.Piece (Elt Ideal) ⟨2, ![n, 1024]⟩ e) :: L) y = w (ValueIdx.ix2 (y 0) x) := by
  have e1 : y = (Rect.unit (s := ⟨2, ![n, 1024]⟩) ![0, o] ![n, 256] inb).emb (ValueIdx.ix2 (y 0) x) := by
    funext a
    match a with
    | 0 => exact Fin.ext (by rw [ValueKit.rect_emb_unit_val]; show (y 0).val = 0 + (y 0).val; omega)
    | 1 => exact Fin.ext (by rw [ValueKit.rect_emb_unit_val]; exact h)
  conv_lhs => rw [e1]
  exact View.canon_cons_emb _ _ _ _

/-- And at a column that it leaves alone. -/
theorem canon_miss {n : ℕ} {e : EltTy} [∀ e, Nonempty (Elt Ideal e)] (o : ℕ) (inb) (w : (⟨2, ![n, 256]⟩ : Shape).Idx → Elt Ideal e)
    (L : List (View.Piece (Elt Ideal) ⟨2, ![n, 1024]⟩ e)) (y : (⟨2, ![n, 1024]⟩ : Shape).Idx) (h : (y 1).val < o ∨ o + 256 ≤ (y 1).val) :
    View.canon ((⟨Rect.unit ![0, o] ![n, 256] inb, w⟩ : View.Piece (Elt Ideal) ⟨2, ![n, 1024]⟩ e) :: L) y = View.canon L y := by
  refine View.canon_cons_of_not_mem _ _ fun hm => ?_
  have h1 := (Rect.mem_set_unit (inb := inb)).mp hm 1
  have h2 : o ≤ (y 1).val ∧ (y 1).val < o + 256 := h1
  omega

/-- Four stores of 256 columns each, read back: a column belongs to its head's store. -/
theorem canon4 (G : Fin 4 → Fin 256 → Fin 256 → ℝ) (L : List (View.Piece (Elt Ideal) S256x1024 .f32)) :
    View.canon ((⟨Rect.unit ![0, 768] ![256, 256] inb_S256x1024_S256x256_0_768, L2 (G 3)⟩ : View.Piece (Elt Ideal) S256x1024 .f32) :: (⟨Rect.unit ![0, 512] ![256, 256] inb_S256x1024_S256x256_0_512, L2 (G 2)⟩ : View.Piece (Elt Ideal) S256x1024 .f32) :: (⟨Rect.unit ![0, 256] ![256, 256] inb_S256x1024_S256x256_0_256, L2 (G 1)⟩ : View.Piece (Elt Ideal) S256x1024 .f32) :: (⟨Rect.unit ![0, 0] ![256, 256] inb_S256x1024_S256x256_0_0, L2 (G 0)⟩ : View.Piece (Elt Ideal) S256x1024 .f32) :: L)
      = L2 fun i d => G (hd d) i (cd d) := by
  funext y
  obtain ⟨h, x, e⟩ : ∃ (h : Fin 4) (x : Fin 256), (y 1 : Fin 1024) = hc h x := ⟨hd (y 1), cd (y 1), (hc_hd_cd _).symm⟩
  have ev : (y 1).val = h.val * 256 + x.val := congrArg Fin.val e
  have hx := x.isLt
  have er : (L2 (fun i d => G (hd d) i (cd d)) : S256x1024.Idx → EReal) y = ((G h (y 0) x : ℝ) : EReal) := by
    show ((G (hd (y 1)) (y 0) (cd (y 1)) : ℝ) : EReal) = _
    rw [e, hd_hc, cd_hc]
  rw [er]
  fin_cases h
  · have ev' : (y 1).val = 0 + x.val := ev.trans (by show 0 * 256 + x.val = _; omega)
    rw [canon_miss (768) _ _ _ _ (by omega)]; rw [canon_miss (512) _ _ _ _ (by omega)]; rw [canon_miss (256) _ _ _ _ (by omega)]; rw [canon_hit (0) _ _ _ _ x ev']; rfl
  · have ev' : (y 1).val = 256 + x.val := ev.trans (by show 1 * 256 + x.val = _; omega)
    rw [canon_miss (768) _ _ _ _ (by omega)]; rw [canon_miss (512) _ _ _ _ (by omega)]; rw [canon_hit (256) _ _ _ _ x ev']; rfl
  · have ev' : (y 1).val = 512 + x.val := ev.trans (by show 2 * 256 + x.val = _; omega)
    rw [canon_miss (768) _ _ _ _ (by omega)]; rw [canon_hit (512) _ _ _ _ x ev']; rfl
  · have ev' : (y 1).val = 768 + x.val := ev.trans (by show 3 * 256 + x.val = _; omega)
    rw [canon_hit (768) _ _ _ _ x ev']; rfl

/-- Four stores of 256 columns each, read back: a column belongs to its head's store. -/
theorem canon4b (G : Fin 4 → Fin 512 → Fin 256 → ℝ) (L : List (View.Piece (Elt Ideal) S512x1024 .bf16)) :
    View.canon ((⟨Rect.unit ![0, 768] ![512, 256] inb_S512x1024_S512x256_0_768, L2 (G 3)⟩ : View.Piece (Elt Ideal) S512x1024 .bf16) :: (⟨Rect.unit ![0, 512] ![512, 256] inb_S512x1024_S512x256_0_512, L2 (G 2)⟩ : View.Piece (Elt Ideal) S512x1024 .bf16) :: (⟨Rect.unit ![0, 256] ![512, 256] inb_S512x1024_S512x256_0_256, L2 (G 1)⟩ : View.Piece (Elt Ideal) S512x1024 .bf16) :: (⟨Rect.unit ![0, 0] ![512, 256] inb_S512x1024_S512x256_0_0, L2 (G 0)⟩ : View.Piece (Elt Ideal) S512x1024 .bf16) :: L)
      = L2 fun i d => G (hd d) i (cd d) := by
  funext y
  obtain ⟨h, x, e⟩ : ∃ (h : Fin 4) (x : Fin 256), (y 1 : Fin 1024) = hc h x := ⟨hd (y 1), cd (y 1), (hc_hd_cd _).symm⟩
  have ev : (y 1).val = h.val * 256 + x.val := congrArg Fin.val e
  have hx := x.isLt
  have er : (L2 (fun i d => G (hd d) i (cd d)) : S512x1024.Idx → EReal) y = ((G h (y 0) x : ℝ) : EReal) := by
    show ((G (hd (y 1)) (y 0) (cd (y 1)) : ℝ) : EReal) = _
    rw [e, hd_hc, cd_hc]
  rw [er]
  fin_cases h
  · have ev' : (y 1).val = 0 + x.val := ev.trans (by show 0 * 256 + x.val = _; omega)
    rw [canon_miss (768) _ _ _ _ (by omega)]; rw [canon_miss (512) _ _ _ _ (by omega)]; rw [canon_miss (256) _ _ _ _ (by omega)]; rw [canon_hit (0) _ _ _ _ x ev']; rfl
  · have ev' : (y 1).val = 256 + x.val := ev.trans (by show 1 * 256 + x.val = _; omega)
    rw [canon_miss (768) _ _ _ _ (by omega)]; rw [canon_miss (512) _ _ _ _ (by omega)]; rw [canon_hit (256) _ _ _ _ x ev']; rfl
  · have ev' : (y 1).val = 512 + x.val := ev.trans (by show 2 * 256 + x.val = _; omega)
    rw [canon_miss (768) _ _ _ _ (by omega)]; rw [canon_hit (512) _ _ _ _ x ev']; rfl
  · have ev' : (y 1).val = 768 + x.val := ev.trans (by show 3 * 256 + x.val = _; omega)
    rw [canon_hit (768) _ _ _ _ x ev']; rfl

/-- A matrix given head by head. -/
theorem join {n : ℕ} (G : Fin 4 → Fin n → Fin 256 → ℝ) (G' : Fin n → Fin 1024 → ℝ) (h : ∀ h i x, G h i x = G' i (hc h x)) :
    L2 (fun i d => G (hd d) i (cd d)) = L2 G' :=
  congrArg L2 (funext fun i => funext fun d => by rw [h, hc_hd_cd])

/-- What was stored in a block, loaded whole. -/
theorem readCov_whole {sp : Space} (v : View sig .tc sp S512x1024 .bf16) (L : List (View.Piece (Elt Ideal) S512x1024 .bf16)) (f : Fin 512 → Fin 1024 → ℝ)
    (h : View.canon L = L2 f) : v.readCov L (Rect.unit ![0, 0] ![512, 1024] inb_S512x1024_S512x1024_0_0).toLoadRect = L2 f := by
  rw [View.readCov_eq_canon', h]
  exact ldb f

variable {m : (ℓ : Loc nD τ sig) → Buf (Elt Ideal) ℓ} {c : Dev nD}
variable {D : Attn} (H : Holds m c D) (t : Fin cfg0.N)
include H

theorem dr_A (h0 : t.val % 16 = 0) : (outsAt0 m c t.val t.isLt).1 = L2 fun l d => D.dr (row t l) d := by
  rw [outsAt0_A m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  rfl

theorem dq_A (h0 : t.val % 16 = 0) : (outsAt0 m c t.val t.isLt).2.1 = L2 fun l d => D.dq (row t l) d := by
  rw [outsAt0_A m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4b (fun h l j => ∑ n, D.ds h (row t l) n * D.k n (hc h j)) []).trans (join (fun h l j => ∑ n, D.ds h (row t l) n * D.k n (hc h j)) (fun l d => D.dq (row t l) d) fun h l j => by unfold Attn.dq; rw [hd_hc])

theorem dh1_A (h0 : t.val % 16 = 0) : (outsAt0 m c t.val t.isLt).2.2.1 = L2 fun l d => D.dh1 (row t l) d := by
  rw [outsAt0_A m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  generalize hz : View.readCov (Val := Elt Ideal) (ms0_10 t).view _ _ = z
  have hz' : z = L2 fun l d => D.dq (row t l) d := hz.symm.trans (readCov_whole _ _ _ ((canon4b (fun h l j => ∑ n, D.ds h (row t l) n * D.k n (hc h j)) []).trans (join (fun h l j => ∑ n, D.ds h (row t l) n * D.k n (hc h j)) (fun l d => D.dq (row t l) d) fun h l j => by unfold Attn.dq; rw [hd_hc])))
  rw [hz', pay2]
  rfl

theorem dr_B (h0 : ¬t.val % 16 = 0) : (outsAt0 m c t.val t.isLt).1 = L2 fun l d => D.dr (row t l) d := by
  rw [outsAt0_B m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  rfl

theorem dq_B (h0 : ¬t.val % 16 = 0) : (outsAt0 m c t.val t.isLt).2.1 = L2 fun l d => D.dq (row t l) d := by
  rw [outsAt0_B m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4b (fun h l j => ∑ n, D.ds h (row t l) n * D.k n (hc h j)) []).trans (join (fun h l j => ∑ n, D.ds h (row t l) n * D.k n (hc h j)) (fun l d => D.dq (row t l) d) fun h l j => by unfold Attn.dq; rw [hd_hc])

theorem dh1_B (h0 : ¬t.val % 16 = 0) : (outsAt0 m c t.val t.isLt).2.2.1 = L2 fun l d => D.dh1 (row t l) d := by
  rw [outsAt0_B m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  generalize hz : View.readCov (Val := Elt Ideal) (ms0_10 t).view _ _ = z
  have hz' : z = L2 fun l d => D.dq (row t l) d := hz.symm.trans (readCov_whole _ _ _ ((canon4b (fun h l j => ∑ n, D.ds h (row t l) n * D.k n (hc h j)) []).trans (join (fun h l j => ∑ n, D.ds h (row t l) n * D.k n (hc h j)) (fun l d => D.dq (row t l) d) fun h l j => by unfold Attn.dq; rw [hd_hc])))
  rw [hz', pay2]
  rfl

theorem dk_A (h0 : t.val % 16 = 0) : (outsAt0 m c t.val t.isLt).2.2.2.1 = L2 fun n d => 0 + ∑ l, D.ds (hd d) (row t l) n * D.q (row t l) d := by
  rw [outsAt0_A m c t h0]
  frame_out
  simp (disch := decide) only [↓ View.readCov_skip, ↓ View.readCov_cons_toLoadRect, ↓ View.readCov_fill]
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4 (fun h n j => 0 + ∑ l, D.ds h (row t l) n * D.q (row t l) (hc h j)) _).trans (join (fun h n j => 0 + ∑ l, D.ds h (row t l) n * D.q (row t l) (hc h j)) (fun n d => 0 + ∑ l, D.ds (hd d) (row t l) n * D.q (row t l) d) fun h n j => by rw [hd_hc])

theorem dk_B (h0 : ¬t.val % 16 = 0) (P : Fin 256 → Fin 1024 → ℝ) (hP : (outsAt0 m c (t.val - 1) (Nat.lt_of_le_of_lt (Nat.sub_le _ _) t.isLt)).2.2.2.1 = L2 P) :
    (outsAt0 m c t.val t.isLt).2.2.2.1 = L2 fun n d => P n d + ∑ l, D.ds (hd d) (row t l) n * D.q (row t l) d := by
  rw [outsAt0_B m c t h0]
  frame_out
  simp only [hP, blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4 (fun h n j => P n (hc h j) + ∑ l, D.ds h (row t l) n * D.q (row t l) (hc h j)) _).trans (join (fun h n j => P n (hc h j) + ∑ l, D.ds h (row t l) n * D.q (row t l) (hc h j)) (fun n d => P n d + ∑ l, D.ds (hd d) (row t l) n * D.q (row t l) d) fun h n j => by rw [hd_hc])

theorem dv_A (h0 : t.val % 16 = 0) : (outsAt0 m c t.val t.isLt).2.2.2.2.1 = L2 fun n d => 0 + ∑ l, D.p (hd d) (row t l) n * D.dout (row t l) d := by
  rw [outsAt0_A m c t h0]
  frame_out
  simp (disch := decide) only [↓ View.readCov_skip, ↓ View.readCov_cons_toLoadRect, ↓ View.readCov_fill]
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4 (fun h n j => 0 + ∑ l, D.p h (row t l) n * D.dout (row t l) (hc h j)) _).trans (join (fun h n j => 0 + ∑ l, D.p h (row t l) n * D.dout (row t l) (hc h j)) (fun n d => 0 + ∑ l, D.p (hd d) (row t l) n * D.dout (row t l) d) fun h n j => by rw [hd_hc])

theorem dv_B (h0 : ¬t.val % 16 = 0) (P : Fin 256 → Fin 1024 → ℝ) (hP : (outsAt0 m c (t.val - 1) (Nat.lt_of_le_of_lt (Nat.sub_le _ _) t.isLt)).2.2.2.2.1 = L2 P) :
    (outsAt0 m c t.val t.isLt).2.2.2.2.1 = L2 fun n d => P n d + ∑ l, D.p (hd d) (row t l) n * D.dout (row t l) d := by
  rw [outsAt0_B m c t h0]
  frame_out
  simp only [hP, blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]
  exact (canon4 (fun h n j => P n (hc h j) + ∑ l, D.p h (row t l) n * D.dout (row t l) (hc h j)) _).trans (join (fun h n j => P n (hc h j) + ∑ l, D.p h (row t l) n * D.dout (row t l) (hc h j)) (fun n d => P n d + ∑ l, D.p (hd d) (row t l) n * D.dout (row t l) d) fun h n j => by rw [hd_hc])

theorem dg_A (h0 : t.val % 16 = 0) : (outsAt0 m c t.val t.isLt).2.2.2.2.2.1 = L2 (fun n d => 0 + ∑ l, D.dh (row t l) d * xhat (D.r (row t l)) d : Fin 1 → Fin 1024 → ℝ) := by
  rw [outsAt0_A m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]

theorem dg_B (h0 : ¬t.val % 16 = 0) (P : Fin 1 → Fin 1024 → ℝ) (hP : (outsAt0 m c (t.val - 1) (Nat.lt_of_le_of_lt (Nat.sub_le _ _) t.isLt)).2.2.2.2.2.1 = L2 P) :
    (outsAt0 m c t.val t.isLt).2.2.2.2.2.1 = L2 (fun n d => P n d + ∑ l, D.dh (row t l) d * xhat (D.r (row t l)) d : Fin 1 → Fin 1024 → ℝ) := by
  rw [outsAt0_B m c t h0]
  frame_out
  simp only [hP, blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]

theorem db_A (h0 : t.val % 16 = 0) : (outsAt0 m c t.val t.isLt).2.2.2.2.2.2 = L2 (fun n d => 0 + ∑ l, D.dh (row t l) d : Fin 1 → Fin 1024 → ℝ) := by
  rw [outsAt0_A m c t h0]
  frame_out
  simp only [blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]

theorem db_B (h0 : ¬t.val % 16 = 0) (P : Fin 1 → Fin 1024 → ℝ) (hP : (outsAt0 m c (t.val - 1) (Nat.lt_of_le_of_lt (Nat.sub_le _ _) t.isLt)).2.2.2.2.2.2 = L2 P) :
    (outsAt0 m c t.val t.isLt).2.2.2.2.2.2 = L2 (fun n d => P n d + ∑ l, D.dh (row t l) d : Fin 1 → Fin 1024 → ℝ) := by
  rw [outsAt0_B m c t h0]
  frame_out
  simp only [hP, blk0 H t, blk1 H t, blk2 H t, blk3 H t, blk4 H t, blk5 H t, blk6 H t, blk7 H t, blk8 H t, ldf, ldf1, ldr, ldw, ldb, ldc0, ldc1, ldc2, ldc3, ldo0, ldo1, ldo2, ldo3, ldk0, ldk1, ldk2, ldk3, pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48]

end Cert.KernelIdeal.Gen

end
-- ==== Proof.KerValue.lean ====
/- The call's result arrays at real arguments. -/
module

public import proofs.«01_k».proof.Proof.KerOut

@[expose] public section

noncomputable section

namespace Cert.KernelIdeal.Gen

open Cert.KernelIdeal Cert.KernelIdeal.Gen Idealize.ShloMosaic Idealize.ShloMosaic.TcCoe Idealize.SL.Sem Cert.RealStep

/-- The sum over the rows of the first `n + 1` points. -/
def upTo (f : Fin 8192 → ℝ) (n : ℕ) : ℝ := ∑ p ∈ Finset.univ.filter (fun p : Fin cfg0.N => p.val ≤ n), ∑ l, f (row p l)

theorem upTo_first (f : Fin 8192 → ℝ) (h : 0 < cfg0.N) : upTo f 0 = ∑ l, f (row ⟨0, h⟩ l) := by
  unfold upTo
  rw [show Finset.univ.filter (fun p : Fin cfg0.N => p.val ≤ 0) = {⟨0, h⟩} from Finset.ext fun p => by
    simp only [Finset.mem_filter, Finset.mem_univ, true_and, Finset.mem_singleton, Fin.ext_iff]; omega, Finset.sum_singleton]

theorem upTo_next (f : Fin 8192 → ℝ) (n : ℕ) (h : n + 1 < cfg0.N) : upTo f (n + 1) = upTo f n + ∑ l, f (row ⟨n + 1, h⟩ l) := by
  unfold upTo
  rw [show Finset.univ.filter (fun p : Fin cfg0.N => p.val ≤ n + 1) = insert ⟨n + 1, h⟩ (Finset.univ.filter fun p : Fin cfg0.N => p.val ≤ n) from
    Finset.ext fun p => by
      simp only [Finset.mem_filter, Finset.mem_univ, true_and, Finset.mem_insert, Fin.ext_iff]; omega,
    Finset.sum_insert (by simp), add_comm]

/-- The points' rows are all the rows. -/
theorem upTo_all (f : Fin 8192 → ℝ) : upTo f 15 = ∑ t, f t := by
  unfold upTo
  rw [Finset.filter_true_of_mem fun p _ => Nat.le_of_lt_succ p.isLt]
  exact Fin.sum_mul_add_fin (S := 16) (n := 512) (L := 8192) f

/-- A block that starts at the first point's sum and takes on every later point's holds the sum over all rows. -/
theorem total {a b : ℕ} (O : (n : ℕ) → n < cfg0.N → (⟨2, ![a, b]⟩ : Shape).Idx → EReal) (T : Fin a → Fin b → Fin 8192 → ℝ)
    (hA : ∀ t : Fin cfg0.N, t.val % 16 = 0 → O t.val t.isLt = L2 fun i j => 0 + ∑ l, T i j (row t l))
    (hB : ∀ t : Fin cfg0.N, ¬t.val % 16 = 0 → ∀ P, O (t.val - 1) (Nat.lt_of_le_of_lt (Nat.sub_le _ _) t.isLt) = L2 P →
      O t.val t.isLt = L2 fun i j => P i j + ∑ l, T i j (row t l)) (h15 : 15 < cfg0.N) :
    O 15 h15 = L2 fun i j => ∑ t, T i j t := by
  have key : ∀ n (h : n < cfg0.N), O n h = L2 fun i j => upTo (T i j) n := by
    intro n
    induction n with
    | zero => intro h; rw [hA ⟨0, h⟩ rfl]; simp only [zero_add, upTo_first _ h]
    | succ n ih =>
      intro h
      have hn : n + 1 < 16 := h
      rw [hB ⟨n + 1, h⟩ (by show ¬(n + 1) % 16 = 0; omega) _ (ih (Nat.lt_of_succ_lt h))]
      simp only [upTo_next _ n h]
  rw [key 15 h15]
  simp only [upTo_all]

variable {m : (ℓ : Loc nD τ sig) → Buf (Elt Ideal) ℓ} {c : Dev nD} {D : Attn} (H : Holds m c D)
include H

theorem dr_at (t : Fin cfg0.N) : (outsAt0 m c t.val t.isLt).1 = L2 fun l d => D.dr (row t l) d := by
  by_cases h : t.val % 16 = 0
  · exact dr_A H t h
  · exact dr_B H t h

theorem dq_at (t : Fin cfg0.N) : (outsAt0 m c t.val t.isLt).2.1 = L2 fun l d => D.dq (row t l) d := by
  by_cases h : t.val % 16 = 0
  · exact dq_A H t h
  · exact dq_B H t h

theorem dh1_at (t : Fin cfg0.N) : (outsAt0 m c t.val t.isLt).2.2.1 = L2 fun l d => D.dh1 (row t l) d := by
  by_cases h : t.val % 16 = 0
  · exact dh1_A H t h
  · exact dh1_B H t h

theorem arr_dr : (dats m 0 c).arrAt 9 cfg0.N = (L2 D.dr : S8192x1024.Idx → EReal) := by
  refine (dats m 0 c).arrAt_eq_of_covers 9 _ (by decide +kernel) fun t hf y => ?_
  rw [after0_9, dr_at H t]
  refine congrArg Real.toEReal (congrArg₂ D.dr ?_ ?_)
  · refine Fin.ext ?_
    blk_simp [idx_rows t, row]
  · refine Fin.ext ?_
    blk_simp [idx_rows t]

theorem arr_dq : (dats m 0 c).arrAt 10 cfg0.N = (L2 D.dq : S8192x1024.Idx → EReal) := by
  refine (dats m 0 c).arrAt_eq_of_covers 10 _ (by decide +kernel) fun t hf y => ?_
  rw [after0_10, dq_at H t]
  refine congrArg Real.toEReal (congrArg₂ D.dq ?_ ?_)
  · refine Fin.ext ?_
    blk_simp [idx_rows t, row]
  · refine Fin.ext ?_
    blk_simp [idx_rows t]

theorem arr_dh1 : (dats m 0 c).arrAt 11 cfg0.N = (L2 D.dh1 : S8192x1024.Idx → EReal) := by
  refine (dats m 0 c).arrAt_eq_of_covers 11 _ (by decide +kernel) fun t hf y => ?_
  rw [after0_11, dh1_at H t]
  refine congrArg Real.toEReal (congrArg₂ D.dh1 ?_ ?_)
  · refine Fin.ext ?_
    blk_simp [idx_rows t, row]
  · refine Fin.ext ?_
    blk_simp [idx_rows t]

theorem arr_dk : (dats m 0 c).arrAt 12 cfg0.N = (L2 D.dk : S256x1024.Idx → EReal) := by
  refine (dats m 0 c).arrAt_eq_of_after_last 12 ⟨15, by decide⟩ (by decide +kernel) _ fun j => ?_
  rw [after0_12, total (fun n h => (outsAt0 m c n h).2.2.2.1) (fun n d t => D.ds (hd d) t n * D.q t d) (fun t h => dk_A H t h) (fun t h P hP => dk_B H t h P hP)]
  rfl

theorem arr_dv : (dats m 0 c).arrAt 13 cfg0.N = (L2 D.dv : S256x1024.Idx → EReal) := by
  refine (dats m 0 c).arrAt_eq_of_after_last 13 ⟨15, by decide⟩ (by decide +kernel) _ fun j => ?_
  rw [after0_13, total (fun n h => (outsAt0 m c n h).2.2.2.2.1) (fun n d t => D.p (hd d) t n * D.dout t d) (fun t h => dv_A H t h) (fun t h P hP => dv_B H t h P hP)]
  rfl

theorem arr_dg : (dats m 0 c).arrAt 14 cfg0.N = (L2 (fun _ d => D.dg d) : S1x1024.Idx → EReal) := by
  refine (dats m 0 c).arrAt_eq_of_after_last 14 ⟨15, by decide⟩ (by decide +kernel) _ fun j => ?_
  rw [after0_14, total (fun n h => (outsAt0 m c n h).2.2.2.2.2.1) (fun (_ : Fin 1) d t => D.dh t d * xhat (D.r t) d) (fun t h => dg_A H t h) (fun t h P hP => dg_B H t h P hP)]
  rfl

theorem arr_db : (dats m 0 c).arrAt 15 cfg0.N = (L2 (fun _ d => D.db d) : S1x1024.Idx → EReal) := by
  refine (dats m 0 c).arrAt_eq_of_after_last 15 ⟨15, by decide⟩ (by decide +kernel) _ fun j => ?_
  rw [after0_15, total (fun n h => (outsAt0 m c n h).2.2.2.2.2.2) (fun (_ : Fin 1) d t => D.dh t d) (fun t h => db_A H t h) (fun t h P hP => db_B H t h P hP)]
  rfl

end Cert.KernelIdeal.Gen

end
-- ==== Proof.Host2.lean ====
/- What the host lines of the feed-forward gradient's call leave in its arrays: the hidden layer, the normed row, its reciprocal
   deviation, and the arguments. -/
module

public import proofs.«01_k».proof.Proof.Gen.Kernel2Ideal.Value
public import proofs.«01_k».proof.Proof.Gen.Reference2Ideal.Read
public import proofs.«01_k».proof.Proof.RealStep
public import Idealize.ShloMosaic.Lib.StableHlo.ReadAt
public import Idealize.ShloMosaic.Lib.StableHlo.RunRead

@[expose] public section

noncomputable section

namespace Cert.Kernel2Ideal.Gen

open Cert.Kernel2Ideal Cert.Kernel2Ideal.Gen Idealize.ShloMosaic Idealize.ShloMosaic.TcCoe Idealize.SL.Sem

variable (m : (ℓ : Loc nD τ sig) → Buf (Elt Ideal) ℓ) (c : Dev nD)

open Cert.Reference2Ideal.Read in
/-- Adding the zero cotangent seed leaves the hidden layer as it is. -/
theorem ref_v3 (x1 x2) : val_main_v3 (F := Ideal) x1 x2 = val_main_v2 x1 x2 := by
  funext i
  rw [val_main_v3_apply, val_main_v1_apply]
  simp only [val_main_cst_0_apply, Ideal.ofBits_def, Ideal.addf_def, Cert.RealStep.ofBits_zero, EReal.coe_zero, add_zero]

open Cert.Reference2Ideal.Read in
theorem ref_v15 (x1 x2 x3) : val_main_v15 (F := Ideal) x1 x2 x3 = val_main_v14 x1 x2 x3 := by
  funext i
  rw [val_main_v15_apply, val_main_v0_apply]
  simp only [val_main_cst_apply, Ideal.ofBits_def, Ideal.addf_def, Cert.RealStep.ofBits_zero, EReal.coe_zero, add_zero]

/-- The reciprocal deviation handed to the call is the reference's. -/
theorem host_rstd : V m c main_v20 = Cert.Reference2Ideal.Read.val_main_v33 (F := Ideal) (m (c.tc.loc main_arg1)) (m (c.tc.loc main_arg2))
    (m (c.tc.loc main_arg3)) := by
  open Cert.Reference2Ideal.Read in
  unfold V
  after_reads_simp
  unfold val_main_v33 val_main_v32 val_main_v31 val_main_v28 val_main_v27 val_main_v26 val_main_v25 val_main_v22 val_main_v21 val_main_v20 val_main_v19 val_main_v18 val_main_v17 val_main_v16
  rw [ref_v15]
  unfold val_main_v14 val_main_v13 val_main_v12 val_main_v11 val_main_v8 val_main_v4
  rw [ref_v3]
  rfl

/-- The normed row handed to the call is the reference's. -/
theorem host_xhat : V m c main_v24 = Cert.Reference2Ideal.Read.val_main_v38 (F := Ideal) (m (c.tc.loc main_arg1)) (m (c.tc.loc main_arg2))
    (m (c.tc.loc main_arg3)) := by
  open Cert.Reference2Ideal.Read in
  unfold V
  after_reads_simp
  unfold val_main_v38 val_main_v37 val_main_v30 val_main_v29 val_main_v33 val_main_v32 val_main_v31 val_main_v28 val_main_v27 val_main_v26 val_main_v25 val_main_v22 val_main_v21 val_main_v20 val_main_v19 val_main_v18 val_main_v17 val_main_v16
  rw [ref_v15]
  unfold val_main_v14 val_main_v13 val_main_v12 val_main_v11 val_main_v8 val_main_v4
  rw [ref_v3]
  rfl

/-- The hidden layer handed to the call is the reference's. -/
theorem host_hdn : V m c main_v26 = (Cert.Reference2Ideal.Read.val_main_v8 (F := Ideal) (m (c.tc.loc main_arg1)) (m (c.tc.loc main_arg2)) : (⟨S8192x4096, .bf16⟩ : BufTy).Contents (Elt Ideal)) := by
  open Cert.Reference2Ideal.Read in
  unfold V
  after_reads_simp
  unfold val_main_v8 val_main_v4
  rw [ref_v3]
  rfl

theorem host_g (i : S1x1024.Idx) : V m c main_v25 i = (m (c.tc.loc main_arg4) : (⟨S1024, .f32⟩ : BufTy).Contents (Elt Ideal)) (ValueIdx.ix1 (i 1)) := by
  unfold V
  after_reads_at
  rfl

theorem host_w1 : V m c main_v27 = m (c.tc.loc main_arg2) := by
  unfold V
  after_reads_simp
  rfl

theorem host_w2 : V m c main_v28 = m (c.tc.loc main_arg3) := by
  unfold V
  after_reads_simp
  rfl

end Cert.Kernel2Ideal.Gen

end
-- ==== Proof.MlpReal.lean ====
/- The feed-forward layer and its gradient over the real numbers: 8192 rows of 1024, a hidden layer of 4096, and what the kernel
   and the reference both compute of them. -/
module

public import proofs.«01_k».proof.Proof.RealStep

@[expose] public section

noncomputable section

namespace Cert.RealStep

/-- The layer's arguments as real numbers: the cotangent of its result, the stream, the two products' weights, and the norm's
    factor and offset. -/
structure Mlp where
  dh : Fin 8192 → Fin 1024 → ℝ
  h : Fin 8192 → Fin 1024 → ℝ
  w1 : Fin 1024 → Fin 4096 → ℝ
  w2 : Fin 4096 → Fin 1024 → ℝ
  g : Fin 1024 → ℝ
  b : Fin 1024 → ℝ

namespace Mlp

variable (D : Mlp)

/-- The hidden layer before its ReLU. -/
def u (t : Fin 8192) (f : Fin 4096) : ℝ := ∑ d, D.h t d * D.w1 d f
/-- The hidden layer after its ReLU, before it is squared. -/
def hid (t : Fin 8192) (f : Fin 4096) : ℝ := max (D.u t f) 0
/-- The sum that is normed. -/
def r (t : Fin 8192) (d : Fin 1024) : ℝ := alpha * D.h t d + ∑ f, D.hid t f * D.hid t f * D.w2 f d

/-- The gradient at the normed sum. -/
def dr (t : Fin 8192) (d : Fin 1024) : ℝ := lnBack (D.r t) D.g (D.dh t) d
/-- The gradient at the squared hidden layer. -/
def dhd (t : Fin 8192) (f : Fin 4096) : ℝ := ∑ d, D.dr t d * D.w2 f d
/-- The gradient at the hidden layer before its ReLU. -/
def du (t : Fin 8192) (f : Fin 4096) : ℝ := D.dhd t f * (2 * D.hid t f)
/-- The gradient at the stream. -/
def dh2 (t : Fin 8192) (d : Fin 1024) : ℝ := alpha * D.dr t d + ∑ f, D.du t f * D.w1 d f
/-- The gradient at the norm's factor. -/
def dg (d : Fin 1024) : ℝ := ∑ t, D.dh t d * xhat (D.r t) d
/-- The gradient at the norm's offset. -/
def db (d : Fin 1024) : ℝ := ∑ t, D.dh t d

theorem hid_nonneg (t : Fin 8192) (f : Fin 4096) : 0 ≤ D.hid t f := le_max_right _ _

/-- Where the ReLU cuts off, the gradient behind it is zero already. -/
theorem du_of_not_pos (t : Fin 8192) (f : Fin 4096) (hu : ¬0 < D.u t f) : D.du t f = 0 := by
  have e : D.hid t f = 0 := max_eq_right (not_lt.mp hu)
  unfold du
  rw [e, mul_zero, mul_zero]

/-- The root that the kernel takes of the saved square is the hidden layer again. -/
theorem sqrt_sq (t : Fin 8192) (f : Fin 4096) : Real.sqrt (D.hid t f * D.hid t f) = D.hid t f :=
  Real.sqrt_mul_self (D.hid_nonneg t f)

end Mlp

end Cert.RealStep

end
-- ==== Proof.RefValue2.lean ====
/- The reference of the feed-forward gradient read at an index, one operation after another: at real arguments each of its
   values is the real number the layer's mathematics names. -/
module

public import proofs.«01_k».proof.Proof.MlpReal
public import proofs.«01_k».proof.Proof.Gen.Reference2Ideal.Read
public import Idealize.ShloMosaic.Lib.Pointwise

@[expose] public section

noncomputable section

namespace Cert.RealStep

open Idealize.ShloMosaic

theorem max_coe (x y : ℝ) : max (x : EReal) (y : EReal) = ((max x y : ℝ) : EReal) :=
  (EReal.coe_strictMono.monotone.map_max).symm

/-- A real number compared with zero, as a bit. -/
theorem cmp_pos (x : ℝ) : Ideal.cmp .ogt (x : EReal) ((0 : ℝ) : EReal) = BitVec.ofBool (decide (0 < x)) := by
  simp [Ideal.cmp]

namespace Mlp

open Cert.Reference2Ideal Cert.Reference2Ideal.Gen Cert.Reference2Ideal.Read Idealize.ShloMosaic.ValueIdx

variable (D : Mlp)

def x0 : (⟨S8192x1024, .f32⟩ : BufTy).Contents (Elt Ideal) := fun i => ((D.dh (i 0) (i 1) : ℝ) : EReal)
def x1 : (⟨S8192x1024, .f32⟩ : BufTy).Contents (Elt Ideal) := fun i => ((D.h (i 0) (i 1) : ℝ) : EReal)
def x2 : (⟨S1024x4096, .f32⟩ : BufTy).Contents (Elt Ideal) := fun i => ((D.w1 (i 0) (i 1) : ℝ) : EReal)
def x3 : (⟨S4096x1024, .f32⟩ : BufTy).Contents (Elt Ideal) := fun i => ((D.w2 (i 0) (i 1) : ℝ) : EReal)
def x4 : (⟨S1024, .f32⟩ : BufTy).Contents (Elt Ideal) := fun i => ((D.g (i 0) : ℝ) : EReal)
def x5 : (⟨S1024, .f32⟩ : BufTy).Contents (Elt Ideal) := fun i => ((D.b (i 0) : ℝ) : EReal)

theorem v2 (i : S8192x4096.Idx) : val_main_v2 (F := Ideal) D.x1 D.x2 i = ((D.u (i 0) (i 1) : ℝ) : EReal) := by
  rw [val_main_v2_apply]
  simp only [x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v3 (i : S8192x4096.Idx) : val_main_v3 (F := Ideal) D.x1 D.x2 i = ((D.u (i 0) (i 1) : ℝ) : EReal) := by
  rw [val_main_v3_apply]
  simp only [v2, val_main_v1_apply, val_main_cst_0_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [add_zero]

theorem v4 (i : S8192x4096.Idx) : val_main_v4 (F := Ideal) D.x1 D.x2 i = ((D.hid (i 0) (i 1) : ℝ) : EReal) := by
  rw [val_main_v4_apply]
  simp only [v3, val_main_call0_v0_apply, val_main_call0_cst_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact max_coe _ _

theorem v6 (i : S8192x4096.Idx) : val_main_v6 (F := Ideal) D.x1 D.x2 i = BitVec.ofBool (decide (0 < D.u (i 0) (i 1))) := by
  rw [val_main_v6_apply, v3, val_main_v5_apply, val_main_cst_1_apply]
  simp only [Ideal.ofBits_def, ofBits_zero, Ideal.cmpf_def]
  exact cmp_pos _

theorem v8 (i : S8192x4096.Idx) : val_main_v8 (F := Ideal) D.x1 D.x2 i = ((D.hid (i 0) (i 1) * D.hid (i 0) (i 1) : ℝ) : EReal) := by
  rw [val_main_v8_apply]
  simp only [v4, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v10 (i : S8192x4096.Idx) : val_main_v10 (F := Ideal) D.x1 D.x2 i = ((2 * D.hid (i 0) (i 1) : ℝ) : EReal) := by
  rw [val_main_v10_apply]
  simp only [v4, val_main_v9_apply, val_main_cst_3_apply, ofBits_two, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v12 (i : S8192x1024.Idx) : val_main_v12 (F := Ideal) D.x1 i = ((alpha * D.h (i 0) (i 1) : ℝ) : EReal) := by
  rw [val_main_v12_apply]
  simp only [val_main_v11_apply, val_main_cst_4_apply, ofBits_alpha, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v13 (i : S8192x1024.Idx) : val_main_v13 (F := Ideal) D.x1 D.x2 D.x3 i = ((∑ f, D.hid (i 0) f * D.hid (i 0) f * D.w2 f (i 1) : ℝ) : EReal) := by
  rw [val_main_v13_apply]
  simp only [v8, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v14 (i : S8192x1024.Idx) : val_main_v14 (F := Ideal) D.x1 D.x2 D.x3 i = ((D.r (i 0) (i 1) : ℝ) : EReal) := by
  rw [val_main_v14_apply]
  simp only [v12, v13, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v15 (i : S8192x1024.Idx) : val_main_v15 (F := Ideal) D.x1 D.x2 D.x3 i = ((D.r (i 0) (i 1) : ℝ) : EReal) := by
  rw [val_main_v15_apply]
  simp only [v14, val_main_v0_apply, val_main_cst_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [add_zero]

theorem v16 (i : S8192.Idx) : val_main_v16 (F := Ideal) D.x1 D.x2 D.x3 i = ((∑ d, D.r (i 0) d : ℝ) : EReal) := by
  rw [val_main_v16_apply]
  simp only [v15, val_main_cst_5_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v17 (i : S8192x1.Idx) : val_main_v17 (F := Ideal) D.x1 D.x2 D.x3 i = ((∑ d, D.r (i 0) d : ℝ) : EReal) := by
  rw [val_main_v17_apply]
  simp only [v16, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v19 (i : S8192x1.Idx) : val_main_v19 (F := Ideal) D.x1 D.x2 D.x3 i = ((mean (D.r (i 0)) : ℝ) : EReal) := by
  rw [val_main_v19_apply]
  simp only [v17, val_main_v18_apply, val_main_cst_6_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v20 (i : S8192x1024.Idx) : val_main_v20 (F := Ideal) D.x1 D.x2 D.x3 i = ((mean (D.r (i 0)) : ℝ) : EReal) := by
  rw [val_main_v20_apply]
  simp only [v19, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v21 (i : S8192x1024.Idx) : val_main_v21 (F := Ideal) D.x1 D.x2 D.x3 i = ((cen (D.r (i 0)) (i 1) : ℝ) : EReal) := by
  rw [val_main_v21_apply]
  simp only [v15, v20, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v22 (i : S8192x1024.Idx) : val_main_v22 (F := Ideal) D.x1 D.x2 D.x3 i = ((cen (D.r (i 0)) (i 1) * cen (D.r (i 0)) (i 1) : ℝ) : EReal) := by
  rw [val_main_v22_apply]
  simp only [v21, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v24 (i : S8192x1024.Idx) : val_main_v24 (F := Ideal) D.x1 D.x2 D.x3 i = ((2 * cen (D.r (i 0)) (i 1) : ℝ) : EReal) := by
  rw [val_main_v24_apply]
  simp only [v21, val_main_v23_apply, val_main_cst_7_apply, ofBits_two, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v25 (i : S8192.Idx) : val_main_v25 (F := Ideal) D.x1 D.x2 D.x3 i = ((∑ d, cen (D.r (i 0)) d * cen (D.r (i 0)) d : ℝ) : EReal) := by
  rw [val_main_v25_apply]
  simp only [v22, val_main_cst_8_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v26 (i : S8192x1.Idx) : val_main_v26 (F := Ideal) D.x1 D.x2 D.x3 i = ((∑ d, cen (D.r (i 0)) d * cen (D.r (i 0)) d : ℝ) : EReal) := by
  rw [val_main_v26_apply]
  simp only [v25, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v28 (i : S8192x1.Idx) : val_main_v28 (F := Ideal) D.x1 D.x2 D.x3 i = ((var (D.r (i 0)) : ℝ) : EReal) := by
  rw [val_main_v28_apply]
  simp only [v26, val_main_v27_apply, val_main_cst_9_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v29 (i : S8192x1024.Idx) : val_main_v29 (F := Ideal) D.x1 D.x2 D.x3 i = ((mean (D.r (i 0)) : ℝ) : EReal) := by
  rw [val_main_v29_apply]
  simp only [v19, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v30 (i : S8192x1024.Idx) : val_main_v30 (F := Ideal) D.x1 D.x2 D.x3 i = ((cen (D.r (i 0)) (i 1) : ℝ) : EReal) := by
  rw [val_main_v30_apply]
  simp only [v15, v29, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v32 (i : S8192x1.Idx) : val_main_v32 (F := Ideal) D.x1 D.x2 D.x3 i = ((var (D.r (i 0)) + eps : ℝ) : EReal) := by
  rw [val_main_v32_apply]
  simp only [v28, val_main_v31_apply, val_main_cst_10_apply, ofBits_eps, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v33 (i : S8192x1.Idx) : val_main_v33 (F := Ideal) D.x1 D.x2 D.x3 i = ((rstd (D.r (i 0)) : ℝ) : EReal) := by
  rw [val_main_v33_apply]
  simp only [v32, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact rsqrt_real (var_eps_pos _)

theorem v34 (i : S8192x1.Idx) : val_main_v34 (F := Ideal) D.x1 D.x2 D.x3 i = ((rstd (D.r (i 0)) / (var (D.r (i 0)) + eps) : ℝ) : EReal) := by
  rw [val_main_v34_apply]
  simp only [v32, v33, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (var_eps_pos _).ne'

theorem v36 (i : S8192x1.Idx) : val_main_v36 (F := Ideal) D.x1 D.x2 D.x3 i = ((-(1 / 2) * (rstd (D.r (i 0)) / (var (D.r (i 0)) + eps)) : ℝ) : EReal) := by
  rw [val_main_v36_apply]
  simp only [v34, val_main_v35_apply, val_main_cst_11_apply, ofBits_neg_half, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v37 (i : S8192x1024.Idx) : val_main_v37 (F := Ideal) D.x1 D.x2 D.x3 i = ((rstd (D.r (i 0)) : ℝ) : EReal) := by
  rw [val_main_v37_apply]
  simp only [v33, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v38 (i : S8192x1024.Idx) : val_main_v38 (F := Ideal) D.x1 D.x2 D.x3 i = ((xhat (D.r (i 0)) (i 1) : ℝ) : EReal) := by
  rw [val_main_v38_apply]
  simp only [v30, v37, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v39 (i : S1x1024.Idx) : val_main_v39 (F := Ideal) D.x4 i = ((D.g (i 1) : ℝ) : EReal) := by
  rw [val_main_v39_apply]
  simp only [x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v40 (i : S8192x1024.Idx) : val_main_v40 (F := Ideal) D.x4 i = ((D.g (i 1) : ℝ) : EReal) := by
  rw [val_main_v40_apply]
  simp only [v39, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v45 (i : S8192x1024.Idx) : val_main_v45 (F := Ideal) D.x0 i = ((D.dh (i 0) (i 1) : ℝ) : EReal) := by
  rw [val_main_v45_apply, x0]
  refine congrArg Real.toEReal (congrArg₂ D.dh ?_ ?_)
  · exact Fin.ext (by have h0 : (i 0).val < 8192 := (i 0).isLt; have h1 : (i 1).val < 1024 := (i 1).isLt; show ((i 0).val * 1024 + (i 1).val) / 1024 = (i 0).val; omega)
  · exact Fin.ext (by have h0 : (i 0).val < 8192 := (i 0).isLt; have h1 : (i 1).val < 1024 := (i 1).isLt; show ((i 0).val * 1024 + (i 1).val) % 1024 = (i 1).val; omega)

theorem v46 (i : S1024.Idx) : val_main_v46 (F := Ideal) D.x0 i = ((D.db (i 0) : ℝ) : EReal) := by
  rw [val_main_v46_apply]
  simp only [val_main_cst_12_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v47 (i : S1x1024.Idx) : val_main_v47 (F := Ideal) D.x0 i = ((D.db (i 1) : ℝ) : EReal) := by
  rw [val_main_v47_apply, v46]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

theorem v48 (i : S1024.Idx) : val_main_v48 (F := Ideal) D.x0 i = ((D.db (i 0) : ℝ) : EReal) := by
  rw [val_main_v48_apply]
  simp only [v47, val_main_cst_13_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v49 (i : S8192x1024.Idx) : val_main_v49 (F := Ideal) D.x0 D.x1 D.x2 D.x3 i = ((xhat (D.r (i 0)) (i 1) * D.dh (i 0) (i 1) : ℝ) : EReal) := by
  rw [val_main_v49_apply]
  simp only [v38, v45, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v50 (i : S1024.Idx) : val_main_v50 (F := Ideal) D.x0 D.x1 D.x2 D.x3 i = ((D.dg (i 0) : ℝ) : EReal) := by
  rw [val_main_v50_apply]
  simp only [v49, val_main_cst_14_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (Finset.sum_congr rfl fun t _ => mul_comm _ _)

theorem v51 (i : S1x1024.Idx) : val_main_v51 (F := Ideal) D.x0 D.x1 D.x2 D.x3 i = ((D.dg (i 1) : ℝ) : EReal) := by
  rw [val_main_v51_apply, v50]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v52 (i : S8192x1024.Idx) : val_main_v52 (F := Ideal) D.x4 i = ((D.g (i 1) : ℝ) : EReal) := by
  rw [val_main_v52_apply]
  simp only [v39, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v53 (i : S8192x1024.Idx) : val_main_v53 (F := Ideal) D.x0 D.x4 i = ((D.dh (i 0) (i 1) * D.g (i 1) : ℝ) : EReal) := by
  rw [val_main_v53_apply]
  simp only [v45, v52, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v54 (i : S1024.Idx) : val_main_v54 (F := Ideal) D.x0 D.x1 D.x2 D.x3 i = ((D.dg (i 0) : ℝ) : EReal) := by
  rw [val_main_v54_apply]
  simp only [v51, val_main_cst_15_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v55 (i : S8192x1024.Idx) : val_main_v55 (F := Ideal) D.x0 D.x1 D.x2 D.x3 D.x4 i = ((cen (D.r (i 0)) (i 1) * (D.dh (i 0) (i 1) * D.g (i 1)) : ℝ) : EReal) := by
  rw [val_main_v55_apply]
  simp only [v30, v53, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v56 (i : S8192.Idx) : val_main_v56 (F := Ideal) D.x0 D.x1 D.x2 D.x3 D.x4 i = ((∑ e, cen (D.r (i 0)) e * (D.dh (i 0) e * D.g e) : ℝ) : EReal) := by
  rw [val_main_v56_apply]
  simp only [v55, val_main_cst_16_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v57 (i : S8192x1.Idx) : val_main_v57 (F := Ideal) D.x0 D.x1 D.x2 D.x3 D.x4 i = ((∑ e, cen (D.r (i 0)) e * (D.dh (i 0) e * D.g e) : ℝ) : EReal) := by
  rw [val_main_v57_apply, v56]
  have e0 : idx_main_v57 i 0 = i 0 := Fin.ext (by have h0 : (i 0).val < 8192 := (i 0).isLt; have h1 : (i 1).val < 1 := (i 1).isLt; show (i 0).val * 1 + (i 1).val = (i 0).val; omega)
  rw [e0]

theorem v58 (i : S8192x1024.Idx) : val_main_v58 (F := Ideal) D.x1 D.x2 D.x3 i = ((rstd (D.r (i 0)) : ℝ) : EReal) := by
  rw [val_main_v58_apply]
  simp only [v33, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v59 (i : S8192x1024.Idx) : val_main_v59 (F := Ideal) D.x0 D.x1 D.x2 D.x3 D.x4 i = ((D.dh (i 0) (i 1) * D.g (i 1) * rstd (D.r (i 0)) : ℝ) : EReal) := by
  rw [val_main_v59_apply]
  simp only [v53, v58, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v60 (i : S8192x1.Idx) : val_main_v60 (F := Ideal) D.x0 D.x1 D.x2 D.x3 D.x4 i = (((∑ e, cen (D.r (i 0)) e * (D.dh (i 0) e * D.g e)) * (-(1 / 2) * (rstd (D.r (i 0)) / (var (D.r (i 0)) + eps))) : ℝ) : EReal) := by
  rw [val_main_v60_apply]
  simp only [v57, v36, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v61 (i : S8192x1024.Idx) : val_main_v61 (F := Ideal) D.x0 D.x1 D.x2 D.x3 D.x4 i = ((-(D.dh (i 0) (i 1) * D.g (i 1) * rstd (D.r (i 0))) : ℝ) : EReal) := by
  rw [val_main_v61_apply]
  simp only [v59, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v62 (i : S8192.Idx) : val_main_v62 (F := Ideal) D.x0 D.x1 D.x2 D.x3 D.x4 i = ((∑ e, -(D.dh (i 0) e * D.g e * rstd (D.r (i 0))) : ℝ) : EReal) := by
  rw [val_main_v62_apply]
  simp only [v61, val_main_cst_17_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v63 (i : S8192x1.Idx) : val_main_v63 (F := Ideal) D.x0 D.x1 D.x2 D.x3 D.x4 i = ((∑ e, -(D.dh (i 0) e * D.g e * rstd (D.r (i 0))) : ℝ) : EReal) := by
  rw [val_main_v63_apply, v62]
  have e0 : idx_main_v63 i 0 = i 0 := Fin.ext (by have h0 : (i 0).val < 8192 := (i 0).isLt; have h1 : (i 1).val < 1 := (i 1).isLt; show (i 0).val * 1 + (i 1).val = (i 0).val; omega)
  rw [e0]

theorem v65 (i : S8192x1.Idx) : val_main_v65 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v65_apply]
  simp only [v60, val_main_v64_apply, val_main_cst_18_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v66 (i : S8192.Idx) : val_main_v66 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v66_apply]
  simp only [v65, val_main_cst_19_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v67 (i : S8192x1024.Idx) : val_main_v67 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v67_apply]
  simp only [v66, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v68 (i : S8192x1024.Idx) : val_main_v68 (F := Ideal) D.x0 D.x1 D.x2 D.x3 D.x4 i = (((∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v68_apply]
  simp only [v67, v24, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v69 (i : S8192x1024.Idx) : val_main_v69 (F := Ideal) D.x0 D.x1 D.x2 D.x3 D.x4 i = ((-((∑ e, cen (D.r (i 0)) e * (D.dh (i 0) e * D.g e)) * (-(1 / 2) * (rstd (D.r (i 0)) / (var (D.r (i 0)) + eps))) / 1024 * (2 * cen (D.r (i 0)) (i 1))) : ℝ) : EReal) := by
  rw [val_main_v69_apply]
  simp only [v68, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v70 (i : S8192.Idx) : val_main_v70 (F := Ideal) D.x0 D.x1 D.x2 D.x3 D.x4 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v70_apply]
  simp only [v69, val_main_cst_20_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v71 (i : S8192x1.Idx) : val_main_v71 (F := Ideal) D.x0 D.x1 D.x2 D.x3 D.x4 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v71_apply, v70]
  have e0 : idx_main_v71 i 0 = i 0 := Fin.ext (by have h0 : (i 0).val < 8192 := (i 0).isLt; have h1 : (i 1).val < 1 := (i 1).isLt; show (i 0).val * 1 + (i 1).val = (i 0).val; omega)
  rw [e0]

theorem v72 (i : S8192x1024.Idx) : val_main_v72 (F := Ideal) D.x0 D.x1 D.x2 D.x3 D.x4 i = ((D.dh (i 0) (i 1) * D.g (i 1) * rstd (D.r (i 0)) + (∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v72_apply]
  simp only [v59, v68, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v73 (i : S8192x1.Idx) : val_main_v73 (F := Ideal) D.x0 D.x1 D.x2 D.x3 D.x4 i = (((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d))) : ℝ) : EReal) := by
  rw [val_main_v73_apply]
  simp only [v63, v71, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v75 (i : S8192x1.Idx) : val_main_v75 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v75_apply]
  simp only [v73, val_main_v74_apply, val_main_cst_21_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v76 (i : S8192.Idx) : val_main_v76 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v76_apply]
  simp only [v75, val_main_cst_22_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v77 (i : S8192x1024.Idx) : val_main_v77 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v77_apply]
  simp only [v76, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v78 (i : S8192x1024.Idx) : val_main_v78 (F := Ideal) D.x0 D.x1 D.x2 D.x3 D.x4 i = ((D.dr (i 0) (i 1) : ℝ) : EReal) := by
  rw [val_main_v78_apply]
  simp only [v72, v77, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (lnVjp_eq (D.r (i 0)) D.g (D.dh (i 0)) (i 1))

theorem v79 (i : S8192x4096.Idx) : val_main_v79 (F := Ideal) D.x0 D.x1 D.x2 D.x3 D.x4 i = ((D.dhd (i 0) (i 1) : ℝ) : EReal) := by
  rw [val_main_v79_apply]
  simp only [v78, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v81 (i : S8192x1024.Idx) : val_main_v81 (F := Ideal) D.x0 D.x1 D.x2 D.x3 D.x4 i = ((alpha * D.dr (i 0) (i 1) : ℝ) : EReal) := by
  rw [val_main_v81_apply]
  simp only [v78, val_main_v80_apply, val_main_cst_23_apply, ofBits_alpha, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v82 (i : S8192x4096.Idx) : val_main_v82 (F := Ideal) D.x0 D.x1 D.x2 D.x3 D.x4 i = ((D.du (i 0) (i 1) : ℝ) : EReal) := by
  rw [val_main_v82_apply]
  simp only [v79, v10, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v84 (i : S8192x4096.Idx) : val_main_v84 (F := Ideal) D.x0 D.x1 D.x2 D.x3 D.x4 i = ((D.du (i 0) (i 1) : ℝ) : EReal) := by
  rw [val_main_v84_apply, v6, v82, val_main_v83_apply, val_main_cst_24_apply]
  simp only [Ideal.ofBits_def, ofBits_zero, Scalar.select_ofBool]
  by_cases hu : 0 < D.u (i 0) (i 1)
  · simp only [hu, decide_true, if_true]
  · rw [D.du_of_not_pos _ _ hu]
    simp only [hu, decide_false, Bool.false_eq_true, if_false]

theorem v85 (i : S8192x1024.Idx) : val_main_v85 (F := Ideal) D.x0 D.x1 D.x2 D.x3 D.x4 i = ((∑ f, D.du (i 0) f * D.w1 (i 1) f : ℝ) : EReal) := by
  rw [val_main_v85_apply]
  simp only [v84, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v86 (i : S8192x1024.Idx) : val_main_v86 (F := Ideal) D.x0 D.x1 D.x2 D.x3 D.x4 i = ((D.dh2 (i 0) (i 1) : ℝ) : EReal) := by
  rw [val_main_v86_apply]
  simp only [v81, v85, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v87 (i : S8192x1024.Idx) : val_main_v87 (F := Ideal) D.x0 D.x1 D.x2 D.x3 D.x4 i = ((D.dr (i 0) (i 1) : ℝ) : EReal) := by
  rw [val_main_v87_apply]
  simp only [v78, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v88 (i : S8192x4096.Idx) : val_main_v88 (F := Ideal) D.x0 D.x1 D.x2 D.x3 D.x4 i = ((D.du (i 0) (i 1) : ℝ) : EReal) := by
  rw [val_main_v88_apply]
  simp only [v84, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v89 (i : S1x1024.Idx) : val_main_v89 (F := Ideal) D.x0 D.x1 D.x2 D.x3 i = ((D.dg (i 1) : ℝ) : EReal) := by
  rw [val_main_v89_apply, v54]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v90 (i : S1x1024.Idx) : val_main_v90 (F := Ideal) D.x0 i = ((D.db (i 1) : ℝ) : EReal) := by
  rw [val_main_v90_apply, v48]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

end Mlp

end Cert.RealStep

end
-- ==== Proof.KerBlocks2.lean ====
/- The blocks that the points of the feed-forward gradient's call read, at real arguments: 256 rows of each row array, the other
   arrays whole. -/
module

public import proofs.«01_k».proof.Proof.Host2
public import proofs.«01_k».proof.Proof.RefValue2
public import proofs.«01_k».proof.Proof.Lift
public import Idealize.ShloMosaic.Lib.Pipeline.ValueKit

@[expose] public section

noncomputable section

namespace Cert.Kernel2Ideal.Gen

open Cert.Kernel2Ideal Cert.Kernel2Ideal.Gen Idealize.ShloMosaic Idealize.ShloMosaic.TcCoe Idealize.SL.Sem Cert.RealStep

variable (m : (ℓ : Loc nD τ sig) → Buf (Elt Ideal) ℓ) (c : Dev nD)

/-- The arguments are the arrays of real numbers `D`. -/
structure Holds (D : Mlp) : Prop where
  h0 : m (c.tc.loc main_arg0) = D.x0
  h1 : m (c.tc.loc main_arg1) = D.x1
  h2 : m (c.tc.loc main_arg2) = D.x2
  h3 : m (c.tc.loc main_arg3) = D.x3
  h4 : m (c.tc.loc main_arg4) = D.x4
  h5 : m (c.tc.loc main_arg5) = D.x5

/-- Row `l` of the block of rows that point `t` takes. -/
def row (t : Fin cfg0.N) (l : Fin 256) : Fin 8192 := ⟨t.val * 256 + l.val, by have h := t.isLt; have : cfg0.N = 32 := rfl; omega⟩

theorem idx_rows : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)

theorem idx_whole : ∀ t : Fin cfg0.N, (win0_3.index t 0 = 0 ∧ win0_3.index t 1 = 0) ∧ (win0_8.index t 0 = 0 ∧ win0_8.index t 1 = 0) ∧ (win0_9.index t 0 = 0 ∧ win0_9.index t 1 = 0) :=
  (by decide +kernel : ∀ t : Fin grid0.N, _)

variable {m c} {D : Mlp} (H : Holds m c D) (t : Fin cfg0.N)
include H

theorem blk0 : iblk m c 0 t = L2 fun l d => D.dh (row t l) d := by
  funext i
  have e : iblk m c 0 t i = (V m c main_arg0 : (⟨S8192x1024, .f32⟩ : BufTy).Contents (Elt Ideal)) (ValueIdx.ix2 (row t (i 0)) (i 1)) := by
    blk_ext [iblk, idx_rows t, row]
  rw [e, V_main_arg0, H.h0]; rfl

theorem blk1 : iblk m c 1 t = L2 fun l d => xhat (D.r (row t l)) d := by
  funext i
  have e : iblk m c 1 t i = (V m c main_v24 : (⟨S8192x1024, .f32⟩ : BufTy).Contents (Elt Ideal)) (ValueIdx.ix2 (row t (i 0)) (i 1)) := by
    blk_ext [iblk, idx_rows t, row]
  rw [e, host_xhat, H.h1, H.h2, H.h3]; exact D.v38 _

theorem blk2 : iblk m c 2 t = L2 fun l (_ : Fin 1) => rstd (D.r (row t l)) := by
  funext i
  have e : iblk m c 2 t i = (V m c main_v20 : (⟨S8192x1, .f32⟩ : BufTy).Contents (Elt Ideal)) (ValueIdx.ix2 (row t (i 0)) (i 1)) := by
    blk_ext [iblk, idx_rows t, row]
  rw [e, host_rstd, H.h1, H.h2, H.h3]; exact D.v33 _

theorem blk3 : iblk m c 3 t = L2 fun (_ : Fin 1) d => D.g d := by
  funext i
  have e : iblk m c 3 t i = (V m c main_v25 : (⟨S1x1024, .f32⟩ : BufTy).Contents (Elt Ideal)) (ValueIdx.ix2 (i 0) (i 1)) := by
    blk_ext [iblk, idx_whole t, row]
  rw [e, host_g, H.h4]; rfl

theorem blk4 : iblk m c 4 t = L2 fun l f => D.hid (row t l) f * D.hid (row t l) f := by
  funext i
  have e : iblk m c 4 t i = (V m c main_v26 : (⟨S8192x4096, .bf16⟩ : BufTy).Contents (Elt Ideal)) (ValueIdx.ix2 (row t (i 0)) (i 1)) := by
    blk_ext [iblk, idx_rows t, row]
  rw [e, host_hdn, H.h1, H.h2]; exact D.v8 _

theorem w1_real : V m c main_v27 = L2 D.w1 := by rw [host_w1, H.h2]; rfl

theorem w2_real : V m c main_v28 = L2 D.w2 := by rw [host_w2, H.h3]; rfl

end Cert.Kernel2Ideal.Gen

end
-- ==== Proof.Finite2.lean ====
/- The precondition read at an argument's elements: every element is a real number, so the arguments are the arrays of a feed-forward layer. -/
module

public import proofs.«01_k».proof.Defs
public import proofs.«01_k».proof.Proof.KerBlocks2
public import proofs.«01_k».proof.Proof.Gen.Pre_finite_inputs2
public import proofs.«01_k».proof.Proof.Finite
public import Idealize.ShloMosaic.Lib.ReduceAll
public import Idealize.ShloMosaic.Lib.Affine

@[expose] public section

noncomputable section

namespace Cert.RealStep.Mlp

open Cert.Pre_finite_inputs2 Idealize.ShloMosaic

/-- The check of one argument passed, so each of its elements is a real number. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant (F := Ideal) S_ .f32 0x7F800000#32)))
      (constantI S_ 1 1#1) h hu j = 1#1) (i : s.Idx) : ∃ r : ℝ, (x i : EReal) = (r : EReal) := by
  have k := Host.reduce_andi_all _ _ h hu j e i
  have k' : Ideal.cmp .olt (max (x i : EReal) (-(x i : EReal))) (Ideal.ofBits .f32 0x7F800000#32) = 1 := k
  rw [Ideal.cmp_olt_eq_one, ofBits_inf] at k'
  exact exists_real k'

/-- A conjunction of two checks passed, so each did. -/
theorem both {p q : IVec S_ 1} {j : S_.Idx} (e : andi p q j = 1#1) : p j = 1#1 ∧ q j = 1#1 := IntOp.andi_eq_one.1 e

/-- Where the precondition holds, the arguments on every device are the arrays of a layer of real numbers. -/
theorem layer (m : (ℓ : Loc Cert.Kernel2Ideal.nD Cert.Kernel2Ideal.τ Cert.Kernel2Ideal.sig) → Buf (Elt Ideal) ℓ)
    (hm : Cert.Pre_Kernel2Ideal_finite_inputs2 m) (c : Dev Cert.Kernel2Ideal.nD) :
    ∃ D : Mlp, Cert.Kernel2Ideal.Gen.Holds m c D := by
  have e := congrFun (hm c) (fun d => d.elim0)
  dsimp only [fn, fn_part1] at e
  obtain ⟨e, e5⟩ := both e
  obtain ⟨e, e4⟩ := both e
  obtain ⟨e, e3⟩ := both e
  obtain ⟨e, e2⟩ := both e
  obtain ⟨e0, e1⟩ := both e
  obtain ⟨f0, h0⟩ := table2 _ (real_of_all _ _ _ _ _ e0)
  obtain ⟨f1, h1⟩ := table2 _ (real_of_all _ _ _ _ _ e1)
  obtain ⟨f2, h2⟩ := table2 _ (real_of_all _ _ _ _ _ e2)
  obtain ⟨f3, h3⟩ := table2 _ (real_of_all _ _ _ _ _ e3)
  obtain ⟨f4, h4⟩ := table1 _ (real_of_all _ _ _ _ _ e4)
  obtain ⟨f5, h5⟩ := table1 _ (real_of_all _ _ _ _ _ e5)
  exact ⟨⟨f0, f1, f2, f3, f4, f5⟩, ⟨h0, h1, h2, h3, h4, h5⟩⟩

end Cert.RealStep.Mlp

end
-- ==== Proof.KerOps2.lean ====
/- The feed-forward gradient kernel's products, row sums and loads on vectors of real numbers. -/
module

public import proofs.«01_k».proof.Proof.Lift
public import proofs.«01_k».proof.Proof.MlpReal
public import proofs.«01_k».proof.Proof.Gen.Kernel2Ideal.Value
public import Idealize.ShloMosaic.Lib.Pipeline.ValueKit

@[expose] public section

noncomputable section

namespace Cert.RealStep

/-- The hidden column of a chunk's `x`-th. -/
def fc (h : Fin 4) (x : Fin 1024) : Fin 4096 := ⟨h.val * 1024 + x.val, by omega⟩
/-- The chunk of a hidden column. -/
def fh (f : Fin 4096) : Fin 4 := ⟨f.val / 1024, by omega⟩
/-- A hidden column's place in its chunk. -/
def fx (f : Fin 4096) : Fin 1024 := ⟨f.val % 1024, by omega⟩

theorem fh_fc (h : Fin 4) (x : Fin 1024) : fh (fc h x) = h := Fin.ext (by show (h.val * 1024 + x.val) / 1024 = h.val; omega)
theorem fx_fc (h : Fin 4) (x : Fin 1024) : fx (fc h x) = x := Fin.ext (by show (h.val * 1024 + x.val) % 1024 = x.val; omega)
theorem fc_fh_fx (f : Fin 4096) : fc (fh f) (fx f) = f := Fin.ext (by show f.val / 1024 * 1024 + f.val % 1024 = f.val; omega)

/-- A sum over the hidden columns, chunk by chunk, from the left. -/
theorem sum_chunks (a : ℝ) (F : Fin 4096 → ℝ) :
    a + ∑ f, F f = a + ∑ x, F (fc 0 x) + ∑ x, F (fc 1 x) + ∑ x, F (fc 2 x) + ∑ x, F (fc 3 x) := by
  have e : ∑ h : Fin 4, ∑ x : Fin 1024, F (fc h x) = ∑ f, F f := Fin.sum_mul_add_fin (S := 4) (n := 1024) (L := 4096) F
  rw [← e, Fin.sum_univ_four]
  ring

namespace Ker2

open Cert.Kernel2Ideal Cert.Kernel2Ideal.Gen Idealize.ShloMosaic Idealize.ShloMosaic.TcCoe

/-! ## Products -/

theorem mm (f : Fin 256 → Fin 1024 → ℝ) (g : Fin 1024 → Fin 1024 → ℝ) :
    matmul (F := Ideal) (φ₁ := .bf16) (φ₂ := .bf16) dot_S256x1024_S1024x1024_S256x1024_1_1_0_0_n_n none (L2 f) (L2 g)
      (constant (F := Ideal) S256x1024 .f32 0x00000000#32) = L2 fun i j => ∑ c, f i c * g j c := by
  funext i
  pointwise [L2]
  simp only [← EReal.coe_mul, coe_sum, zero_add]

/-! ## Row sums, kept as a column, columns' sums, and what is spread over a row -/

theorem rowsum_col (f : Fin 256 → Fin 1024 → ℝ) :
    shapeCast S256x1 (multiReduction (F := Ideal) (φ := .f32) .add [1] S256 (L2 f) 0x00000000#32 reduces_S256x1024_S256 (.inl rfl) rfl) shapeCasts_S256_S256x1
      = L2 fun i (_ : Fin 1) => ∑ d, f i d := by
  funext i
  pointwise [L2]
  simp only [coe_sum]

theorem colsum (f : Fin 256 → Fin 1024 → ℝ) :
    shapeCast S1x1024 (multiReduction (F := Ideal) (φ := .f32) .add [0] S1024 (L2 f) 0x00000000#32 reduces_S256x1024_S1024 (.inl rfl) rfl) shapeCasts_S1024_S1x1024
      = L2 fun (_ : Fin 1) j => ∑ l, f l j := by
  funext i
  pointwise [L2]
  simp only [coe_sum]

theorem bcast_row (f : Fin 1 → Fin 1024 → ℝ) :
    broadcastTo S256x1024 (L2 f) broadcasts_S1x1024_S256x1024 = L2 fun (_ : Fin 256) j => f 0 j := by
  funext i
  pointwise [L2]

theorem bcast_col (f : Fin 256 → Fin 1 → ℝ) :
    broadcastTo S256x1024 (L2 f) broadcasts_S256x1_S256x1024 = L2 fun i (_ : Fin 1024) => f i 0 := by
  funext i
  pointwise [L2]

/-- The root of a square. -/
theorem root (f : Fin 256 → Fin 1024 → ℝ) :
    sqrt (F := Ideal) (φ := .f32) (L2 fun i j => f i j * f i j) = L2 fun i j => |f i j| :=
  funext fun i => (sqrt_real (mul_self_nonneg _)).trans (congrArg Real.toEReal (Real.sqrt_mul_self_eq_abs _))

theorem lift_two : broadcast S256x1024 (Scalar.ofBits (F := Ideal) .f32 0x40000000#32) = L2 fun (_ : Fin 256) (_ : Fin 1024) => (2 : ℝ) :=
  funext fun _ => ofBits_two

/-! ## Loads -/

theorem ldf (f : Fin 256 → Fin 1024 → ℝ) :
    View.ld (Val := Elt Ideal) (S := S256x1024) (e' := .f32) (L2 f) (Rect.unit ![0, 0] ![256, 1024] inb_S256x1024_S256x1024_0_0) = L2 f :=
  funext fun i => congrArg Real.toEReal (congrArg₂ f (Fin.ext (by show 0 + 1 * (i 0).val = (i 0).val; omega)) (Fin.ext (by show 0 + 1 * (i 1).val = (i 1).val; omega)))
theorem ldf1 (f : Fin 256 → Fin 1 → ℝ) :
    View.ld (Val := Elt Ideal) (S := S256x1) (e' := .f32) (L2 f) (Rect.unit ![0, 0] ![256, 1] inb_S256x1_S256x1_0_0) = L2 f :=
  funext fun i => congrArg Real.toEReal (congrArg₂ f (Fin.ext (by show 0 + 1 * (i 0).val = (i 0).val; omega)) (Fin.ext (by show 0 + 1 * (i 1).val = (i 1).val; omega)))
theorem ldr (f : Fin 1 → Fin 1024 → ℝ) :
    View.ld (Val := Elt Ideal) (S := S1x1024) (e' := .f32) (L2 f) (Rect.unit ![0, 0] ![1, 1024] inb_S1x1024_S1x1024_0_0) = L2 f :=
  funext fun i => congrArg Real.toEReal (congrArg₂ f (Fin.ext (by show 0 + 1 * (i 0).val = (i 0).val; omega)) (Fin.ext (by show 0 + 1 * (i 1).val = (i 1).val; omega)))
theorem ldh0 (f : Fin 256 → Fin 4096 → ℝ) :
    View.ld (Val := Elt Ideal) (S := S256x4096) (e' := .bf16) (L2 f) (Rect.unit ![0, 0] ![256, 1024] inb_S256x4096_S256x1024_0_0) = L2 fun (i : Fin 256) (j : Fin 1024) => f i (fc 0 j) :=
  funext fun i => congrArg Real.toEReal (congrArg₂ f (Fin.ext (by show 0 + 1 * (i 0).val = (i 0).val; omega)) (Fin.ext (by show 0 + 1 * (i 1).val = 0 * 1024 + (i 1).val; omega)))
theorem lda0 (f : Fin 1024 → Fin 4096 → ℝ) :
    View.ld (Val := Elt Ideal) (S := S1024x4096) (e' := .bf16) (L2 f) (Rect.unit ![0, 0] ![1024, 1024] inb_S1024x4096_S1024x1024_0_0) = L2 fun (i : Fin 1024) (j : Fin 1024) => f i (fc 0 j) :=
  funext fun i => congrArg Real.toEReal (congrArg₂ f (Fin.ext (by show 0 + 1 * (i 0).val = (i 0).val; omega)) (Fin.ext (by show 0 + 1 * (i 1).val = 0 * 1024 + (i 1).val; omega)))
theorem ldb0 (f : Fin 4096 → Fin 1024 → ℝ) :
    View.ld (Val := Elt Ideal) (S := S4096x1024) (e' := .bf16) (L2 f) (Rect.unit ![0, 0] ![1024, 1024] inb_S4096x1024_S1024x1024_0_0) = L2 fun (i : Fin 1024) (j : Fin 1024) => f (fc 0 i) j :=
  funext fun i => congrArg Real.toEReal (congrArg₂ f (Fin.ext (by show 0 + 1 * (i 0).val = 0 * 1024 + (i 0).val; omega)) (Fin.ext (by show 0 + 1 * (i 1).val = (i 1).val; omega)))
theorem ldh1 (f : Fin 256 → Fin 4096 → ℝ) :
    View.ld (Val := Elt Ideal) (S := S256x4096) (e' := .bf16) (L2 f) (Rect.unit ![0, 1024] ![256, 1024] inb_S256x4096_S256x1024_0_1024) = L2 fun (i : Fin 256) (j : Fin 1024) => f i (fc 1 j) :=
  funext fun i => congrArg Real.toEReal (congrArg₂ f (Fin.ext (by show 0 + 1 * (i 0).val = (i 0).val; omega)) (Fin.ext (by show 1024 + 1 * (i 1).val = 1 * 1024 + (i 1).val; omega)))
theorem lda1 (f : Fin 1024 → Fin 4096 → ℝ) :
    View.ld (Val := Elt Ideal) (S := S1024x4096) (e' := .bf16) (L2 f) (Rect.unit ![0, 1024] ![1024, 1024] inb_S1024x4096_S1024x1024_0_1024) = L2 fun (i : Fin 1024) (j : Fin 1024) => f i (fc 1 j) :=
  funext fun i => congrArg Real.toEReal (congrArg₂ f (Fin.ext (by show 0 + 1 * (i 0).val = (i 0).val; omega)) (Fin.ext (by show 1024 + 1 * (i 1).val = 1 * 1024 + (i 1).val; omega)))
theorem ldb1 (f : Fin 4096 → Fin 1024 → ℝ) :
    View.ld (Val := Elt Ideal) (S := S4096x1024) (e' := .bf16) (L2 f) (Rect.unit ![1024, 0] ![1024, 1024] inb_S4096x1024_S1024x1024_1024_0) = L2 fun (i : Fin 1024) (j : Fin 1024) => f (fc 1 i) j :=
  funext fun i => congrArg Real.toEReal (congrArg₂ f (Fin.ext (by show 1024 + 1 * (i 0).val = 1 * 1024 + (i 0).val; omega)) (Fin.ext (by show 0 + 1 * (i 1).val = (i 1).val; omega)))
theorem ldh2 (f : Fin 256 → Fin 4096 → ℝ) :
    View.ld (Val := Elt Ideal) (S := S256x4096) (e' := .bf16) (L2 f) (Rect.unit ![0, 2048] ![256, 1024] inb_S256x4096_S256x1024_0_2048) = L2 fun (i : Fin 256) (j : Fin 1024) => f i (fc 2 j) :=
  funext fun i => congrArg Real.toEReal (congrArg₂ f (Fin.ext (by show 0 + 1 * (i 0).val = (i 0).val; omega)) (Fin.ext (by show 2048 + 1 * (i 1).val = 2 * 1024 + (i 1).val; omega)))
theorem lda2 (f : Fin 1024 → Fin 4096 → ℝ) :
    View.ld (Val := Elt Ideal) (S := S1024x4096) (e' := .bf16) (L2 f) (Rect.unit ![0, 2048] ![1024, 1024] inb_S1024x4096_S1024x1024_0_2048) = L2 fun (i : Fin 1024) (j : Fin 1024) => f i (fc 2 j) :=
  funext fun i => congrArg Real.toEReal (congrArg₂ f (Fin.ext (by show 0 + 1 * (i 0).val = (i 0).val; omega)) (Fin.ext (by show 2048 + 1 * (i 1).val = 2 * 1024 + (i 1).val; omega)))
theorem ldb2 (f : Fin 4096 → Fin 1024 → ℝ) :
    View.ld (Val := Elt Ideal) (S := S4096x1024) (e' := .bf16) (L2 f) (Rect.unit ![2048, 0] ![1024, 1024] inb_S4096x1024_S1024x1024_2048_0) = L2 fun (i : Fin 1024) (j : Fin 1024) => f (fc 2 i) j :=
  funext fun i => congrArg Real.toEReal (congrArg₂ f (Fin.ext (by show 2048 + 1 * (i 0).val = 2 * 1024 + (i 0).val; omega)) (Fin.ext (by show 0 + 1 * (i 1).val = (i 1).val; omega)))
theorem ldh3 (f : Fin 256 → Fin 4096 → ℝ) :
    View.ld (Val := Elt Ideal) (S := S256x4096) (e' := .bf16) (L2 f) (Rect.unit ![0, 3072] ![256, 1024] inb_S256x4096_S256x1024_0_3072) = L2 fun (i : Fin 256) (j : Fin 1024) => f i (fc 3 j) :=
  funext fun i => congrArg Real.toEReal (congrArg₂ f (Fin.ext (by show 0 + 1 * (i 0).val = (i 0).val; omega)) (Fin.ext (by show 3072 + 1 * (i 1).val = 3 * 1024 + (i 1).val; omega)))
theorem lda3 (f : Fin 1024 → Fin 4096 → ℝ) :
    View.ld (Val := Elt Ideal) (S := S1024x4096) (e' := .bf16) (L2 f) (Rect.unit ![0, 3072] ![1024, 1024] inb_S1024x4096_S1024x1024_0_3072) = L2 fun (i : Fin 1024) (j : Fin 1024) => f i (fc 3 j) :=
  funext fun i => congrArg Real.toEReal (congrArg₂ f (Fin.ext (by show 0 + 1 * (i 0).val = (i 0).val; omega)) (Fin.ext (by show 3072 + 1 * (i 1).val = 3 * 1024 + (i 1).val; omega)))
theorem ldb3 (f : Fin 4096 → Fin 1024 → ℝ) :
    View.ld (Val := Elt Ideal) (S := S4096x1024) (e' := .bf16) (L2 f) (Rect.unit ![3072, 0] ![1024, 1024] inb_S4096x1024_S1024x1024_3072_0) = L2 fun (i : Fin 1024) (j : Fin 1024) => f (fc 3 i) j :=
  funext fun i => congrArg Real.toEReal (congrArg₂ f (Fin.ext (by show 3072 + 1 * (i 0).val = 3 * 1024 + (i 0).val; omega)) (Fin.ext (by show 0 + 1 * (i 1).val = (i 1).val; omega)))

end Ker2

end Cert.RealStep

end
-- ==== Proof.KerPay2.lean ====
/- The feed-forward gradient kernel's stored terms on vectors of real numbers, one after another. -/
module

public import proofs.«01_k».proof.Proof.KerOps2

@[expose] public section

noncomputable section

namespace Cert.RealStep.Ker2

open Cert.Kernel2Ideal Cert.Kernel2Ideal.Gen Idealize.ShloMosaic Idealize.ShloMosaic.TcCoe

theorem pay4  : k0_pay4 (F := Ideal)  = L2 fun (_ : Fin 1) (_ : Fin 1024) => (0 : ℝ) := by
  unfold k0_pay4
  simp only [lift_truncf, lift_extf, root, lift_two, lift_alpha, lift_1024, lift_zero, lift_div1024, lift_mulf, lift_subf, lift_addf, mm, bcast_row, bcast_col, shapeCast_self]

theorem pay5  : k0_pay5 (F := Ideal)  = L2 fun (_ : Fin 1) (_ : Fin 1024) => (0 : ℝ) := by
  unfold k0_pay5
  simp only [lift_truncf, lift_extf, root, lift_two, lift_alpha, lift_1024, lift_zero, lift_div1024, lift_mulf, lift_subf, lift_addf, mm, bcast_row, bcast_col, shapeCast_self]

theorem pay6 (f : Fin 256 → Fin 1024 → ℝ) : k0_pay6 (F := Ideal) (L2 f) = L2 f := by
  unfold k0_pay6
  simp only [lift_truncf, lift_extf, root, lift_two, lift_alpha, lift_1024, lift_zero, lift_div1024, lift_mulf, lift_subf, lift_addf, mm, bcast_row, bcast_col, shapeCast_self]

theorem pay7 (f x : Fin 256 → Fin 1024 → ℝ) (g : Fin 1 → Fin 1024 → ℝ) : k0_pay7 (F := Ideal) (L2 f) (L2 x) (L2 g) = L2 fun i j => g i j + ∑ l, f l j * x l j := by
  unfold k0_pay7
  simp only [lift_truncf, lift_extf, root, lift_two, lift_alpha, lift_1024, lift_zero, lift_div1024, lift_mulf, lift_subf, lift_addf, mm, bcast_row, bcast_col, shapeCast_self, pay6]
  rw [colsum]
  simp only [lift_addf]

theorem pay8 (f : Fin 256 → Fin 1024 → ℝ) (g : Fin 1 → Fin 1024 → ℝ) : k0_pay8 (F := Ideal) (L2 f) (L2 g) = L2 fun i j => g i j + ∑ l, f l j := by
  unfold k0_pay8
  simp only [lift_truncf, lift_extf, root, lift_two, lift_alpha, lift_1024, lift_zero, lift_div1024, lift_mulf, lift_subf, lift_addf, mm, bcast_row, bcast_col, shapeCast_self]
  rw [colsum]
  simp only [lift_addf]

theorem pay9 (f : Fin 256 → Fin 1 → ℝ) : k0_pay9 (F := Ideal) (L2 f) = L2 f := by
  unfold k0_pay9
  simp only [lift_truncf, lift_extf, root, lift_two, lift_alpha, lift_1024, lift_zero, lift_div1024, lift_mulf, lift_subf, lift_addf, mm, bcast_row, bcast_col, shapeCast_self]

theorem pay10 (f : Fin 256 → Fin 1024 → ℝ) (g : Fin 1 → Fin 1024 → ℝ) : k0_pay10 (F := Ideal) (L2 f) (L2 g) = L2 fun i j => f i j * g 0 j := by
  unfold k0_pay10
  simp only [lift_truncf, lift_extf, root, lift_two, lift_alpha, lift_1024, lift_zero, lift_div1024, lift_mulf, lift_subf, lift_addf, mm, bcast_row, bcast_col, shapeCast_self]

theorem pay11 (f : Fin 256 → Fin 1024 → ℝ) (g : Fin 1 → Fin 1024 → ℝ) : k0_pay11 (F := Ideal) (L2 f) (L2 g) = L2 fun i (_ : Fin 1) => (∑ d, f i d * g 0 d) / 1024 := by
  unfold k0_pay11
  simp only [lift_truncf, lift_extf, root, lift_two, lift_alpha, lift_1024, lift_zero, lift_div1024, lift_mulf, lift_subf, lift_addf, mm, bcast_row, bcast_col, shapeCast_self, pay10]
  rw [rowsum_col]
  simp only [lift_div1024]

theorem pay12 (f x : Fin 256 → Fin 1024 → ℝ) (g : Fin 1 → Fin 1024 → ℝ) : k0_pay12 (F := Ideal) (L2 f) (L2 x) (L2 g) = L2 fun i (_ : Fin 1) => ∑ d, f i d * g 0 d * x i d := by
  unfold k0_pay12
  simp only [lift_truncf, lift_extf, root, lift_two, lift_alpha, lift_1024, lift_zero, lift_div1024, lift_mulf, lift_subf, lift_addf, mm, bcast_row, bcast_col, shapeCast_self, pay10, pay6]
  rw [rowsum_col]

theorem cst_1024 : broadcast ⟨2, ![256, 1]⟩ (FloatOps.ofBits (F := Ideal) .f32 0x44800000#32) = L2 fun (_ : Fin 256) (_ : Fin 1) => (1024 : ℝ) := lift_1024

theorem pay13 (x : Fin 256 → Fin 1024 → ℝ) (rs : Fin 256 → Fin 1 → ℝ) (a : Fin 256 → Fin 1024 → ℝ) (m1 m2 : Fin 256 → Fin 1 → ℝ) : k0_pay13 (F := Ideal) (L2 x) (L2 rs) (L2 a) (L2 m1) (L2 m2) (FloatOps.ofBits .f32 0x44800000#32) = L2 fun i j => rs i 0 * (a i j - m1 i 0 - x i j * (m2 i 0 / 1024)) := by
  unfold k0_pay13
  simp only [lift_truncf, lift_extf, root, lift_two, lift_alpha, lift_1024, lift_zero, lift_div1024, lift_mulf, lift_subf, lift_addf, mm, bcast_row, bcast_col, shapeCast_self, cst_1024]

theorem pay14 (x : Fin 256 → Fin 1024 → ℝ) (rs : Fin 256 → Fin 1 → ℝ) (a : Fin 256 → Fin 1024 → ℝ) (m1 m2 : Fin 256 → Fin 1 → ℝ) : k0_pay14 (F := Ideal) (L2 x) (L2 rs) (L2 a) (L2 m1) (L2 m2) (FloatOps.ofBits .f32 0x44800000#32) = L2 fun i j => rs i 0 * (a i j - m1 i 0 - x i j * (m2 i 0 / 1024)) := by
  unfold k0_pay14
  simp only [lift_truncf, lift_extf, root, lift_two, lift_alpha, lift_1024, lift_zero, lift_div1024, lift_mulf, lift_subf, lift_addf, mm, bcast_row, bcast_col, shapeCast_self, cst_1024, pay13]

theorem pay15 (x : Fin 256 → Fin 1024 → ℝ) (rs : Fin 256 → Fin 1 → ℝ) (a : Fin 256 → Fin 1024 → ℝ) (m1 m2 : Fin 256 → Fin 1 → ℝ) : k0_pay15 (F := Ideal) (L2 x) (L2 rs) (L2 a) (L2 m1) (L2 m2) (FloatOps.ofBits .f32 0x44800000#32) = L2 fun i j => alpha * (rs i 0 * (a i j - m1 i 0 - x i j * (m2 i 0 / 1024))) := by
  unfold k0_pay15
  simp only [lift_truncf, lift_extf, root, lift_two, lift_alpha, lift_1024, lift_zero, lift_div1024, lift_mulf, lift_subf, lift_addf, mm, bcast_row, bcast_col, shapeCast_self, cst_1024, pay13]

theorem pay16 (x : Fin 256 → Fin 1024 → ℝ) (rs : Fin 256 → Fin 1 → ℝ) (a : Fin 256 → Fin 1024 → ℝ) (m1 m2 : Fin 256 → Fin 1 → ℝ) (w : Fin 1024 → Fin 1024 → ℝ) (y : Fin 256 → Fin 1024 → ℝ) : k0_pay16 (F := Ideal) (L2 x) (L2 rs) (L2 a) (L2 m1) (L2 m2) (FloatOps.ofBits .f32 0x44800000#32) (L2 w) (L2 fun i j => y i j * y i j) = L2 fun i j => (∑ c, (rs i 0 * (a i c - m1 i 0 - x i c * (m2 i 0 / 1024))) * w j c) * (2 * |y i j|) := by
  unfold k0_pay16
  simp only [lift_truncf, lift_extf, root, lift_two, lift_alpha, lift_1024, lift_zero, lift_div1024, lift_mulf, lift_subf, lift_addf, mm, bcast_row, bcast_col, shapeCast_self, cst_1024, pay14]

theorem pay17 (x : Fin 256 → Fin 1024 → ℝ) (rs : Fin 256 → Fin 1 → ℝ) (a : Fin 256 → Fin 1024 → ℝ) (m1 m2 : Fin 256 → Fin 1 → ℝ) (w : Fin 1024 → Fin 1024 → ℝ) (y b : Fin 256 → Fin 1024 → ℝ) (v : Fin 1024 → Fin 1024 → ℝ) : k0_pay17 (F := Ideal) (L2 x) (L2 rs) (L2 a) (L2 m1) (L2 m2) (FloatOps.ofBits .f32 0x44800000#32) (L2 w) (L2 fun i j => y i j * y i j) (L2 b) (L2 v) = L2 fun i j => b i j + ∑ f, (∑ c, (rs i 0 * (a i c - m1 i 0 - x i c * (m2 i 0 / 1024))) * w f c) * (2 * |y i f|) * v j f := by
  unfold k0_pay17
  simp only [lift_truncf, lift_extf, root, lift_two, lift_alpha, lift_1024, lift_zero, lift_div1024, lift_mulf, lift_subf, lift_addf, mm, bcast_row, bcast_col, shapeCast_self, cst_1024, pay16]

theorem pay2 (p : Fin 256 → Fin 1024 → ℝ) (w : Fin 1024 → Fin 1024 → ℝ) (y : Fin 256 → Fin 1024 → ℝ) : k0_pay2 (F := Ideal) (L2 p) (L2 w) (L2 fun i j => y i j * y i j) = L2 fun i j => (∑ c, p i c * w j c) * (2 * |y i j|) := by
  unfold k0_pay2
  simp only [lift_truncf, lift_extf, root, lift_two, lift_alpha, lift_1024, lift_zero, lift_div1024, lift_mulf, lift_subf, lift_addf, mm, bcast_row, bcast_col, shapeCast_self, cst_1024]

theorem pay3 (p : Fin 256 → Fin 1024 → ℝ) (w : Fin 1024 → Fin 1024 → ℝ) (y b : Fin 256 → Fin 1024 → ℝ) (v : Fin 1024 → Fin 1024 → ℝ) : k0_pay3 (F := Ideal) (L2 p) (L2 w) (L2 fun i j => y i j * y i j) (L2 b) (L2 v) = L2 fun i j => b i j + ∑ f, (∑ c, p i c * w f c) * (2 * |y i f|) * v j f := by
  unfold k0_pay3
  simp only [lift_truncf, lift_extf, root, lift_two, lift_alpha, lift_1024, lift_zero, lift_div1024, lift_mulf, lift_subf, lift_addf, mm, bcast_row, bcast_col, shapeCast_self, cst_1024, pay2]

theorem pay18 (p : Fin 256 → Fin 1024 → ℝ) (w : Fin 1024 → Fin 1024 → ℝ) (y : Fin 256 → Fin 1024 → ℝ) : k0_pay18 (F := Ideal) (L2 p) (L2 w) (L2 fun i j => y i j * y i j) = L2 fun i j => (∑ c, p i c * w j c) * (2 * |y i j|) := by
  unfold k0_pay18
  simp only [lift_truncf, lift_extf, root, lift_two, lift_alpha, lift_1024, lift_zero, lift_div1024, lift_mulf, lift_subf, lift_addf, mm, bcast_row, bcast_col, shapeCast_self, cst_1024]

theorem pay19 (p : Fin 256 → Fin 1024 → ℝ) (w : Fin 1024 → Fin 1024 → ℝ) (y b : Fin 256 → Fin 1024 → ℝ) (v : Fin 1024 → Fin 1024 → ℝ) : k0_pay19 (F := Ideal) (L2 p) (L2 w) (L2 fun i j => y i j * y i j) (L2 b) (L2 v) = L2 fun i j => b i j + ∑ f, (∑ c, p i c * w f c) * (2 * |y i f|) * v j f := by
  unfold k0_pay19
  simp only [lift_truncf, lift_extf, root, lift_two, lift_alpha, lift_1024, lift_zero, lift_div1024, lift_mulf, lift_subf, lift_addf, mm, bcast_row, bcast_col, shapeCast_self, cst_1024, pay18]

theorem pay20 (p : Fin 256 → Fin 1024 → ℝ) (w : Fin 1024 → Fin 1024 → ℝ) (y : Fin 256 → Fin 1024 → ℝ) : k0_pay20 (F := Ideal) (L2 p) (L2 w) (L2 fun i j => y i j * y i j) = L2 fun i j => (∑ c, p i c * w j c) * (2 * |y i j|) := by
  unfold k0_pay20
  simp only [lift_truncf, lift_extf, root, lift_two, lift_alpha, lift_1024, lift_zero, lift_div1024, lift_mulf, lift_subf, lift_addf, mm, bcast_row, bcast_col, shapeCast_self, cst_1024]

theorem pay1 (p b : Fin 256 → Fin 1024 → ℝ) (v : Fin 1024 → Fin 1024 → ℝ) : k0_pay1 (F := Ideal) (L2 p) (L2 b) (L2 v) (constant (F := Ideal) S256x1024 .f32 0x00000000#32) = L2 fun i j => b i j + ∑ c, p i c * v j c := by
  unfold k0_pay1
  simp only [lift_truncf, lift_extf, root, lift_two, lift_alpha, lift_1024, lift_zero, lift_div1024, lift_mulf, lift_subf, lift_addf, mm, bcast_row, bcast_col, shapeCast_self, cst_1024]

end Cert.RealStep.Ker2

end
-- ==== Proof.KerOut2.lean ====
/- What a point of the feed-forward gradient's call leaves in its outputs' blocks and in its kept weights, at real arguments. -/
module

public import proofs.«01_k».proof.Proof.KerBlocks2
public import proofs.«01_k».proof.Proof.KerPay2
public import Idealize.ShloMosaic.Lib.Pipeline.ReadBack

@[expose] public section

noncomputable section

namespace Cert.Kernel2Ideal.Gen

open Cert.Kernel2Ideal Cert.Kernel2Ideal.Gen Idealize.ShloMosaic Idealize.ShloMosaic.TcCoe Idealize.SL.Sem Cert.RealStep Cert.RealStep.Ker2

/-- A store of 1024 columns read back at one of them. -/
theorem canon_hit (o : ℕ) (inb) (w : (⟨2, ![256, 1024]⟩ : Shape).Idx → Elt Ideal .bf16)
    (L : List (View.Piece (Elt Ideal) S256x4096 .bf16)) (y : S256x4096.Idx) (x : Fin 1024) (h : (y 1).val = o + x.val) :
    View.canon ((⟨Rect.unit ![0, o] ![256, 1024] inb, w⟩ : View.Piece (Elt Ideal) S256x4096 .bf16) :: L) y = w (ValueIdx.ix2 (y 0) x) := by
  have e1 : y = (Rect.unit (s := S256x4096) ![0, o] ![256, 1024] inb).emb (ValueIdx.ix2 (y 0) x) := by
    funext a
    match a with
    | 0 => exact Fin.ext (by rw [ValueKit.rect_emb_unit_val]; show (y 0).val = 0 + (y 0).val; omega)
    | 1 => exact Fin.ext (by rw [ValueKit.rect_emb_unit_val]; exact h)
  conv_lhs => rw [e1]
  exact View.canon_cons_emb _ _ _ _

/-- And at a column that it leaves alone. -/
theorem canon_miss (o : ℕ) (inb) (w : (⟨2, ![256, 1024]⟩ : Shape).Idx → Elt Ideal .bf16)
    (L : List (View.Piece (Elt Ideal) S256x4096 .bf16)) (y : S256x4096.Idx) (h : (y 1).val < o ∨ o + 1024 ≤ (y 1).val) :
    View.canon ((⟨Rect.unit ![0, o] ![256, 1024] inb, w⟩ : View.Piece (Elt Ideal) S256x4096 .bf16) :: L) y = View.canon L y := by
  refine View.canon_cons_of_not_mem _ _ fun hm => ?_
  have h1 := (Rect.mem_set_unit (inb := inb)).mp hm 1
  have h2 : o ≤ (y 1).val ∧ (y 1).val < o + 1024 := h1
  omega

/-- Four stores of 1024 columns each, read back: a column belongs to its chunk's store. -/
theorem canon4 (G : Fin 256 → Fin 4096 → ℝ) (L : List (View.Piece (Elt Ideal) S256x4096 .bf16)) :
    View.canon ((⟨Rect.unit ![0, 3072] ![256, 1024] inb_S256x4096_S256x1024_0_3072, L2 fun i j => G i (fc 3 j)⟩ : View.Piece (Elt Ideal) S256x4096 .bf16) :: (⟨Rect.unit ![0, 2048] ![256, 1024] inb_S256x4096_S256x1024_0_2048, L2 fun i j => G i (fc 2 j)⟩ : View.Piece (Elt Ideal) S256x4096 .bf16) :: (⟨Rect.unit ![0, 1024] ![256, 1024] inb_S256x4096_S256x1024_0_1024, L2 fun i j => G i (fc 1 j)⟩ : View.Piece (Elt Ideal) S256x4096 .bf16) :: (⟨Rect.unit ![0, 0] ![256, 1024] inb_S256x4096_S256x1024_0_0, L2 fun i j => G i (fc 0 j)⟩ : View.Piece (Elt Ideal) S256x4096 .bf16) :: L) = L2 G := by
  funext y
  obtain ⟨h, x, e⟩ : ∃ (h : Fin 4) (x : Fin 1024), (y 1 : Fin 4096) = fc h x := ⟨fh (y 1), fx (y 1), (fc_fh_fx _).symm⟩
  have ev : (y 1).val = h.val * 1024 + x.val := congrArg Fin.val e
  have hx := x.isLt
  have er : (L2 G : S256x4096.Idx → EReal) y = ((G (y 0) (fc h x) : ℝ) : EReal) := by
    show ((G (y 0) (y 1) : ℝ) : EReal) = _
    rw [e]
  rw [er]
  fin_cases h
  · have ev' : (y 1).val = 0 + x.val := ev.trans (by show 0 * 1024 + x.val = _; omega)
    rw [canon_miss (3072) _ _ _ _ (by omega)]; rw [canon_miss (2048) _ _ _ _ (by omega)]; rw [canon_miss (1024) _ _ _ _ (by omega)]; rw [canon_hit (0) _ _ _ _ x ev']; rfl
  · have ev' : (y 1).val = 1024 + x.val := ev.trans (by show 1 * 1024 + x.val = _; omega)
    rw [canon_miss (3072) _ _ _ _ (by omega)]; rw [canon_miss (2048) _ _ _ _ (by omega)]; rw [canon_hit (1024) _ _ _ _ x ev']; rfl
  · have ev' : (y 1).val = 2048 + x.val := ev.trans (by show 2 * 1024 + x.val = _; omega)
    rw [canon_miss (3072) _ _ _ _ (by omega)]; rw [canon_hit (2048) _ _ _ _ x ev']; rfl
  · have ev' : (y 1).val = 3072 + x.val := ev.trans (by show 3 * 1024 + x.val = _; omega)
    rw [canon_hit (3072) _ _ _ _ x ev']; rfl

theorem whole_emb (s : Shape) (y : s.Idx) : (Rect.whole s).emb y = y :=
  funext fun a => Fin.ext (by simp [Rect.whole])

/-- A copy of a whole array leaves that array. -/
theorem kept {s : Shape} {e : EltTy} (w : s.Idx → Elt Ideal e) :
    View.canon [(⟨Rect.whole s, w⟩ : View.Piece (Elt Ideal) s e)] = w := by
  funext y
  conv_lhs => rw [← whole_emb s y]
  exact View.canon_cons_emb _ _ _ _

/-- And a load of a part of it loads that part. -/
theorem kept_load {sp : Space} {s : Shape} {e : EltTy} (v : View sig .tc sp s e) (w : s.Idx → Elt Ideal e) (R : Rect s) :
    v.readCov [(⟨Rect.whole s, w⟩ : View.Piece (Elt Ideal) s e)] R.toLoadRect = View.ld w R := by
  rw [View.readCov_eq_canon', kept]

theorem res_a0 (f : Fin 1024 → Fin 4096 → ℝ) :
    (View.whole cc0_scratch0).readCov (Val := Elt Ideal) [⟨Rect.whole S1024x4096, ReadAs.same.apply (View.read (Elt Ideal) (View.whole main_v27) (L2 f))⟩] (Rect.unit ![0, 0] ![1024, 1024] inb_S1024x4096_S1024x1024_0_0).toLoadRect = L2 fun (i : Fin 1024) (j : Fin 1024) => f i (fc 0 j) :=
  (kept_load (View.whole cc0_scratch0) (L2 f) _).trans (lda0 f)
theorem res_b0 (f : Fin 4096 → Fin 1024 → ℝ) :
    (View.whole cc0_scratch1).readCov (Val := Elt Ideal) [⟨Rect.whole S4096x1024, ReadAs.same.apply (View.read (Elt Ideal) (View.whole main_v28) (L2 f))⟩] (Rect.unit ![0, 0] ![1024, 1024] inb_S4096x1024_S1024x1024_0_0).toLoadRect = L2 fun (i : Fin 1024) (j : Fin 1024) => f (fc 0 i) j :=
  (kept_load (View.whole cc0_scratch1) (L2 f) _).trans (ldb0 f)
theorem res_a1 (f : Fin 1024 → Fin 4096 → ℝ) :
    (View.whole cc0_scratch0).readCov (Val := Elt Ideal) [⟨Rect.whole S1024x4096, ReadAs.same.apply (View.read (Elt Ideal) (View.whole main_v27) (L2 f))⟩] (Rect.unit ![0, 1024] ![1024, 1024] inb_S1024x4096_S1024x1024_0_1024).toLoadRect = L2 fun (i : Fin 1024) (j : Fin 1024) => f i (fc 1 j) :=
  (kept_load (View.whole cc0_scratch0) (L2 f) _).trans (lda1 f)
theorem res_b1 (f : Fin 4096 → Fin 1024 → ℝ) :
    (View.whole cc0_scratch1).readCov (Val := Elt Ideal) [⟨Rect.whole S4096x1024, ReadAs.same.apply (View.read (Elt Ideal) (View.whole main_v28) (L2 f))⟩] (Rect.unit ![1024, 0] ![1024, 1024] inb_S4096x1024_S1024x1024_1024_0).toLoadRect = L2 fun (i : Fin 1024) (j : Fin 1024) => f (fc 1 i) j :=
  (kept_load (View.whole cc0_scratch1) (L2 f) _).trans (ldb1 f)
theorem res_a2 (f : Fin 1024 → Fin 4096 → ℝ) :
    (View.whole cc0_scratch0).readCov (Val := Elt Ideal) [⟨Rect.whole S1024x4096, ReadAs.same.apply (View.read (Elt Ideal) (View.whole main_v27) (L2 f))⟩] (Rect.unit ![0, 2048] ![1024, 1024] inb_S1024x4096_S1024x1024_0_2048).toLoadRect = L2 fun (i : Fin 1024) (j : Fin 1024) => f i (fc 2 j) :=
  (kept_load (View.whole cc0_scratch0) (L2 f) _).trans (lda2 f)
theorem res_b2 (f : Fin 4096 → Fin 1024 → ℝ) :
    (View.whole cc0_scratch1).readCov (Val := Elt Ideal) [⟨Rect.whole S4096x1024, ReadAs.same.apply (View.read (Elt Ideal) (View.whole main_v28) (L2 f))⟩] (Rect.unit ![2048, 0] ![1024, 1024] inb_S4096x1024_S1024x1024_2048_0).toLoadRect = L2 fun (i : Fin 1024) (j : Fin 1024) => f (fc 2 i) j :=
  (kept_load (View.whole cc0_scratch1) (L2 f) _).trans (ldb2 f)
theorem res_a3 (f : Fin 1024 → Fin 4096 → ℝ) :
    (View.whole cc0_scratch0).readCov (Val := Elt Ideal) [⟨Rect.whole S1024x4096, ReadAs.same.apply (View.read (Elt Ideal) (View.whole main_v27) (L2 f))⟩] (Rect.unit ![0, 3072] ![1024, 1024] inb_S1024x4096_S1024x1024_0_3072).toLoadRect = L2 fun (i : Fin 1024) (j : Fin 1024) => f i (fc 3 j) :=
  (kept_load (View.whole cc0_scratch0) (L2 f) _).trans (lda3 f)
theorem res_b3 (f : Fin 4096 → Fin 1024 → ℝ) :
    (View.whole cc0_scratch1).readCov (Val := Elt Ideal) [⟨Rect.whole S4096x1024, ReadAs.same.apply (View.read (Elt Ideal) (View.whole main_v28) (L2 f))⟩] (Rect.unit ![3072, 0] ![1024, 1024] inb_S4096x1024_S1024x1024_3072_0).toLoadRect = L2 fun (i : Fin 1024) (j : Fin 1024) => f (fc 3 i) j :=
  (kept_load (View.whole cc0_scratch1) (L2 f) _).trans (ldb3 f)

/-- A hidden value is its own magnitude. -/
theorem hid_abs (D : Mlp) (t : Fin 8192) (f : Fin 4096) : |D.hid t f| = D.hid t f := abs_of_nonneg (D.hid_nonneg t f)

variable {m : (ℓ : Loc nD τ sig) → Buf (Elt Ideal) ℓ} {c : Dev nD}
variable {D : Mlp} (H : Holds m c D) (t : Fin cfg0.N)
include H

theorem w1_A (h0 : t.val % 32 = 0) : (outsAt0 m c t.val t.isLt).2.2.2.2.2.1 = L2 D.w1 := by
  rw [outsAt0_A m c t h0]
  frame_out
  rw [kept, w1_real H]
  rfl

theorem w2_A (h0 : t.val % 32 = 0) : (outsAt0 m c t.val t.isLt).2.2.2.2.2.2 = L2 D.w2 := by
  rw [outsAt0_A m c t h0]
  frame_out
  rw [kept, w2_real H]
  rfl

omit H in
theorem w1_B (h0 : ¬t.val % 32 = 0) : (outsAt0 m c t.val t.isLt).2.2.2.2.2.1 = (outsAt0 m c (t.val - 1) (Nat.lt_of_le_of_lt (Nat.sub_le _ _) t.isLt)).2.2.2.2.2.1 := by
  rw [outsAt0_B m c t h0]
  rfl

omit H in
theorem w2_B (h0 : ¬t.val % 32 = 0) : (outsAt0 m c t.val t.isLt).2.2.2.2.2.2 = (outsAt0 m c (t.val - 1) (Nat.lt_of_le_of_lt (Nat.sub_le _ _) t.isLt)).2.2.2.2.2.2 := by
  rw [outsAt0_B m c t h0]
  rfl

/-- Both weights stay resident from the first point on. -/
theorem kept_at : ∀ (n : ℕ) (hn : n < cfg0.N), (outsAt0 m c n hn).2.2.2.2.2.1 = L2 D.w1 ∧ (outsAt0 m c n hn).2.2.2.2.2.2 = L2 D.w2
  | 0, hn => ⟨w1_A H ⟨0, hn⟩ rfl, w2_A H ⟨0, hn⟩ rfl⟩
  | n + 1, hn => by
    have hN : cfg0.N = 32 := rfl
    have h0 : ¬(⟨n + 1, hn⟩ : Fin cfg0.N).val % 32 = 0 := by show ¬(n + 1) % 32 = 0; omega
    have ih := kept_at n (Nat.lt_of_succ_lt hn)
    exact ⟨(w1_B ⟨n + 1, hn⟩ h0).trans ih.1, (w2_B ⟨n + 1, hn⟩ h0).trans ih.2⟩

theorem kept1 : (outsAt0 m c (t.val - 1) (Nat.lt_of_le_of_lt (Nat.sub_le _ _) t.isLt)).2.2.2.2.2.1 = L2 D.w1 := (kept_at H _ _).1
theorem kept2 : (outsAt0 m c (t.val - 1) (Nat.lt_of_le_of_lt (Nat.sub_le _ _) t.isLt)).2.2.2.2.2.2 = L2 D.w2 := (kept_at H _ _).2

theorem dr_A (h0 : t.val % 32 = 0) : (outsAt0 m c t.val t.isLt).1 = L2 fun l d => D.dr (row t l) d := by
  rw [outsAt0_A m c t h0]
  frame_out
  simp only [w1_real H, w2_real H, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  rfl

theorem du_A (h0 : t.val % 32 = 0) : (outsAt0 m c t.val t.isLt).2.1 = L2 fun l f => D.du (row t l) f := by
  rw [outsAt0_A m c t h0]
  frame_out
  simp only [w1_real H, w2_real H, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  rw [res_b0, res_b1, res_b2, res_b3]
  simp only [blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  exact canon4 (fun l f => D.du (row t l) f) []

theorem dh2_A (h0 : t.val % 32 = 0) : (outsAt0 m c t.val t.isLt).2.2.1 = L2 fun l d => D.dh2 (row t l) d := by
  rw [outsAt0_A m c t h0]
  frame_out
  simp only [w1_real H, w2_real H, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  rw [res_b0, res_b1, res_b2, res_b3, res_a0, res_a1, res_a2, res_a3]
  simp only [blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  refine congrArg L2 (funext fun i => funext fun j => ?_)
  exact (sum_chunks (alpha * D.dr (row t i) j) fun f => D.du (row t i) f * D.w1 j f).symm

theorem dg_A (h0 : t.val % 32 = 0) : (outsAt0 m c t.val t.isLt).2.2.2.1 = L2 (fun n d => 0 + ∑ l, D.dh (row t l) d * xhat (D.r (row t l)) d : Fin 1 → Fin 1024 → ℝ) := by
  rw [outsAt0_A m c t h0]
  frame_out
  simp only [w1_real H, w2_real H, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]

theorem db_A (h0 : t.val % 32 = 0) : (outsAt0 m c t.val t.isLt).2.2.2.2.1 = L2 (fun n d => 0 + ∑ l, D.dh (row t l) d : Fin 1 → Fin 1024 → ℝ) := by
  rw [outsAt0_A m c t h0]
  frame_out
  simp only [w1_real H, w2_real H, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]

theorem dr_B (h0 : ¬t.val % 32 = 0) : (outsAt0 m c t.val t.isLt).1 = L2 fun l d => D.dr (row t l) d := by
  rw [outsAt0_B m c t h0]
  frame_out
  simp only [read_unread_whole, kept1 H t, kept2 H t, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  rfl

theorem du_B (h0 : ¬t.val % 32 = 0) : (outsAt0 m c t.val t.isLt).2.1 = L2 fun l f => D.du (row t l) f := by
  rw [outsAt0_B m c t h0]
  frame_out
  simp only [read_unread_whole, kept1 H t, kept2 H t, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  exact canon4 (fun l f => D.du (row t l) f) []

theorem dh2_B (h0 : ¬t.val % 32 = 0) : (outsAt0 m c t.val t.isLt).2.2.1 = L2 fun l d => D.dh2 (row t l) d := by
  rw [outsAt0_B m c t h0]
  frame_out
  simp only [read_unread_whole, kept1 H t, kept2 H t, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]
  refine congrArg L2 (funext fun i => funext fun j => ?_)
  exact (sum_chunks (alpha * D.dr (row t i) j) fun f => D.du (row t i) f * D.w1 j f).symm

theorem dg_B (h0 : ¬t.val % 32 = 0) (P : Fin 1 → Fin 1024 → ℝ) (hP : (outsAt0 m c (t.val - 1) (Nat.lt_of_le_of_lt (Nat.sub_le _ _) t.isLt)).2.2.2.1 = L2 P) : (outsAt0 m c t.val t.isLt).2.2.2.1 = L2 (fun n d => P n d + ∑ l, D.dh (row t l) d * xhat (D.r (row t l)) d : Fin 1 → Fin 1024 → ℝ) := by
  rw [outsAt0_B m c t h0]
  frame_out
  simp only [hP, read_unread_whole, kept1 H t, kept2 H t, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]

theorem db_B (h0 : ¬t.val % 32 = 0) (P : Fin 1 → Fin 1024 → ℝ) (hP : (outsAt0 m c (t.val - 1) (Nat.lt_of_le_of_lt (Nat.sub_le _ _) t.isLt)).2.2.2.2.1 = L2 P) : (outsAt0 m c t.val t.isLt).2.2.2.2.1 = L2 (fun n d => P n d + ∑ l, D.dh (row t l) d : Fin 1 → Fin 1024 → ℝ) := by
  rw [outsAt0_B m c t h0]
  frame_out
  simp only [hP, read_unread_whole, kept1 H t, kept2 H t, blk0 H t, blk1 H t, blk2 H t, blk3 H t, blk4 H t, ldf, ldf1, ldr, ldh0, ldh1, ldh2, ldh3, lda0, lda1, lda2, lda3, ldb0, ldb1, ldb2, ldb3, pay1, pay2, pay3, pay4, pay5, pay6, pay7, pay8, pay9, pay10, pay11, pay12, pay13, pay14, pay15, pay16, pay17, pay18, pay19, pay20, hid_abs]

end Cert.Kernel2Ideal.Gen

end
-- ==== Proof.KerValue2.lean ====
/- The feed-forward gradient's result arrays at real arguments. -/
module

public import proofs.«01_k».proof.Proof.KerOut2

@[expose] public section

noncomputable section

namespace Cert.Kernel2Ideal.Gen

open Cert.Kernel2Ideal Cert.Kernel2Ideal.Gen Idealize.ShloMosaic Idealize.ShloMosaic.TcCoe Idealize.SL.Sem Cert.RealStep

/-- The sum over the rows of the first `n + 1` points. -/
def upTo (f : Fin 8192 → ℝ) (n : ℕ) : ℝ := ∑ p ∈ Finset.univ.filter (fun p : Fin cfg0.N => p.val ≤ n), ∑ l, f (row p l)

theorem upTo_first (f : Fin 8192 → ℝ) (h : 0 < cfg0.N) : upTo f 0 = ∑ l, f (row ⟨0, h⟩ l) := by
  unfold upTo
  rw [show Finset.univ.filter (fun p : Fin cfg0.N => p.val ≤ 0) = {⟨0, h⟩} from Finset.ext fun p => by
    simp only [Finset.mem_filter, Finset.mem_univ, true_and, Finset.mem_singleton, Fin.ext_iff]; omega, Finset.sum_singleton]

theorem upTo_next (f : Fin 8192 → ℝ) (n : ℕ) (h : n + 1 < cfg0.N) : upTo f (n + 1) = upTo f n + ∑ l, f (row ⟨n + 1, h⟩ l) := by
  unfold upTo
  rw [show Finset.univ.filter (fun p : Fin cfg0.N => p.val ≤ n + 1) = insert ⟨n + 1, h⟩ (Finset.univ.filter fun p : Fin cfg0.N => p.val ≤ n) from
    Finset.ext fun p => by
      simp only [Finset.mem_filter, Finset.mem_univ, true_and, Finset.mem_insert, Fin.ext_iff]; omega,
    Finset.sum_insert (by simp), add_comm]

/-- The points' rows are all the rows. -/
theorem upTo_all (f : Fin 8192 → ℝ) : upTo f 31 = ∑ t, f t := by
  unfold upTo
  rw [Finset.filter_true_of_mem fun p _ => Nat.le_of_lt_succ p.isLt]
  exact Fin.sum_mul_add_fin (S := 32) (n := 256) (L := 8192) f

/-- A block that starts at the first point's sum and takes on every later point's holds the sum over all rows. -/
theorem total {a b : ℕ} (O : (n : ℕ) → n < cfg0.N → (⟨2, ![a, b]⟩ : Shape).Idx → EReal) (T : Fin a → Fin b → Fin 8192 → ℝ)
    (hA : ∀ t : Fin cfg0.N, t.val % 32 = 0 → O t.val t.isLt = L2 fun i j => 0 + ∑ l, T i j (row t l))
    (hB : ∀ t : Fin cfg0.N, ¬t.val % 32 = 0 → ∀ P, O (t.val - 1) (Nat.lt_of_le_of_lt (Nat.sub_le _ _) t.isLt) = L2 P →
      O t.val t.isLt = L2 fun i j => P i j + ∑ l, T i j (row t l)) (h31 : 31 < cfg0.N) :
    O 31 h31 = L2 fun i j => ∑ t, T i j t := by
  have key : ∀ n (h : n < cfg0.N), O n h = L2 fun i j => upTo (T i j) n := by
    intro n
    induction n with
    | zero => intro h; rw [hA ⟨0, h⟩ rfl]; simp only [zero_add, upTo_first _ h]
    | succ n ih =>
      intro h
      have hn : n + 1 < 32 := h
      rw [hB ⟨n + 1, h⟩ (by show ¬(n + 1) % 32 = 0; omega) _ (ih (Nat.lt_of_succ_lt h))]
      simp only [upTo_next _ n h]
  rw [key 31 h31]
  simp only [upTo_all]

variable {m : (ℓ : Loc nD τ sig) → Buf (Elt Ideal) ℓ} {c : Dev nD} {D : Mlp} (H : Holds m c D)
include H

theorem dr_at (t : Fin cfg0.N) : (outsAt0 m c t.val t.isLt).1 = L2 fun l d => D.dr (row t l) d := by
  by_cases h : t.val % 32 = 0
  · exact dr_A H t h
  · exact dr_B H t h

theorem arr_dr : (dats m 0 c).arrAt 5 cfg0.N = (L2 D.dr : S8192x1024.Idx → EReal) := by
  refine (dats m 0 c).arrAt_eq_of_covers 5 _ (by decide +kernel) fun t hf y => ?_
  rw [after0_5, dr_at H t]
  refine congrArg Real.toEReal (congrArg₂ D.dr ?_ ?_)
  · refine Fin.ext ?_
    blk_simp [idx_rows t, row]
  · refine Fin.ext ?_
    blk_simp [idx_rows t]

theorem du_at (t : Fin cfg0.N) : (outsAt0 m c t.val t.isLt).2.1 = L2 fun l f => D.du (row t l) f := by
  by_cases h : t.val % 32 = 0
  · exact du_A H t h
  · exact du_B H t h

theorem arr_du : (dats m 0 c).arrAt 6 cfg0.N = (L2 D.du : S8192x4096.Idx → EReal) := by
  refine (dats m 0 c).arrAt_eq_of_covers 6 _ (by decide +kernel) fun t hf y => ?_
  rw [after0_6, du_at H t]
  refine congrArg Real.toEReal (congrArg₂ D.du ?_ ?_)
  · refine Fin.ext ?_
    blk_simp [idx_rows t, row]
  · refine Fin.ext ?_
    blk_simp [idx_rows t]

theorem dh2_at (t : Fin cfg0.N) : (outsAt0 m c t.val t.isLt).2.2.1 = L2 fun l d => D.dh2 (row t l) d := by
  by_cases h : t.val % 32 = 0
  · exact dh2_A H t h
  · exact dh2_B H t h

theorem arr_dh2 : (dats m 0 c).arrAt 7 cfg0.N = (L2 D.dh2 : S8192x1024.Idx → EReal) := by
  refine (dats m 0 c).arrAt_eq_of_covers 7 _ (by decide +kernel) fun t hf y => ?_
  rw [after0_7, dh2_at H t]
  refine congrArg Real.toEReal (congrArg₂ D.dh2 ?_ ?_)
  · refine Fin.ext ?_
    blk_simp [idx_rows t, row]
  · refine Fin.ext ?_
    blk_simp [idx_rows t]

theorem arr_dg : (dats m 0 c).arrAt 8 cfg0.N = (L2 (fun _ d => D.dg d) : S1x1024.Idx → EReal) := by
  refine (dats m 0 c).arrAt_eq_of_after_last 8 ⟨31, by decide⟩ (by decide +kernel) _ fun j => ?_
  rw [after0_8, total (fun n h => (outsAt0 m c n h).2.2.2.1) (fun (_ : Fin 1) d t => D.dh t d * xhat (D.r t) d) (fun t h => dg_A H t h) (fun t h P hP => dg_B H t h P hP)]
  rfl

theorem arr_db : (dats m 0 c).arrAt 9 cfg0.N = (L2 (fun _ d => D.db d) : S1x1024.Idx → EReal) := by
  refine (dats m 0 c).arrAt_eq_of_after_last 9 ⟨31, by decide⟩ (by decide +kernel) _ fun j => ?_
  rw [after0_9, total (fun n h => (outsAt0 m c n h).2.2.2.2.1) (fun (_ : Fin 1) d t => D.dh t d) (fun t h => db_A H t h) (fun t h P hP => db_B H t h P hP)]
  rfl

end Cert.Kernel2Ideal.Gen

end
-- ==== Proof.Chunks.lean ====
/- Sums that grow over eight grid points, each of which adds its own 1024 rows of 8192. -/
module

public import Idealize.ShloMosaic.Lib.Pipeline.ValueKit
public import Idealize.ShloMosaic.Lib.Pointwise

@[expose] public section

noncomputable section

namespace Cert.Chunks

open Idealize.ShloMosaic

/-- Row `l` of the 1024 rows that step `s` (of eight, counted around) takes. -/
def row8 (s : ℕ) (l : Fin 1024) : Fin 8192 := ⟨s % 8 * 1024 + l.val, by omega⟩

/-- The sum over the rows of the first `k + 1` steps. -/
def upTo8 (f : Fin 8192 → EReal) (k : ℕ) : EReal := ∑ p ∈ Finset.univ.filter (fun p : Fin 8 => p.val ≤ k), ∑ l, f (row8 p.val l)

theorem upTo8_first (f : Fin 8192 → EReal) : upTo8 f 0 = ∑ l, f (row8 0 l) := by
  unfold upTo8
  rw [show Finset.univ.filter (fun p : Fin 8 => p.val ≤ 0) = {0} from by decide, Finset.sum_singleton]
  rfl

theorem upTo8_next (f : Fin 8192 → EReal) (k : ℕ) (h : k + 1 < 8) : upTo8 f (k + 1) = upTo8 f k + ∑ l, f (row8 (k + 1) l) := by
  unfold upTo8
  rw [show Finset.univ.filter (fun p : Fin 8 => p.val ≤ k + 1) = insert ⟨k + 1, h⟩ (Finset.univ.filter fun p : Fin 8 => p.val ≤ k) from
    Finset.ext fun p => by
      simp only [Finset.mem_filter, Finset.mem_univ, true_and, Finset.mem_insert, Fin.ext_iff]; omega,
    Finset.sum_insert (by simp), add_comm]

/-- The eight steps' rows are all the rows. -/
theorem upTo8_all (f : Fin 8192 → EReal) : upTo8 f 7 = ∑ t, f t := by
  unfold upTo8
  rw [Finset.filter_true_of_mem fun p _ => Nat.le_of_lt_succ p.isLt, ← Fin.sum_mul_add_fin (S := 8) (n := 1024) (L := 8192) f]
  refine Finset.sum_congr rfl fun p _ => Finset.sum_congr rfl fun l _ => congrArg f (Fin.ext ?_)
  show p.val % 8 * 1024 + l.val = p.val * 1024 + l.val
  rw [Nat.mod_eq_of_lt p.isLt]

theorem row8_mod (s : ℕ) (l : Fin 1024) : row8 (s % 8) l = row8 s l := Fin.ext (by show s % 8 % 8 * 1024 + l.val = _; rw [Nat.mod_mod]; rfl)

/-- Contents that start afresh at every eighth point and take on every point's rows hold, at the last of eight, the sum over
    all rows. -/
theorem total8 {ι : Type} {N : ℕ} (O : (n : ℕ) → n < N → ι → EReal) (T : ℕ → ι → Fin 8192 → EReal)
    (hA : ∀ n (h : n < N), n % 8 = 0 → ∀ i, O n h i = 0 + ∑ l, T (n / 8) i (row8 n l))
    (hB : ∀ n (h : n < N), ¬n % 8 = 0 → ∀ i, O n h i = O (n - 1) (Nat.lt_of_le_of_lt (Nat.sub_le _ _) h) i + ∑ l, T (n / 8) i (row8 n l))
    (n : ℕ) (h : n < N) (h7 : n % 8 = 7) (i : ι) : O n h i = ∑ t, T (n / 8) i t := by
  have key : ∀ n (h : n < N), O n h i = upTo8 (T (n / 8) i) (n % 8) := by
    intro n
    induction n with
    | zero => intro h; rw [hA 0 h rfl, zero_add]; exact (upTo8_first _).symm
    | succ n ih =>
      intro h
      by_cases h0 : (n + 1) % 8 = 0
      · rw [hA _ h h0, h0, zero_add, upTo8_first]
        exact Finset.sum_congr rfl fun l _ => congrArg _ ((row8_mod (n + 1) l).symm.trans (by rw [h0]))
      · rw [hB _ h h0]
        have e1 : (n + 1) / 8 = n / 8 := by omega
        have e2 : (n + 1) % 8 = n % 8 + 1 := by omega
        have e3 := ih (Nat.lt_of_succ_lt h)
        rw [show O (n + 1 - 1) (Nat.lt_of_le_of_lt (Nat.sub_le _ _) h) i = O n (Nat.lt_of_succ_lt h) i from rfl, e3, e1, e2,
          upTo8_next _ _ (by omega)]
        refine congrArg _ (Finset.sum_congr rfl fun l _ => congrArg _ ?_)
        rw [← row8_mod (n + 1) l, e2]
  rw [key n h, h7, upTo8_all]

/-- What holds of the first and the second axis holds of both. -/
theorem on_two {P : Fin 2 → Prop} (h0 : P 0) (h1 : P 1) : ∀ a, P a
  | 0 => h0
  | 1 => h1

/-- What holds of each of three axes holds of all. -/
theorem on_three {P : Fin 3 → Prop} (h0 : P 0) (h1 : P 1) (h2 : P 2) : ∀ a, P a
  | 0 => h0
  | 1 => h1
  | 2 => h2

/-- A sum over `o + k` places is the sum over the first `o` and the sum over the other `k`. -/
theorem grow {N : ℕ} (f : Fin N → EReal) (o k : ℕ) (h : o + k ≤ N) :
    ∑ x : Fin (o + k), f ⟨x.val, by omega⟩ = (∑ x : Fin o, f ⟨x.val, by omega⟩) + ∑ x : Fin k, f ⟨o + x.val, by omega⟩ :=
  Fin.sum_univ_add _

/-- A sum over the columns of the input projection by its six pieces. -/
theorem six (f : Fin 2432 → EReal) :
    ∑ x, f x = (((((∑ x : Fin 1024, f ⟨x.val, by omega⟩) + ∑ x : Fin 512, f ⟨1024 + x.val, by omega⟩)
      + ∑ x : Fin 256, f ⟨1536 + x.val, by omega⟩) + ∑ x : Fin 256, f ⟨1792 + x.val, by omega⟩)
      + ∑ x : Fin 256, f ⟨2048 + x.val, by omega⟩) + ∑ x : Fin 128, f ⟨2304 + x.val, by omega⟩ := by
  rw [← grow f 1024 512 (by omega), ← grow f 1536 256 (by omega), ← grow f 1792 256 (by omega), ← grow f 2048 256 (by omega),
    ← grow f 2304 128 (by omega)]

/-- A sum over the width of the three mixers by its three pieces. -/
theorem three (f : Fin 1024 → EReal) :
    ∑ x, f x = ((∑ x : Fin 512, f ⟨x.val, by omega⟩) + ∑ x : Fin 256, f ⟨512 + x.val, by omega⟩)
      + ∑ x : Fin 256, f ⟨768 + x.val, by omega⟩ := by
  rw [← grow f 512 256 (by omega), ← grow f 768 256 (by omega)]

end Cert.Chunks

end
-- ==== Proof.Parts.lean ====
/- A block made of equal parts, each stored and loaded whole, and the store of gradients which such a block is a part of. -/
module

public import proofs.«01_k».proof.Proof.Chunks

@[expose] public section

noncomputable section

namespace Cert.Parts

open Idealize.ShloMosaic

/-- `P` parts of `R` rows and `C` columns. -/
abbrev Block (P R C : ℕ) : Shape := ⟨3, ![P, R, C]⟩

variable {P R C : ℕ}

/-- A place of part `q` is had from a store of that part. -/
theorem hit (q : ℕ) (inb) (w : (Block 1 R C).Idx → Elt Ideal .f32) (L : List (View.Piece (Elt Ideal) (Block P R C) .f32))
    (y : (Block P R C).Idx) (h : (y 0).val = q) :
    View.canon ((⟨Rect.unit ![q, 0, 0] ![1, R, C] inb, w⟩ : View.Piece (Elt Ideal) (Block P R C) .f32) :: L) y
      = w (ValueIdx.ix3 0 (y 1) (y 2)) := by
  have e1 : y = (Rect.unit (s := Block P R C) ![q, 0, 0] ![1, R, C] inb).emb (ValueIdx.ix3 0 (y 1) (y 2)) := by
    funext a
    match a with
    | 0 => exact Fin.ext (by rw [ValueKit.rect_emb_unit_val]; show (y 0).val = q + 0; omega)
    | 1 => exact Fin.ext (by rw [ValueKit.rect_emb_unit_val]; show (y 1).val = 0 + (y 1).val; omega)
    | 2 => exact Fin.ext (by rw [ValueKit.rect_emb_unit_val]; show (y 2).val = 0 + (y 2).val; omega)
  conv_lhs => rw [e1]
  exact View.canon_cons_emb _ _ _ _

/-- And a place of another part is not. -/
theorem miss (q : ℕ) (inb) (w : (Block 1 R C).Idx → Elt Ideal .f32) (L : List (View.Piece (Elt Ideal) (Block P R C) .f32))
    (y : (Block P R C).Idx) (h : (y 0).val ≠ q) :
    View.canon ((⟨Rect.unit ![q, 0, 0] ![1, R, C] inb, w⟩ : View.Piece (Elt Ideal) (Block P R C) .f32) :: L) y
      = View.canon L y := by
  refine View.canon_cons_of_not_mem _ _ fun hm => ?_
  have h1 := (Rect.mem_set_unit (inb := inb)).mp hm 0
  have h2 : q ≤ (y 0).val ∧ (y 0).val < q + 1 := h1
  omega

/-- A load of part `q` takes that part's places. -/
theorem load (q : Fin P) (inb) (X : (Block P R C).Idx → Elt Ideal .f32) (j : (Block 1 R C).Idx) :
    View.ld (Val := Elt Ideal) (S := Block P R C) (e' := .f32) X (Rect.unit ![q.val, 0, 0] ![1, R, C] inb) j = X (ValueIdx.ix3 q (j 1) (j 2)) :=
  congrArg X (funext fun a => match a with
    | 0 => Fin.ext (by show q.val + 1 * (j 0).val = q.val; have : (j 0).val < 1 := (j 0).isLt; omega)
    | 1 => Fin.ext (by show 0 + 1 * (j 1).val = (j 1).val; omega)
    | 2 => Fin.ext (by show 0 + 1 * (j 2).val = (j 2).val; omega))

/-- A store of the whole block is had back at every place. -/
theorem full (inb) (w : (Block P R C).Idx → Elt Ideal .f32) (y : (Block P R C).Idx) :
    View.canon [(⟨Rect.unit ![0, 0, 0] ![P, R, C] inb, w⟩ : View.Piece (Elt Ideal) (Block P R C) .f32)] y = w y := by
  have e1 : y = (Rect.unit (s := Block P R C) ![0, 0, 0] ![P, R, C] inb).emb y := by
    funext a
    match a with
    | 0 => exact Fin.ext (by rw [ValueKit.rect_emb_unit_val]; show (y 0).val = 0 + (y 0).val; omega)
    | 1 => exact Fin.ext (by rw [ValueKit.rect_emb_unit_val]; show (y 1).val = 0 + (y 1).val; omega)
    | 2 => exact Fin.ext (by rw [ValueKit.rect_emb_unit_val]; show (y 2).val = 0 + (y 2).val; omega)
  conv_lhs => rw [e1]
  rw [View.canon_cons_emb]

theorem ix3_q (q : Fin P) (y : (Block P R C).Idx) (h : (y 0).val = q.val) : ValueIdx.ix3 q (y 1) (y 2) = y :=
  funext fun a => match a with
    | 0 => Fin.ext h.symm
    | 1 => rfl
    | 2 => rfl

/-! ## Four parts of 256 rows -/

/-- Place `x` of quarter `q` of 1024. -/
def quarter (q : Fin 4) (x : Fin 256) : Fin 1024 := ⟨q.val * 256 + x.val, by omega⟩

theorem four (y : (Block 4 256 1024).Idx) : (y 0).val = 0 ∨ (y 0).val = 1 ∨ (y 0).val = 2 ∨ (y 0).val = 3 := by
  have h : (y 0).val < 4 := (y 0).isLt
  omega

/-- The store of gradients after a call: in its 256 rows from `o` on the product of all `n` rows, elsewhere what it held. -/
def stored {n : ℕ} (o : ℕ) (a b : (⟨2, ![n, 1024]⟩ : Shape).Idx → EReal) (x : (Block 4 8192 1024).Idx → EReal) (i : (Block 4 8192 1024).Idx) : EReal :=
  if h : o ≤ (i 1).val ∧ (i 1).val < o + 256 then
    ∑ s : Fin n, a (ValueIdx.ix2 s (quarter (i 0) (⟨(i 1).val - o, by omega⟩ : Fin 256))) * b (ValueIdx.ix2 s (i 2))
  else x i

/-- The block of the four quarters' products is the store's at those rows. -/
theorem stored_block {n : ℕ} (o : ℕ) (a b : (⟨2, ![n, 1024]⟩ : Shape).Idx → EReal) (x : (Block 4 8192 1024).Idx → EReal)
    (y : (Block 4 256 1024).Idx) (i : (Block 4 8192 1024).Idx) (h0 : (i 0).val = (y 0).val) (h1 : (i 1).val = o + (y 1).val)
    (h2 : (i 2).val = (y 2).val) :
    ∑ s : Fin n, a (ValueIdx.ix2 s (quarter (y 0) (y 1))) * b (ValueIdx.ix2 s (y 2)) = stored o a b x i := by
  have hy : (y 1).val < 256 := (y 1).isLt
  unfold stored
  rw [dif_pos (by omega)]
  refine Finset.sum_congr rfl fun s _ => ?_
  have e1 : (⟨(i 1).val - o, by omega⟩ : Fin 256) = y 1 := Fin.ext (by show (i 1).val - o = (y 1).val; omega)
  have e0 : i 0 = y 0 := Fin.ext h0
  have e2 : i 2 = y 2 := Fin.ext h2
  rw [e1, e2, e0]

end Cert.Parts

end
-- ==== Proof.Wgrad3.lean ====
/- The gradient of the first weight of the squared-ReLU layer, as the call leaves it in its block of the store of gradients: each
   point adds the product of its 1024 rows, and the eight points of a block add up to the product of all rows. -/
module

public import proofs.«01_k».proof.Proof.Parts
public import proofs.«01_k».proof.Proof.Gen.Kernel3Ideal.Value
public import proofs.«01_k».proof.Proof.Gen.Reference3Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel3Ideal.Gen

open Cert.Kernel3Ideal Cert.Kernel3Ideal.Gen Idealize.ShloMosaic Idealize.ShloMosaic.TcCoe Idealize.SL.Sem Cert.Chunks Cert.Parts

/-- Place `x` of half `h` of 2048. -/
def half (h : Fin 2) (x : Fin 1024) : Fin 2048 := ⟨h.val * 1024 + x.val, by omega⟩
/-- Place `x` of shard `s` (of four, counted around) of 4096. -/
def shard (s : ℕ) (x : Fin 1024) : Fin 4096 := ⟨s % 4 * 1024 + x.val, by omega⟩
/-- Place `x` of the 2048 that a point takes of 4096. -/
def wide (t : Fin cfg0.N) (x : Fin 2048) : Fin 4096 := ⟨t.val / 8 * 2048 + x.val, by have h := t.isLt; have : cfg0.N = 16 := rfl; omega⟩

theorem shard_wide (t : Fin cfg0.N) (h : Fin 2) (x : Fin 1024) : wide t (half h x) = shard (t.val / 8 * 2 + h.val) x :=
  Fin.ext (by
    have ht := t.isLt
    have : cfg0.N = 16 := rfl
    show t.val / 8 * 2048 + (h.val * 1024 + x.val) = (t.val / 8 * 2 + h.val) % 4 * 1024 + x.val
    omega)

theorem idx (t : Fin cfg0.N) : (win0_0.index t 0 = t.val % 8 ∧ win0_0.index t 1 = 0) ∧ (win0_1.index t 0 = t.val % 8 ∧ win0_1.index t 1 = t.val / 8) ∧ (win0_2.index t 0 = t.val / 8 ∧ win0_2.index t 1 = 4 ∧ win0_2.index t 2 = 0) :=
  (by decide +kernel : ∀ t : Fin grid0.N, (win0_0.index t 0 = t.val % 8 ∧ win0_0.index t 1 = 0) ∧ (win0_1.index t 0 = t.val % 8 ∧ win0_1.index t 1 = t.val / 8) ∧ (win0_2.index t 0 = t.val / 8 ∧ win0_2.index t 1 = 4 ∧ win0_2.index t 2 = 0)) t

/-! ## One point's product and additions -/

theorem prod (a : S1024x1024.Idx → EReal) (g : S1024x2048.Idx → EReal) (i : S1024x2048.Idx) :
    k0_pay1 (F := Ideal) a g i = ∑ l : Fin 1024, a (ValueIdx.ix2 l (i 0)) * g (ValueIdx.ix2 l (i 1)) := by
  unfold k0_pay1
  pointwise
  rfl

theorem add0 (a : S1024x1024.Idx → EReal) (g : S1024x2048.Idx → EReal) (p : S1x1024x1024.Idx → EReal) (j : S1x1024x1024.Idx) :
    k0_pay3 (F := Ideal) a g p j = p j + ∑ l : Fin 1024, a (ValueIdx.ix2 l (j 1)) * g (ValueIdx.ix2 l (half 0 (j 2))) := by
  unfold k0_pay3
  pointwise
  rw [show (⟨(j 2).val, Nat.lt_of_lt_of_le (j 2).isLt (by decide)⟩ : Fin 2048) = half 0 (j 2) from Fin.ext (by show (j 2).val = 0 * 1024 + (j 2).val; omega), prod]
  rfl

theorem add1 (a : S1024x1024.Idx → EReal) (g : S1024x2048.Idx → EReal) (p : S1x1024x1024.Idx → EReal) (j : S1x1024x1024.Idx) :
    k0_pay4 (F := Ideal) a g p j = p j + ∑ l : Fin 1024, a (ValueIdx.ix2 l (j 1)) * g (ValueIdx.ix2 l (half 1 (j 2))) := by
  unfold k0_pay4
  pointwise
  rw [prod]
  rfl

/-- The block after a fresh start is zero before the additions. -/
theorem fresh (y : S2x1024x1024.Idx) :
    View.canon [(⟨Rect.unit ![0, 0, 0] ![2, 1024, 1024] inb_S2x1024x1024_S2x1024x1024_0_0_0, k0_pay2 (F := Ideal)⟩ : View.Piece (Elt Ideal) S2x1024x1024 .f32)] y = 0 := by
  refine (full _ _ y).trans ?_
  unfold k0_pay2
  pointwise

variable {m : (ℓ : Loc nD τ sig) → Buf (Elt Ideal) ℓ} {c : Dev nD} (t : Fin cfg0.N)

variable (m c) in
/-- The first argument. -/
def a0 : S8192x1024.Idx → EReal := m (c.tc.loc main_arg0)
variable (m c) in
/-- The second argument. -/
def a1 : S8192x4096.Idx → EReal := m (c.tc.loc main_arg1)

variable (m c) in
/-- The block of the first argument that a point reads. -/
def b0 : S1024x1024.Idx → EReal := iblk m c 0 t
variable (m c) in
/-- The block of the second argument that a point reads. -/
def b1 : S1024x2048.Idx → EReal := iblk m c 1 t

theorem blk0 (i : S1024x1024.Idx) : b0 m c t i = a0 m c (ValueIdx.ix2 (row8 t.val (i 0)) (i 1)) := by
  show iblk m c 0 t i = _
  have e : iblk m c 0 t i = (V m c main_arg0 : (⟨S8192x1024, .f32⟩ : BufTy).Contents (Elt Ideal)) (ValueIdx.ix2 (row8 t.val (i 0)) (i 1)) := by
    blk_ext [iblk, idx t, row8, wide]
  rw [e, V_main_arg0]
  rfl

theorem blk1 (i : S1024x2048.Idx) : b1 m c t i = a1 m c (ValueIdx.ix2 (row8 t.val (i 0)) (wide t (i 1))) := by
  show iblk m c 1 t i = _
  have e : iblk m c 1 t i = (V m c main_arg1 : (⟨S8192x4096, .bf16⟩ : BufTy).Contents (Elt Ideal)) (ValueIdx.ix2 (row8 t.val (i 0)) (wide t (i 1))) := by
    blk_ext [iblk, idx t, row8, wide]
  rw [e, V_main_arg1]
  rfl

variable (m c) in
/-- What row `s` of the arguments adds to place `y` of the block of points `8 q` to `8 q + 7`. -/
def term (q : ℕ) (y : S2x1024x1024.Idx) : Fin 8192 → EReal :=
  fun s => a0 m c (ValueIdx.ix2 s (y 1)) * a1 m c (ValueIdx.ix2 s (shard (q * 2 + (y 0).val) (y 2)))

theorem term0 (y : S2x1024x1024.Idx) (h : (y 0).val = 0) (l : Fin 1024) :
    b0 m c t (ValueIdx.ix2 l (y 1)) * b1 m c t (ValueIdx.ix2 l (half 0 (y 2))) = term m c (t.val / 8) y (row8 t.val l) := by
  rw [blk0, blk1]
  unfold term
  rw [h]
  exact congrArg (fun z => a0 m c (ValueIdx.ix2 (row8 t.val l) (y 1)) * a1 m c (ValueIdx.ix2 (row8 t.val l) z)) (shard_wide t 0 (y 2))

theorem term1 (y : S2x1024x1024.Idx) (h : (y 0).val = 1) (l : Fin 1024) :
    b0 m c t (ValueIdx.ix2 l (y 1)) * b1 m c t (ValueIdx.ix2 l (half 1 (y 2))) = term m c (t.val / 8) y (row8 t.val l) := by
  rw [blk0, blk1]
  unfold term
  rw [h]
  exact congrArg (fun z => a0 m c (ValueIdx.ix2 (row8 t.val l) (y 1)) * a1 m c (ValueIdx.ix2 (row8 t.val l) z)) (shard_wide t 1 (y 2))

theorem two (y : S2x1024x1024.Idx) : (y 0).val = 0 ∨ (y 0).val = 1 := by
  have h : (y 0).val < 2 := (y 0).isLt
  omega

theorem out_A (h0 : t.val % 8 = 0) (y : S2x1024x1024.Idx) :
    outsAt0 m c t.val t.isLt y = 0 + ∑ l, term m c (t.val / 8) y (row8 t.val l) := by
  rw [outsAt0_A m c t h0]
  frame_out
  simp only [View.readCov_eq_canon']
  rcases two y with h | h
  · rw [miss 1 _ _ _ _ (by omega), hit 0 _ _ _ _ h]
    refine (add0 (b0 m c t) (b1 m c t) _ _).trans ?_
    refine congrArg₂ (· + ·) ?_ (Finset.sum_congr rfl fun l _ => term0 t y h l)
    exact (load 0 _ _ _).trans (fresh _)
  · rw [hit 1 _ _ _ _ h]
    refine (add1 (b0 m c t) (b1 m c t) _ _).trans ?_
    refine congrArg₂ (· + ·) ?_ (Finset.sum_congr rfl fun l _ => term1 t y h l)
    refine (load 1 _ _ _).trans ((miss 0 _ _ _ _ ?_).trans (fresh _))
    show (1 : ℕ) ≠ 0
    decide

theorem out_B (h0 : ¬t.val % 8 = 0) (y : S2x1024x1024.Idx) :
    outsAt0 m c t.val t.isLt y
      = outsAt0 m c (t.val - 1) (Nat.lt_of_le_of_lt (Nat.sub_le _ _) t.isLt) y + ∑ l, term m c (t.val / 8) y (row8 t.val l) := by
  rw [outsAt0_B m c t h0]
  frame_out
  rcases two y with h | h
  · rw [miss 1 _ _ _ _ (by omega), hit 0 _ _ _ _ h]
    refine (add0 (b0 m c t) (b1 m c t) _ _).trans ?_
    refine congrArg₂ (· + ·) ?_ (Finset.sum_congr rfl fun l _ => term0 t y h l)
    exact (load 0 _ _ _).trans (congrArg _ (ix3_q 0 y h))
  · rw [hit 1 _ _ _ _ h]
    refine (add1 (b0 m c t) (b1 m c t) _ _).trans ?_
    refine congrArg₂ (· + ·) ?_ (Finset.sum_congr rfl fun l _ => term1 t y h l)
    exact (load 1 _ _ _).trans (congrArg _ (ix3_q 1 y h))

/-- What the last point of a block leaves in it. -/
theorem out_last (h7 : t.val % 8 = 7) (y : S2x1024x1024.Idx) : outsAt0 m c t.val t.isLt y = ∑ s, term m c (t.val / 8) y s :=
  total8 (fun n h => outsAt0 m c n h) (fun q y => term m c q y) (fun n h h0 y => out_A ⟨n, h⟩ h0 y) (fun n h h0 y => out_B ⟨n, h⟩ h0 y) t.val t.isLt h7 y

/-! ## The whole array -/

variable (m c) in
/-- What the store of gradients holds after the call: in its rows from 4096 on the product of all rows, elsewhere what it held. -/
def result (i : S4x8192x1024.Idx) : EReal :=
  if h : 4096 ≤ (i 1).val ∧ (i 1).val < 5120 then
    ∑ s : Fin 8192, a0 m c (ValueIdx.ix2 s (⟨(i 1).val - 4096, by omega⟩ : Fin 1024)) * a1 m c (ValueIdx.ix2 s (shard (i 0).val (i 2)))
  else (m (c.tc.loc main_arg2) : S4x8192x1024.Idx → EReal) i

theorem whole (y : S2x1024x1024.Idx) (i : S4x8192x1024.Idx) (h0 : (i 0).val = t.val / 8 * 2 + (y 0).val) (h1 : (i 1).val = 4096 + (y 1).val)
    (h2 : (i 2).val = (y 2).val) : ∑ s, term m c (t.val / 8) y s = result m c i := by
  have hy : (y 1).val < 1024 := (y 1).isLt
  unfold result
  rw [dif_pos (by omega)]
  refine Finset.sum_congr rfl fun s _ => ?_
  unfold term
  have e1 : (⟨(i 1).val - 4096, by omega⟩ : Fin 1024) = y 1 := Fin.ext (by show (i 1).val - 4096 = (y 1).val; omega)
  have e2 : i 2 = y 2 := Fin.ext h2
  rw [e1, e2, h0]

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 4) (by decide +kernel) (fun t hf y => ?_) (fun j hj => ?_)
  · rw [after0_2, out_last t ((flush0_2 t).mp hf), cast_eq]
    refine whole t _ _ ?_ ?_ ?_
    · blk_simp [idx t]
    · blk_simp [idx t]
    · blk_simp [idx t]
  · rw [A_eq]
    refine (entry j).trans ?_
    have h1 : ¬(j 1).val / 1024 = 4 := hj
    show _ = result m c j
    unfold result
    rw [dif_neg (by omega)]

open Cert.Reference3Ideal.Read in
theorem reference (i : S4x8192x1024.Idx) : val_main_v9 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result val_main_v9
  pointwise
  by_cases hlo : (i 1).val < 4096
  · rw [dif_pos hlo, dif_neg (by omega), val_main_v7_apply]
    exact congrArg (m (c.tc.loc main_arg2) : S4x8192x1024.Idx → EReal) (funext fun a => match a with
      | 0 => rfl
      | 1 => rfl
      | 2 => rfl)
  · rw [dif_neg hlo]
    by_cases hm : (i 1).val - 4096 < 1024
    · rw [dif_pos hm, dif_pos (by omega), val_main_v6_apply, val_main_v5_apply, val_main_v4_apply, val_main_v3_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 1).val - 4096) * 4 + (i 0).val) * 1024 + (i 2).val) / 4096 = (i 1).val - 4096
          omega
      · refine funext (Chunks.on_two ?_ ?_)
        · rfl
        · refine Fin.ext ?_
          show ((((i 1).val - 4096) * 4 + (i 0).val) * 1024 + (i 2).val) % 4096 = (i 0).val % 4 * 1024 + (i 2).val
          omega
    · rw [dif_neg hm, dif_neg (by omega), val_main_v8_apply]
      refine congrArg (m (c.tc.loc main_arg2) : S4x8192x1024.Idx → EReal) (funext (Chunks.on_three ?_ ?_ ?_))
      · rfl
      · refine Fin.ext ?_
        show 5120 + ((i 1).val - 4096 - 1024) = (i 1).val
        omega
      · rfl

end Cert.Kernel3Ideal.Gen

end
-- ==== Proof.Wgrad4.lean ====
/- The gradient of the second weight of the squared-ReLU layer, as the call leaves it in its block of the store of gradients: each
   point adds the product of its 1024 rows, and the eight points of a block add up to the product of all rows. -/
module

public import proofs.«01_k».proof.Proof.Parts
public import proofs.«01_k».proof.Proof.Gen.Kernel4Ideal.Value
public import proofs.«01_k».proof.Proof.Gen.Reference4Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel4Ideal.Gen

open Cert.Kernel4Ideal Cert.Kernel4Ideal.Gen Idealize.ShloMosaic Idealize.ShloMosaic.TcCoe Idealize.SL.Sem Cert.Chunks Cert.Parts

/-- Place `x` of half `h` of 2048. -/
def half (h : Fin 2) (x : Fin 1024) : Fin 2048 := ⟨h.val * 1024 + x.val, by omega⟩
/-- Place `x` of shard `s` (of four, counted around) of 4096. -/
def shard (s : ℕ) (x : Fin 1024) : Fin 4096 := ⟨s % 4 * 1024 + x.val, by omega⟩
/-- Place `x` of the 2048 that a point takes of 4096. -/
def wide (t : Fin cfg0.N) (x : Fin 2048) : Fin 4096 := ⟨t.val / 8 * 2048 + x.val, by have h := t.isLt; have : cfg0.N = 16 := rfl; omega⟩

theorem shard_wide (t : Fin cfg0.N) (h : Fin 2) (x : Fin 1024) : wide t (half h x) = shard (t.val / 8 * 2 + h.val) x :=
  Fin.ext (by
    have ht := t.isLt
    have : cfg0.N = 16 := rfl
    show t.val / 8 * 2048 + (h.val * 1024 + x.val) = (t.val / 8 * 2 + h.val) % 4 * 1024 + x.val
    omega)

theorem idx (t : Fin cfg0.N) : (win0_0.index t 0 = t.val % 8 ∧ win0_0.index t 1 = t.val / 8) ∧ (win0_1.index t 0 = t.val % 8 ∧ win0_1.index t 1 = 0) ∧ (win0_2.index t 0 = t.val / 8 ∧ win0_2.index t 1 = 5 ∧ win0_2.index t 2 = 0) :=
  (by decide +kernel : ∀ t : Fin grid0.N, (win0_0.index t 0 = t.val % 8 ∧ win0_0.index t 1 = t.val / 8) ∧ (win0_1.index t 0 = t.val % 8 ∧ win0_1.index t 1 = 0) ∧ (win0_2.index t 0 = t.val / 8 ∧ win0_2.index t 1 = 5 ∧ win0_2.index t 2 = 0)) t

/-! ## One point's product and additions -/

theorem prod (a : S1024x2048.Idx → EReal) (g : S1024x1024.Idx → EReal) (i : S2048x1024.Idx) :
    k0_pay1 (F := Ideal) a g i = ∑ l : Fin 1024, a (ValueIdx.ix2 l (i 0)) * g (ValueIdx.ix2 l (i 1)) := by
  unfold k0_pay1
  pointwise
  rfl

theorem add0 (a : S1024x2048.Idx → EReal) (g : S1024x1024.Idx → EReal) (p : S1x1024x1024.Idx → EReal) (j : S1x1024x1024.Idx) :
    k0_pay3 (F := Ideal) a g p j = p j + ∑ l : Fin 1024, a (ValueIdx.ix2 l (half 0 (j 1))) * g (ValueIdx.ix2 l (j 2)) := by
  unfold k0_pay3
  pointwise
  rw [show (⟨(j 1).val, Nat.lt_of_lt_of_le (j 1).isLt (by decide)⟩ : Fin 2048) = half 0 (j 1) from Fin.ext (by show (j 1).val = 0 * 1024 + (j 1).val; omega), prod]
  rfl

theorem add1 (a : S1024x2048.Idx → EReal) (g : S1024x1024.Idx → EReal) (p : S1x1024x1024.Idx → EReal) (j : S1x1024x1024.Idx) :
    k0_pay4 (F := Ideal) a g p j = p j + ∑ l : Fin 1024, a (ValueIdx.ix2 l (half 1 (j 1))) * g (ValueIdx.ix2 l (j 2)) := by
  unfold k0_pay4
  pointwise
  rw [prod]
  rfl

/-- The block after a fresh start is zero before the additions. -/
theorem fresh (y : S2x1024x1024.Idx) :
    View.canon [(⟨Rect.unit ![0, 0, 0] ![2, 1024, 1024] inb_S2x1024x1024_S2x1024x1024_0_0_0, k0_pay2 (F := Ideal)⟩ : View.Piece (Elt Ideal) S2x1024x1024 .f32)] y = 0 := by
  refine (full _ _ y).trans ?_
  unfold k0_pay2
  pointwise

variable {m : (ℓ : Loc nD τ sig) → Buf (Elt Ideal) ℓ} {c : Dev nD} (t : Fin cfg0.N)

variable (m c) in
/-- The first argument. -/
def a0 : S8192x4096.Idx → EReal := m (c.tc.loc main_arg0)
variable (m c) in
/-- The second argument. -/
def a1 : S8192x1024.Idx → EReal := m (c.tc.loc main_arg1)

variable (m c) in
/-- The block of the first argument that a point reads. -/
def b0 : S1024x2048.Idx → EReal := iblk m c 0 t
variable (m c) in
/-- The block of the second argument that a point reads. -/
def b1 : S1024x1024.Idx → EReal := iblk m c 1 t

theorem blk0 (i : S1024x2048.Idx) : b0 m c t i = a0 m c (ValueIdx.ix2 (row8 t.val (i 0)) (wide t (i 1))) := by
  show iblk m c 0 t i = _
  have e : iblk m c 0 t i = (V m c main_arg0 : (⟨S8192x4096, .bf16⟩ : BufTy).Contents (Elt Ideal)) (ValueIdx.ix2 (row8 t.val (i 0)) (wide t (i 1))) := by
    blk_ext [iblk, idx t, row8, wide]
  rw [e, V_main_arg0]
  rfl

theorem blk1 (i : S1024x1024.Idx) : b1 m c t i = a1 m c (ValueIdx.ix2 (row8 t.val (i 0)) (i 1)) := by
  show iblk m c 1 t i = _
  have e : iblk m c 1 t i = (V m c main_arg1 : (⟨S8192x1024, .bf16⟩ : BufTy).Contents (Elt Ideal)) (ValueIdx.ix2 (row8 t.val (i 0)) (i 1)) := by
    blk_ext [iblk, idx t, row8, wide]
  rw [e, V_main_arg1]
  rfl

variable (m c) in
/-- What row `s` of the arguments adds to place `y` of the block of points `8 q` to `8 q + 7`. -/
def term (q : ℕ) (y : S2x1024x1024.Idx) : Fin 8192 → EReal :=
  fun s => a0 m c (ValueIdx.ix2 s (shard (q * 2 + (y 0).val) (y 1))) * a1 m c (ValueIdx.ix2 s (y 2))

theorem term0 (y : S2x1024x1024.Idx) (h : (y 0).val = 0) (l : Fin 1024) :
    b0 m c t (ValueIdx.ix2 l (half 0 (y 1))) * b1 m c t (ValueIdx.ix2 l (y 2)) = term m c (t.val / 8) y (row8 t.val l) := by
  rw [blk0, blk1]
  unfold term
  rw [h]
  exact congrArg (fun z => a0 m c (ValueIdx.ix2 (row8 t.val l) z) * a1 m c (ValueIdx.ix2 (row8 t.val l) (y 2))) (shard_wide t 0 (y 1))

theorem term1 (y : S2x1024x1024.Idx) (h : (y 0).val = 1) (l : Fin 1024) :
    b0 m c t (ValueIdx.ix2 l (half 1 (y 1))) * b1 m c t (ValueIdx.ix2 l (y 2)) = term m c (t.val / 8) y (row8 t.val l) := by
  rw [blk0, blk1]
  unfold term
  rw [h]
  exact congrArg (fun z => a0 m c (ValueIdx.ix2 (row8 t.val l) z) * a1 m c (ValueIdx.ix2 (row8 t.val l) (y 2))) (shard_wide t 1 (y 1))

theorem two (y : S2x1024x1024.Idx) : (y 0).val = 0 ∨ (y 0).val = 1 := by
  have h : (y 0).val < 2 := (y 0).isLt
  omega

theorem out_A (h0 : t.val % 8 = 0) (y : S2x1024x1024.Idx) :
    outsAt0 m c t.val t.isLt y = 0 + ∑ l, term m c (t.val / 8) y (row8 t.val l) := by
  rw [outsAt0_A m c t h0]
  frame_out
  simp only [View.readCov_eq_canon']
  rcases two y with h | h
  · rw [miss 1 _ _ _ _ (by omega), hit 0 _ _ _ _ h]
    refine (add0 (b0 m c t) (b1 m c t) _ _).trans ?_
    refine congrArg₂ (· + ·) ?_ (Finset.sum_congr rfl fun l _ => term0 t y h l)
    exact (load 0 _ _ _).trans (fresh _)
  · rw [hit 1 _ _ _ _ h]
    refine (add1 (b0 m c t) (b1 m c t) _ _).trans ?_
    refine congrArg₂ (· + ·) ?_ (Finset.sum_congr rfl fun l _ => term1 t y h l)
    refine (load 1 _ _ _).trans ((miss 0 _ _ _ _ ?_).trans (fresh _))
    show (1 : ℕ) ≠ 0
    decide

theorem out_B (h0 : ¬t.val % 8 = 0) (y : S2x1024x1024.Idx) :
    outsAt0 m c t.val t.isLt y
      = outsAt0 m c (t.val - 1) (Nat.lt_of_le_of_lt (Nat.sub_le _ _) t.isLt) y + ∑ l, term m c (t.val / 8) y (row8 t.val l) := by
  rw [outsAt0_B m c t h0]
  frame_out
  rcases two y with h | h
  · rw [miss 1 _ _ _ _ (by omega), hit 0 _ _ _ _ h]
    refine (add0 (b0 m c t) (b1 m c t) _ _).trans ?_
    refine congrArg₂ (· + ·) ?_ (Finset.sum_congr rfl fun l _ => term0 t y h l)
    exact (load 0 _ _ _).trans (congrArg _ (ix3_q 0 y h))
  · rw [hit 1 _ _ _ _ h]
    refine (add1 (b0 m c t) (b1 m c t) _ _).trans ?_
    refine congrArg₂ (· + ·) ?_ (Finset.sum_congr rfl fun l _ => term1 t y h l)
    exact (load 1 _ _ _).trans (congrArg _ (ix3_q 1 y h))

/-- What the last point of a block leaves in it. -/
theorem out_last (h7 : t.val % 8 = 7) (y : S2x1024x1024.Idx) : outsAt0 m c t.val t.isLt y = ∑ s, term m c (t.val / 8) y s :=
  total8 (fun n h => outsAt0 m c n h) (fun q y => term m c q y) (fun n h h0 y => out_A ⟨n, h⟩ h0 y) (fun n h h0 y => out_B ⟨n, h⟩ h0 y) t.val t.isLt h7 y

/-! ## The whole array -/

variable (m c) in
/-- What the store of gradients holds after the call: in its rows from 5120 on the product of all rows, elsewhere what it held. -/
def result (i : S4x8192x1024.Idx) : EReal :=
  if h : 5120 ≤ (i 1).val ∧ (i 1).val < 6144 then
    ∑ s : Fin 8192, a0 m c (ValueIdx.ix2 s (shard (i 0).val (⟨(i 1).val - 5120, by omega⟩ : Fin 1024))) * a1 m c (ValueIdx.ix2 s (i 2))
  else (m (c.tc.loc main_arg2) : S4x8192x1024.Idx → EReal) i

theorem whole (y : S2x1024x1024.Idx) (i : S4x8192x1024.Idx) (h0 : (i 0).val = t.val / 8 * 2 + (y 0).val) (h1 : (i 1).val = 5120 + (y 1).val)
    (h2 : (i 2).val = (y 2).val) : ∑ s, term m c (t.val / 8) y s = result m c i := by
  have hy : (y 1).val < 1024 := (y 1).isLt
  unfold result
  rw [dif_pos (by omega)]
  refine Finset.sum_congr rfl fun s _ => ?_
  unfold term
  have e1 : (⟨(i 1).val - 5120, by omega⟩ : Fin 1024) = y 1 := Fin.ext (by show (i 1).val - 5120 = (y 1).val; omega)
  have e2 : i 2 = y 2 := Fin.ext h2
  rw [e1, e2, h0]

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 5) (by decide +kernel) (fun t hf y => ?_) (fun j hj => ?_)
  · rw [after0_2, out_last t ((flush0_2 t).mp hf), cast_eq]
    refine whole t _ _ ?_ ?_ ?_
    · blk_simp [idx t]
    · blk_simp [idx t]
    · blk_simp [idx t]
  · rw [A_eq]
    refine (entry j).trans ?_
    have h1 : ¬(j 1).val / 1024 = 5 := hj
    show _ = result m c j
    unfold result
    rw [dif_neg (by omega)]

open Cert.Reference4Ideal.Read in
theorem reference (i : S4x8192x1024.Idx) : val_main_v9 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result val_main_v9
  pointwise
  by_cases hlo : (i 1).val < 5120
  · rw [dif_pos hlo, dif_neg (by omega), val_main_v6_apply]
    exact congrArg (m (c.tc.loc main_arg2) : S4x8192x1024.Idx → EReal) (funext fun a => match a with
      | 0 => rfl
      | 1 => rfl
      | 2 => rfl)
  · rw [dif_neg hlo]
    by_cases hm : (i 1).val - 5120 < 1024
    · rw [dif_pos hm, dif_pos (by omega), val_main_v7_apply, val_main_v5_apply, val_main_v4_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 0).val * 1024) + ((i 1).val - 5120)) * 1024 + (i 2).val) / 1024 = (i 0).val % 4 * 1024 + ((i 1).val - 5120)
          omega
      · refine funext (Chunks.on_two ?_ ?_)
        · rfl
        · refine Fin.ext ?_
          show ((((i 0).val * 1024) + ((i 1).val - 5120)) * 1024 + (i 2).val) % 1024 = (i 2).val
          omega
    · rw [dif_neg hm, dif_neg (by omega), val_main_v8_apply]
      refine congrArg (m (c.tc.loc main_arg2) : S4x8192x1024.Idx → EReal) (funext (Chunks.on_three ?_ ?_ ?_))
      · rfl
      · refine Fin.ext ?_
        show 6144 + ((i 1).val - 5120 - 1024) = (i 1).val
        omega
      · rfl

end Cert.Kernel4Ideal.Gen

end
-- ==== Proof.Host5.lean ====
/- What the host lines of the output projection's gradient leave in its arrays: the normed row, its reciprocal deviation, and the
   arguments. -/
module

public import proofs.«01_k».proof.Proof.Gen.Kernel5Ideal.Value
public import proofs.«01_k».proof.Proof.Gen.Reference5Ideal.Read
public import proofs.«01_k».proof.Proof.RealStep
public import Idealize.ShloMosaic.Lib.StableHlo.ReadAt
public import Idealize.ShloMosaic.Lib.StableHlo.RunRead

@[expose] public section

noncomputable section

namespace Cert.Kernel5Ideal.Gen

open Cert.Kernel5Ideal Cert.Kernel5Ideal.Gen Idealize.ShloMosaic Idealize.ShloMosaic.TcCoe Idealize.SL.Sem

variable (m : (ℓ : Loc nD τ sig) → Buf (Elt Ideal) ℓ) (c : Dev nD)

open Cert.Reference5Ideal.Read in
/-- Adding the zero cotangent seed leaves the normed sum as it is. -/
theorem ref_v5 (x1 x2 x3) : val_main_v5 (F := Ideal) x1 x2 x3 = val_main_v4 x1 x2 x3 := by
  funext i
  rw [val_main_v5_apply, val_main_v0_apply]
  simp only [val_main_cst_apply, Ideal.ofBits_def, Ideal.addf_def, Cert.RealStep.ofBits_zero, EReal.coe_zero, add_zero]

/-- The reciprocal deviation handed to the call is the reference's. -/
theorem host_rstd : V m c main_v17 = Cert.Reference5Ideal.Read.val_main_v23 (F := Ideal) (m (c.tc.loc main_arg1)) (m (c.tc.loc main_arg2))
    (m (c.tc.loc main_arg3)) := by
  open Cert.Reference5Ideal.Read in
  unfold V
  after_reads_simp
  unfold val_main_v23 val_main_v22 val_main_v21 val_main_v18 val_main_v17 val_main_v16 val_main_v15 val_main_v12 val_main_v11 val_main_v10 val_main_v9 val_main_v8 val_main_v7 val_main_v6
  rw [ref_v5]
  unfold val_main_v4 val_main_v3 val_main_v2 val_main_v1
  rfl

/-- The normed row handed to the call is the reference's. -/
theorem host_xhat : V m c main_v21 = Cert.Reference5Ideal.Read.val_main_v28 (F := Ideal) (m (c.tc.loc main_arg1)) (m (c.tc.loc main_arg2))
    (m (c.tc.loc main_arg3)) := by
  open Cert.Reference5Ideal.Read in
  unfold V
  after_reads_simp
  unfold val_main_v28 val_main_v27 val_main_v20 val_main_v19 val_main_v23 val_main_v22 val_main_v21 val_main_v18 val_main_v17 val_main_v16 val_main_v15 val_main_v12 val_main_v11 val_main_v10 val_main_v9 val_main_v8 val_main_v7 val_main_v6
  rw [ref_v5]
  unfold val_main_v4 val_main_v3 val_main_v2 val_main_v1
  rfl

theorem host_g (i : S1x1024.Idx) : V m c main_v22 i = (m (c.tc.loc main_arg4) : (⟨S1024, .f32⟩ : BufTy).Contents (Elt Ideal)) (ValueIdx.ix1 (i 1)) := by
  unfold V
  after_reads_at
  rfl

theorem host_w : V m c main_v23 = m (c.tc.loc main_arg3) := by
  unfold V
  after_reads_simp
  rfl

end Cert.Kernel5Ideal.Gen

end
-- ==== Proof.OutpReal.lean ====
/- A layer's output projection and its gradient over the real numbers: 8192 rows of 1024, one product with a square weight, and
   what the kernel and the reference both compute of them. -/
module

public import proofs.«01_k».proof.Proof.RealStep

@[expose] public section

noncomputable section

namespace Cert.RealStep

/-- The layer's arguments as real numbers: the cotangent of its result, the mixer's output, the stream, the product's weight, and
    the norm's factor and offset. -/
structure Outp where
  dh : Fin 8192 → Fin 1024 → ℝ
  y : Fin 8192 → Fin 1024 → ℝ
  h : Fin 8192 → Fin 1024 → ℝ
  w : Fin 1024 → Fin 1024 → ℝ
  g : Fin 1024 → ℝ
  b : Fin 1024 → ℝ

namespace Outp

variable (D : Outp)

/-- The sum that is normed. -/
def r (t : Fin 8192) (d : Fin 1024) : ℝ := alpha * D.h t d + ∑ e, D.y t e * D.w e d
/-- The gradient at the normed sum. -/
def dr (t : Fin 8192) (d : Fin 1024) : ℝ := lnBack (D.r t) D.g (D.dh t) d
/-- The gradient at the stream. -/
def res (t : Fin 8192) (d : Fin 1024) : ℝ := alpha * D.dr t d
/-- The gradient at the mixer's output. -/
def dy (t : Fin 8192) (e : Fin 1024) : ℝ := ∑ d, D.dr t d * D.w e d
/-- The gradient at the norm's factor. -/
def dg (d : Fin 1024) : ℝ := ∑ t, D.dh t d * xhat (D.r t) d
/-- The gradient at the norm's offset. -/
def db (d : Fin 1024) : ℝ := ∑ t, D.dh t d

end Outp

end Cert.RealStep

end
-- ==== Proof.RefValue5.lean ====
/- The reference of the output projection's gradient read at an index, one operation after another: at real arguments each of its
   values is the real number the layer's mathematics names. -/
module

public import proofs.«01_k».proof.Proof.OutpReal
public import proofs.«01_k».proof.Proof.Gen.Reference5Ideal.Read
public import Idealize.ShloMosaic.Lib.Pointwise

@[expose] public section

noncomputable section

namespace Cert.RealStep.Outp

open Cert.Reference5Ideal Cert.Reference5Ideal.Gen Cert.Reference5Ideal.Read Idealize.ShloMosaic Idealize.ShloMosaic.ValueIdx

variable (D : Outp)

def x0 : (⟨S8192x1024, .f32⟩ : BufTy).Contents (Elt Ideal) := fun i => ((D.dh (i 0) (i 1) : ℝ) : EReal)
def x1 : (⟨S8192x1024, .f32⟩ : BufTy).Contents (Elt Ideal) := fun i => ((D.y (i 0) (i 1) : ℝ) : EReal)
def x2 : (⟨S8192x1024, .f32⟩ : BufTy).Contents (Elt Ideal) := fun i => ((D.h (i 0) (i 1) : ℝ) : EReal)
def x3 : (⟨S1024x1024, .f32⟩ : BufTy).Contents (Elt Ideal) := fun i => ((D.w (i 0) (i 1) : ℝ) : EReal)
def x4 : (⟨S1024, .f32⟩ : BufTy).Contents (Elt Ideal) := fun i => ((D.g (i 0) : ℝ) : EReal)
def x5 : (⟨S1024, .f32⟩ : BufTy).Contents (Elt Ideal) := fun i => ((D.b (i 0) : ℝ) : EReal)

theorem v2 (i : S8192x1024.Idx) : val_main_v2 (F := Ideal) D.x2 i = ((alpha * D.h (i 0) (i 1) : ℝ) : EReal) := by
  rw [val_main_v2_apply]
  simp only [val_main_v1_apply, val_main_cst_0_apply, ofBits_alpha, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v3 (i : S8192x1024.Idx) : val_main_v3 (F := Ideal) D.x1 D.x3 i = ((∑ e, D.y (i 0) e * D.w e (i 1) : ℝ) : EReal) := by
  rw [val_main_v3_apply]
  simp only [x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v4 (i : S8192x1024.Idx) : val_main_v4 (F := Ideal) D.x1 D.x2 D.x3 i = ((D.r (i 0) (i 1) : ℝ) : EReal) := by
  rw [val_main_v4_apply]
  simp only [v2, v3, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v5 (i : S8192x1024.Idx) : val_main_v5 (F := Ideal) D.x1 D.x2 D.x3 i = ((D.r (i 0) (i 1) : ℝ) : EReal) := by
  rw [val_main_v5_apply]
  simp only [v4, val_main_v0_apply, val_main_cst_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [add_zero]

theorem v6 (i : S8192.Idx) : val_main_v6 (F := Ideal) D.x1 D.x2 D.x3 i = ((∑ d, D.r (i 0) d : ℝ) : EReal) := by
  rw [val_main_v6_apply]
  simp only [v5, val_main_cst_1_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v7 (i : S8192x1.Idx) : val_main_v7 (F := Ideal) D.x1 D.x2 D.x3 i = ((∑ d, D.r (i 0) d : ℝ) : EReal) := by
  rw [val_main_v7_apply]
  simp only [v6, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v9 (i : S8192x1.Idx) : val_main_v9 (F := Ideal) D.x1 D.x2 D.x3 i = ((mean (D.r (i 0)) : ℝ) : EReal) := by
  rw [val_main_v9_apply]
  simp only [v7, val_main_v8_apply, val_main_cst_2_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v10 (i : S8192x1024.Idx) : val_main_v10 (F := Ideal) D.x1 D.x2 D.x3 i = ((mean (D.r (i 0)) : ℝ) : EReal) := by
  rw [val_main_v10_apply]
  simp only [v9, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v11 (i : S8192x1024.Idx) : val_main_v11 (F := Ideal) D.x1 D.x2 D.x3 i = ((cen (D.r (i 0)) (i 1) : ℝ) : EReal) := by
  rw [val_main_v11_apply]
  simp only [v5, v10, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v12 (i : S8192x1024.Idx) : val_main_v12 (F := Ideal) D.x1 D.x2 D.x3 i = ((cen (D.r (i 0)) (i 1) * cen (D.r (i 0)) (i 1) : ℝ) : EReal) := by
  rw [val_main_v12_apply]
  simp only [v11, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v14 (i : S8192x1024.Idx) : val_main_v14 (F := Ideal) D.x1 D.x2 D.x3 i = ((2 * cen (D.r (i 0)) (i 1) : ℝ) : EReal) := by
  rw [val_main_v14_apply]
  simp only [v11, val_main_v13_apply, val_main_cst_3_apply, ofBits_two, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v15 (i : S8192.Idx) : val_main_v15 (F := Ideal) D.x1 D.x2 D.x3 i = ((∑ d, cen (D.r (i 0)) d * cen (D.r (i 0)) d : ℝ) : EReal) := by
  rw [val_main_v15_apply]
  simp only [v12, val_main_cst_4_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v16 (i : S8192x1.Idx) : val_main_v16 (F := Ideal) D.x1 D.x2 D.x3 i = ((∑ d, cen (D.r (i 0)) d * cen (D.r (i 0)) d : ℝ) : EReal) := by
  rw [val_main_v16_apply]
  simp only [v15, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v18 (i : S8192x1.Idx) : val_main_v18 (F := Ideal) D.x1 D.x2 D.x3 i = ((var (D.r (i 0)) : ℝ) : EReal) := by
  rw [val_main_v18_apply]
  simp only [v16, val_main_v17_apply, val_main_cst_5_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v19 (i : S8192x1024.Idx) : val_main_v19 (F := Ideal) D.x1 D.x2 D.x3 i = ((mean (D.r (i 0)) : ℝ) : EReal) := by
  rw [val_main_v19_apply]
  simp only [v9, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v20 (i : S8192x1024.Idx) : val_main_v20 (F := Ideal) D.x1 D.x2 D.x3 i = ((cen (D.r (i 0)) (i 1) : ℝ) : EReal) := by
  rw [val_main_v20_apply]
  simp only [v5, v19, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v22 (i : S8192x1.Idx) : val_main_v22 (F := Ideal) D.x1 D.x2 D.x3 i = ((var (D.r (i 0)) + eps : ℝ) : EReal) := by
  rw [val_main_v22_apply]
  simp only [v18, val_main_v21_apply, val_main_cst_6_apply, ofBits_eps, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v23 (i : S8192x1.Idx) : val_main_v23 (F := Ideal) D.x1 D.x2 D.x3 i = ((rstd (D.r (i 0)) : ℝ) : EReal) := by
  rw [val_main_v23_apply]
  simp only [v22, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact rsqrt_real (var_eps_pos _)

theorem v24 (i : S8192x1.Idx) : val_main_v24 (F := Ideal) D.x1 D.x2 D.x3 i = ((rstd (D.r (i 0)) / (var (D.r (i 0)) + eps) : ℝ) : EReal) := by
  rw [val_main_v24_apply]
  simp only [v22, v23, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (var_eps_pos _).ne'

theorem v26 (i : S8192x1.Idx) : val_main_v26 (F := Ideal) D.x1 D.x2 D.x3 i = ((-(1 / 2) * (rstd (D.r (i 0)) / (var (D.r (i 0)) + eps)) : ℝ) : EReal) := by
  rw [val_main_v26_apply]
  simp only [v24, val_main_v25_apply, val_main_cst_7_apply, ofBits_neg_half, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v27 (i : S8192x1024.Idx) : val_main_v27 (F := Ideal) D.x1 D.x2 D.x3 i = ((rstd (D.r (i 0)) : ℝ) : EReal) := by
  rw [val_main_v27_apply]
  simp only [v23, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v28 (i : S8192x1024.Idx) : val_main_v28 (F := Ideal) D.x1 D.x2 D.x3 i = ((xhat (D.r (i 0)) (i 1) : ℝ) : EReal) := by
  rw [val_main_v28_apply]
  simp only [v20, v27, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v29 (i : S1x1024.Idx) : val_main_v29 (F := Ideal) D.x4 i = ((D.g (i 1) : ℝ) : EReal) := by
  rw [val_main_v29_apply]
  simp only [x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v30 (i : S8192x1024.Idx) : val_main_v30 (F := Ideal) D.x4 i = ((D.g (i 1) : ℝ) : EReal) := by
  rw [val_main_v30_apply]
  simp only [v29, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v35 (i : S8192x1024.Idx) : val_main_v35 (F := Ideal) D.x0 i = ((D.dh (i 0) (i 1) : ℝ) : EReal) := by
  rw [val_main_v35_apply, x0]
  refine congrArg Real.toEReal (congrArg₂ D.dh ?_ ?_)
  · exact Fin.ext (by have h0 : (i 0).val < 8192 := (i 0).isLt; have h1 : (i 1).val < 1024 := (i 1).isLt; show ((i 0).val * 1024 + (i 1).val) / 1024 = (i 0).val; omega)
  · exact Fin.ext (by have h0 : (i 0).val < 8192 := (i 0).isLt; have h1 : (i 1).val < 1024 := (i 1).isLt; show ((i 0).val * 1024 + (i 1).val) % 1024 = (i 1).val; omega)

theorem v36 (i : S1024.Idx) : val_main_v36 (F := Ideal) D.x0 i = ((D.db (i 0) : ℝ) : EReal) := by
  rw [val_main_v36_apply]
  simp only [val_main_cst_8_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v37 (i : S1x1024.Idx) : val_main_v37 (F := Ideal) D.x0 i = ((D.db (i 1) : ℝ) : EReal) := by
  rw [val_main_v37_apply, v36]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

theorem v38 (i : S1024.Idx) : val_main_v38 (F := Ideal) D.x0 i = ((D.db (i 0) : ℝ) : EReal) := by
  rw [val_main_v38_apply]
  simp only [v37, val_main_cst_9_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v39 (i : S8192x1024.Idx) : val_main_v39 (F := Ideal) D.x0 D.x1 D.x2 D.x3 i = ((xhat (D.r (i 0)) (i 1) * D.dh (i 0) (i 1) : ℝ) : EReal) := by
  rw [val_main_v39_apply]
  simp only [v28, v35, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v40 (i : S1024.Idx) : val_main_v40 (F := Ideal) D.x0 D.x1 D.x2 D.x3 i = ((D.dg (i 0) : ℝ) : EReal) := by
  rw [val_main_v40_apply]
  simp only [v39, val_main_cst_10_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (Finset.sum_congr rfl fun t _ => mul_comm _ _)

theorem v41 (i : S1x1024.Idx) : val_main_v41 (F := Ideal) D.x0 D.x1 D.x2 D.x3 i = ((D.dg (i 1) : ℝ) : EReal) := by
  rw [val_main_v41_apply, v40]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v42 (i : S8192x1024.Idx) : val_main_v42 (F := Ideal) D.x4 i = ((D.g (i 1) : ℝ) : EReal) := by
  rw [val_main_v42_apply]
  simp only [v29, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v43 (i : S8192x1024.Idx) : val_main_v43 (F := Ideal) D.x0 D.x4 i = ((D.dh (i 0) (i 1) * D.g (i 1) : ℝ) : EReal) := by
  rw [val_main_v43_apply]
  simp only [v35, v42, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v44 (i : S1024.Idx) : val_main_v44 (F := Ideal) D.x0 D.x1 D.x2 D.x3 i = ((D.dg (i 0) : ℝ) : EReal) := by
  rw [val_main_v44_apply]
  simp only [v41, val_main_cst_11_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v45 (i : S8192x1024.Idx) : val_main_v45 (F := Ideal) D.x0 D.x1 D.x2 D.x3 D.x4 i = ((cen (D.r (i 0)) (i 1) * (D.dh (i 0) (i 1) * D.g (i 1)) : ℝ) : EReal) := by
  rw [val_main_v45_apply]
  simp only [v20, v43, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v46 (i : S8192.Idx) : val_main_v46 (F := Ideal) D.x0 D.x1 D.x2 D.x3 D.x4 i = ((∑ e, cen (D.r (i 0)) e * (D.dh (i 0) e * D.g e) : ℝ) : EReal) := by
  rw [val_main_v46_apply]
  simp only [v45, val_main_cst_12_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v47 (i : S8192x1.Idx) : val_main_v47 (F := Ideal) D.x0 D.x1 D.x2 D.x3 D.x4 i = ((∑ e, cen (D.r (i 0)) e * (D.dh (i 0) e * D.g e) : ℝ) : EReal) := by
  rw [val_main_v47_apply, v46]
  have e0 : idx_main_v47 i 0 = i 0 := Fin.ext (by have h0 : (i 0).val < 8192 := (i 0).isLt; have h1 : (i 1).val < 1 := (i 1).isLt; show (i 0).val * 1 + (i 1).val = (i 0).val; omega)
  rw [e0]

theorem v48 (i : S8192x1024.Idx) : val_main_v48 (F := Ideal) D.x1 D.x2 D.x3 i = ((rstd (D.r (i 0)) : ℝ) : EReal) := by
  rw [val_main_v48_apply]
  simp only [v23, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v49 (i : S8192x1024.Idx) : val_main_v49 (F := Ideal) D.x0 D.x1 D.x2 D.x3 D.x4 i = ((D.dh (i 0) (i 1) * D.g (i 1) * rstd (D.r (i 0)) : ℝ) : EReal) := by
  rw [val_main_v49_apply]
  simp only [v43, v48, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v50 (i : S8192x1.Idx) : val_main_v50 (F := Ideal) D.x0 D.x1 D.x2 D.x3 D.x4 i = (((∑ e, cen (D.r (i 0)) e * (D.dh (i 0) e * D.g e)) * (-(1 / 2) * (rstd (D.r (i 0)) / (var (D.r (i 0)) + eps))) : ℝ) : EReal) := by
  rw [val_main_v50_apply]
  simp only [v47, v26, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v51 (i : S8192x1024.Idx) : val_main_v51 (F := Ideal) D.x0 D.x1 D.x2 D.x3 D.x4 i = ((-(D.dh (i 0) (i 1) * D.g (i 1) * rstd (D.r (i 0))) : ℝ) : EReal) := by
  rw [val_main_v51_apply]
  simp only [v49, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v52 (i : S8192.Idx) : val_main_v52 (F := Ideal) D.x0 D.x1 D.x2 D.x3 D.x4 i = ((∑ e, -(D.dh (i 0) e * D.g e * rstd (D.r (i 0))) : ℝ) : EReal) := by
  rw [val_main_v52_apply]
  simp only [v51, val_main_cst_13_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v53 (i : S8192x1.Idx) : val_main_v53 (F := Ideal) D.x0 D.x1 D.x2 D.x3 D.x4 i = ((∑ e, -(D.dh (i 0) e * D.g e * rstd (D.r (i 0))) : ℝ) : EReal) := by
  rw [val_main_v53_apply, v52]
  have e0 : idx_main_v53 i 0 = i 0 := Fin.ext (by have h0 : (i 0).val < 8192 := (i 0).isLt; have h1 : (i 1).val < 1 := (i 1).isLt; show (i 0).val * 1 + (i 1).val = (i 0).val; omega)
  rw [e0]

theorem v55 (i : S8192x1.Idx) : val_main_v55 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v55_apply]
  simp only [v50, val_main_v54_apply, val_main_cst_14_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v56 (i : S8192.Idx) : val_main_v56 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v56_apply]
  simp only [v55, val_main_cst_15_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v57 (i : S8192x1024.Idx) : val_main_v57 (F := Ideal) D.x0 D.x1 D.x2 D.x3 D.x4 i = (((∑ e, cen (D.r (i 0)) e * (D.dh (i 0) e * D.g e)) * (-(1 / 2) * (rstd (D.r (i 0)) / (var (D.r (i 0)) + eps))) / 1024 : ℝ) : EReal) := by
  rw [val_main_v57_apply]
  simp only [v56, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v58 (i : S8192x1024.Idx) : val_main_v58 (F := Ideal) D.x0 D.x1 D.x2 D.x3 D.x4 i = (((∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v58_apply]
  simp only [v57, v14, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v59 (i : S8192x1024.Idx) : val_main_v59 (F := Ideal) D.x0 D.x1 D.x2 D.x3 D.x4 i = ((-((∑ e, cen (D.r (i 0)) e * (D.dh (i 0) e * D.g e)) * (-(1 / 2) * (rstd (D.r (i 0)) / (var (D.r (i 0)) + eps))) / 1024 * (2 * cen (D.r (i 0)) (i 1))) : ℝ) : EReal) := by
  rw [val_main_v59_apply]
  simp only [v58, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v60 (i : S8192.Idx) : val_main_v60 (F := Ideal) D.x0 D.x1 D.x2 D.x3 D.x4 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v60_apply]
  simp only [v59, val_main_cst_16_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v61 (i : S8192x1.Idx) : val_main_v61 (F := Ideal) D.x0 D.x1 D.x2 D.x3 D.x4 i = ((∑ d, -((∑ e, cen (D.r (i 0)) e * (D.dh (i 0) e * D.g e)) * (-(1 / 2) * (rstd (D.r (i 0)) / (var (D.r (i 0)) + eps))) / 1024 * (2 * cen (D.r (i 0)) d)) : ℝ) : EReal) := by
  rw [val_main_v61_apply, v60]
  have e0 : idx_main_v61 i 0 = i 0 := Fin.ext (by have h0 : (i 0).val < 8192 := (i 0).isLt; have h1 : (i 1).val < 1 := (i 1).isLt; show (i 0).val * 1 + (i 1).val = (i 0).val; omega)
  rw [e0]

theorem v62 (i : S8192x1024.Idx) : val_main_v62 (F := Ideal) D.x0 D.x1 D.x2 D.x3 D.x4 i = ((D.dh (i 0) (i 1) * D.g (i 1) * rstd (D.r (i 0)) + (∑ e, cen (D.r (i 0)) e * (D.dh (i 0) e * D.g e)) * (-(1 / 2) * (rstd (D.r (i 0)) / (var (D.r (i 0)) + eps))) / 1024 * (2 * cen (D.r (i 0)) (i 1)) : ℝ) : EReal) := by
  rw [val_main_v62_apply]
  simp only [v49, v58, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v63 (i : S8192x1.Idx) : val_main_v63 (F := Ideal) D.x0 D.x1 D.x2 D.x3 D.x4 i = (((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d))) : ℝ) : EReal) := by
  rw [val_main_v63_apply]
  simp only [v53, v61, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v65 (i : S8192x1.Idx) : val_main_v65 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v65_apply]
  simp only [v63, val_main_v64_apply, val_main_cst_17_apply, ofBits_1024, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  exact div_real _ (by norm_num)

theorem v66 (i : S8192.Idx) : val_main_v66 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v66_apply]
  simp only [v65, val_main_cst_18_apply, ofBits_zero, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  simp only [Fin.sum_univ_one]
  rfl

theorem v67 (i : S8192x1024.Idx) : val_main_v67 (F := Ideal) D.x0 D.x1 D.x2 D.x3 D.x4 i = ((((∑ e, -(D.dh (i 0) e * D.g e * rstd (D.r (i 0)))) + (∑ d, -((∑ e, cen (D.r (i 0)) e * (D.dh (i 0) e * D.g e)) * (-(1 / 2) * (rstd (D.r (i 0)) / (var (D.r (i 0)) + eps))) / 1024 * (2 * cen (D.r (i 0)) d)))) / 1024 : ℝ) : EReal) := by
  rw [val_main_v67_apply]
  simp only [v66, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v68 (i : S8192x1024.Idx) : val_main_v68 (F := Ideal) D.x0 D.x1 D.x2 D.x3 D.x4 i = ((D.dr (i 0) (i 1) : ℝ) : EReal) := by
  rw [val_main_v68_apply]
  simp only [v62, v67, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add]
  exact congrArg Real.toEReal (lnVjp_eq (D.r (i 0)) D.g (D.dh (i 0)) (i 1))

theorem v69 (i : S8192x1024.Idx) : val_main_v69 (F := Ideal) D.x0 D.x1 D.x2 D.x3 D.x4 i = ((D.dy (i 0) (i 1) : ℝ) : EReal) := by
  rw [val_main_v69_apply]
  simp only [v68, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v71 (i : S8192x1024.Idx) : val_main_v71 (F := Ideal) D.x0 D.x1 D.x2 D.x3 D.x4 i = ((D.res (i 0) (i 1) : ℝ) : EReal) := by
  rw [val_main_v71_apply]
  simp only [v68, val_main_v70_apply, val_main_cst_19_apply, ofBits_alpha, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe]
  simp only [← EReal.coe_add, ← EReal.coe_mul, ← EReal.coe_sub, ← EReal.coe_neg, coe_sum, zero_add] <;> rfl

theorem v72 (i : S8192x1024.Idx) : val_main_v72 (F := Ideal) D.x0 D.x1 D.x2 D.x3 D.x4 i = ((D.dr (i 0) (i 1) : ℝ) : EReal) := by
  rw [val_main_v72_apply]
  simp only [v68, x0, x1, x2, x3, x4, Ideal.ofBits_def, Ideal.addf_def, Ideal.mulf_def, Ideal.subf_def, Ideal.maximumf_def, Ideal.hostDivf_def, Ideal.hostNegf_def, Ideal.negf_def, Ideal.hostUnary_exp_def, Ideal.hostUnary_rsqrt_def, Ideal.exp_coe] <;> rfl

theorem v73 (i : S1x1024.Idx) : val_main_v73 (F := Ideal) D.x0 D.x1 D.x2 D.x3 i = ((D.dg (i 1) : ℝ) : EReal) := by
  rw [val_main_v73_apply, v44]
  refine congrArg Real.toEReal (congrArg D.dg ?_)
  · exact Fin.ext (by have h0 : (i 0).val < 1 := (i 0).isLt; have h1 : (i 1).val < 1024 := (i 1).isLt; show ((i 0).val * 1024 + (i 1).val) = (i 1).val; omega)

theorem v74 (i : S1x1024.Idx) : val_main_v74 (F := Ideal) D.x0 i = ((D.db (i 1) : ℝ) : EReal) := by
  rw [val_main_v74_apply, v38]
  refine congrArg Real.toEReal (congrArg D.db ?_)
  · exact Fin.ext (by have h0 : (i 0).val < 1 := (i 0).isLt; have h1 : (i 1).val < 1024 := (i 1).isLt; show ((i 0).val * 1024 + (i 1).val) = (i 1).val; omega)

end Cert.RealStep.Outp

end
-- ==== Proof.KerBlocks5.lean ====
/- The blocks that the points of the output projection's gradient read, at real arguments: 512 rows of each row array, the other
   arrays whole. -/
module

public import proofs.«01_k».proof.Proof.Host5
public import proofs.«01_k».proof.Proof.RefValue5
public import proofs.«01_k».proof.Proof.Lift
public import Idealize.ShloMosaic.Lib.Pipeline.ValueKit

@[expose] public section

noncomputable section

namespace Cert.Kernel5Ideal.Gen

open Cert.Kernel5Ideal Cert.Kernel5Ideal.Gen Idealize.ShloMosaic Idealize.ShloMosaic.TcCoe Idealize.SL.Sem Cert.RealStep

variable (m : (ℓ : Loc nD τ sig) → Buf (Elt Ideal) ℓ) (c : Dev nD)

/-- The arguments are the arrays of real numbers `D`. -/
structure Holds (D : Outp) : Prop where
  h0 : m (c.tc.loc main_arg0) = D.x0
  h1 : m (c.tc.loc main_arg1) = D.x1
  h2 : m (c.tc.loc main_arg2) = D.x2
  h3 : m (c.tc.loc main_arg3) = D.x3
  h4 : m (c.tc.loc main_arg4) = D.x4
  h5 : m (c.tc.loc main_arg5) = D.x5

/-- Row `l` of the block of rows that point `t` takes. -/
def row (t : Fin cfg0.N) (l : Fin 512) : Fin 8192 := ⟨t.val * 512 + l.val, by have h := t.isLt; have : cfg0.N = 16 := rfl; omega⟩

theorem idx_rows : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)

theorem idx_whole : ∀ t : Fin cfg0.N, (win0_3.index t 0 = 0 ∧ win0_3.index t 1 = 0) ∧ (win0_4.index t 0 = 0 ∧ win0_4.index t 1 = 0) ∧ (win0_8.index t 0 = 0 ∧ win0_8.index t 1 = 0) ∧ (win0_9.index t 0 = 0 ∧ win0_9.index t 1 = 0) :=
  (by decide +kernel : ∀ t : Fin grid0.N, _)

variable {m c} {D : Outp} (H : Holds m c D) (t : Fin cfg0.N)
include H

theorem blk0 : iblk m c 0 t = L2 fun l d => D.dh (row t l) d := by
  funext i
  have e : iblk m c 0 t i = (V m c main_arg0 : (⟨S8192x1024, .f32⟩ : BufTy).Contents (Elt Ideal)) (ValueIdx.ix2 (row t (i 0)) (i 1)) := by
    blk_ext [iblk, idx_rows t, row]
  rw [e, V_main_arg0, H.h0]; rfl

theorem blk1 : iblk m c 1 t = L2 fun l d => xhat (D.r (row t l)) d := by
  funext i
  have e : iblk m c 1 t i = (V m c main_v21 : (⟨S8192x1024, .f32⟩ : BufTy).Contents (Elt Ideal)) (ValueIdx.ix2 (row t (i 0)) (i 1)) := by
    blk_ext [iblk, idx_rows t, row]
  rw [e, host_xhat, H.h1, H.h2, H.h3]; exact D.v28 _

theorem blk2 : iblk m c 2 t = L2 fun l (_ : Fin 1) => rstd (D.r (row t l)) := by
  funext i
  have e : iblk m c 2 t i = (V m c main_v17 : (⟨S8192x1, .f32⟩ : BufTy).Contents (Elt Ideal)) (ValueIdx.ix2 (row t (i 0)) (i 1)) := by
    blk_ext [iblk, idx_rows t, row]
  rw [e, host_rstd, H.h1, H.h2, H.h3]; exact D.v23 _

theorem blk3 : iblk m c 3 t = L2 fun (_ : Fin 1) d => D.g d := by
  funext i
  have e : iblk m c 3 t i = (V m c main_v22 : (⟨S1x1024, .f32⟩ : BufTy).Contents (Elt Ideal)) (ValueIdx.ix2 (i 0) (i 1)) := by
    blk_ext [iblk, idx_whole t, row]
  rw [e, host_g, H.h4]; rfl

theorem blk4 : iblk m c 4 t = L2 D.w := by
  funext i
  have e : iblk m c 4 t i = (V m c main_v23 : (⟨S1024x1024, .bf16⟩ : BufTy).Contents (Elt Ideal)) (ValueIdx.ix2 (i 0) (i 1)) := by
    blk_ext [iblk, idx_whole t, row]
  rw [e, host_w, H.h3]; rfl

end Cert.Kernel5Ideal.Gen

end
-- ==== Proof.Finite5.lean ====
/- The precondition read at an argument's elements: every element is a real number, so the arguments are the arrays of an output projection. -/
module

public import proofs.«01_k».proof.Defs
public import proofs.«01_k».proof.Proof.KerBlocks5
public import proofs.«01_k».proof.Proof.Gen.Pre_finite_inputs5
public import proofs.«01_k».proof.Proof.Finite
public import Idealize.ShloMosaic.Lib.ReduceAll
public import Idealize.ShloMosaic.Lib.Affine

@[expose] public section

noncomputable section

namespace Cert.RealStep.Outp

open Cert.Pre_finite_inputs5 Idealize.ShloMosaic

/-- The check of one argument passed, so each of its elements is a real number. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant (F := Ideal) S_ .f32 0x7F800000#32)))
      (constantI S_ 1 1#1) h hu j = 1#1) (i : s.Idx) : ∃ r : ℝ, (x i : EReal) = (r : EReal) := by
  have k := Host.reduce_andi_all _ _ h hu j e i
  have k' : Ideal.cmp .olt (max (x i : EReal) (-(x i : EReal))) (Ideal.ofBits .f32 0x7F800000#32) = 1 := k
  rw [Ideal.cmp_olt_eq_one, ofBits_inf] at k'
  exact exists_real k'

/-- A conjunction of two checks passed, so each did. -/
theorem both {p q : IVec S_ 1} {j : S_.Idx} (e : andi p q j = 1#1) : p j = 1#1 ∧ q j = 1#1 := IntOp.andi_eq_one.1 e

/-- Where the precondition holds, the arguments on every device are the arrays of a layer of real numbers. -/
theorem layer (m : (ℓ : Loc Cert.Kernel5Ideal.nD Cert.Kernel5Ideal.τ Cert.Kernel5Ideal.sig) → Buf (Elt Ideal) ℓ)
    (hm : Cert.Pre_Kernel5Ideal_finite_inputs5 m) (c : Dev Cert.Kernel5Ideal.nD) :
    ∃ D : Outp, Cert.Kernel5Ideal.Gen.Holds m c D := by
  have e := congrFun (hm c) (fun d => d.elim0)
  dsimp only [fn, fn_part1] at e
  obtain ⟨e, e5⟩ := both e
  obtain ⟨e, e4⟩ := both e
  obtain ⟨e, e3⟩ := both e
  obtain ⟨e, e2⟩ := both e
  obtain ⟨e0, e1⟩ := both e
  obtain ⟨f0, h0⟩ := table2 _ (real_of_all _ _ _ _ _ e0)
  obtain ⟨f1, h1⟩ := table2 _ (real_of_all _ _ _ _ _ e1)
  obtain ⟨f2, h2⟩ := table2 _ (real_of_all _ _ _ _ _ e2)
  obtain ⟨f3, h3⟩ := table2 _ (real_of_all _ _ _ _ _ e3)
  obtain ⟨f4, h4⟩ := table1 _ (real_of_all _ _ _ _ _ e4)
  obtain ⟨f5, h5⟩ := table1 _ (real_of_all _ _ _ _ _ e5)
  exact ⟨⟨f0, f1, f2, f3, f4, f5⟩, ⟨h0, h1, h2, h3, h4, h5⟩⟩

end Cert.RealStep.Outp

end
-- ==== Proof.KerOps5.lean ====
/- The output projection's gradient kernel: its product, row sums, loads and stored terms on vectors of real numbers. -/
module

public import proofs.«01_k».proof.Proof.Lift
public import proofs.«01_k».proof.Proof.OutpReal
public import proofs.«01_k».proof.Proof.Gen.Kernel5Ideal.Value
public import Idealize.ShloMosaic.Lib.Pipeline.ValueKit

@[expose] public section

noncomputable section

namespace Cert.RealStep

namespace Ker5

open Cert.Kernel5Ideal Cert.Kernel5Ideal.Gen Idealize.ShloMosaic Idealize.ShloMosaic.TcCoe

/-! ## Products -/

theorem mm (f : Fin 512 → Fin 1024 → ℝ) (g : Fin 1024 → Fin 1024 → ℝ) :
    matmul (F := Ideal) (φ₁ := .bf16) (φ₂ := .bf16) dot_S512x1024_S1024x1024_S512x1024_1_1_0_0_n_n none (L2 f) (L2 g)
      (constant (F := Ideal) S512x1024 .f32 0x00000000#32) = L2 fun i j => ∑ c, f i c * g j c := by
  funext i
  pointwise [L2]
  simp only [← EReal.coe_mul, coe_sum, zero_add]

/-! ## Row sums, kept as a column, columns' sums, and what is spread over a row -/

theorem rowsum_col (f : Fin 512 → Fin 1024 → ℝ) :
    shapeCast S512x1 (multiReduction (F := Ideal) (φ := .f32) .add [1] S512 (L2 f) 0x00000000#32 reduces_S512x1024_S512 (.inl rfl) rfl) shapeCasts_S512_S512x1
      = L2 fun i (_ : Fin 1) => ∑ d, f i d := by
  funext i
  pointwise [L2]
  simp only [coe_sum]

theorem colsum (f : Fin 512 → Fin 1024 → ℝ) :
    shapeCast S1x1024 (multiReduction (F := Ideal) (φ := .f32) .add [0] S1024 (L2 f) 0x00000000#32 reduces_S512x1024_S1024 (.inl rfl) rfl) shapeCasts_S1024_S1x1024
      = L2 fun (_ : Fin 1) j => ∑ l, f l j := by
  funext i
  pointwise [L2]
  simp only [coe_sum]

theorem bcast_row (f : Fin 1 → Fin 1024 → ℝ) :
    broadcastTo S512x1024 (L2 f) broadcasts_S1x1024_S512x1024 = L2 fun (_ : Fin 512) j => f 0 j := by
  funext i
  pointwise [L2]

theorem bcast_col (f : Fin 512 → Fin 1 → ℝ) :
    broadcastTo S512x1024 (L2 f) broadcasts_S512x1_S512x1024 = L2 fun i (_ : Fin 1024) => f i 0 := by
  funext i
  pointwise [L2]

/-! ## Loads -/

theorem ldf (f : Fin 512 → Fin 1024 → ℝ) :
    View.ld (Val := Elt Ideal) (S := S512x1024) (e' := .f32) (L2 f) (Rect.unit ![0, 0] ![512, 1024] inb_S512x1024_S512x1024_0_0) = L2 f :=
  funext fun i => congrArg Real.toEReal (congrArg₂ f (Fin.ext (by show 0 + 1 * (i 0).val = (i 0).val; omega)) (Fin.ext (by show 0 + 1 * (i 1).val = (i 1).val; omega)))
theorem ldf1 (f : Fin 512 → Fin 1 → ℝ) :
    View.ld (Val := Elt Ideal) (S := S512x1) (e' := .f32) (L2 f) (Rect.unit ![0, 0] ![512, 1] inb_S512x1_S512x1_0_0) = L2 f :=
  funext fun i => congrArg Real.toEReal (congrArg₂ f (Fin.ext (by show 0 + 1 * (i 0).val = (i 0).val; omega)) (Fin.ext (by show 0 + 1 * (i 1).val = (i 1).val; omega)))
theorem ldr (f : Fin 1 → Fin 1024 → ℝ) :
    View.ld (Val := Elt Ideal) (S := S1x1024) (e' := .f32) (L2 f) (Rect.unit ![0, 0] ![1, 1024] inb_S1x1024_S1x1024_0_0) = L2 f :=
  funext fun i => congrArg Real.toEReal (congrArg₂ f (Fin.ext (by show 0 + 1 * (i 0).val = (i 0).val; omega)) (Fin.ext (by show 0 + 1 * (i 1).val = (i 1).val; omega)))
theorem ldw (f : Fin 1024 → Fin 1024 → ℝ) :
    View.ld (Val := Elt Ideal) (S := S1024x1024) (e' := .bf16) (L2 f) (Rect.unit ![0, 0] ![1024, 1024] inb_S1024x1024_S1024x1024_0_0) = L2 f :=
  funext fun i => congrArg Real.toEReal (congrArg₂ f (Fin.ext (by show 0 + 1 * (i 0).val = (i 0).val; omega)) (Fin.ext (by show 0 + 1 * (i 1).val = (i 1).val; omega)))

/-! ## The stored terms -/

theorem cst_1024 : broadcast ⟨2, ![512, 1]⟩ (FloatOps.ofBits (F := Ideal) .f32 0x44800000#32) = L2 fun (_ : Fin 512) (_ : Fin 1) => (1024 : ℝ) := lift_1024

theorem pay5 : k0_pay5 (F := Ideal) = L2 fun (_ : Fin 1) (_ : Fin 1024) => (0 : ℝ) := by
  unfold k0_pay5
  simp only [lift_truncf, lift_extf, lift_alpha, lift_1024, lift_zero, lift_div1024, lift_mulf, lift_subf, lift_addf, mm, bcast_row, bcast_col, shapeCast_self]

theorem pay6 : k0_pay6 (F := Ideal) = L2 fun (_ : Fin 1) (_ : Fin 1024) => (0 : ℝ) := by
  unfold k0_pay6
  simp only [lift_truncf, lift_extf, lift_alpha, lift_1024, lift_zero, lift_div1024, lift_mulf, lift_subf, lift_addf, mm, bcast_row, bcast_col, shapeCast_self]

theorem pay7 (f : Fin 512 → Fin 1024 → ℝ) : k0_pay7 (F := Ideal) (L2 f) = L2 f := by
  unfold k0_pay7
  simp only [lift_truncf, lift_extf, lift_alpha, lift_1024, lift_zero, lift_div1024, lift_mulf, lift_subf, lift_addf, mm, bcast_row, bcast_col, shapeCast_self]

theorem pay8 (f x : Fin 512 → Fin 1024 → ℝ) (g : Fin 1 → Fin 1024 → ℝ) : k0_pay8 (F := Ideal) (L2 f) (L2 x) (L2 g) = L2 fun i j => g i j + ∑ l, f l j * x l j := by
  unfold k0_pay8
  simp only [lift_truncf, lift_extf, lift_alpha, lift_1024, lift_zero, lift_div1024, lift_mulf, lift_subf, lift_addf, mm, bcast_row, bcast_col, shapeCast_self, pay7]
  rw [colsum]
  simp only [lift_addf]

theorem pay9 (f : Fin 512 → Fin 1024 → ℝ) (g : Fin 1 → Fin 1024 → ℝ) : k0_pay9 (F := Ideal) (L2 f) (L2 g) = L2 fun i j => g i j + ∑ l, f l j := by
  unfold k0_pay9
  simp only [lift_truncf, lift_extf, lift_alpha, lift_1024, lift_zero, lift_div1024, lift_mulf, lift_subf, lift_addf, mm, bcast_row, bcast_col, shapeCast_self]
  rw [colsum]
  simp only [lift_addf]

theorem pay10 (f : Fin 512 → Fin 1 → ℝ) : k0_pay10 (F := Ideal) (L2 f) = L2 f := by
  unfold k0_pay10
  simp only [lift_truncf, lift_extf, lift_alpha, lift_1024, lift_zero, lift_div1024, lift_mulf, lift_subf, lift_addf, mm, bcast_row, bcast_col, shapeCast_self]

theorem pay11 (f : Fin 512 → Fin 1024 → ℝ) (g : Fin 1 → Fin 1024 → ℝ) : k0_pay11 (F := Ideal) (L2 f) (L2 g) = L2 fun i j => f i j * g 0 j := by
  unfold k0_pay11
  simp only [lift_truncf, lift_extf, lift_alpha, lift_1024, lift_zero, lift_div1024, lift_mulf, lift_subf, lift_addf, mm, bcast_row, bcast_col, shapeCast_self]

theorem pay12 (f : Fin 512 → Fin 1024 → ℝ) (g : Fin 1 → Fin 1024 → ℝ) : k0_pay12 (F := Ideal) (L2 f) (L2 g) = L2 fun i (_ : Fin 1) => (∑ d, f i d * g 0 d) / 1024 := by
  unfold k0_pay12
  simp only [lift_truncf, lift_extf, lift_alpha, lift_1024, lift_zero, lift_div1024, lift_mulf, lift_subf, lift_addf, mm, bcast_row, bcast_col, shapeCast_self, pay11]
  rw [rowsum_col]
  simp only [lift_div1024]

theorem pay13 (f x : Fin 512 → Fin 1024 → ℝ) (g : Fin 1 → Fin 1024 → ℝ) : k0_pay13 (F := Ideal) (L2 f) (L2 x) (L2 g) = L2 fun i (_ : Fin 1) => ∑ d, f i d * g 0 d * x i d := by
  unfold k0_pay13
  simp only [lift_truncf, lift_extf, lift_alpha, lift_1024, lift_zero, lift_div1024, lift_mulf, lift_subf, lift_addf, mm, bcast_row, bcast_col, shapeCast_self, pay11, pay7]
  rw [rowsum_col]

theorem pay1 (x : Fin 512 → Fin 1024 → ℝ) (rs : Fin 512 → Fin 1 → ℝ) (a : Fin 512 → Fin 1024 → ℝ) (m1 m2 : Fin 512 → Fin 1 → ℝ) : k0_pay1 (F := Ideal) (L2 x) (L2 rs) (L2 a) (L2 m1) (L2 m2) (FloatOps.ofBits .f32 0x44800000#32) = L2 fun i j => rs i 0 * (a i j - m1 i 0 - x i j * (m2 i 0 / 1024)) := by
  unfold k0_pay1
  simp only [lift_truncf, lift_extf, lift_alpha, lift_1024, lift_zero, lift_div1024, lift_mulf, lift_subf, lift_addf, mm, bcast_row, bcast_col, shapeCast_self, cst_1024]

theorem pay2 (x : Fin 512 → Fin 1024 → ℝ) (rs : Fin 512 → Fin 1 → ℝ) (a : Fin 512 → Fin 1024 → ℝ) (m1 m2 : Fin 512 → Fin 1 → ℝ) : k0_pay2 (F := Ideal) (L2 x) (L2 rs) (L2 a) (L2 m1) (L2 m2) (FloatOps.ofBits .f32 0x44800000#32) = L2 fun i j => rs i 0 * (a i j - m1 i 0 - x i j * (m2 i 0 / 1024)) := by
  unfold k0_pay2
  simp only [lift_truncf, lift_extf, lift_alpha, lift_1024, lift_zero, lift_div1024, lift_mulf, lift_subf, lift_addf, mm, bcast_row, bcast_col, shapeCast_self, pay1]

theorem pay3 (x : Fin 512 → Fin 1024 → ℝ) (rs : Fin 512 → Fin 1 → ℝ) (a : Fin 512 → Fin 1024 → ℝ) (m1 m2 : Fin 512 → Fin 1 → ℝ) : k0_pay3 (F := Ideal) (L2 x) (L2 rs) (L2 a) (L2 m1) (L2 m2) (FloatOps.ofBits .f32 0x44800000#32) = L2 fun i j => alpha * (rs i 0 * (a i j - m1 i 0 - x i j * (m2 i 0 / 1024))) := by
  unfold k0_pay3
  simp only [lift_truncf, lift_extf, lift_alpha, lift_1024, lift_zero, lift_div1024, lift_mulf, lift_subf, lift_addf, mm, bcast_row, bcast_col, shapeCast_self, pay1]

theorem pay4 (x : Fin 512 → Fin 1024 → ℝ) (rs : Fin 512 → Fin 1 → ℝ) (a : Fin 512 → Fin 1024 → ℝ) (m1 m2 : Fin 512 → Fin 1 → ℝ) (w : Fin 1024 → Fin 1024 → ℝ) : k0_pay4 (F := Ideal) (L2 x) (L2 rs) (L2 a) (L2 m1) (L2 m2) (FloatOps.ofBits .f32 0x44800000#32) (L2 w) = L2 fun i j => ∑ c, rs i 0 * (a i c - m1 i 0 - x i c * (m2 i 0 / 1024)) * w j c := by
  unfold k0_pay4
  simp only [lift_truncf, lift_extf, lift_alpha, lift_1024, lift_zero, lift_div1024, lift_mulf, lift_subf, lift_addf, mm, bcast_row, bcast_col, shapeCast_self, pay1]

end Ker5

end Cert.RealStep

end
-- ==== Proof.KerOut5.lean ====
/- What a point of the output projection's gradient leaves in its outputs' blocks, at real arguments. -/
module

public import proofs.«01_k».proof.Proof.KerBlocks5
public import proofs.«01_k».proof.Proof.KerOps5
public import Idealize.ShloMosaic.Lib.Pipeline.ReadBack

@[expose] public section

noncomputable section

namespace Cert.Kernel5Ideal.Gen

open Cert.Kernel5Ideal Cert.Kernel5Ideal.Gen Idealize.ShloMosaic Idealize.ShloMosaic.TcCoe Idealize.SL.Sem Cert.RealStep Cert.RealStep.Ker5

variable {m : (ℓ : Loc nD τ sig) → Buf (Elt Ideal) ℓ} {c : Dev nD}
variable {D : Outp} (H : Holds m c D) (t : Fin cfg0.N)
include H

theorem dr_A (h0 : t.val % 16 = 0) : (outsAt0 m c t.val t.isLt).1 = L2 fun l d => D.dr (row t l) d := by
  rw [outsAt0_A m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem res_A (h0 : t.val % 16 = 0) : (outsAt0 m c t.val t.isLt).2.1 = L2 fun l d => D.res (row t l) d := by
  rw [outsAt0_A m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem dy_A (h0 : t.val % 16 = 0) : (outsAt0 m c t.val t.isLt).2.2.1 = L2 fun l d => D.dy (row t l) d := by
  rw [outsAt0_A m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem dg_A (h0 : t.val % 16 = 0) : (outsAt0 m c t.val t.isLt).2.2.2.1 = L2 (fun n d => 0 + ∑ l, D.dh (row t l) d * xhat (D.r (row t l)) d : Fin 1 → Fin 1024 → ℝ) := by
  rw [outsAt0_A m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]

theorem db_A (h0 : t.val % 16 = 0) : (outsAt0 m c t.val t.isLt).2.2.2.2 = L2 (fun n d => 0 + ∑ l, D.dh (row t l) d : Fin 1 → Fin 1024 → ℝ) := by
  rw [outsAt0_A m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]

theorem dr_B (h0 : ¬t.val % 16 = 0) : (outsAt0 m c t.val t.isLt).1 = L2 fun l d => D.dr (row t l) d := by
  rw [outsAt0_B m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem res_B (h0 : ¬t.val % 16 = 0) : (outsAt0 m c t.val t.isLt).2.1 = L2 fun l d => D.res (row t l) d := by
  rw [outsAt0_B m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem dy_B (h0 : ¬t.val % 16 = 0) : (outsAt0 m c t.val t.isLt).2.2.1 = L2 fun l d => D.dy (row t l) d := by
  rw [outsAt0_B m c t h0]
  frame_out
  simp only [read_unread_whole, blk0 H t, blk1 H t, blk2 H t, blk3 H t, blk4 H t, ldf, ldf1, ldr, ldw, pay1, pay2, pay3, pay4, pay5, pay6, pay7, pay8, pay9, pay10, pay11, pay12, pay13]
  rfl

theorem dg_B (h0 : ¬t.val % 16 = 0) (P : Fin 1 → Fin 1024 → ℝ) (hP : (outsAt0 m c (t.val - 1) (Nat.lt_of_le_of_lt (Nat.sub_le _ _) t.isLt)).2.2.2.1 = L2 P) : (outsAt0 m c t.val t.isLt).2.2.2.1 = L2 (fun n d => P n d + ∑ l, D.dh (row t l) d * xhat (D.r (row t l)) d : Fin 1 → Fin 1024 → ℝ) := by
  rw [outsAt0_B m c t h0]
  frame_out
  simp only [hP, read_unread_whole, blk0 H t, blk1 H t, blk2 H t, blk3 H t, blk4 H t, ldf, ldf1, ldr, ldw, pay1, pay2, pay3, pay4, pay5, pay6, pay7, pay8, pay9, pay10, pay11, pay12, pay13]

theorem db_B (h0 : ¬t.val % 16 = 0) (P : Fin 1 → Fin 1024 → ℝ) (hP : (outsAt0 m c (t.val - 1) (Nat.lt_of_le_of_lt (Nat.sub_le _ _) t.isLt)).2.2.2.2 = L2 P) : (outsAt0 m c t.val t.isLt).2.2.2.2 = L2 (fun n d => P n d + ∑ l, D.dh (row t l) d : Fin 1 → Fin 1024 → ℝ) := by
  rw [outsAt0_B m c t h0]
  frame_out
  simp only [hP, read_unread_whole, blk0 H t, blk1 H t, blk2 H t, blk3 H t, blk4 H t, ldf, ldf1, ldr, ldw, pay1, pay2, pay3, pay4, pay5, pay6, pay7, pay8, pay9, pay10, pay11, pay12, pay13]

end Cert.Kernel5Ideal.Gen

end
-- ==== Proof.KerValue5.lean ====
/- The output projection's gradient: its result arrays at real arguments. -/
module

public import proofs.«01_k».proof.Proof.KerOut5

@[expose] public section

noncomputable section

namespace Cert.Kernel5Ideal.Gen

open Cert.Kernel5Ideal Cert.Kernel5Ideal.Gen Idealize.ShloMosaic Idealize.ShloMosaic.TcCoe Idealize.SL.Sem Cert.RealStep

/-- The sum over the rows of the first `n + 1` points. -/
def upTo (f : Fin 8192 → ℝ) (n : ℕ) : ℝ := ∑ p ∈ Finset.univ.filter (fun p : Fin cfg0.N => p.val ≤ n), ∑ l, f (row p l)

theorem upTo_first (f : Fin 8192 → ℝ) (h : 0 < cfg0.N) : upTo f 0 = ∑ l, f (row ⟨0, h⟩ l) := by
  unfold upTo
  rw [show Finset.univ.filter (fun p : Fin cfg0.N => p.val ≤ 0) = {⟨0, h⟩} from Finset.ext fun p => by
    simp only [Finset.mem_filter, Finset.mem_univ, true_and, Finset.mem_singleton, Fin.ext_iff]; omega, Finset.sum_singleton]

theorem upTo_next (f : Fin 8192 → ℝ) (n : ℕ) (h : n + 1 < cfg0.N) : upTo f (n + 1) = upTo f n + ∑ l, f (row ⟨n + 1, h⟩ l) := by
  unfold upTo
  rw [show Finset.univ.filter (fun p : Fin cfg0.N => p.val ≤ n + 1) = insert ⟨n + 1, h⟩ (Finset.univ.filter fun p : Fin cfg0.N => p.val ≤ n) from
    Finset.ext fun p => by
      simp only [Finset.mem_filter, Finset.mem_univ, true_and, Finset.mem_insert, Fin.ext_iff]; omega,
    Finset.sum_insert (by simp), add_comm]

/-- The points' rows are all the rows. -/
theorem upTo_all (f : Fin 8192 → ℝ) : upTo f 15 = ∑ t, f t := by
  unfold upTo
  rw [Finset.filter_true_of_mem fun p _ => Nat.le_of_lt_succ p.isLt]
  exact Fin.sum_mul_add_fin (S := 16) (n := 512) (L := 8192) f

/-- A block that starts at the first point's sum and takes on every later point's holds the sum over all rows. -/
theorem total {a b : ℕ} (O : (n : ℕ) → n < cfg0.N → (⟨2, ![a, b]⟩ : Shape).Idx → EReal) (T : Fin a → Fin b → Fin 8192 → ℝ)
    (hA : ∀ t : Fin cfg0.N, t.val % 16 = 0 → O t.val t.isLt = L2 fun i j => 0 + ∑ l, T i j (row t l))
    (hB : ∀ t : Fin cfg0.N, ¬t.val % 16 = 0 → ∀ P, O (t.val - 1) (Nat.lt_of_le_of_lt (Nat.sub_le _ _) t.isLt) = L2 P →
      O t.val t.isLt = L2 fun i j => P i j + ∑ l, T i j (row t l)) (h15 : 15 < cfg0.N) :
    O 15 h15 = L2 fun i j => ∑ t, T i j t := by
  have key : ∀ n (h : n < cfg0.N), O n h = L2 fun i j => upTo (T i j) n := by
    intro n
    induction n with
    | zero => intro h; rw [hA ⟨0, h⟩ rfl]; simp only [zero_add, upTo_first _ h]
    | succ n ih =>
      intro h
      have hn : n + 1 < 16 := h
      rw [hB ⟨n + 1, h⟩ (by show ¬(n + 1) % 16 = 0; omega) _ (ih (Nat.lt_of_succ_lt h))]
      simp only [upTo_next _ n h]
  rw [key 15 h15]
  simp only [upTo_all]

variable {m : (ℓ : Loc nD τ sig) → Buf (Elt Ideal) ℓ} {c : Dev nD} {D : Outp} (H : Holds m c D)
include H

theorem dr_at (t : Fin cfg0.N) : (outsAt0 m c t.val t.isLt).1 = L2 fun l d => D.dr (row t l) d := by
  by_cases h : t.val % 16 = 0
  · exact dr_A H t h
  · exact dr_B H t h

theorem arr_dr : (dats m 0 c).arrAt 5 cfg0.N = (L2 D.dr : S8192x1024.Idx → EReal) := by
  refine (dats m 0 c).arrAt_eq_of_covers 5 _ (by decide +kernel) fun t hf y => ?_
  rw [after0_5, dr_at H t]
  refine congrArg Real.toEReal (congrArg₂ D.dr ?_ ?_)
  · refine Fin.ext ?_
    blk_simp [idx_rows t, row]
  · refine Fin.ext ?_
    blk_simp [idx_rows t]

theorem res_at (t : Fin cfg0.N) : (outsAt0 m c t.val t.isLt).2.1 = L2 fun l d => D.res (row t l) d := by
  by_cases h : t.val % 16 = 0
  · exact res_A H t h
  · exact res_B H t h

theorem arr_res : (dats m 0 c).arrAt 6 cfg0.N = (L2 D.res : S8192x1024.Idx → EReal) := by
  refine (dats m 0 c).arrAt_eq_of_covers 6 _ (by decide +kernel) fun t hf y => ?_
  rw [after0_6, res_at H t]
  refine congrArg Real.toEReal (congrArg₂ D.res ?_ ?_)
  · refine Fin.ext ?_
    blk_simp [idx_rows t, row]
  · refine Fin.ext ?_
    blk_simp [idx_rows t]

theorem dy_at (t : Fin cfg0.N) : (outsAt0 m c t.val t.isLt).2.2.1 = L2 fun l d => D.dy (row t l) d := by
  by_cases h : t.val % 16 = 0
  · exact dy_A H t h
  · exact dy_B H t h

theorem arr_dy : (dats m 0 c).arrAt 7 cfg0.N = (L2 D.dy : S8192x1024.Idx → EReal) := by
  refine (dats m 0 c).arrAt_eq_of_covers 7 _ (by decide +kernel) fun t hf y => ?_
  rw [after0_7, dy_at H t]
  refine congrArg Real.toEReal (congrArg₂ D.dy ?_ ?_)
  · refine Fin.ext ?_
    blk_simp [idx_rows t, row]
  · refine Fin.ext ?_
    blk_simp [idx_rows t]

theorem arr_dg : (dats m 0 c).arrAt 8 cfg0.N = (L2 (fun _ d => D.dg d) : S1x1024.Idx → EReal) := by
  refine (dats m 0 c).arrAt_eq_of_after_last 8 ⟨15, by decide⟩ (by decide +kernel) _ fun j => ?_
  rw [after0_8, total (fun n h => (outsAt0 m c n h).2.2.2.1) (fun (_ : Fin 1) d t => D.dh t d * xhat (D.r t) d) (fun t h => dg_A H t h) (fun t h P hP => dg_B H t h P hP)]
  rfl

theorem arr_db : (dats m 0 c).arrAt 9 cfg0.N = (L2 (fun _ d => D.db d) : S1x1024.Idx → EReal) := by
  refine (dats m 0 c).arrAt_eq_of_after_last 9 ⟨15, by decide⟩ (by decide +kernel) _ fun j => ?_
  rw [after0_9, total (fun n h => (outsAt0 m c n h).2.2.2.2) (fun (_ : Fin 1) d t => D.dh t d) (fun t h => db_A H t h) (fun t h P hP => db_B H t h P hP)]
  rfl

end Cert.Kernel5Ideal.Gen

end
-- ==== Proof.Inproj6.lean ====
/- The gradient of the layer's input: each point adds to the residual's cotangent, for 512 rows, the products of the six pieces
   of the projection's cotangent with their columns of the weight. -/
module

public import proofs.«01_k».proof.Proof.Chunks
public import proofs.«01_k».proof.Proof.Gen.Kernel6Ideal.Value
public import proofs.«01_k».proof.Proof.Gen.Reference6Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel6Ideal.Gen

open Cert.Kernel6Ideal Cert.Kernel6Ideal.Gen Idealize.ShloMosaic Idealize.ShloMosaic.TcCoe Idealize.SL.Sem Cert.Chunks

variable (m : (ℓ : Loc nD τ sig) → Buf (Elt Ideal) ℓ) (c : Dev nD)

/-! The arguments. -/
def p0 : S8192x1024.Idx → EReal := m (c.tc.loc main_arg0)
def p1 : S8192x512.Idx → EReal := m (c.tc.loc main_arg1)
def p2 : S8192x256.Idx → EReal := m (c.tc.loc main_arg2)
def p3 : S8192x256.Idx → EReal := m (c.tc.loc main_arg3)
def p4 : S8192x256.Idx → EReal := m (c.tc.loc main_arg4)
def p5 : S8192x128.Idx → EReal := m (c.tc.loc main_arg5)
def wt : S1024x2432.Idx → EReal := m (c.tc.loc main_arg6)
def res : S8192x1024.Idx → EReal := m (c.tc.loc main_arg7)

/-- Row `l` of the 512 that point `t` takes. -/
def row (t : Fin cfg0.N) (l : Fin 512) : Fin 8192 := ⟨t.val * 512 + l.val, by have h := t.isLt; have : cfg0.N = 16 := rfl; omega⟩

theorem idx (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_7.index t 0 = t.val ∧ win0_7.index t 1 = 0) ∧ (win0_8.index t 0 = t.val ∧ win0_8.index t 1 = 0) ∧ (win0_6.index t 0 = 0 ∧ win0_6.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_7.index t 0 = t.val ∧ win0_7.index t 1 = 0) ∧ (win0_8.index t 0 = t.val ∧ win0_8.index t 1 = 0) ∧ (win0_6.index t 0 = 0 ∧ win0_6.index t 1 = 0)) t

/-- What the call leaves: the residual's cotangent and the sum over the columns, piece by piece. -/
def result (i : S8192x1024.Idx) : EReal :=
  (((((res m c i + ∑ x : Fin 1024, p0 m c (ValueIdx.ix2 (i 0) x) * wt m c (ValueIdx.ix2 (i 1) ⟨x.val, by omega⟩))
    + ∑ x : Fin 512, p1 m c (ValueIdx.ix2 (i 0) x) * wt m c (ValueIdx.ix2 (i 1) ⟨1024 + x.val, by omega⟩))
    + ∑ x : Fin 256, p2 m c (ValueIdx.ix2 (i 0) x) * wt m c (ValueIdx.ix2 (i 1) ⟨1536 + x.val, by omega⟩))
    + ∑ x : Fin 256, p3 m c (ValueIdx.ix2 (i 0) x) * wt m c (ValueIdx.ix2 (i 1) ⟨1792 + x.val, by omega⟩))
    + ∑ x : Fin 256, p4 m c (ValueIdx.ix2 (i 0) x) * wt m c (ValueIdx.ix2 (i 1) ⟨2048 + x.val, by omega⟩))
    + ∑ x : Fin 128, p5 m c (ValueIdx.ix2 (i 0) x) * wt m c (ValueIdx.ix2 (i 1) ⟨2304 + x.val, by omega⟩)

variable {m c} (t : Fin cfg0.N)

/-! ## One point -/

theorem blk0 (i : S512x1024.Idx) : iblk m c 0 t i = p0 m c (ValueIdx.ix2 (row t (i 0)) (i 1)) := by
  have e : iblk m c 0 t i = (V m c main_arg0 : (⟨S8192x1024, .bf16⟩ : BufTy).Contents (Elt Ideal)) (ValueIdx.ix2 (row t (i 0)) (i 1)) := by
    blk_ext [iblk, idx t, row]
  rw [e, V_main_arg0]
  rfl

theorem blk1 (i : S512x512.Idx) : iblk m c 1 t i = p1 m c (ValueIdx.ix2 (row t (i 0)) (i 1)) := by
  have e : iblk m c 1 t i = (V m c main_arg1 : (⟨S8192x512, .bf16⟩ : BufTy).Contents (Elt Ideal)) (ValueIdx.ix2 (row t (i 0)) (i 1)) := by
    blk_ext [iblk, idx t, row]
  rw [e, V_main_arg1]
  rfl

theorem blk2 (i : S512x256.Idx) : iblk m c 2 t i = p2 m c (ValueIdx.ix2 (row t (i 0)) (i 1)) := by
  have e : iblk m c 2 t i = (V m c main_arg2 : (⟨S8192x256, .bf16⟩ : BufTy).Contents (Elt Ideal)) (ValueIdx.ix2 (row t (i 0)) (i 1)) := by
    blk_ext [iblk, idx t, row]
  rw [e, V_main_arg2]
  rfl

theorem blk3 (i : S512x256.Idx) : iblk m c 3 t i = p3 m c (ValueIdx.ix2 (row t (i 0)) (i 1)) := by
  have e : iblk m c 3 t i = (V m c main_arg3 : (⟨S8192x256, .bf16⟩ : BufTy).Contents (Elt Ideal)) (ValueIdx.ix2 (row t (i 0)) (i 1)) := by
    blk_ext [iblk, idx t, row]
  rw [e, V_main_arg3]
  rfl

theorem blk4 (i : S512x256.Idx) : iblk m c 4 t i = p4 m c (ValueIdx.ix2 (row t (i 0)) (i 1)) := by
  have e : iblk m c 4 t i = (V m c main_arg4 : (⟨S8192x256, .bf16⟩ : BufTy).Contents (Elt Ideal)) (ValueIdx.ix2 (row t (i 0)) (i 1)) := by
    blk_ext [iblk, idx t, row]
  rw [e, V_main_arg4]
  rfl

theorem blk5 (i : S512x128.Idx) : iblk m c 5 t i = p5 m c (ValueIdx.ix2 (row t (i 0)) (i 1)) := by
  have e : iblk m c 5 t i = (V m c main_arg5 : (⟨S8192x128, .bf16⟩ : BufTy).Contents (Elt Ideal)) (ValueIdx.ix2 (row t (i 0)) (i 1)) := by
    blk_ext [iblk, idx t, row]
  rw [e, V_main_arg5]
  rfl

theorem blk7 (i : S512x1024.Idx) : iblk m c 7 t i = res m c (ValueIdx.ix2 (row t (i 0)) (i 1)) := by
  have e : iblk m c 7 t i = (V m c main_arg7 : (⟨S8192x1024, .f32⟩ : BufTy).Contents (Elt Ideal)) (ValueIdx.ix2 (row t (i 0)) (i 1)) := by
    blk_ext [iblk, idx t, row]
  rw [e, V_main_arg7]
  rfl

theorem host_w : V m c main_v0 = wt m c := by
  funext i
  unfold V
  after_reads_simp
  rfl

theorem blk6 (i : S1024x2432.Idx) : iblk m c 6 t i = wt m c i := by
  have e : iblk m c 6 t i = (V m c main_v0 : (⟨S1024x2432, .bf16⟩ : BufTy).Contents (Elt Ideal)) (ValueIdx.ix2 (i 0) (i 1)) := by
    blk_ext [iblk, idx t, row]
  rw [e, host_w]
  exact congrArg (wt m c) (funext (on_two rfl rfl))

theorem pay (r : S512x1024.Idx → EReal) (a0 : S512x1024.Idx → EReal) (w0 : S1024x1024.Idx → EReal) (a1 : S512x512.Idx → EReal) (w1 : S1024x512.Idx → EReal)
    (a2 : S512x256.Idx → EReal) (w2 : S1024x256.Idx → EReal) (a3 : S512x256.Idx → EReal) (w3 : S1024x256.Idx → EReal)
    (a4 : S512x256.Idx → EReal) (w4 : S1024x256.Idx → EReal) (a5 : S512x128.Idx → EReal) (w5 : S1024x128.Idx → EReal) (j : S512x1024.Idx) :
    k0_pay1 (F := Ideal) (k0_pay2 (F := Ideal) r a0 w0 a1 w1 a2 w2 a3 w3 a4 w4) a5 w5 j
      = (((((r j + ∑ x : Fin 1024, a0 (ValueIdx.ix2 (j 0) x) * w0 (ValueIdx.ix2 (j 1) x))
        + ∑ x : Fin 512, a1 (ValueIdx.ix2 (j 0) x) * w1 (ValueIdx.ix2 (j 1) x))
        + ∑ x : Fin 256, a2 (ValueIdx.ix2 (j 0) x) * w2 (ValueIdx.ix2 (j 1) x))
        + ∑ x : Fin 256, a3 (ValueIdx.ix2 (j 0) x) * w3 (ValueIdx.ix2 (j 1) x))
        + ∑ x : Fin 256, a4 (ValueIdx.ix2 (j 0) x) * w4 (ValueIdx.ix2 (j 1) x))
        + ∑ x : Fin 128, a5 (ValueIdx.ix2 (j 0) x) * w5 (ValueIdx.ix2 (j 1) x) := by
  unfold k0_pay1 k0_pay2
  pointwise
  rfl

theorem point (j : S512x1024.Idx) :
    out0_8 (F := Ideal) (iblk m c 0 t) (iblk m c 1 t) (iblk m c 2 t) (iblk m c 3 t) (iblk m c 4 t) (iblk m c 5 t) (iblk m c 6 t) (iblk m c 7 t) j
      = result m c (ValueIdx.ix2 (row t (j 0)) (j 1)) := by
  unfold out0_8
  frame_out
  refine (pay _ _ _ _ _ _ _ _ _ _ _ _ _ j).trans ?_
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) (Finset.sum_congr rfl fun x _ => ?_)) (Finset.sum_congr rfl fun x _ => ?_)) (Finset.sum_congr rfl fun x _ => ?_)) (Finset.sum_congr rfl fun x _ => ?_)) (Finset.sum_congr rfl fun x _ => ?_)) (Finset.sum_congr rfl fun x _ => ?_)
  · exact blk7 t j
  · refine congrArg₂ (fun a b : EReal => a * b) (blk0 t _) ((blk6 t _).trans (congrArg (wt m c) (funext (on_two ?_ ?_))))
    · exact Fin.ext (by show 0 + 1 * (j 1).val = (j 1).val; omega)
    · exact Fin.ext (by show 0 + 1 * x.val = x.val; omega)
  · refine congrArg₂ (fun a b : EReal => a * b) (blk1 t _) ((blk6 t _).trans (congrArg (wt m c) (funext (on_two ?_ ?_))))
    · exact Fin.ext (by show 0 + 1 * (j 1).val = (j 1).val; omega)
    · exact Fin.ext (by show 1024 + 1 * x.val = 1024 + x.val; omega)
  · refine congrArg₂ (fun a b : EReal => a * b) (blk2 t _) ((blk6 t _).trans (congrArg (wt m c) (funext (on_two ?_ ?_))))
    · exact Fin.ext (by show 0 + 1 * (j 1).val = (j 1).val; omega)
    · exact Fin.ext (by show 1536 + 1 * x.val = 1536 + x.val; omega)
  · refine congrArg₂ (fun a b : EReal => a * b) (blk3 t _) ((blk6 t _).trans (congrArg (wt m c) (funext (on_two ?_ ?_))))
    · exact Fin.ext (by show 0 + 1 * (j 1).val = (j 1).val; omega)
    · exact Fin.ext (by show 1792 + 1 * x.val = 1792 + x.val; omega)
  · refine congrArg₂ (fun a b : EReal => a * b) (blk4 t _) ((blk6 t _).trans (congrArg (wt m c) (funext (on_two ?_ ?_))))
    · exact Fin.ext (by show 0 + 1 * (j 1).val = (j 1).val; omega)
    · exact Fin.ext (by show 2048 + 1 * x.val = 2048 + x.val; omega)
  · refine congrArg₂ (fun a b : EReal => a * b) (blk5 t _) ((blk6 t _).trans (congrArg (wt m c) (funext (on_two ?_ ?_))))
    · exact Fin.ext (by show 0 + 1 * (j 1).val = (j 1).val; omega)
    · exact Fin.ext (by show 2304 + 1 * x.val = 2304 + x.val; omega)

theorem arr : (dats m 0 c).arrAt 8 cfg0.N = result m c := by
  refine (dats m 0 c).arrAt_eq_of_covers 8 _ (by decide +kernel) fun t hf y => ?_
  rw [after0_8, point, cast_eq]
  refine congrArg (result m c) (funext (on_two ?_ ?_))
  · refine Fin.ext ?_
    blk_simp [idx t, row]
  · refine Fin.ext ?_
    blk_simp [idx t, row]

theorem assoc (r s0 s1 s2 s3 s4 s5 : EReal) :
    r + (((((s0 + s1) + s2) + s3) + s4) + s5) = (((((r + s0) + s1) + s2) + s3) + s4) + s5 := by
  simp only [add_assoc]

open Cert.Reference6Ideal.Read in
theorem reference (i : S8192x1024.Idx) : val_main_v5 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) i = result m c i := by
  rw [val_main_v5_apply, val_main_v4_apply, six]
  unfold val_main_v1 val_main_v0
  pointwise
  refine (assoc _ _ _ _ _ _ _).trans ?_
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) (Finset.sum_congr rfl fun x _ => ?_)) (Finset.sum_congr rfl fun x _ => ?_)) (Finset.sum_congr rfl fun x _ => ?_)) (Finset.sum_congr rfl fun x _ => ?_)) (Finset.sum_congr rfl fun x _ => ?_)) (Finset.sum_congr rfl fun x _ => ?_)
  · rfl
  · have hx : x.val < 1024 := x.isLt
    refine congrArg₂ (fun a b : EReal => a * b) (congrArg (p0 m c) (funext (on_two ?_ ?_))) (congrArg (wt m c) (funext (on_two ?_ ?_)))
    · rfl
    · exact Fin.ext (by show x.val = x.val; omega)
    · rfl
    · rfl
  · have hx : x.val < 512 := x.isLt
    refine congrArg₂ (fun a b : EReal => a * b) (congrArg (p1 m c) (funext (on_two ?_ ?_))) (congrArg (wt m c) (funext (on_two ?_ ?_)))
    · rfl
    · exact Fin.ext (by show x.val = x.val; omega)
    · rfl
    · rfl
  · have hx : x.val < 256 := x.isLt
    rw [dif_neg (by omega), dif_neg (by omega), dif_pos (by omega)]
    refine congrArg₂ (fun a b : EReal => a * b) (congrArg (p2 m c) (funext (on_two ?_ ?_))) (congrArg (wt m c) (funext (on_two ?_ ?_)))
    · rfl
    · exact Fin.ext (by show 1536 + x.val - 1024 - 512 = x.val; omega)
    · rfl
    · rfl
  · have hx : x.val < 256 := x.isLt
    rw [dif_neg (by omega), dif_neg (by omega), dif_neg (by omega), dif_pos (by omega)]
    refine congrArg₂ (fun a b : EReal => a * b) (congrArg (p3 m c) (funext (on_two ?_ ?_))) (congrArg (wt m c) (funext (on_two ?_ ?_)))
    · rfl
    · exact Fin.ext (by show 1792 + x.val - 1024 - 512 - 256 = x.val; omega)
    · rfl
    · rfl
  · have hx : x.val < 256 := x.isLt
    rw [dif_neg (by omega), dif_neg (by omega), dif_neg (by omega), dif_neg (by omega), dif_pos (by omega)]
    refine congrArg₂ (fun a b : EReal => a * b) (congrArg (p4 m c) (funext (on_two ?_ ?_))) (congrArg (wt m c) (funext (on_two ?_ ?_)))
    · rfl
    · exact Fin.ext (by show 2048 + x.val - 1024 - 512 - 256 - 256 = x.val; omega)
    · rfl
    · rfl
  · have hx : x.val < 128 := x.isLt
    rw [dif_neg (by omega), dif_neg (by omega), dif_neg (by omega), dif_neg (by omega), dif_neg (by omega)]
    refine congrArg₂ (fun a b : EReal => a * b) (congrArg (p5 m c) (funext (on_two ?_ ?_))) (congrArg (wt m c) (funext (on_two ?_ ?_)))
    · rfl
    · exact Fin.ext (by show 2304 + x.val - 1024 - 512 - 256 - 256 - 256 = x.val; omega)
    · rfl
    · rfl

end Cert.Kernel6Ideal.Gen

end
-- ==== Proof.Wgrad7.lean ====
/- The gradient of the packed input projection, summed over sixteen points of 512 rows: each point adds, in six ranges of columns,
   the product of its rows of the layer's input with its rows of that piece of the cotangent. -/
module

public import proofs.«01_k».proof.Proof.Chunks
public import proofs.«01_k».proof.Proof.Gen.Kernel7Ideal.Value
public import proofs.«01_k».proof.Proof.Gen.Reference7Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel7Ideal.Gen

open Cert.Kernel7Ideal Cert.Kernel7Ideal.Gen Idealize.ShloMosaic Idealize.ShloMosaic.TcCoe Idealize.SL.Sem Cert.Chunks

/-! ## Sums over sixteen points -/

/-- Row `l` of the 512 rows that step `s` (of sixteen, counted around) takes. -/
def row16 (s : ℕ) (l : Fin 512) : Fin 8192 := ⟨s % 16 * 512 + l.val, by omega⟩

/-- The sum over the rows of the first `k + 1` steps. -/
def upTo16 (f : Fin 8192 → EReal) (k : ℕ) : EReal := ∑ p ∈ Finset.univ.filter (fun p : Fin 16 => p.val ≤ k), ∑ l, f (row16 p.val l)

theorem upTo16_first (f : Fin 8192 → EReal) : upTo16 f 0 = ∑ l, f (row16 0 l) := by
  unfold upTo16
  rw [show Finset.univ.filter (fun p : Fin 16 => p.val ≤ 0) = {0} from by decide, Finset.sum_singleton]
  rfl

theorem upTo16_next (f : Fin 8192 → EReal) (k : ℕ) (h : k + 1 < 16) : upTo16 f (k + 1) = upTo16 f k + ∑ l, f (row16 (k + 1) l) := by
  unfold upTo16
  rw [show Finset.univ.filter (fun p : Fin 16 => p.val ≤ k + 1) = insert ⟨k + 1, h⟩ (Finset.univ.filter fun p : Fin 16 => p.val ≤ k) from
    Finset.ext fun p => by
      simp only [Finset.mem_filter, Finset.mem_univ, true_and, Finset.mem_insert, Fin.ext_iff]; omega,
    Finset.sum_insert (by simp), add_comm]

/-- The eight steps' rows are all the rows. -/
theorem upTo16_all (f : Fin 8192 → EReal) : upTo16 f 15 = ∑ t, f t := by
  unfold upTo16
  rw [Finset.filter_true_of_mem fun p _ => Nat.le_of_lt_succ p.isLt, ← Fin.sum_mul_add_fin (S := 16) (n := 512) (L := 8192) f]
  refine Finset.sum_congr rfl fun p _ => Finset.sum_congr rfl fun l _ => congrArg f (Fin.ext ?_)
  show p.val % 16 * 512 + l.val = p.val * 512 + l.val
  rw [Nat.mod_eq_of_lt p.isLt]

theorem row16_mod (s : ℕ) (l : Fin 512) : row16 (s % 16) l = row16 s l := Fin.ext (by show s % 16 % 16 * 512 + l.val = _; rw [Nat.mod_mod]; rfl)

/-- Contents that start afresh at every sixteenth point and take on every point's rows hold, at the last of sixteen, the sum over
    all rows. -/
theorem total16 {ι : Type} {N : ℕ} (O : (n : ℕ) → n < N → ι → EReal) (T : ℕ → ι → Fin 8192 → EReal)
    (hA : ∀ n (h : n < N), n % 16 = 0 → ∀ i, O n h i = 0 + ∑ l, T (n / 16) i (row16 n l))
    (hB : ∀ n (h : n < N), ¬n % 16 = 0 → ∀ i, O n h i = O (n - 1) (Nat.lt_of_le_of_lt (Nat.sub_le _ _) h) i + ∑ l, T (n / 16) i (row16 n l))
    (n : ℕ) (h : n < N) (h7 : n % 16 = 15) (i : ι) : O n h i = ∑ t, T (n / 16) i t := by
  have key : ∀ n (h : n < N), O n h i = upTo16 (T (n / 16) i) (n % 16) := by
    intro n
    induction n with
    | zero => intro h; rw [hA 0 h rfl, zero_add]; exact (upTo16_first _).symm
    | succ n ih =>
      intro h
      by_cases h0 : (n + 1) % 16 = 0
      · rw [hA _ h h0, h0, zero_add, upTo16_first]
        exact Finset.sum_congr rfl fun l _ => congrArg _ ((row16_mod (n + 1) l).symm.trans (by rw [h0]))
      · rw [hB _ h h0]
        have e1 : (n + 1) / 16 = n / 16 := by omega
        have e2 : (n + 1) % 16 = n % 16 + 1 := by omega
        have e3 := ih (Nat.lt_of_succ_lt h)
        rw [show O (n + 1 - 1) (Nat.lt_of_le_of_lt (Nat.sub_le _ _) h) i = O n (Nat.lt_of_succ_lt h) i from rfl, e3, e1, e2,
          upTo16_next _ _ (by omega)]
        refine congrArg _ (Finset.sum_congr rfl fun l _ => congrArg _ ?_)
        rw [← row16_mod (n + 1) l, e2]
  rw [key n h, h7, upTo16_all]

theorem idx (t : Fin cfg0.N) : (win0_0.index t 0 = t.val % 16 ∧ win0_0.index t 1 = 0) ∧ (win0_1.index t 0 = t.val % 16 ∧ win0_1.index t 1 = 0) ∧ (win0_2.index t 0 = t.val % 16 ∧ win0_2.index t 1 = 0) ∧ (win0_3.index t 0 = t.val % 16 ∧ win0_3.index t 1 = 0) ∧ (win0_4.index t 0 = t.val % 16 ∧ win0_4.index t 1 = 0) ∧ (win0_5.index t 0 = t.val % 16 ∧ win0_5.index t 1 = 0) ∧ (win0_6.index t 0 = t.val % 16 ∧ win0_6.index t 1 = 0) ∧ (win0_7.index t 0 = 0 ∧ win0_7.index t 1 = 0) :=
  (by decide +kernel : ∀ t : Fin grid0.N, (win0_0.index t 0 = t.val % 16 ∧ win0_0.index t 1 = 0) ∧ (win0_1.index t 0 = t.val % 16 ∧ win0_1.index t 1 = 0) ∧ (win0_2.index t 0 = t.val % 16 ∧ win0_2.index t 1 = 0) ∧ (win0_3.index t 0 = t.val % 16 ∧ win0_3.index t 1 = 0) ∧ (win0_4.index t 0 = t.val % 16 ∧ win0_4.index t 1 = 0) ∧ (win0_5.index t 0 = t.val % 16 ∧ win0_5.index t 1 = 0) ∧ (win0_6.index t 0 = t.val % 16 ∧ win0_6.index t 1 = 0) ∧ (win0_7.index t 0 = 0 ∧ win0_7.index t 1 = 0)) t

/-! ## One point's additions -/

theorem add0 (h : S512x1024.Idx → EReal) (p : S1024x1024.Idx → EReal) (a : S512x1024.Idx → EReal) (j : S1024x1024.Idx) :
    k0_pay6 (F := Ideal) h p a j = p j + ∑ l : Fin 512, h (ValueIdx.ix2 l (j 0)) * a (ValueIdx.ix2 l (j 1)) := by
  unfold k0_pay6 k0_pay5
  pointwise
  rfl

theorem add1 (h : S512x1024.Idx → EReal) (p : S1024x512.Idx → EReal) (a : S512x512.Idx → EReal) (j : S1024x512.Idx) :
    k0_pay7 (F := Ideal) h p a j = p j + ∑ l : Fin 512, h (ValueIdx.ix2 l (j 0)) * a (ValueIdx.ix2 l (j 1)) := by
  unfold k0_pay7 k0_pay5
  pointwise
  rfl

theorem add2 (h : S512x1024.Idx → EReal) (p : S1024x256.Idx → EReal) (a : S512x256.Idx → EReal) (j : S1024x256.Idx) :
    k0_pay8 (F := Ideal) h p a j = p j + ∑ l : Fin 512, h (ValueIdx.ix2 l (j 0)) * a (ValueIdx.ix2 l (j 1)) := by
  unfold k0_pay8 k0_pay5
  pointwise
  rfl

theorem add3 (h : S512x1024.Idx → EReal) (p : S1024x256.Idx → EReal) (a : S512x256.Idx → EReal) (j : S1024x256.Idx) :
    k0_pay1 (F := Ideal) (k0_pay5 (F := Ideal) h) (k0_pay9 (F := Ideal) p) a j = p j + ∑ l : Fin 512, h (ValueIdx.ix2 l (j 0)) * a (ValueIdx.ix2 l (j 1)) := by
  unfold k0_pay1 k0_pay5 k0_pay9
  pointwise
  rfl

theorem add4 (h : S512x1024.Idx → EReal) (p : S1024x256.Idx → EReal) (a : S512x256.Idx → EReal) (j : S1024x256.Idx) :
    k0_pay2 (F := Ideal) (k0_pay5 (F := Ideal) h) p a j = p j + ∑ l : Fin 512, h (ValueIdx.ix2 l (j 0)) * a (ValueIdx.ix2 l (j 1)) := by
  unfold k0_pay2 k0_pay5
  pointwise
  rfl

theorem add5 (h : S512x1024.Idx → EReal) (p : S1024x128.Idx → EReal) (a : S512x128.Idx → EReal) (j : S1024x128.Idx) :
    k0_pay3 (F := Ideal) (k0_pay5 (F := Ideal) h) p a j = p j + ∑ l : Fin 512, h (ValueIdx.ix2 l (j 0)) * a (ValueIdx.ix2 l (j 1)) := by
  unfold k0_pay3 k0_pay5
  pointwise
  rfl

/-! ## Stores of a range of columns read back -/

theorem hit1024 (o : ℕ) (inb) (v : S1024x1024.Idx → Elt Ideal .f32) (L : List (View.Piece (Elt Ideal) S1024x2432 .f32)) (y : S1024x2432.Idx)
    (h : o ≤ (y 1).val ∧ (y 1).val < o + 1024) :
    View.canon ((⟨Rect.unit ![0, o] ![1024, 1024] inb, v⟩ : View.Piece (Elt Ideal) S1024x2432 .f32) :: L) y = v (ValueIdx.ix2 (y 0) (⟨(y 1).val - o, by omega⟩ : Fin 1024)) := by
  have e1 : y = (Rect.unit (s := S1024x2432) ![0, o] ![1024, 1024] inb).emb (ValueIdx.ix2 (y 0) (⟨(y 1).val - o, by omega⟩ : Fin 1024)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss1024 (o : ℕ) (inb) (v : S1024x1024.Idx → Elt Ideal .f32) (L : List (View.Piece (Elt Ideal) S1024x2432 .f32)) (y : S1024x2432.Idx)
    (h : ¬(o ≤ (y 1).val ∧ (y 1).val < o + 1024)) :
    View.canon ((⟨Rect.unit ![0, o] ![1024, 1024] inb, v⟩ : View.Piece (Elt Ideal) S1024x2432 .f32) :: L) y = View.canon L y := by
  refine View.canon_cons_of_not_mem _ _ fun hm => ?_
  have h1 := (Rect.mem_set_unit (inb := inb)).mp hm 1
  have h2 : o ≤ (y 1).val ∧ (y 1).val < o + 1024 := h1
  exact h h2

theorem load1024 (o : ℕ) (inb) (X : S1024x2432.Idx → Elt Ideal .f32) (j : S1024x1024.Idx) (z : Fin 2432) (h : z.val = o + (j 1).val) :
    View.ld (Val := Elt Ideal) (S := S1024x2432) (e' := .f32) X (Rect.unit ![0, o] ![1024, 1024] inb) j = X (ValueIdx.ix2 (j 0) z) :=
  congrArg X (funext (on_two (Fin.ext (by show 0 + 1 * (j 0).val = (j 0).val; omega)) (Fin.ext (by show o + 1 * (j 1).val = z.val; omega))))

theorem hit512 (o : ℕ) (inb) (v : S1024x512.Idx → Elt Ideal .f32) (L : List (View.Piece (Elt Ideal) S1024x2432 .f32)) (y : S1024x2432.Idx)
    (h : o ≤ (y 1).val ∧ (y 1).val < o + 512) :
    View.canon ((⟨Rect.unit ![0, o] ![1024, 512] inb, v⟩ : View.Piece (Elt Ideal) S1024x2432 .f32) :: L) y = v (ValueIdx.ix2 (y 0) (⟨(y 1).val - o, by omega⟩ : Fin 512)) := by
  have e1 : y = (Rect.unit (s := S1024x2432) ![0, o] ![1024, 512] inb).emb (ValueIdx.ix2 (y 0) (⟨(y 1).val - o, by omega⟩ : Fin 512)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss512 (o : ℕ) (inb) (v : S1024x512.Idx → Elt Ideal .f32) (L : List (View.Piece (Elt Ideal) S1024x2432 .f32)) (y : S1024x2432.Idx)
    (h : ¬(o ≤ (y 1).val ∧ (y 1).val < o + 512)) :
    View.canon ((⟨Rect.unit ![0, o] ![1024, 512] inb, v⟩ : View.Piece (Elt Ideal) S1024x2432 .f32) :: L) y = View.canon L y := by
  refine View.canon_cons_of_not_mem _ _ fun hm => ?_
  have h1 := (Rect.mem_set_unit (inb := inb)).mp hm 1
  have h2 : o ≤ (y 1).val ∧ (y 1).val < o + 512 := h1
  exact h h2

theorem load512 (o : ℕ) (inb) (X : S1024x2432.Idx → Elt Ideal .f32) (j : S1024x512.Idx) (z : Fin 2432) (h : z.val = o + (j 1).val) :
    View.ld (Val := Elt Ideal) (S := S1024x2432) (e' := .f32) X (Rect.unit ![0, o] ![1024, 512] inb) j = X (ValueIdx.ix2 (j 0) z) :=
  congrArg X (funext (on_two (Fin.ext (by show 0 + 1 * (j 0).val = (j 0).val; omega)) (Fin.ext (by show o + 1 * (j 1).val = z.val; omega))))

theorem hit256 (o : ℕ) (inb) (v : S1024x256.Idx → Elt Ideal .f32) (L : List (View.Piece (Elt Ideal) S1024x2432 .f32)) (y : S1024x2432.Idx)
    (h : o ≤ (y 1).val ∧ (y 1).val < o + 256) :
    View.canon ((⟨Rect.unit ![0, o] ![1024, 256] inb, v⟩ : View.Piece (Elt Ideal) S1024x2432 .f32) :: L) y = v (ValueIdx.ix2 (y 0) (⟨(y 1).val - o, by omega⟩ : Fin 256)) := by
  have e1 : y = (Rect.unit (s := S1024x2432) ![0, o] ![1024, 256] inb).emb (ValueIdx.ix2 (y 0) (⟨(y 1).val - o, by omega⟩ : Fin 256)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss256 (o : ℕ) (inb) (v : S1024x256.Idx → Elt Ideal .f32) (L : List (View.Piece (Elt Ideal) S1024x2432 .f32)) (y : S1024x2432.Idx)
    (h : ¬(o ≤ (y 1).val ∧ (y 1).val < o + 256)) :
    View.canon ((⟨Rect.unit ![0, o] ![1024, 256] inb, v⟩ : View.Piece (Elt Ideal) S1024x2432 .f32) :: L) y = View.canon L y := by
  refine View.canon_cons_of_not_mem _ _ fun hm => ?_
  have h1 := (Rect.mem_set_unit (inb := inb)).mp hm 1
  have h2 : o ≤ (y 1).val ∧ (y 1).val < o + 256 := h1
  exact h h2

theorem load256 (o : ℕ) (inb) (X : S1024x2432.Idx → Elt Ideal .f32) (j : S1024x256.Idx) (z : Fin 2432) (h : z.val = o + (j 1).val) :
    View.ld (Val := Elt Ideal) (S := S1024x2432) (e' := .f32) X (Rect.unit ![0, o] ![1024, 256] inb) j = X (ValueIdx.ix2 (j 0) z) :=
  congrArg X (funext (on_two (Fin.ext (by show 0 + 1 * (j 0).val = (j 0).val; omega)) (Fin.ext (by show o + 1 * (j 1).val = z.val; omega))))

theorem hit128 (o : ℕ) (inb) (v : S1024x128.Idx → Elt Ideal .f32) (L : List (View.Piece (Elt Ideal) S1024x2432 .f32)) (y : S1024x2432.Idx)
    (h : o ≤ (y 1).val ∧ (y 1).val < o + 128) :
    View.canon ((⟨Rect.unit ![0, o] ![1024, 128] inb, v⟩ : View.Piece (Elt Ideal) S1024x2432 .f32) :: L) y = v (ValueIdx.ix2 (y 0) (⟨(y 1).val - o, by omega⟩ : Fin 128)) := by
  have e1 : y = (Rect.unit (s := S1024x2432) ![0, o] ![1024, 128] inb).emb (ValueIdx.ix2 (y 0) (⟨(y 1).val - o, by omega⟩ : Fin 128)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss128 (o : ℕ) (inb) (v : S1024x128.Idx → Elt Ideal .f32) (L : List (View.Piece (Elt Ideal) S1024x2432 .f32)) (y : S1024x2432.Idx)
    (h : ¬(o ≤ (y 1).val ∧ (y 1).val < o + 128)) :
    View.canon ((⟨Rect.unit ![0, o] ![1024, 128] inb, v⟩ : View.Piece (Elt Ideal) S1024x2432 .f32) :: L) y = View.canon L y := by
  refine View.canon_cons_of_not_mem _ _ fun hm => ?_
  have h1 := (Rect.mem_set_unit (inb := inb)).mp hm 1
  have h2 : o ≤ (y 1).val ∧ (y 1).val < o + 128 := h1
  exact h h2

theorem load128 (o : ℕ) (inb) (X : S1024x2432.Idx → Elt Ideal .f32) (j : S1024x128.Idx) (z : Fin 2432) (h : z.val = o + (j 1).val) :
    View.ld (Val := Elt Ideal) (S := S1024x2432) (e' := .f32) X (Rect.unit ![0, o] ![1024, 128] inb) j = X (ValueIdx.ix2 (j 0) z) :=
  congrArg X (funext (on_two (Fin.ext (by show 0 + 1 * (j 0).val = (j 0).val; omega)) (Fin.ext (by show o + 1 * (j 1).val = z.val; omega))))

/-- The array after a fresh start is zero before the additions. -/
theorem fresh (y : S1024x2432.Idx) :
    View.canon [(⟨Rect.unit ![0, 0] ![1024, 2432] inb_S1024x2432_S1024x2432_0_0, k0_pay4 (F := Ideal)⟩ : View.Piece (Elt Ideal) S1024x2432 .f32)] y = 0 := by
  have e1 : y = (Rect.unit (s := S1024x2432) ![0, 0] ![1024, 2432] inb_S1024x2432_S1024x2432_0_0).emb y := by
    funext a
    match a with
    | 0 => exact Fin.ext (by rw [ValueKit.rect_emb_unit_val]; show (y 0).val = 0 + (y 0).val; omega)
    | 1 => exact Fin.ext (by rw [ValueKit.rect_emb_unit_val]; show (y 1).val = 0 + (y 1).val; omega)
  conv_lhs => rw [e1]
  rw [View.canon_cons_emb]
  unfold k0_pay4
  pointwise

variable {m : (ℓ : Loc nD τ sig) → Buf (Elt Ideal) ℓ} {c : Dev nD} (t : Fin cfg0.N)

variable (m c) in
/-- Argument 0. -/
def a0 : S8192x1024.Idx → EReal := m (c.tc.loc main_arg0)
variable (m c) in
/-- The block of argument 0 that a point reads. -/
def b0 : S512x1024.Idx → EReal := iblk m c 0 t

theorem blk0 (i : S512x1024.Idx) : b0 m c t i = a0 m c (ValueIdx.ix2 (row16 t.val (i 0)) (i 1)) := by
  show iblk m c 0 t i = _
  have e : iblk m c 0 t i = (V m c main_arg0 : (⟨S8192x1024, .bf16⟩ : BufTy).Contents (Elt Ideal)) (ValueIdx.ix2 (row16 t.val (i 0)) (i 1)) := by
    blk_ext [iblk, idx t, row16]
  rw [e, V_main_arg0]
  rfl

variable (m c) in
/-- Argument 1. -/
def a1 : S8192x512.Idx → EReal := m (c.tc.loc main_arg1)
variable (m c) in
/-- The block of argument 1 that a point reads. -/
def b1 : S512x512.Idx → EReal := iblk m c 1 t

theorem blk1 (i : S512x512.Idx) : b1 m c t i = a1 m c (ValueIdx.ix2 (row16 t.val (i 0)) (i 1)) := by
  show iblk m c 1 t i = _
  have e : iblk m c 1 t i = (V m c main_arg1 : (⟨S8192x512, .bf16⟩ : BufTy).Contents (Elt Ideal)) (ValueIdx.ix2 (row16 t.val (i 0)) (i 1)) := by
    blk_ext [iblk, idx t, row16]
  rw [e, V_main_arg1]
  rfl

variable (m c) in
/-- Argument 2. -/
def a2 : S8192x256.Idx → EReal := m (c.tc.loc main_arg2)
variable (m c) in
/-- The block of argument 2 that a point reads. -/
def b2 : S512x256.Idx → EReal := iblk m c 2 t

theorem blk2 (i : S512x256.Idx) : b2 m c t i = a2 m c (ValueIdx.ix2 (row16 t.val (i 0)) (i 1)) := by
  show iblk m c 2 t i = _
  have e : iblk m c 2 t i = (V m c main_arg2 : (⟨S8192x256, .bf16⟩ : BufTy).Contents (Elt Ideal)) (ValueIdx.ix2 (row16 t.val (i 0)) (i 1)) := by
    blk_ext [iblk, idx t, row16]
  rw [e, V_main_arg2]
  rfl

variable (m c) in
/-- Argument 3. -/
def a3 : S8192x256.Idx → EReal := m (c.tc.loc main_arg3)
variable (m c) in
/-- The block of argument 3 that a point reads. -/
def b3 : S512x256.Idx → EReal := iblk m c 3 t

theorem blk3 (i : S512x256.Idx) : b3 m c t i = a3 m c (ValueIdx.ix2 (row16 t.val (i 0)) (i 1)) := by
  show iblk m c 3 t i = _
  have e : iblk m c 3 t i = (V m c main_arg3 : (⟨S8192x256, .bf16⟩ : BufTy).Contents (Elt Ideal)) (ValueIdx.ix2 (row16 t.val (i 0)) (i 1)) := by
    blk_ext [iblk, idx t, row16]
  rw [e, V_main_arg3]
  rfl

variable (m c) in
/-- Argument 4. -/
def a4 : S8192x256.Idx → EReal := m (c.tc.loc main_arg4)
variable (m c) in
/-- The block of argument 4 that a point reads. -/
def b4 : S512x256.Idx → EReal := iblk m c 4 t

theorem blk4 (i : S512x256.Idx) : b4 m c t i = a4 m c (ValueIdx.ix2 (row16 t.val (i 0)) (i 1)) := by
  show iblk m c 4 t i = _
  have e : iblk m c 4 t i = (V m c main_arg4 : (⟨S8192x256, .bf16⟩ : BufTy).Contents (Elt Ideal)) (ValueIdx.ix2 (row16 t.val (i 0)) (i 1)) := by
    blk_ext [iblk, idx t, row16]
  rw [e, V_main_arg4]
  rfl

variable (m c) in
/-- Argument 5. -/
def a5 : S8192x128.Idx → EReal := m (c.tc.loc main_arg5)
variable (m c) in
/-- The block of argument 5 that a point reads. -/
def b5 : S512x128.Idx → EReal := iblk m c 5 t

theorem blk5 (i : S512x128.Idx) : b5 m c t i = a5 m c (ValueIdx.ix2 (row16 t.val (i 0)) (i 1)) := by
  show iblk m c 5 t i = _
  have e : iblk m c 5 t i = (V m c main_arg5 : (⟨S8192x128, .bf16⟩ : BufTy).Contents (Elt Ideal)) (ValueIdx.ix2 (row16 t.val (i 0)) (i 1)) := by
    blk_ext [iblk, idx t, row16]
  rw [e, V_main_arg5]
  rfl

variable (m c) in
/-- Argument 6. -/
def a6 : S8192x1024.Idx → EReal := m (c.tc.loc main_arg6)
variable (m c) in
/-- The block of argument 6 that a point reads. -/
def b6 : S512x1024.Idx → EReal := iblk m c 6 t

theorem blk6 (i : S512x1024.Idx) : b6 m c t i = a6 m c (ValueIdx.ix2 (row16 t.val (i 0)) (i 1)) := by
  show iblk m c 6 t i = _
  have e : iblk m c 6 t i = (V m c main_arg6 : (⟨S8192x1024, .f32⟩ : BufTy).Contents (Elt Ideal)) (ValueIdx.ix2 (row16 t.val (i 0)) (i 1)) := by
    blk_ext [iblk, idx t, row16]
  rw [e, V_main_arg6]
  rfl

variable (m c) in
/-- The six pieces of the projection's cotangent side by side. -/
def cat (i : Cert.Reference7Ideal.S8192x2432.Idx) : EReal :=
  if h0 : (i 1).val < 1024 then a0 m c (ValueIdx.ix2 (i 0) (⟨(i 1).val, h0⟩ : Fin 1024))
  else if h1 : (i 1).val - 1024 < 512 then a1 m c (ValueIdx.ix2 (i 0) (⟨(i 1).val - 1024, h1⟩ : Fin 512))
  else if h2 : (i 1).val - 1024 - 512 < 256 then a2 m c (ValueIdx.ix2 (i 0) (⟨(i 1).val - 1024 - 512, h2⟩ : Fin 256))
  else if h3 : (i 1).val - 1024 - 512 - 256 < 256 then a3 m c (ValueIdx.ix2 (i 0) (⟨(i 1).val - 1024 - 512 - 256, h3⟩ : Fin 256))
  else if h4 : (i 1).val - 1024 - 512 - 256 - 256 < 256 then a4 m c (ValueIdx.ix2 (i 0) (⟨(i 1).val - 1024 - 512 - 256 - 256, h4⟩ : Fin 256))
  else a5 m c (ValueIdx.ix2 (i 0) (⟨(i 1).val - 1024 - 512 - 256 - 256 - 256, by have h : (i 1).val < 2432 := (i 1).isLt; omega⟩ : Fin 128))

theorem cat_0 (r : Fin 8192) (z : Fin 2432) (h : 0 ≤ z.val ∧ z.val < 0 + 1024) : cat m c (ValueIdx.ix2 r z) = a0 m c (ValueIdx.ix2 r (⟨z.val - 0, by omega⟩ : Fin 1024)) := by
  have hv : ((ValueIdx.ix2 r z : Cert.Reference7Ideal.S8192x2432.Idx) 1).val = z.val := rfl
  unfold cat
  rw [dif_pos (by omega)]
  exact congrArg (fun z => a0 m c (ValueIdx.ix2 r z)) (Fin.ext (by show z.val = z.val - 0; omega))

theorem cat_1 (r : Fin 8192) (z : Fin 2432) (h : 1024 ≤ z.val ∧ z.val < 1024 + 512) : cat m c (ValueIdx.ix2 r z) = a1 m c (ValueIdx.ix2 r (⟨z.val - 1024, by omega⟩ : Fin 512)) := by
  have hv : ((ValueIdx.ix2 r z : Cert.Reference7Ideal.S8192x2432.Idx) 1).val = z.val := rfl
  unfold cat
  rw [dif_neg (by omega), dif_pos (by omega)]

theorem cat_2 (r : Fin 8192) (z : Fin 2432) (h : 1536 ≤ z.val ∧ z.val < 1536 + 256) : cat m c (ValueIdx.ix2 r z) = a2 m c (ValueIdx.ix2 r (⟨z.val - 1536, by omega⟩ : Fin 256)) := by
  have hv : ((ValueIdx.ix2 r z : Cert.Reference7Ideal.S8192x2432.Idx) 1).val = z.val := rfl
  unfold cat
  rw [dif_neg (by omega), dif_neg (by omega), dif_pos (by omega)]
  exact congrArg (fun z => a2 m c (ValueIdx.ix2 r z)) (Fin.ext (by show z.val - 1024 - 512 = z.val - 1536; omega))

theorem cat_3 (r : Fin 8192) (z : Fin 2432) (h : 1792 ≤ z.val ∧ z.val < 1792 + 256) : cat m c (ValueIdx.ix2 r z) = a3 m c (ValueIdx.ix2 r (⟨z.val - 1792, by omega⟩ : Fin 256)) := by
  have hv : ((ValueIdx.ix2 r z : Cert.Reference7Ideal.S8192x2432.Idx) 1).val = z.val := rfl
  unfold cat
  rw [dif_neg (by omega), dif_neg (by omega), dif_neg (by omega), dif_pos (by omega)]
  exact congrArg (fun z => a3 m c (ValueIdx.ix2 r z)) (Fin.ext (by show z.val - 1024 - 512 - 256 = z.val - 1792; omega))

theorem cat_4 (r : Fin 8192) (z : Fin 2432) (h : 2048 ≤ z.val ∧ z.val < 2048 + 256) : cat m c (ValueIdx.ix2 r z) = a4 m c (ValueIdx.ix2 r (⟨z.val - 2048, by omega⟩ : Fin 256)) := by
  have hv : ((ValueIdx.ix2 r z : Cert.Reference7Ideal.S8192x2432.Idx) 1).val = z.val := rfl
  unfold cat
  rw [dif_neg (by omega), dif_neg (by omega), dif_neg (by omega), dif_neg (by omega), dif_pos (by omega)]
  exact congrArg (fun z => a4 m c (ValueIdx.ix2 r z)) (Fin.ext (by show z.val - 1024 - 512 - 256 - 256 = z.val - 2048; omega))

theorem cat_5 (r : Fin 8192) (z : Fin 2432) (h : 2304 ≤ z.val ∧ z.val < 2304 + 128) : cat m c (ValueIdx.ix2 r z) = a5 m c (ValueIdx.ix2 r (⟨z.val - 2304, by omega⟩ : Fin 128)) := by
  have hv : ((ValueIdx.ix2 r z : Cert.Reference7Ideal.S8192x2432.Idx) 1).val = z.val := rfl
  unfold cat
  rw [dif_neg (by omega), dif_neg (by omega), dif_neg (by omega), dif_neg (by omega), dif_neg (by omega)]
  exact congrArg (fun z => a5 m c (ValueIdx.ix2 r z)) (Fin.ext (by show z.val - 1024 - 512 - 256 - 256 - 256 = z.val - 2304; omega))

variable (m c) in
/-- What row `s` of the arguments adds to place `y`. -/
def term (y : S1024x2432.Idx) : Fin 8192 → EReal :=
  fun s => a6 m c (ValueIdx.ix2 s (y 0)) * cat m c (ValueIdx.ix2 s (y 1))

theorem term0 (y : S1024x2432.Idx) (h : 0 ≤ (y 1).val ∧ (y 1).val < 0 + 1024) (l : Fin 512) :
    b6 m c t (ValueIdx.ix2 l (y 0)) * b0 m c t (ValueIdx.ix2 l (⟨(y 1).val - 0, by omega⟩ : Fin 1024)) = term m c y (row16 t.val l) := by
  rw [blk6, blk0]
  unfold term
  exact congrArg₂ (fun a b : EReal => a * b) rfl (cat_0 _ _ h).symm

theorem term1 (y : S1024x2432.Idx) (h : 1024 ≤ (y 1).val ∧ (y 1).val < 1024 + 512) (l : Fin 512) :
    b6 m c t (ValueIdx.ix2 l (y 0)) * b1 m c t (ValueIdx.ix2 l (⟨(y 1).val - 1024, by omega⟩ : Fin 512)) = term m c y (row16 t.val l) := by
  rw [blk6, blk1]
  unfold term
  exact congrArg₂ (fun a b : EReal => a * b) rfl (cat_1 _ _ h).symm

theorem term2 (y : S1024x2432.Idx) (h : 1536 ≤ (y 1).val ∧ (y 1).val < 1536 + 256) (l : Fin 512) :
    b6 m c t (ValueIdx.ix2 l (y 0)) * b2 m c t (ValueIdx.ix2 l (⟨(y 1).val - 1536, by omega⟩ : Fin 256)) = term m c y (row16 t.val l) := by
  rw [blk6, blk2]
  unfold term
  exact congrArg₂ (fun a b : EReal => a * b) rfl (cat_2 _ _ h).symm

theorem term3 (y : S1024x2432.Idx) (h : 1792 ≤ (y 1).val ∧ (y 1).val < 1792 + 256) (l : Fin 512) :
    b6 m c t (ValueIdx.ix2 l (y 0)) * b3 m c t (ValueIdx.ix2 l (⟨(y 1).val - 1792, by omega⟩ : Fin 256)) = term m c y (row16 t.val l) := by
  rw [blk6, blk3]
  unfold term
  exact congrArg₂ (fun a b : EReal => a * b) rfl (cat_3 _ _ h).symm

theorem term4 (y : S1024x2432.Idx) (h : 2048 ≤ (y 1).val ∧ (y 1).val < 2048 + 256) (l : Fin 512) :
    b6 m c t (ValueIdx.ix2 l (y 0)) * b4 m c t (ValueIdx.ix2 l (⟨(y 1).val - 2048, by omega⟩ : Fin 256)) = term m c y (row16 t.val l) := by
  rw [blk6, blk4]
  unfold term
  exact congrArg₂ (fun a b : EReal => a * b) rfl (cat_4 _ _ h).symm

theorem term5 (y : S1024x2432.Idx) (h : 2304 ≤ (y 1).val ∧ (y 1).val < 2304 + 128) (l : Fin 512) :
    b6 m c t (ValueIdx.ix2 l (y 0)) * b5 m c t (ValueIdx.ix2 l (⟨(y 1).val - 2304, by omega⟩ : Fin 128)) = term m c y (row16 t.val l) := by
  rw [blk6, blk5]
  unfold term
  exact congrArg₂ (fun a b : EReal => a * b) rfl (cat_5 _ _ h).symm

theorem cases6 (y : S1024x2432.Idx) : (0 ≤ (y 1).val ∧ (y 1).val < 0 + 1024) ∨ (1024 ≤ (y 1).val ∧ (y 1).val < 1024 + 512) ∨ (1536 ≤ (y 1).val ∧ (y 1).val < 1536 + 256) ∨ (1792 ≤ (y 1).val ∧ (y 1).val < 1792 + 256) ∨ (2048 ≤ (y 1).val ∧ (y 1).val < 2048 + 256) ∨ (2304 ≤ (y 1).val ∧ (y 1).val < 2304 + 128) := by
  have h : (y 1).val < 2432 := (y 1).isLt
  omega

theorem pair (y : S1024x2432.Idx) : ValueIdx.ix2 (y 0) (y 1) = y := funext (on_two rfl rfl)

theorem out_A (h0 : t.val % 16 = 0) (y : S1024x2432.Idx) :
    outsAt0 m c t.val t.isLt y = 0 + ∑ l, term m c y (row16 t.val l) := by
  rw [outsAt0_A m c t h0]
  frame_out
  simp only [View.readCov_eq_canon']
  rcases cases6 y with h | h | h | h | h | h
  · rw [miss128 2304 _ _ _ _ (by omega), miss256 2048 _ _ _ _ (by omega), miss256 1792 _ _ _ _ (by omega), miss256 1536 _ _ _ _ (by omega), miss512 1024 _ _ _ _ (by omega), hit1024 0 _ _ _ _ h]
    refine (add0 (b6 m c t) _ (b0 m c t) _).trans ?_
    refine congrArg₂ (· + ·) ?_ (Finset.sum_congr rfl fun l _ => term0 t y h l)
    refine (load1024 0 _ _ _ (y 1) (by show (y 1).val = 0 + ((y 1).val - 0); omega)).trans ?_
    exact fresh _
  · rw [miss128 2304 _ _ _ _ (by omega), miss256 2048 _ _ _ _ (by omega), miss256 1792 _ _ _ _ (by omega), miss256 1536 _ _ _ _ (by omega), hit512 1024 _ _ _ _ h]
    refine (add1 (b6 m c t) _ (b1 m c t) _).trans ?_
    refine congrArg₂ (· + ·) ?_ (Finset.sum_congr rfl fun l _ => term1 t y h l)
    refine (load512 1024 _ _ _ (y 1) (by show (y 1).val = 1024 + ((y 1).val - 1024); omega)).trans ?_
    exact (miss1024 0 _ _ _ _ (by show ¬(0 ≤ (y 1).val ∧ (y 1).val < 0 + 1024); omega)).trans (fresh _)
  · rw [miss128 2304 _ _ _ _ (by omega), miss256 2048 _ _ _ _ (by omega), miss256 1792 _ _ _ _ (by omega), hit256 1536 _ _ _ _ h]
    refine (add2 (b6 m c t) _ (b2 m c t) _).trans ?_
    refine congrArg₂ (· + ·) ?_ (Finset.sum_congr rfl fun l _ => term2 t y h l)
    refine (load256 1536 _ _ _ (y 1) (by show (y 1).val = 1536 + ((y 1).val - 1536); omega)).trans ?_
    exact (miss512 1024 _ _ _ _ (by show ¬(1024 ≤ (y 1).val ∧ (y 1).val < 1024 + 512); omega)).trans ((miss1024 0 _ _ _ _ (by show ¬(0 ≤ (y 1).val ∧ (y 1).val < 0 + 1024); omega)).trans (fresh _))
  · rw [miss128 2304 _ _ _ _ (by omega), miss256 2048 _ _ _ _ (by omega), hit256 1792 _ _ _ _ h]
    refine (add3 (b6 m c t) _ (b3 m c t) _).trans ?_
    refine congrArg₂ (· + ·) ?_ (Finset.sum_congr rfl fun l _ => term3 t y h l)
    refine (load256 1792 _ _ _ (y 1) (by show (y 1).val = 1792 + ((y 1).val - 1792); omega)).trans ?_
    exact (miss256 1536 _ _ _ _ (by show ¬(1536 ≤ (y 1).val ∧ (y 1).val < 1536 + 256); omega)).trans ((miss512 1024 _ _ _ _ (by show ¬(1024 ≤ (y 1).val ∧ (y 1).val < 1024 + 512); omega)).trans ((miss1024 0 _ _ _ _ (by show ¬(0 ≤ (y 1).val ∧ (y 1).val < 0 + 1024); omega)).trans (fresh _)))
  · rw [miss128 2304 _ _ _ _ (by omega), hit256 2048 _ _ _ _ h]
    refine (add4 (b6 m c t) _ (b4 m c t) _).trans ?_
    refine congrArg₂ (· + ·) ?_ (Finset.sum_congr rfl fun l _ => term4 t y h l)
    refine (load256 2048 _ _ _ (y 1) (by show (y 1).val = 2048 + ((y 1).val - 2048); omega)).trans ?_
    exact (miss256 1792 _ _ _ _ (by show ¬(1792 ≤ (y 1).val ∧ (y 1).val < 1792 + 256); omega)).trans ((miss256 1536 _ _ _ _ (by show ¬(1536 ≤ (y 1).val ∧ (y 1).val < 1536 + 256); omega)).trans ((miss512 1024 _ _ _ _ (by show ¬(1024 ≤ (y 1).val ∧ (y 1).val < 1024 + 512); omega)).trans ((miss1024 0 _ _ _ _ (by show ¬(0 ≤ (y 1).val ∧ (y 1).val < 0 + 1024); omega)).trans (fresh _))))
  · rw [hit128 2304 _ _ _ _ h]
    refine (add5 (b6 m c t) _ (b5 m c t) _).trans ?_
    refine congrArg₂ (· + ·) ?_ (Finset.sum_congr rfl fun l _ => term5 t y h l)
    refine (load128 2304 _ _ _ (y 1) (by show (y 1).val = 2304 + ((y 1).val - 2304); omega)).trans ?_
    exact (miss256 2048 _ _ _ _ (by show ¬(2048 ≤ (y 1).val ∧ (y 1).val < 2048 + 256); omega)).trans ((miss256 1792 _ _ _ _ (by show ¬(1792 ≤ (y 1).val ∧ (y 1).val < 1792 + 256); omega)).trans ((miss256 1536 _ _ _ _ (by show ¬(1536 ≤ (y 1).val ∧ (y 1).val < 1536 + 256); omega)).trans ((miss512 1024 _ _ _ _ (by show ¬(1024 ≤ (y 1).val ∧ (y 1).val < 1024 + 512); omega)).trans ((miss1024 0 _ _ _ _ (by show ¬(0 ≤ (y 1).val ∧ (y 1).val < 0 + 1024); omega)).trans (fresh _)))))

theorem out_B (h0 : ¬t.val % 16 = 0) (y : S1024x2432.Idx) :
    outsAt0 m c t.val t.isLt y
      = outsAt0 m c (t.val - 1) (Nat.lt_of_le_of_lt (Nat.sub_le _ _) t.isLt) y + ∑ l, term m c y (row16 t.val l) := by
  rw [outsAt0_B m c t h0]
  frame_out
  rcases cases6 y with h | h | h | h | h | h
  · rw [miss128 2304 _ _ _ _ (by omega), miss256 2048 _ _ _ _ (by omega), miss256 1792 _ _ _ _ (by omega), miss256 1536 _ _ _ _ (by omega), miss512 1024 _ _ _ _ (by omega), hit1024 0 _ _ _ _ h]
    refine (add0 (b6 m c t) _ (b0 m c t) _).trans ?_
    refine congrArg₂ (· + ·) ?_ (Finset.sum_congr rfl fun l _ => term0 t y h l)
    refine (load1024 0 _ _ _ (y 1) (by show (y 1).val = 0 + ((y 1).val - 0); omega)).trans ?_
    exact congrArg _ (pair y)
  · rw [miss128 2304 _ _ _ _ (by omega), miss256 2048 _ _ _ _ (by omega), miss256 1792 _ _ _ _ (by omega), miss256 1536 _ _ _ _ (by omega), hit512 1024 _ _ _ _ h]
    refine (add1 (b6 m c t) _ (b1 m c t) _).trans ?_
    refine congrArg₂ (· + ·) ?_ (Finset.sum_congr rfl fun l _ => term1 t y h l)
    refine (load512 1024 _ _ _ (y 1) (by show (y 1).val = 1024 + ((y 1).val - 1024); omega)).trans ?_
    exact congrArg _ (pair y)
  · rw [miss128 2304 _ _ _ _ (by omega), miss256 2048 _ _ _ _ (by omega), miss256 1792 _ _ _ _ (by omega), hit256 1536 _ _ _ _ h]
    refine (add2 (b6 m c t) _ (b2 m c t) _).trans ?_
    refine congrArg₂ (· + ·) ?_ (Finset.sum_congr rfl fun l _ => term2 t y h l)
    refine (load256 1536 _ _ _ (y 1) (by show (y 1).val = 1536 + ((y 1).val - 1536); omega)).trans ?_
    exact congrArg _ (pair y)
  · rw [miss128 2304 _ _ _ _ (by omega), miss256 2048 _ _ _ _ (by omega), hit256 1792 _ _ _ _ h]
    refine (add3 (b6 m c t) _ (b3 m c t) _).trans ?_
    refine congrArg₂ (· + ·) ?_ (Finset.sum_congr rfl fun l _ => term3 t y h l)
    refine (load256 1792 _ _ _ (y 1) (by show (y 1).val = 1792 + ((y 1).val - 1792); omega)).trans ?_
    exact congrArg _ (pair y)
  · rw [miss128 2304 _ _ _ _ (by omega), hit256 2048 _ _ _ _ h]
    refine (add4 (b6 m c t) _ (b4 m c t) _).trans ?_
    refine congrArg₂ (· + ·) ?_ (Finset.sum_congr rfl fun l _ => term4 t y h l)
    refine (load256 2048 _ _ _ (y 1) (by show (y 1).val = 2048 + ((y 1).val - 2048); omega)).trans ?_
    exact congrArg _ (pair y)
  · rw [hit128 2304 _ _ _ _ h]
    refine (add5 (b6 m c t) _ (b5 m c t) _).trans ?_
    refine congrArg₂ (· + ·) ?_ (Finset.sum_congr rfl fun l _ => term5 t y h l)
    refine (load128 2304 _ _ _ (y 1) (by show (y 1).val = 2304 + ((y 1).val - 2304); omega)).trans ?_
    exact congrArg _ (pair y)

/-- What the last point leaves. -/
theorem out_last (h7 : t.val % 16 = 15) (y : S1024x2432.Idx) : outsAt0 m c t.val t.isLt y = ∑ s, term m c y s :=
  total16 (fun n h => outsAt0 m c n h) (fun _ y => term m c y) (fun n h h0 y => out_A ⟨n, h⟩ h0 y) (fun n h h0 y => out_B ⟨n, h⟩ h0 y) t.val t.isLt h7 y

/-! ## The whole array -/

variable (m c) in
/-- The product over all rows. -/
def result (y : S1024x2432.Idx) : EReal := ∑ s, term m c y s

theorem arr : (dats m 0 c).arrAt 7 cfg0.N = result m c := by
  refine (dats m 0 c).arrAt_eq_of_covers 7 _ (by decide +kernel) fun t hf y => ?_
  rw [after0_7, out_last t ((flush0_7 t).mp hf), cast_eq]
  show result m c y = _
  refine congrArg (result m c) (funext (on_two ?_ ?_))
  · refine Fin.ext ?_
    blk_simp [idx t]
  · refine Fin.ext ?_
    blk_simp [idx t]

open Cert.Reference7Ideal.Read in
theorem cat_eq (i : Cert.Reference7Ideal.S8192x2432.Idx) : val_main_v0 (F := Ideal) (m (c.tc.loc main_arg0)) (m (c.tc.loc main_arg1)) (m (c.tc.loc main_arg2)) (m (c.tc.loc main_arg3)) (m (c.tc.loc main_arg4)) (m (c.tc.loc main_arg5)) i = cat m c i := by
  unfold val_main_v0
  pointwise
  rfl

open Cert.Reference7Ideal.Read in
theorem reference (i : S1024x2432.Idx) : val_main_v5 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) i = result m c i := by
  rw [val_main_v5_apply, val_main_v4_apply]
  unfold result term
  refine Finset.sum_congr rfl fun s _ => (mul_comm _ _).trans ?_
  refine congrArg₂ (fun a b : EReal => a * b) (congrArg (a6 m c) ?_) ((cat_eq _).trans (congrArg (cat m c) ?_))
  · exact funext (on_two rfl rfl)
  · exact funext (on_two rfl rfl)

end Cert.Kernel7Ideal.Gen

end
-- ==== Proof.Wgrad8.lean ====
/- The gradient of the output weight of the attention, as the call leaves it in its rows of the store of gradients: each point adds the product of its
   1024 rows, and the eight points add up to the product of all rows. -/
module

public import proofs.«01_k».proof.Proof.Parts
public import proofs.«01_k».proof.Proof.Gen.Kernel8Ideal.Value
public import proofs.«01_k».proof.Proof.Gen.Reference8Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel8Ideal.Gen

open Cert.Kernel8Ideal Cert.Kernel8Ideal.Gen Idealize.ShloMosaic Idealize.ShloMosaic.TcCoe Idealize.SL.Sem Cert.Chunks Cert.Parts

theorem idx (t : Fin cfg0.N) : (win0_0.index t 0 = t.val % 8 ∧ win0_0.index t 1 = 0) ∧ (win0_1.index t 0 = t.val % 8 ∧ win0_1.index t 1 = 0) ∧ (win0_2.index t 0 = 0 ∧ win0_2.index t 1 = 28 ∧ win0_2.index t 2 = 0) :=
  (by decide +kernel : ∀ t : Fin grid0.N, (win0_0.index t 0 = t.val % 8 ∧ win0_0.index t 1 = 0) ∧ (win0_1.index t 0 = t.val % 8 ∧ win0_1.index t 1 = 0) ∧ (win0_2.index t 0 = 0 ∧ win0_2.index t 1 = 28 ∧ win0_2.index t 2 = 0)) t

/-! ## One point's product and additions -/

theorem prod (g : S1024x1024.Idx → EReal) (a : S1024x1024.Idx → EReal) (i : S1024x1024.Idx) :
    k0_pay2 (F := Ideal) g a i = ∑ l : Fin 1024, a (ValueIdx.ix2 l (i 0)) * g (ValueIdx.ix2 l (i 1)) := by
  unfold k0_pay2
  pointwise
  rfl

theorem add0 (g : S1024x1024.Idx → EReal) (a : S1024x1024.Idx → EReal) (p : S1x256x1024.Idx → EReal) (j : S1x256x1024.Idx) :
    k0_pay5 (F := Ideal) g a p j = p j + ∑ l : Fin 1024, a (ValueIdx.ix2 l (quarter 0 (j 1))) * g (ValueIdx.ix2 l (j 2)) := by
  unfold k0_pay5
  pointwise
  rw [show (⟨(j 1).val, Nat.lt_of_lt_of_le (j 1).isLt (by decide)⟩ : Fin 1024) = quarter 0 (j 1) from Fin.ext (by show (j 1).val = 0 * 256 + (j 1).val; omega), prod]
  rfl

theorem add1 (g : S1024x1024.Idx → EReal) (a : S1024x1024.Idx → EReal) (p : S1x256x1024.Idx → EReal) (j : S1x256x1024.Idx) :
    k0_pay6 (F := Ideal) g a p j = p j + ∑ l : Fin 1024, a (ValueIdx.ix2 l (quarter 1 (j 1))) * g (ValueIdx.ix2 l (j 2)) := by
  unfold k0_pay6
  pointwise
  rw [prod]
  rfl

theorem add2 (g : S1024x1024.Idx → EReal) (a : S1024x1024.Idx → EReal) (p : S1x256x1024.Idx → EReal) (j : S1x256x1024.Idx) :
    k0_pay7 (F := Ideal) g a p j = p j + ∑ l : Fin 1024, a (ValueIdx.ix2 l (quarter 2 (j 1))) * g (ValueIdx.ix2 l (j 2)) := by
  unfold k0_pay7
  pointwise
  rw [prod]
  rfl

theorem add3 (g : S1024x1024.Idx → EReal) (a : S1024x1024.Idx → EReal) (p : S1x256x1024.Idx → EReal) (j : S1x256x1024.Idx) :
    k0_pay1 (F := Ideal) (k0_pay3 (F := Ideal) g a) p j = p j + ∑ l : Fin 1024, a (ValueIdx.ix2 l (quarter 3 (j 1))) * g (ValueIdx.ix2 l (j 2)) := by
  unfold k0_pay1 k0_pay3
  pointwise
  rw [prod]
  rfl

/-- The block after a fresh start is zero before the additions. -/
theorem fresh (y : S4x256x1024.Idx) :
    View.canon [(⟨Rect.unit ![0, 0, 0] ![4, 256, 1024] inb_S4x256x1024_S4x256x1024_0_0_0, k0_pay4 (F := Ideal)⟩ : View.Piece (Elt Ideal) S4x256x1024 .f32)] y = 0 := by
  refine (full _ _ y).trans ?_
  unfold k0_pay4
  pointwise

variable {m : (ℓ : Loc nD τ sig) → Buf (Elt Ideal) ℓ} {c : Dev nD} (t : Fin cfg0.N)

variable (m c) in
/-- Argument 0. -/
def a0 : S8192x1024.Idx → EReal := m (c.tc.loc main_arg0)
variable (m c) in
/-- The block of argument 0 that a point reads. -/
def b0 : S1024x1024.Idx → EReal := iblk m c 0 t

theorem blk0 (i : S1024x1024.Idx) : b0 m c t i = a0 m c (ValueIdx.ix2 (row8 t.val (i 0)) (i 1)) := by
  show iblk m c 0 t i = _
  have e : iblk m c 0 t i = (V m c main_arg0 : (⟨S8192x1024, .bf16⟩ : BufTy).Contents (Elt Ideal)) (ValueIdx.ix2 (row8 t.val (i 0)) (i 1)) := by
    blk_ext [iblk, idx t, row8]
  rw [e, V_main_arg0]
  rfl

variable (m c) in
/-- Argument 1. -/
def a1 : S8192x1024.Idx → EReal := m (c.tc.loc main_arg1)
variable (m c) in
/-- The block of argument 1 that a point reads. -/
def b1 : S1024x1024.Idx → EReal := iblk m c 1 t

theorem blk1 (i : S1024x1024.Idx) : b1 m c t i = a1 m c (ValueIdx.ix2 (row8 t.val (i 0)) (i 1)) := by
  show iblk m c 1 t i = _
  have e : iblk m c 1 t i = (V m c main_arg1 : (⟨S8192x1024, .bf16⟩ : BufTy).Contents (Elt Ideal)) (ValueIdx.ix2 (row8 t.val (i 0)) (i 1)) := by
    blk_ext [iblk, idx t, row8]
  rw [e, V_main_arg1]
  rfl

variable (m c) in
/-- What row `s` of the arguments adds to place `y` of the block. -/
def term (y : S4x256x1024.Idx) : Fin 8192 → EReal :=
  fun s => a0 m c (ValueIdx.ix2 s (quarter (y 0) (y 1))) * a1 m c (ValueIdx.ix2 s (y 2))

theorem part (q : Fin 4) (y : S4x256x1024.Idx) (h : (y 0).val = q.val) (l : Fin 1024) :
    b0 m c t (ValueIdx.ix2 l (quarter q (y 1))) * b1 m c t (ValueIdx.ix2 l (y 2)) = term m c y (row8 t.val l) := by
  rw [blk0, blk1]
  unfold term
  rw [show y 0 = q from Fin.ext h]

theorem out_A (h0 : t.val % 8 = 0) (y : S4x256x1024.Idx) :
    outsAt0 m c t.val t.isLt y = 0 + ∑ l, term m c y (row8 t.val l) := by
  rw [outsAt0_A m c t h0]
  frame_out
  simp only [View.readCov_eq_canon']
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (fresh _)
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans ((miss 0 _ _ _ _ (show (1 : ℕ) ≠ 0 by decide)).trans (fresh _))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans ((miss 1 _ _ _ _ (show (2 : ℕ) ≠ 1 by decide)).trans ((miss 0 _ _ _ _ (show (2 : ℕ) ≠ 0 by decide)).trans (fresh _)))
  · rw [hit 3 _ _ _ _ h]
    refine (add3 (b1 m c t) (b0 m c t) _ _).trans ?_
    refine congrArg₂ (· + ·) ?_ (Finset.sum_congr rfl fun l _ => part t 3 y h l)
    exact (load 3 _ _ _).trans ((miss 2 _ _ _ _ (show (3 : ℕ) ≠ 2 by decide)).trans ((miss 1 _ _ _ _ (show (3 : ℕ) ≠ 1 by decide)).trans ((miss 0 _ _ _ _ (show (3 : ℕ) ≠ 0 by decide)).trans (fresh _))))

theorem out_B (h0 : ¬t.val % 8 = 0) (y : S4x256x1024.Idx) :
    outsAt0 m c t.val t.isLt y
      = outsAt0 m c (t.val - 1) (Nat.lt_of_le_of_lt (Nat.sub_le _ _) t.isLt) y + ∑ l, term m c y (row8 t.val l) := by
  rw [outsAt0_B m c t h0]
  frame_out
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (congrArg _ (ix3_q 0 y h))
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans (congrArg _ (ix3_q 1 y h))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans (congrArg _ (ix3_q 2 y h))
  · rw [hit 3 _ _ _ _ h]
    refine (add3 (b1 m c t) (b0 m c t) _ _).trans ?_
    refine congrArg₂ (· + ·) ?_ (Finset.sum_congr rfl fun l _ => part t 3 y h l)
    exact (load 3 _ _ _).trans (congrArg _ (ix3_q 3 y h))

/-- What the last point leaves in the block. -/
theorem out_last (h7 : t.val % 8 = 7) (y : S4x256x1024.Idx) : outsAt0 m c t.val t.isLt y = ∑ s, term m c y s :=
  total8 (fun n h => outsAt0 m c n h) (fun _ y => term m c y) (fun n h h0 y => out_A ⟨n, h⟩ h0 y) (fun n h h0 y => out_B ⟨n, h⟩ h0 y) t.val t.isLt h7 y

/-! ## The whole array -/

variable (m c) in
/-- What the store of gradients holds after the call: in its rows from 7168 on the product of all rows, elsewhere what it held. -/
def result (i : S4x8192x1024.Idx) : EReal :=
  stored 7168 (a0 m c) (a1 m c) (m (c.tc.loc main_arg2)) i

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 28) (by decide +kernel) (fun t hf y => ?_) (fun j hj => ?_)
  · rw [after0_2, out_last t ((flush0_2 t).mp hf), cast_eq]
    refine stored_block 7168 (a0 m c) (a1 m c) (m (c.tc.loc main_arg2)) _ _ ?_ ?_ ?_
    · blk_simp [idx t]
    · blk_simp [idx t]
    · blk_simp [idx t]
  · rw [A_eq]
    refine (entry j).trans ?_
    have h1 : ¬(j 1).val / 256 = 28 := hj
    show _ = result m c j
    unfold result stored
    rw [dif_neg (by omega)]

open Cert.Reference8Ideal.Read in
theorem reference (i : S4x8192x1024.Idx) : val_main_v9 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result stored val_main_v9
  pointwise
  by_cases hlo : (i 1).val < 7168
  · rw [dif_pos hlo, dif_neg (by omega), val_main_v6_apply]
    exact congrArg (m (c.tc.loc main_arg2) : S4x8192x1024.Idx → EReal) (funext fun a => match a with
      | 0 => rfl
      | 1 => rfl
      | 2 => rfl)
  · rw [dif_neg hlo]
    by_cases hm : (i 1).val - 7168 < 256
    · rw [dif_pos hm, dif_pos (by omega), val_main_v7_apply, val_main_v5_apply, val_main_v4_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 0).val * 256) + ((i 1).val - 7168)) * 1024 + (i 2).val) / 1024 = (i 0).val * 256 + ((i 1).val - 7168)
          omega
      · refine funext (Chunks.on_two ?_ ?_)
        · rfl
        · refine Fin.ext ?_
          show ((((i 0).val * 256) + ((i 1).val - 7168)) * 1024 + (i 2).val) % 1024 = (i 2).val
          omega
    · rw [dif_neg hm, dif_neg (by omega), val_main_v8_apply]
      refine congrArg (m (c.tc.loc main_arg2) : S4x8192x1024.Idx → EReal) (funext (Chunks.on_three ?_ ?_ ?_))
      · rfl
      · refine Fin.ext ?_
        show 7424 + ((i 1).val - 7168 - 256) = (i 1).val
        omega
      · rfl

end Cert.Kernel8Ideal.Gen

end
-- ==== Proof.Wgrad9.lean ====
/- The gradient of the query weight of the attention, as the call leaves it in its rows of the store of gradients: each point adds the product of its
   1024 rows, and the eight points add up to the product of all rows. -/
module

public import proofs.«01_k».proof.Proof.Wgrad8
public import proofs.«01_k».proof.Proof.Gen.Kernel9Ideal.Value
public import proofs.«01_k».proof.Proof.Gen.Reference9Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel9Ideal.Gen

open Cert.Kernel8Ideal.Gen (add0 add1 add2 add3 fresh)
open Cert.Kernel9Ideal Cert.Kernel9Ideal.Gen Idealize.ShloMosaic Idealize.ShloMosaic.TcCoe Idealize.SL.Sem Cert.Chunks Cert.Parts

theorem idx (t : Fin cfg0.N) : (win0_0.index t 0 = t.val % 8 ∧ win0_0.index t 1 = 0) ∧ (win0_1.index t 0 = t.val % 8 ∧ win0_1.index t 1 = 0) ∧ (win0_2.index t 0 = 0 ∧ win0_2.index t 1 = 25 ∧ win0_2.index t 2 = 0) :=
  (by decide +kernel : ∀ t : Fin grid0.N, (win0_0.index t 0 = t.val % 8 ∧ win0_0.index t 1 = 0) ∧ (win0_1.index t 0 = t.val % 8 ∧ win0_1.index t 1 = 0) ∧ (win0_2.index t 0 = 0 ∧ win0_2.index t 1 = 25 ∧ win0_2.index t 2 = 0)) t

variable {m : (ℓ : Loc nD τ sig) → Buf (Elt Ideal) ℓ} {c : Dev nD} (t : Fin cfg0.N)

variable (m c) in
/-- Argument 0. -/
def a0 : S8192x1024.Idx → EReal := m (c.tc.loc main_arg0)
variable (m c) in
/-- The block of argument 0 that a point reads. -/
def b0 : S1024x1024.Idx → EReal := iblk m c 0 t

theorem blk0 (i : S1024x1024.Idx) : b0 m c t i = a0 m c (ValueIdx.ix2 (row8 t.val (i 0)) (i 1)) := by
  show iblk m c 0 t i = _
  have e : iblk m c 0 t i = (V m c main_arg0 : (⟨S8192x1024, .f32⟩ : BufTy).Contents (Elt Ideal)) (ValueIdx.ix2 (row8 t.val (i 0)) (i 1)) := by
    blk_ext [iblk, idx t, row8]
  rw [e, V_main_arg0]
  rfl

variable (m c) in
/-- Argument 1. -/
def a1 : S8192x1024.Idx → EReal := m (c.tc.loc main_arg1)
variable (m c) in
/-- The block of argument 1 that a point reads. -/
def b1 : S1024x1024.Idx → EReal := iblk m c 1 t

theorem blk1 (i : S1024x1024.Idx) : b1 m c t i = a1 m c (ValueIdx.ix2 (row8 t.val (i 0)) (i 1)) := by
  show iblk m c 1 t i = _
  have e : iblk m c 1 t i = (V m c main_arg1 : (⟨S8192x1024, .bf16⟩ : BufTy).Contents (Elt Ideal)) (ValueIdx.ix2 (row8 t.val (i 0)) (i 1)) := by
    blk_ext [iblk, idx t, row8]
  rw [e, V_main_arg1]
  rfl

variable (m c) in
/-- What row `s` of the arguments adds to place `y` of the block. -/
def term (y : S4x256x1024.Idx) : Fin 8192 → EReal :=
  fun s => a0 m c (ValueIdx.ix2 s (quarter (y 0) (y 1))) * a1 m c (ValueIdx.ix2 s (y 2))

theorem part (q : Fin 4) (y : S4x256x1024.Idx) (h : (y 0).val = q.val) (l : Fin 1024) :
    b0 m c t (ValueIdx.ix2 l (quarter q (y 1))) * b1 m c t (ValueIdx.ix2 l (y 2)) = term m c y (row8 t.val l) := by
  rw [blk0, blk1]
  unfold term
  rw [show y 0 = q from Fin.ext h]

theorem out_A (h0 : t.val % 8 = 0) (y : S4x256x1024.Idx) :
    outsAt0 m c t.val t.isLt y = 0 + ∑ l, term m c y (row8 t.val l) := by
  rw [outsAt0_A m c t h0]
  frame_out
  simp only [View.readCov_eq_canon']
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (fresh _)
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans ((miss 0 _ _ _ _ (show (1 : ℕ) ≠ 0 by decide)).trans (fresh _))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans ((miss 1 _ _ _ _ (show (2 : ℕ) ≠ 1 by decide)).trans ((miss 0 _ _ _ _ (show (2 : ℕ) ≠ 0 by decide)).trans (fresh _)))
  · rw [hit 3 _ _ _ _ h]
    refine (add3 (b1 m c t) (b0 m c t) _ _).trans ?_
    refine congrArg₂ (· + ·) ?_ (Finset.sum_congr rfl fun l _ => part t 3 y h l)
    exact (load 3 _ _ _).trans ((miss 2 _ _ _ _ (show (3 : ℕ) ≠ 2 by decide)).trans ((miss 1 _ _ _ _ (show (3 : ℕ) ≠ 1 by decide)).trans ((miss 0 _ _ _ _ (show (3 : ℕ) ≠ 0 by decide)).trans (fresh _))))

theorem out_B (h0 : ¬t.val % 8 = 0) (y : S4x256x1024.Idx) :
    outsAt0 m c t.val t.isLt y
      = outsAt0 m c (t.val - 1) (Nat.lt_of_le_of_lt (Nat.sub_le _ _) t.isLt) y + ∑ l, term m c y (row8 t.val l) := by
  rw [outsAt0_B m c t h0]
  frame_out
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (congrArg _ (ix3_q 0 y h))
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans (congrArg _ (ix3_q 1 y h))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans (congrArg _ (ix3_q 2 y h))
  · rw [hit 3 _ _ _ _ h]
    refine (add3 (b1 m c t) (b0 m c t) _ _).trans ?_
    refine congrArg₂ (· + ·) ?_ (Finset.sum_congr rfl fun l _ => part t 3 y h l)
    exact (load 3 _ _ _).trans (congrArg _ (ix3_q 3 y h))

/-- What the last point leaves in the block. -/
theorem out_last (h7 : t.val % 8 = 7) (y : S4x256x1024.Idx) : outsAt0 m c t.val t.isLt y = ∑ s, term m c y s :=
  total8 (fun n h => outsAt0 m c n h) (fun _ y => term m c y) (fun n h h0 y => out_A ⟨n, h⟩ h0 y) (fun n h h0 y => out_B ⟨n, h⟩ h0 y) t.val t.isLt h7 y

/-! ## The whole array -/

variable (m c) in
/-- What the store of gradients holds after the call: in its rows from 6400 on the product of all rows, elsewhere what it held. -/
def result (i : S4x8192x1024.Idx) : EReal :=
  stored 6400 (a0 m c) (a1 m c) (m (c.tc.loc main_arg2)) i

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 25) (by decide +kernel) (fun t hf y => ?_) (fun j hj => ?_)
  · rw [after0_2, out_last t ((flush0_2 t).mp hf), cast_eq]
    refine stored_block 6400 (a0 m c) (a1 m c) (m (c.tc.loc main_arg2)) _ _ ?_ ?_ ?_
    · blk_simp [idx t]
    · blk_simp [idx t]
    · blk_simp [idx t]
  · rw [A_eq]
    refine (entry j).trans ?_
    have h1 : ¬(j 1).val / 256 = 25 := hj
    show _ = result m c j
    unfold result stored
    rw [dif_neg (by omega)]

open Cert.Reference9Ideal.Read in
theorem reference (i : S4x8192x1024.Idx) : val_main_v8 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result stored val_main_v8
  pointwise
  by_cases hlo : (i 1).val < 6400
  · rw [dif_pos hlo, dif_neg (by omega), val_main_v5_apply]
    exact congrArg (m (c.tc.loc main_arg2) : S4x8192x1024.Idx → EReal) (funext fun a => match a with
      | 0 => rfl
      | 1 => rfl
      | 2 => rfl)
  · rw [dif_neg hlo]
    by_cases hm : (i 1).val - 6400 < 256
    · rw [dif_pos hm, dif_pos (by omega), val_main_v6_apply, val_main_v4_apply, val_main_v3_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 0).val * 256) + ((i 1).val - 6400)) * 1024 + (i 2).val) / 1024 = (i 0).val * 256 + ((i 1).val - 6400)
          omega
      · refine funext (Chunks.on_two ?_ ?_)
        · rfl
        · refine Fin.ext ?_
          show ((((i 0).val * 256) + ((i 1).val - 6400)) * 1024 + (i 2).val) % 1024 = (i 2).val
          omega
    · rw [dif_neg hm, dif_neg (by omega), val_main_v7_apply]
      refine congrArg (m (c.tc.loc main_arg2) : S4x8192x1024.Idx → EReal) (funext (Chunks.on_three ?_ ?_ ?_))
      · rfl
      · refine Fin.ext ?_
        show 6656 + ((i 1).val - 6400 - 256) = (i 1).val
        omega
      · rfl

end Cert.Kernel9Ideal.Gen

end
-- ==== Proof.Wgrad10.lean ====
/- The gradient of the output projection of the mixers, as the call leaves it in its rows of the store of gradients: each point adds the product of its
   1024 rows, and the eight points add up to the product of all rows. -/
module

public import proofs.«01_k».proof.Proof.Parts
public import proofs.«01_k».proof.Proof.Gen.Kernel10Ideal.Value
public import proofs.«01_k».proof.Proof.Gen.Reference10Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel10Ideal.Gen

open Cert.Kernel10Ideal Cert.Kernel10Ideal.Gen Idealize.ShloMosaic Idealize.ShloMosaic.TcCoe Idealize.SL.Sem Cert.Chunks Cert.Parts

/-- Place `x` of half `h` of 512. -/
def half (h : Fin 2) (x : Fin 256) : Fin 512 := ⟨h.val * 256 + x.val, by omega⟩

theorem idx (t : Fin cfg0.N) : (win0_0.index t 0 = t.val % 8 ∧ win0_0.index t 1 = 0) ∧ (win0_1.index t 0 = t.val % 8 ∧ win0_1.index t 1 = 0) ∧ (win0_2.index t 0 = t.val % 8 ∧ win0_2.index t 1 = 0) ∧ (win0_3.index t 0 = t.val % 8 ∧ win0_3.index t 1 = 0) ∧ (win0_4.index t 0 = 0 ∧ win0_4.index t 1 = 24 ∧ win0_4.index t 2 = 0) :=
  (by decide +kernel : ∀ t : Fin grid0.N, (win0_0.index t 0 = t.val % 8 ∧ win0_0.index t 1 = 0) ∧ (win0_1.index t 0 = t.val % 8 ∧ win0_1.index t 1 = 0) ∧ (win0_2.index t 0 = t.val % 8 ∧ win0_2.index t 1 = 0) ∧ (win0_3.index t 0 = t.val % 8 ∧ win0_3.index t 1 = 0) ∧ (win0_4.index t 0 = 0 ∧ win0_4.index t 1 = 24 ∧ win0_4.index t 2 = 0)) t

/-! ## One point's product and additions -/

theorem prod (g : S1024x1024.Idx → EReal) (a : S1024x512.Idx → EReal) (i : S512x1024.Idx) :
    k0_pay3 (F := Ideal) g a i = ∑ l : Fin 1024, a (ValueIdx.ix2 l (i 0)) * g (ValueIdx.ix2 l (i 1)) := by
  unfold k0_pay3
  pointwise
  rfl

theorem prod2 (g : S1024x1024.Idx → EReal) (a : S1024x256.Idx → EReal) (i : S256x1024.Idx) :
    k0_pay4 (F := Ideal) g a i = ∑ l : Fin 1024, a (ValueIdx.ix2 l (i 0)) * g (ValueIdx.ix2 l (i 1)) := by
  unfold k0_pay4
  pointwise
  rfl

theorem add0 (g : S1024x1024.Idx → EReal) (a : S1024x512.Idx → EReal) (p : S1x256x1024.Idx → EReal) (j : S1x256x1024.Idx) :
    k0_pay6 (F := Ideal) g a p j = p j + ∑ l : Fin 1024, a (ValueIdx.ix2 l (half 0 (j 1))) * g (ValueIdx.ix2 l (j 2)) := by
  unfold k0_pay6
  pointwise
  rw [show (⟨(j 1).val, Nat.lt_of_lt_of_le (j 1).isLt (by decide)⟩ : Fin 512) = half 0 (j 1) from Fin.ext (by show (j 1).val = 0 * 256 + (j 1).val; omega), prod]
  rfl

theorem add1 (g : S1024x1024.Idx → EReal) (a : S1024x512.Idx → EReal) (p : S1x256x1024.Idx → EReal) (j : S1x256x1024.Idx) :
    k0_pay7 (F := Ideal) g a p j = p j + ∑ l : Fin 1024, a (ValueIdx.ix2 l (half 1 (j 1))) * g (ValueIdx.ix2 l (j 2)) := by
  unfold k0_pay7
  pointwise
  rw [prod]
  rfl

theorem add2 (g : S1024x1024.Idx → EReal) (a : S1024x256.Idx → EReal) (p : S1x256x1024.Idx → EReal) (j : S1x256x1024.Idx) :
    k0_pay1 (F := Ideal) (k0_pay8 (F := Ideal) g a p) j = p j + ∑ l : Fin 1024, a (ValueIdx.ix2 l (j 1)) * g (ValueIdx.ix2 l (j 2)) := by
  unfold k0_pay1 k0_pay8
  pointwise
  rfl

theorem add3 (g : S1024x1024.Idx → EReal) (a : S1024x256.Idx → EReal) (p : S1x256x1024.Idx → EReal) (j : S1x256x1024.Idx) :
    k0_pay2 (F := Ideal) (k0_pay4 (F := Ideal) g a) p j = p j + ∑ l : Fin 1024, a (ValueIdx.ix2 l (j 1)) * g (ValueIdx.ix2 l (j 2)) := by
  unfold k0_pay2
  pointwise
  rw [prod2]
  rfl

/-- The block after a fresh start is zero before the additions. -/
theorem fresh (y : S4x256x1024.Idx) :
    View.canon [(⟨Rect.unit ![0, 0, 0] ![4, 256, 1024] inb_S4x256x1024_S4x256x1024_0_0_0, k0_pay5 (F := Ideal)⟩ : View.Piece (Elt Ideal) S4x256x1024 .f32)] y = 0 := by
  refine (full _ _ y).trans ?_
  unfold k0_pay5
  pointwise

variable {m : (ℓ : Loc nD τ sig) → Buf (Elt Ideal) ℓ} {c : Dev nD} (t : Fin cfg0.N)

variable (m c) in
/-- Argument 0. -/
def a0 : S8192x512.Idx → EReal := m (c.tc.loc main_arg0)
variable (m c) in
/-- The block of argument 0 that a point reads. -/
def b0 : S1024x512.Idx → EReal := iblk m c 0 t

theorem blk0 (i : S1024x512.Idx) : b0 m c t i = a0 m c (ValueIdx.ix2 (row8 t.val (i 0)) (i 1)) := by
  show iblk m c 0 t i = _
  have e : iblk m c 0 t i = (V m c main_arg0 : (⟨S8192x512, .bf16⟩ : BufTy).Contents (Elt Ideal)) (ValueIdx.ix2 (row8 t.val (i 0)) (i 1)) := by
    blk_ext [iblk, idx t, row8]
  rw [e, V_main_arg0]
  rfl

variable (m c) in
/-- Argument 1. -/
def a1 : S8192x256.Idx → EReal := m (c.tc.loc main_arg1)
variable (m c) in
/-- The block of argument 1 that a point reads. -/
def b1 : S1024x256.Idx → EReal := iblk m c 1 t

theorem blk1 (i : S1024x256.Idx) : b1 m c t i = a1 m c (ValueIdx.ix2 (row8 t.val (i 0)) (i 1)) := by
  show iblk m c 1 t i = _
  have e : iblk m c 1 t i = (V m c main_arg1 : (⟨S8192x256, .bf16⟩ : BufTy).Contents (Elt Ideal)) (ValueIdx.ix2 (row8 t.val (i 0)) (i 1)) := by
    blk_ext [iblk, idx t, row8]
  rw [e, V_main_arg1]
  rfl

variable (m c) in
/-- Argument 2. -/
def a2 : S8192x256.Idx → EReal := m (c.tc.loc main_arg2)
variable (m c) in
/-- The block of argument 2 that a point reads. -/
def b2 : S1024x256.Idx → EReal := iblk m c 2 t

theorem blk2 (i : S1024x256.Idx) : b2 m c t i = a2 m c (ValueIdx.ix2 (row8 t.val (i 0)) (i 1)) := by
  show iblk m c 2 t i = _
  have e : iblk m c 2 t i = (V m c main_arg2 : (⟨S8192x256, .bf16⟩ : BufTy).Contents (Elt Ideal)) (ValueIdx.ix2 (row8 t.val (i 0)) (i 1)) := by
    blk_ext [iblk, idx t, row8]
  rw [e, V_main_arg2]
  rfl

variable (m c) in
/-- Argument 3. -/
def a3 : S8192x1024.Idx → EReal := m (c.tc.loc main_arg3)
variable (m c) in
/-- The block of argument 3 that a point reads. -/
def b3 : S1024x1024.Idx → EReal := iblk m c 3 t

theorem blk3 (i : S1024x1024.Idx) : b3 m c t i = a3 m c (ValueIdx.ix2 (row8 t.val (i 0)) (i 1)) := by
  show iblk m c 3 t i = _
  have e : iblk m c 3 t i = (V m c main_arg3 : (⟨S8192x1024, .bf16⟩ : BufTy).Contents (Elt Ideal)) (ValueIdx.ix2 (row8 t.val (i 0)) (i 1)) := by
    blk_ext [iblk, idx t, row8]
  rw [e, V_main_arg3]
  rfl

variable (m c) in
/-- The three pieces of the mixers' output side by side. -/
def cat (i : S8192x1024.Idx) : EReal :=
  if h : (i 1).val < 512 then a0 m c (ValueIdx.ix2 (i 0) (⟨(i 1).val, h⟩ : Fin 512))
  else if h' : (i 1).val - 512 < 256 then a1 m c (ValueIdx.ix2 (i 0) (⟨(i 1).val - 512, h'⟩ : Fin 256))
  else a2 m c (ValueIdx.ix2 (i 0) (⟨(i 1).val - 512 - 256, by have h2 : (i 1).val < 1024 := (i 1).isLt; omega⟩ : Fin 256))

theorem cat_h (h : Fin 2) (r : Fin 8192) (x : Fin 256) (q : Fin 4) (hq : q.val = h.val) : cat m c (ValueIdx.ix2 r (quarter q x)) = a0 m c (ValueIdx.ix2 r (half h x)) := by
  have hx := x.isLt
  have hv : ((ValueIdx.ix2 r (quarter q x) : S8192x1024.Idx) 1).val = q.val * 256 + x.val := rfl
  unfold cat
  rw [dif_pos (by omega)]
  exact congrArg (fun z => a0 m c (ValueIdx.ix2 r z)) (Fin.ext (by show q.val * 256 + x.val = h.val * 256 + x.val; omega))

theorem cat_2 (r : Fin 8192) (x : Fin 256) : cat m c (ValueIdx.ix2 r (quarter 2 x)) = a1 m c (ValueIdx.ix2 r x) := by
  have hx := x.isLt
  have hv : ((ValueIdx.ix2 r (quarter 2 x) : S8192x1024.Idx) 1).val = 2 * 256 + x.val := rfl
  unfold cat
  rw [dif_neg (by omega), dif_pos (by omega)]
  exact congrArg (fun z => a1 m c (ValueIdx.ix2 r z)) (Fin.ext (by show 2 * 256 + x.val - 512 = x.val; omega))

theorem cat_3 (r : Fin 8192) (x : Fin 256) : cat m c (ValueIdx.ix2 r (quarter 3 x)) = a2 m c (ValueIdx.ix2 r x) := by
  have hx := x.isLt
  have hv : ((ValueIdx.ix2 r (quarter 3 x) : S8192x1024.Idx) 1).val = 3 * 256 + x.val := rfl
  unfold cat
  rw [dif_neg (by omega), dif_neg (by omega)]
  exact congrArg (fun z => a2 m c (ValueIdx.ix2 r z)) (Fin.ext (by show 3 * 256 + x.val - 512 - 256 = x.val; omega))

variable (m c) in
/-- What row `s` of the arguments adds to place `y` of the block. -/
def term (y : S4x256x1024.Idx) : Fin 8192 → EReal :=
  fun s => cat m c (ValueIdx.ix2 s (quarter (y 0) (y 1))) * a3 m c (ValueIdx.ix2 s (y 2))

theorem term0 (y : S4x256x1024.Idx) (h : (y 0).val = 0) (l : Fin 1024) :
    b0 m c t (ValueIdx.ix2 l (half 0 (y 1))) * b3 m c t (ValueIdx.ix2 l (y 2)) = term m c y (row8 t.val l) := by
  rw [blk0, blk3]
  unfold term
  have e : y 0 = ((0 : Fin 4) : Fin 4) := Fin.ext h
  rw [e]
  exact congrArg₂ (fun a b : EReal => a * b) (cat_h 0 _ _ 0 rfl).symm rfl

theorem term1 (y : S4x256x1024.Idx) (h : (y 0).val = 1) (l : Fin 1024) :
    b0 m c t (ValueIdx.ix2 l (half 1 (y 1))) * b3 m c t (ValueIdx.ix2 l (y 2)) = term m c y (row8 t.val l) := by
  rw [blk0, blk3]
  unfold term
  have e : y 0 = ((1 : Fin 4) : Fin 4) := Fin.ext h
  rw [e]
  exact congrArg₂ (fun a b : EReal => a * b) (cat_h 1 _ _ 1 rfl).symm rfl

theorem term2 (y : S4x256x1024.Idx) (h : (y 0).val = 2) (l : Fin 1024) :
    b1 m c t (ValueIdx.ix2 l (y 1)) * b3 m c t (ValueIdx.ix2 l (y 2)) = term m c y (row8 t.val l) := by
  rw [blk1, blk3]
  unfold term
  have e : y 0 = ((2 : Fin 4) : Fin 4) := Fin.ext h
  rw [e]
  exact congrArg₂ (fun a b : EReal => a * b) (cat_2 _ _).symm rfl

theorem term3 (y : S4x256x1024.Idx) (h : (y 0).val = 3) (l : Fin 1024) :
    b2 m c t (ValueIdx.ix2 l (y 1)) * b3 m c t (ValueIdx.ix2 l (y 2)) = term m c y (row8 t.val l) := by
  rw [blk2, blk3]
  unfold term
  have e : y 0 = ((3 : Fin 4) : Fin 4) := Fin.ext h
  rw [e]
  exact congrArg₂ (fun a b : EReal => a * b) (cat_3 _ _).symm rfl

theorem out_A (h0 : t.val % 8 = 0) (y : S4x256x1024.Idx) :
    outsAt0 m c t.val t.isLt y = 0 + ∑ l, term m c y (row8 t.val l) := by
  rw [outsAt0_A m c t h0]
  frame_out
  simp only [View.readCov_eq_canon']
  rcases four y with h | h | h | h
  · rw [miss 3 _ _ _ _ (by omega), miss 2 _ _ _ _ (by omega), miss 1 _ _ _ _ (by omega), hit 0 _ _ _ _ h]
    refine (add0 (b3 m c t) (b0 m c t) _ _).trans ?_
    refine congrArg₂ (· + ·) ?_ (Finset.sum_congr rfl fun l _ => term0 t y h l)
    exact (load 0 _ _ _).trans (fresh _)
  · rw [miss 3 _ _ _ _ (by omega), miss 2 _ _ _ _ (by omega), hit 1 _ _ _ _ h]
    refine (add1 (b3 m c t) (b0 m c t) _ _).trans ?_
    refine congrArg₂ (· + ·) ?_ (Finset.sum_congr rfl fun l _ => term1 t y h l)
    exact (load 1 _ _ _).trans ((miss 0 _ _ _ _ (show (1 : ℕ) ≠ 0 by decide)).trans (fresh _))
  · rw [miss 3 _ _ _ _ (by omega), hit 2 _ _ _ _ h]
    refine (add2 (b3 m c t) (b1 m c t) _ _).trans ?_
    refine congrArg₂ (· + ·) ?_ (Finset.sum_congr rfl fun l _ => term2 t y h l)
    exact (load 2 _ _ _).trans ((miss 1 _ _ _ _ (show (2 : ℕ) ≠ 1 by decide)).trans ((miss 0 _ _ _ _ (show (2 : ℕ) ≠ 0 by decide)).trans (fresh _)))
  · rw [hit 3 _ _ _ _ h]
    refine (add3 (b3 m c t) (b2 m c t) _ _).trans ?_
    refine congrArg₂ (· + ·) ?_ (Finset.sum_congr rfl fun l _ => term3 t y h l)
    exact (load 3 _ _ _).trans ((miss 2 _ _ _ _ (show (3 : ℕ) ≠ 2 by decide)).trans ((miss 1 _ _ _ _ (show (3 : ℕ) ≠ 1 by decide)).trans ((miss 0 _ _ _ _ (show (3 : ℕ) ≠ 0 by decide)).trans (fresh _))))

theorem out_B (h0 : ¬t.val % 8 = 0) (y : S4x256x1024.Idx) :
    outsAt0 m c t.val t.isLt y
      = outsAt0 m c (t.val - 1) (Nat.lt_of_le_of_lt (Nat.sub_le _ _) t.isLt) y + ∑ l, term m c y (row8 t.val l) := by
  rw [outsAt0_B m c t h0]
  frame_out
  rcases four y with h | h | h | h
  · rw [miss 3 _ _ _ _ (by omega), miss 2 _ _ _ _ (by omega), miss 1 _ _ _ _ (by omega), hit 0 _ _ _ _ h]
    refine (add0 (b3 m c t) (b0 m c t) _ _).trans ?_
    refine congrArg₂ (· + ·) ?_ (Finset.sum_congr rfl fun l _ => term0 t y h l)
    exact (load 0 _ _ _).trans (congrArg _ (ix3_q 0 y h))
  · rw [miss 3 _ _ _ _ (by omega), miss 2 _ _ _ _ (by omega), hit 1 _ _ _ _ h]
    refine (add1 (b3 m c t) (b0 m c t) _ _).trans ?_
    refine congrArg₂ (· + ·) ?_ (Finset.sum_congr rfl fun l _ => term1 t y h l)
    exact (load 1 _ _ _).trans (congrArg _ (ix3_q 1 y h))
  · rw [miss 3 _ _ _ _ (by omega), hit 2 _ _ _ _ h]
    refine (add2 (b3 m c t) (b1 m c t) _ _).trans ?_
    refine congrArg₂ (· + ·) ?_ (Finset.sum_congr rfl fun l _ => term2 t y h l)
    exact (load 2 _ _ _).trans (congrArg _ (ix3_q 2 y h))
  · rw [hit 3 _ _ _ _ h]
    refine (add3 (b3 m c t) (b2 m c t) _ _).trans ?_
    refine congrArg₂ (· + ·) ?_ (Finset.sum_congr rfl fun l _ => term3 t y h l)
    exact (load 3 _ _ _).trans (congrArg _ (ix3_q 3 y h))

/-- What the last point leaves in the block. -/
theorem out_last (h7 : t.val % 8 = 7) (y : S4x256x1024.Idx) : outsAt0 m c t.val t.isLt y = ∑ s, term m c y s :=
  total8 (fun n h => outsAt0 m c n h) (fun _ y => term m c y) (fun n h h0 y => out_A ⟨n, h⟩ h0 y) (fun n h h0 y => out_B ⟨n, h⟩ h0 y) t.val t.isLt h7 y

/-! ## The whole array -/

variable (m c) in
/-- What the store of gradients holds after the call: in its rows from 6144 on the product of all rows, elsewhere what it held. -/
def result (i : S4x8192x1024.Idx) : EReal :=
  stored 6144 (cat m c) (a3 m c) (m (c.tc.loc main_arg4)) i

theorem entry (i : S4x8192x1024.Idx) : V m c main_v0 i = (m (c.tc.loc main_arg4) : S4x8192x1024.Idx → EReal) i := by
  unfold V
  after_reads_at
  rfl

theorem arr : (dats m 0 c).arrAt 4 cfg0.N = result m c := by
  refine (dats m 0 c).arrAt_eq_of_coversWhere_of_agree 4 (result m c) (fun β => β ⟨1, by decide⟩ = 24) (by decide +kernel) (fun t hf y => ?_) (fun j hj => ?_)
  · rw [after0_4, out_last t ((flush0_4 t).mp hf), cast_eq]
    refine stored_block 6144 (cat m c) (a3 m c) (m (c.tc.loc main_arg4)) _ _ ?_ ?_ ?_
    · blk_simp [idx t]
    · blk_simp [idx t]
    · blk_simp [idx t]
  · rw [A_eq]
    refine (entry j).trans ?_
    have h1 : ¬(j 1).val / 256 = 24 := hj
    show _ = result m c j
    unfold result stored
    rw [dif_neg (by omega)]

open Cert.Reference10Ideal.Read in
theorem cat_eq (i : S8192x1024.Idx) : val_main_v0 (F := Ideal) (m (c.tc.loc main_arg0)) (m (c.tc.loc main_arg1)) (m (c.tc.loc main_arg2)) i = cat m c i := by
  unfold val_main_v0
  pointwise
  rfl

open Cert.Reference10Ideal.Read in
theorem reference (i : S4x8192x1024.Idx) : val_main_v10 (F := Ideal) (m (c.tc.loc main_arg0)) (m (c.tc.loc main_arg1)) (m (c.tc.loc main_arg2)) (m (c.tc.loc main_arg3)) (m (c.tc.loc main_arg4)) i = result m c i := by
  have hi : (i 1).val < 8192 := (i 1).isLt
  have hi0 : (i 0).val < 4 := (i 0).isLt
  have hi2 : (i 2).val < 1024 := (i 2).isLt
  unfold result stored val_main_v10
  pointwise
  by_cases hlo : (i 1).val < 6144
  · rw [dif_pos hlo, dif_neg (by omega), val_main_v7_apply]
    exact congrArg (m (c.tc.loc main_arg4) : S4x8192x1024.Idx → EReal) (funext fun a => match a with
      | 0 => rfl
      | 1 => rfl
      | 2 => rfl)
  · rw [dif_neg hlo]
    by_cases hm : (i 1).val - 6144 < 256
    · rw [dif_pos hm, dif_pos (by omega), val_main_v8_apply, val_main_v6_apply, val_main_v5_apply]
      refine Finset.sum_congr rfl fun s _ => (mul_comm _ _).trans ?_
      refine congrArg₂ (fun a b : EReal => a * b) ((cat_eq _).trans (congrArg (cat m c) ?_)) (congrArg (a3 m c) ?_)
      · refine funext (Chunks.on_two ?_ ?_)
        · rfl
        · refine Fin.ext ?_
          show ((((i 0).val * 256) + ((i 1).val - 6144)) * 1024 + (i 2).val) / 1024 = (i 0).val * 256 + ((i 1).val - 6144)
          omega
      · refine funext (Chunks.on_two ?_ ?_)
        · rfl
        · refine Fin.ext ?_
          show ((((i 0).val * 256) + ((i 1).val - 6144)) * 1024 + (i 2).val) % 1024 = (i 2).val
          omega
    · rw [dif_neg hm, dif_neg (by omega), val_main_v9_apply]
      refine congrArg (m (c.tc.loc main_arg4) : S4x8192x1024.Idx → EReal) (funext (Chunks.on_three ?_ ?_ ?_))
      · rfl
      · refine Fin.ext ?_
        show 6400 + ((i 1).val - 6144 - 256) = (i 1).val
        omega
      · rfl

end Cert.Kernel10Ideal.Gen

end
-- ==== Proof.Inproj11.lean ====
/- The input projection: each point multiplies 512 rows by the whole weight. -/
module

public import proofs.«01_k».proof.Proof.Chunks
public import proofs.«01_k».proof.Proof.Gen.Kernel11Ideal.Value
public import proofs.«01_k».proof.Proof.Gen.Reference11Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel11Ideal.Gen

open Cert.Kernel11Ideal Cert.Kernel11Ideal.Gen Idealize.ShloMosaic Idealize.ShloMosaic.TcCoe Idealize.SL.Sem Cert.Chunks

variable (m : (ℓ : Loc nD τ sig) → Buf (Elt Ideal) ℓ) (c : Dev nD)

/-! The arguments. -/
def h2 : S8192x1024.Idx → EReal := m (c.tc.loc main_arg0)
def wt : S1024x2432.Idx → EReal := m (c.tc.loc main_arg1)

/-- Row `l` of the 512 that point `t` takes. -/
def row (t : Fin cfg0.N) (l : Fin 512) : Fin 8192 := ⟨t.val * 512 + l.val, by have h := t.isLt; have : cfg0.N = 16 := rfl; omega⟩

theorem idx (t : Fin cfg0.N) : (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0)) t

/-- What the call leaves: the product of the rows and the weight. -/
def result (i : S8192x2432.Idx) : EReal := ∑ x : Fin 1024, h2 m c (ValueIdx.ix2 (i 0) x) * wt m c (ValueIdx.ix2 x (i 1))

variable {m c} (t : Fin cfg0.N)

/-! ## One point -/

theorem blk0 (i : S512x1024.Idx) : iblk m c 0 t i = h2 m c (ValueIdx.ix2 (row t (i 0)) (i 1)) := by
  have e : iblk m c 0 t i = (V m c main_arg0 : (⟨S8192x1024, .f32⟩ : BufTy).Contents (Elt Ideal)) (ValueIdx.ix2 (row t (i 0)) (i 1)) := by
    blk_ext [iblk, idx t, row]
  rw [e, V_main_arg0]
  rfl

theorem host_w : V m c main_v0 = wt m c := by
  funext i
  unfold V
  after_reads_simp
  rfl

theorem blk1 (i : S1024x2432.Idx) : iblk m c 1 t i = wt m c i := by
  have e : iblk m c 1 t i = (V m c main_v0 : (⟨S1024x2432, .bf16⟩ : BufTy).Contents (Elt Ideal)) (ValueIdx.ix2 (i 0) (i 1)) := by
    blk_ext [iblk, idx t, row]
  rw [e, host_w]
  exact congrArg (wt m c) (funext (on_two rfl rfl))

theorem pay (a : S512x1024.Idx → EReal) (w : S1024x2432.Idx → EReal) (j : S512x2432.Idx) :
    k0_pay1 (F := Ideal) a w j = ∑ x : Fin 1024, a (ValueIdx.ix2 (j 0) x) * w (ValueIdx.ix2 x (j 1)) := by
  unfold k0_pay1
  pointwise
  rfl

theorem point (j : S512x2432.Idx) : out0_2 (F := Ideal) (iblk m c 0 t) (iblk m c 1 t) j = result m c (ValueIdx.ix2 (row t (j 0)) (j 1)) := by
  unfold out0_2
  frame_out
  refine (pay _ _ j).trans (Finset.sum_congr rfl fun x _ => congrArg₂ (fun a b : EReal => a * b) (blk0 t _) (blk1 t _))

theorem arr : (dats m 0 c).arrAt 2 cfg0.N = result m c := by
  refine (dats m 0 c).arrAt_eq_of_covers 2 _ (by decide +kernel) fun t hf y => ?_
  rw [after0_2, point, cast_eq]
  refine congrArg (result m c) (funext (on_two ?_ ?_))
  · refine Fin.ext ?_
    blk_simp [idx t, row]
  · refine Fin.ext ?_
    blk_simp [idx t, row]

/-! ## The reference -/

open Cert.Reference11Ideal.Read

theorem reference (i : S8192x2432.Idx) : val_main_v0 (F := Ideal) (m (c.tc.loc main_arg0)) (m (c.tc.loc main_arg1)) i = result m c i := by
  rw [val_main_v0_apply]
  exact Finset.sum_congr rfl fun k _ => congrArg₂ (fun a b : EReal => a * b) (congrArg (h2 m c) (funext (on_two rfl rfl))) (congrArg (wt m c) (funext (on_two rfl rfl)))

end Cert.Kernel11Ideal.Gen

end
-- ==== Proof.Norm.lean ====
/- The layer norm of one row of 1024 numbers, and sums by four ranges of 1024. -/
module

public import proofs.«01_k».proof.Proof.Chunks
public import Idealize.ShloMosaic.Lib.Pipeline.ReadBack
public import Idealize.ShloMosaic.Lib.StableHlo.RunRead

@[expose] public section

noncomputable section

namespace Cert.Norm

open Idealize.ShloMosaic Cert.Chunks

/-- The weight of the residual. -/
def alpha : EReal := Ideal.ofBits .f32 0x3FB504F3#32
/-- The row's length. -/
def len : EReal := Ideal.ofBits .f32 0x44800000#32
/-- The number added to the variance. -/
def eps : EReal := Ideal.ofBits .f32 0x3727C5AC#32

/-- The mean of a row. -/
def mean (f : Fin 1024 → EReal) : EReal := Ideal.div (∑ d, f d) len
/-- A row less its mean. -/
def cen (f : Fin 1024 → EReal) (d : Fin 1024) : EReal := f d - mean f
/-- The reciprocal deviation of a row. -/
def rdev (f : Fin 1024 → EReal) : EReal := Ideal.rsqrt (mean (fun d => cen f d * cen f d) + eps)
/-- The normed row. -/
def nrm (f : Fin 1024 → EReal) (d : Fin 1024) : EReal := cen f d * rdev f
/-- The layer norm's result. -/
def norm (f g b : Fin 1024 → EReal) (d : Fin 1024) : EReal := nrm f d * g d + b d

/-- A sum over 4096 places by four ranges of 1024. -/
theorem four (f : Fin 4096 → EReal) :
    ∑ x, f x = (((∑ x : Fin 1024, f ⟨x.val, by omega⟩) + ∑ x : Fin 1024, f ⟨1024 + x.val, by omega⟩)
      + ∑ x : Fin 1024, f ⟨2048 + x.val, by omega⟩) + ∑ x : Fin 1024, f ⟨3072 + x.val, by omega⟩ := by
  rw [← grow f 1024 1024 (by omega), ← grow f 2048 1024 (by omega), ← grow f 3072 1024 (by omega)]

/-- Places of two axes are their pairs. -/
theorem pair {a b : ℕ} (y : (⟨2, ![a, b]⟩ : Shape).Idx) : ∃ (l : Fin a) (d : Fin b), y = ValueIdx.ix2 l d :=
  ⟨y 0, y 1, funext (on_two rfl rfl)⟩

theorem whole_emb (s : Shape) (y : s.Idx) : (Rect.whole s).emb y = y :=
  funext fun a => Fin.ext (by simp [Rect.whole])

/-- A copy of a whole array leaves that array. -/
theorem kept {s : Shape} {e : EltTy} (w : s.Idx → Elt Ideal e) :
    View.canon [(⟨Rect.whole s, w⟩ : View.Piece (Elt Ideal) s e)] = w := by
  funext y
  conv_lhs => rw [← whole_emb s y]
  exact View.canon_cons_emb _ _ _ _

end Cert.Norm

end
-- ==== Proof.Mlp12.lean ====
/- The squared-ReLU layer with its layer norm, forward: each point takes 512 rows through both products, in four ranges of the
   hidden columns, with both weights copied in at the first point and kept. -/
module

public import proofs.«01_k».proof.Proof.Norm
public import proofs.«01_k».proof.Proof.Gen.Kernel12Ideal.Value
public import proofs.«01_k».proof.Proof.Gen.Reference12Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel12Ideal.Gen

open Cert.Kernel12Ideal Cert.Kernel12Ideal.Gen Idealize.ShloMosaic Idealize.ShloMosaic.TcCoe Idealize.SL.Sem Cert.Chunks Cert.Norm

/-! ## The payloads -/

/-- The squared ReLU of a row of `x` times a column of `w`. -/
def sq {n : ℕ} (x : S512x1024.Idx → EReal) (w : (⟨2, ![1024, n]⟩ : Shape).Idx → EReal) (l : Fin 512) (f : Fin n) : EReal :=
  max (∑ k : Fin 1024, x (ValueIdx.ix2 l k) * w (ValueIdx.ix2 k f)) 0 * max (∑ k : Fin 1024, x (ValueIdx.ix2 l k) * w (ValueIdx.ix2 k f)) 0

theorem pay3 (x : S512x1024.Idx → EReal) (w : S1024x1024.Idx → EReal) (l : Fin 512) (f : Fin 1024) : k0_pay3 (F := Ideal) x w (ValueIdx.ix2 l f) = sq x w l f := by
  unfold k0_pay3 k0_pay1
  pointwise
  rfl
theorem pay5 (x : S512x1024.Idx → EReal) (w : S1024x1024.Idx → EReal) (l : Fin 512) (f : Fin 1024) : k0_pay5 (F := Ideal) x w (ValueIdx.ix2 l f) = sq x w l f := by
  unfold k0_pay5 k0_pay1
  pointwise
  rfl
theorem pay7 (x : S512x1024.Idx → EReal) (w : S1024x1024.Idx → EReal) (l : Fin 512) (f : Fin 1024) : k0_pay7 (F := Ideal) (k0_pay1 (F := Ideal) x) w (ValueIdx.ix2 l f) = sq x w l f := by
  unfold k0_pay7 k0_pay1
  pointwise
  rfl
theorem pay9 (x : S512x1024.Idx → EReal) (w : S1024x1024.Idx → EReal) (l : Fin 512) (f : Fin 1024) : k0_pay9 (F := Ideal) (k0_pay1 (F := Ideal) x) w (ValueIdx.ix2 l f) = sq x w l f := by
  unfold k0_pay9 k0_pay1
  pointwise
  rfl

theorem pay2 (x : S512x1024.Idx → EReal) (i : S512x1024.Idx) : k0_pay2 (F := Ideal) x i = alpha * x i := by
  unfold k0_pay2
  pointwise
  rfl

theorem pay4 (x : S512x1024.Idx → EReal) (w : S1024x1024.Idx → EReal) (a : S512x1024.Idx → EReal) (v : S1024x1024.Idx → EReal) (l : Fin 512) (d : Fin 1024) :
    k0_pay4 (F := Ideal) x w a v (ValueIdx.ix2 l d) = a (ValueIdx.ix2 l d) + ∑ f : Fin 1024, k0_pay3 (F := Ideal) x w (ValueIdx.ix2 l f) * v (ValueIdx.ix2 f d) := by
  unfold k0_pay4
  pointwise
  rfl
theorem pay6 (h : S512x1024.Idx → EReal) (a : S512x1024.Idx → EReal) (v : S1024x1024.Idx → EReal) (l : Fin 512) (d : Fin 1024) :
    k0_pay6 (F := Ideal) h a v (ValueIdx.ix2 l d) = a (ValueIdx.ix2 l d) + ∑ f : Fin 1024, h (ValueIdx.ix2 l f) * v (ValueIdx.ix2 f d) := by
  unfold k0_pay6
  pointwise
  rfl
theorem pay8 (x : S512x1024.Idx → EReal) (w : S1024x1024.Idx → EReal) (a : S512x1024.Idx → EReal) (v : S1024x1024.Idx → EReal) (l : Fin 512) (d : Fin 1024) :
    k0_pay8 (F := Ideal) x w a v (ValueIdx.ix2 l d) = a (ValueIdx.ix2 l d) + ∑ f : Fin 1024, k0_pay7 (F := Ideal) x w (ValueIdx.ix2 l f) * v (ValueIdx.ix2 f d) := by
  unfold k0_pay8
  pointwise
  rfl
theorem pay10 (h : S512x1024.Idx → EReal) (a : S512x1024.Idx → EReal) (v : S1024x1024.Idx → EReal) (l : Fin 512) (d : Fin 1024) :
    k0_pay10 (F := Ideal) h a v (ValueIdx.ix2 l d) = a (ValueIdx.ix2 l d) + ∑ f : Fin 1024, h (ValueIdx.ix2 l f) * v (ValueIdx.ix2 f d) := by
  unfold k0_pay10
  pointwise
  rfl

theorem pay11 (r : S512x1024.Idx → EReal) (l : Fin 512) (d : Fin 1024) : k0_pay11 (F := Ideal) r (ValueIdx.ix2 l d) = cen (fun d => r (ValueIdx.ix2 l d)) d := by
  unfold k0_pay11
  pointwise
  rfl
theorem pay12 (r : S512x1024.Idx → EReal) (l : Fin 512) (o : Fin 1) : k0_pay12 (F := Ideal) r (ValueIdx.ix2 l o) = rdev (fun d => r (ValueIdx.ix2 l d)) := by
  unfold k0_pay12
  pointwise
  exact congrArg (fun s : EReal => Ideal.rsqrt (Ideal.div s len + eps)) (Finset.sum_congr rfl fun x _ => congrArg₂ (fun a b : EReal => a * b) (pay11 r l x) (pay11 r l x))
theorem pay13 (r : S512x1024.Idx → EReal) (l : Fin 512) (d : Fin 1024) : k0_pay13 (F := Ideal) r (ValueIdx.ix2 l d) = nrm (fun d => r (ValueIdx.ix2 l d)) d := by
  unfold k0_pay13
  pointwise
  exact congrArg₂ (fun a b : EReal => a * b) (pay11 r l d) (pay12 r l 0)
theorem pay14 (r : S512x1024.Idx → EReal) (g b : S1x1024.Idx → EReal) (l : Fin 512) (d : Fin 1024) :
    k0_pay14 (F := Ideal) r g b (ValueIdx.ix2 l d) = norm (fun d => r (ValueIdx.ix2 l d)) (fun d => g (ValueIdx.ix2 0 d)) (fun d => b (ValueIdx.ix2 0 d)) d := by
  unfold k0_pay14
  pointwise
  exact congrArg (fun a : EReal => a * g (ValueIdx.ix2 0 d) + b (ValueIdx.ix2 0 d)) (pay13 r l d)

/-! ## One point's sums -/

theorem lda (o : ℕ) (inb) (W : S1024x4096.Idx → EReal) (k f : Fin 1024) (z : Fin 4096) (h : z.val = o + f.val) :
    View.ld (Val := Elt Ideal) (S := S1024x4096) (e' := .bf16) W (Rect.unit ![0, o] ![1024, 1024] inb) (ValueIdx.ix2 k f) = W (ValueIdx.ix2 k z) :=
  congrArg W (funext (on_two (Fin.ext (by show 0 + 1 * k.val = k.val; omega)) (Fin.ext (by show o + 1 * f.val = z.val; omega))))

theorem ldb (o : ℕ) (inb) (W : S4096x1024.Idx → EReal) (f d : Fin 1024) (z : Fin 4096) (h : z.val = o + f.val) :
    View.ld (Val := Elt Ideal) (S := S4096x1024) (e' := .bf16) W (Rect.unit ![o, 0] ![1024, 1024] inb) (ValueIdx.ix2 f d) = W (ValueIdx.ix2 z d) :=
  congrArg W (funext (on_two (Fin.ext (by show o + 1 * f.val = z.val; omega)) (Fin.ext (by show 0 + 1 * d.val = d.val; omega))))

theorem sq_ld (o : ℕ) (inb) (x : S512x1024.Idx → EReal) (W : S1024x4096.Idx → EReal) (l : Fin 512) (f : Fin 1024) (z : Fin 4096) (h : z.val = o + f.val) :
    sq x (View.ld (Val := Elt Ideal) (S := S1024x4096) (e' := .bf16) W (Rect.unit ![0, o] ![1024, 1024] inb)) l f = sq x W l z := by
  unfold sq
  have e : (∑ k : Fin 1024, x (ValueIdx.ix2 l k) * View.ld (Val := Elt Ideal) (S := S1024x4096) (e' := .bf16) W (Rect.unit ![0, o] ![1024, 1024] inb) (ValueIdx.ix2 k f))
      = ∑ k : Fin 1024, x (ValueIdx.ix2 l k) * W (ValueIdx.ix2 k z) :=
    Finset.sum_congr rfl fun k _ => congrArg (fun b : EReal => x (ValueIdx.ix2 l k) * b) (lda o inb W k f z h)
  exact congrArg (fun s : EReal => max s 0 * max s 0) e

/-- The sum that a point normalises, by the two weights. -/
def acc (x : S512x1024.Idx → EReal) (W1 : S1024x4096.Idx → EReal) (W2 : S4096x1024.Idx → EReal) : S512x1024.Idx → EReal :=
  k0_pay10 (F := Ideal)
    (k0_pay9 (F := Ideal) (k0_pay1 (F := Ideal) x) (View.ld (Val := Elt Ideal) (S := S1024x4096) (e' := .bf16) W1 (Rect.unit ![0, 3072] ![1024, 1024] inb_S1024x4096_S1024x1024_0_3072)))
    (k0_pay8 (F := Ideal) (k0_pay1 (F := Ideal) x) (View.ld (Val := Elt Ideal) (S := S1024x4096) (e' := .bf16) W1 (Rect.unit ![0, 2048] ![1024, 1024] inb_S1024x4096_S1024x1024_0_2048))
      (k0_pay6 (F := Ideal)
        (k0_pay5 (F := Ideal) x (View.ld (Val := Elt Ideal) (S := S1024x4096) (e' := .bf16) W1 (Rect.unit ![0, 1024] ![1024, 1024] inb_S1024x4096_S1024x1024_0_1024)))
        (k0_pay4 (F := Ideal) x (View.ld (Val := Elt Ideal) (S := S1024x4096) (e' := .bf16) W1 (Rect.unit ![0, 0] ![1024, 1024] inb_S1024x4096_S1024x1024_0_0)) (k0_pay2 (F := Ideal) x)
          (View.ld (Val := Elt Ideal) (S := S4096x1024) (e' := .bf16) W2 (Rect.unit ![0, 0] ![1024, 1024] inb_S4096x1024_S1024x1024_0_0)))
        (View.ld (Val := Elt Ideal) (S := S4096x1024) (e' := .bf16) W2 (Rect.unit ![1024, 0] ![1024, 1024] inb_S4096x1024_S1024x1024_1024_0)))
      (View.ld (Val := Elt Ideal) (S := S4096x1024) (e' := .bf16) W2 (Rect.unit ![2048, 0] ![1024, 1024] inb_S4096x1024_S1024x1024_2048_0)))
    (View.ld (Val := Elt Ideal) (S := S4096x1024) (e' := .bf16) W2 (Rect.unit ![3072, 0] ![1024, 1024] inb_S4096x1024_S1024x1024_3072_0))

theorem acc_eq (x : S512x1024.Idx → EReal) (W1 : S1024x4096.Idx → EReal) (W2 : S4096x1024.Idx → EReal) (l : Fin 512) (d : Fin 1024) :
    acc x W1 W2 (ValueIdx.ix2 l d) = alpha * x (ValueIdx.ix2 l d) + ∑ f : Fin 4096, sq x W1 l f * W2 (ValueIdx.ix2 f d) := by
  unfold acc
  rw [pay10, pay8, pay6, pay4, pay2, four, ← add_assoc, ← add_assoc, ← add_assoc]
  refine congrArg₂ (fun a b : EReal => a + b) (congrArg₂ (fun a b : EReal => a + b) (congrArg₂ (fun a b : EReal => a + b) (congrArg (fun b : EReal => alpha * x (ValueIdx.ix2 l d) + b) ?_) ?_) ?_) ?_
  · refine Finset.sum_congr rfl fun f _ => congrArg₂ (fun a b : EReal => a * b) ((pay3 _ _ _ _).trans (sq_ld _ _ _ _ _ _ _ ?_)) (ldb _ _ _ _ _ _ ?_)
    · show f.val = 0 + f.val; omega
    · show f.val = 0 + f.val; omega
  · exact Finset.sum_congr rfl fun f _ => congrArg₂ (fun a b : EReal => a * b) ((pay5 _ _ _ _).trans (sq_ld _ _ _ _ _ _ _ rfl)) (ldb _ _ _ _ _ _ rfl)
  · exact Finset.sum_congr rfl fun f _ => congrArg₂ (fun a b : EReal => a * b) ((pay7 _ _ _ _).trans (sq_ld _ _ _ _ _ _ _ rfl)) (ldb _ _ _ _ _ _ rfl)
  · exact Finset.sum_congr rfl fun f _ => congrArg₂ (fun a b : EReal => a * b) ((pay9 _ _ _ _).trans (sq_ld _ _ _ _ _ _ _ rfl)) (ldb _ _ _ _ _ _ rfl)

/-! ## Stores of a range of columns read back -/

theorem hit (o : ℕ) (inb) (v : S512x1024.Idx → Elt Ideal .bf16) (L : List (View.Piece (Elt Ideal) S512x4096 .bf16)) (y : S512x4096.Idx)
    (h : o ≤ (y 1).val ∧ (y 1).val < o + 1024) :
    View.canon ((⟨Rect.unit ![0, o] ![512, 1024] inb, v⟩ : View.Piece (Elt Ideal) S512x4096 .bf16) :: L) y = v (ValueIdx.ix2 (y 0) (⟨(y 1).val - o, by omega⟩ : Fin 1024)) := by
  have e1 : y = (Rect.unit (s := S512x4096) ![0, o] ![512, 1024] inb).emb (ValueIdx.ix2 (y 0) (⟨(y 1).val - o, by omega⟩ : Fin 1024)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss (o : ℕ) (inb) (v : S512x1024.Idx → Elt Ideal .bf16) (L : List (View.Piece (Elt Ideal) S512x4096 .bf16)) (y : S512x4096.Idx)
    (h : ¬(o ≤ (y 1).val ∧ (y 1).val < o + 1024)) :
    View.canon ((⟨Rect.unit ![0, o] ![512, 1024] inb, v⟩ : View.Piece (Elt Ideal) S512x4096 .bf16) :: L) y = View.canon L y := by
  refine View.canon_cons_of_not_mem _ _ fun hm => ?_
  have h1 := (Rect.mem_set_unit (inb := inb)).mp hm 1
  have h2 : o ≤ (y 1).val ∧ (y 1).val < o + 1024 := h1
  exact h h2

theorem hidden (x : S512x1024.Idx → EReal) (W1 : S1024x4096.Idx → EReal) (y : S512x4096.Idx) :
    View.canon [(⟨Rect.unit ![0, 3072] ![512, 1024] inb_S512x4096_S512x1024_0_3072, k0_pay9 (F := Ideal) (k0_pay1 (F := Ideal) x) (View.ld (Val := Elt Ideal) (S := S1024x4096) (e' := .bf16) W1 (Rect.unit ![0, 3072] ![1024, 1024] inb_S1024x4096_S1024x1024_0_3072))⟩ : View.Piece (Elt Ideal) S512x4096 .bf16),
      (⟨Rect.unit ![0, 2048] ![512, 1024] inb_S512x4096_S512x1024_0_2048, k0_pay7 (F := Ideal) (k0_pay1 (F := Ideal) x) (View.ld (Val := Elt Ideal) (S := S1024x4096) (e' := .bf16) W1 (Rect.unit ![0, 2048] ![1024, 1024] inb_S1024x4096_S1024x1024_0_2048))⟩ : View.Piece (Elt Ideal) S512x4096 .bf16),
      (⟨Rect.unit ![0, 1024] ![512, 1024] inb_S512x4096_S512x1024_0_1024, k0_pay5 (F := Ideal) x (View.ld (Val := Elt Ideal) (S := S1024x4096) (e' := .bf16) W1 (Rect.unit ![0, 1024] ![1024, 1024] inb_S1024x4096_S1024x1024_0_1024))⟩ : View.Piece (Elt Ideal) S512x4096 .bf16),
      (⟨Rect.unit ![0, 0] ![512, 1024] inb_S512x4096_S512x1024_0_0, k0_pay3 (F := Ideal) x (View.ld (Val := Elt Ideal) (S := S1024x4096) (e' := .bf16) W1 (Rect.unit ![0, 0] ![1024, 1024] inb_S1024x4096_S1024x1024_0_0))⟩ : View.Piece (Elt Ideal) S512x4096 .bf16)] y
      = sq x W1 (y 0) (y 1) := by
  have hy : (y 1).val < 4096 := (y 1).isLt
  by_cases h3 : 3072 ≤ (y 1).val ∧ (y 1).val < 3072 + 1024
  · rw [hit 3072 _ _ _ _ h3]
    exact (pay9 _ _ _ _).trans (sq_ld _ _ _ _ _ _ _ (by show (y 1).val = 3072 + ((y 1).val - 3072); omega))
  rw [miss 3072 _ _ _ _ h3]
  by_cases h2 : 2048 ≤ (y 1).val ∧ (y 1).val < 2048 + 1024
  · rw [hit 2048 _ _ _ _ h2]
    exact (pay7 _ _ _ _).trans (sq_ld _ _ _ _ _ _ _ (by show (y 1).val = 2048 + ((y 1).val - 2048); omega))
  rw [miss 2048 _ _ _ _ h2]
  by_cases h1 : 1024 ≤ (y 1).val ∧ (y 1).val < 1024 + 1024
  · rw [hit 1024 _ _ _ _ h1]
    exact (pay5 _ _ _ _).trans (sq_ld _ _ _ _ _ _ _ (by show (y 1).val = 1024 + ((y 1).val - 1024); omega))
  rw [miss 1024 _ _ _ _ h1, hit 0 _ _ _ _ (by omega)]
  exact (pay3 _ _ _ _).trans (sq_ld _ _ _ _ _ _ _ (by show (y 1).val = 0 + ((y 1).val - 0); omega))

/-! ## The arrays and the blocks -/

variable (m : (ℓ : Loc nD τ sig) → Buf (Elt Ideal) ℓ) (c : Dev nD)

def h2 : S8192x1024.Idx → EReal := m (c.tc.loc main_arg0)
def w1 : S1024x4096.Idx → EReal := m (c.tc.loc main_arg1)
def w2 : S4096x1024.Idx → EReal := m (c.tc.loc main_arg2)
def g (d : Fin 1024) : EReal := (m (c.tc.loc main_arg3) : S1024.Idx → EReal) (ValueIdx.ix1 d)
def b (d : Fin 1024) : EReal := (m (c.tc.loc main_arg4) : S1024.Idx → EReal) (ValueIdx.ix1 d)

/-- The hidden layer. -/
def hid (s : Fin 8192) (f : Fin 4096) : EReal :=
  max (∑ k : Fin 1024, h2 m c (ValueIdx.ix2 s k) * w1 m c (ValueIdx.ix2 k f)) 0 * max (∑ k : Fin 1024, h2 m c (ValueIdx.ix2 s k) * w1 m c (ValueIdx.ix2 k f)) 0
/-- What is normalised. -/
def pre (s : Fin 8192) (d : Fin 1024) : EReal := alpha * h2 m c (ValueIdx.ix2 s d) + ∑ f : Fin 4096, hid m c s f * w2 m c (ValueIdx.ix2 f d)

def res3 (i : S8192x1024.Idx) : EReal := norm (pre m c (i 0)) (g m c) (b m c) (i 1)
def res4 (i : S8192x1024.Idx) : EReal := nrm (pre m c (i 0)) (i 1)
def res5 (i : S8192x1.Idx) : EReal := rdev (pre m c (i 0))
def res6 (i : S8192x4096.Idx) : EReal := hid m c (i 0) (i 1)

/-- Row `l` of the 512 that point `t` takes. -/
def row (t : Fin cfg0.N) (l : Fin 512) : Fin 8192 := ⟨t.val * 512 + l.val, by have h := t.isLt; have : cfg0.N = 16 := rfl; omega⟩

theorem idx (t : Fin cfg0.N) : (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0)) t

variable {m c} (t : Fin cfg0.N)

theorem host_w1 : V m c main_v0 = w1 m c := by
  unfold V
  after_reads_simp
  rfl

theorem host_w2 : V m c main_v1 = w2 m c := by
  unfold V
  after_reads_simp
  rfl

theorem host_g (i : S1x1024.Idx) : V m c main_v2 i = g m c (i 1) := by
  unfold V
  after_reads_at
  rfl

theorem host_b (i : S1x1024.Idx) : V m c main_v3 i = b m c (i 1) := by
  unfold V
  after_reads_at
  rfl

theorem blk0 (l : Fin 512) (d : Fin 1024) : (iblk m c 0 t : S512x1024.Idx → EReal) (ValueIdx.ix2 l d) = h2 m c (ValueIdx.ix2 (row t l) d) := by
  have e : (iblk m c 0 t : S512x1024.Idx → EReal) (ValueIdx.ix2 l d) = (V m c main_arg0 : (⟨S8192x1024, .f32⟩ : BufTy).Contents (Elt Ideal)) (ValueIdx.ix2 (row t l) d) := by
    blk_ext [iblk, idx t, row]
  rw [e, V_main_arg0]
  rfl

theorem blk1 (d : Fin 1024) : (iblk m c 1 t : S1x1024.Idx → EReal) (ValueIdx.ix2 0 d) = g m c d := by
  have e : (iblk m c 1 t : S1x1024.Idx → EReal) (ValueIdx.ix2 0 d) = (V m c main_v2 : (⟨S1x1024, .f32⟩ : BufTy).Contents (Elt Ideal)) (ValueIdx.ix2 0 d) := by
    blk_ext [iblk, idx t, row]
  rw [e, host_g]

theorem blk2 (d : Fin 1024) : (iblk m c 2 t : S1x1024.Idx → EReal) (ValueIdx.ix2 0 d) = b m c d := by
  have e : (iblk m c 2 t : S1x1024.Idx → EReal) (ValueIdx.ix2 0 d) = (V m c main_v3 : (⟨S1x1024, .f32⟩ : BufTy).Contents (Elt Ideal)) (ValueIdx.ix2 0 d) := by
    blk_ext [iblk, idx t, row]
  rw [e, host_b]

theorem sq_hid (l : Fin 512) (f : Fin 4096) : sq (iblk m c 0 t) (w1 m c) l f = hid m c (row t l) f := by
  unfold sq hid
  exact congrArg (fun s : EReal => max s 0 * max s 0) (Finset.sum_congr rfl fun k _ => congrArg (fun a : EReal => a * w1 m c (ValueIdx.ix2 k f)) (blk0 t l k))

theorem acc_pre (l : Fin 512) : (fun d => acc (iblk m c 0 t) (w1 m c) (w2 m c) (ValueIdx.ix2 l d)) = pre m c (row t l) := by
  funext d
  rw [acc_eq]
  unfold pre
  exact congrArg₂ (fun a b : EReal => a + b) (congrArg (fun a : EReal => alpha * a) (blk0 t l d)) (Finset.sum_congr rfl fun f _ => congrArg (fun a : EReal => a * w2 m c (ValueIdx.ix2 f d)) (sq_hid t l f))

/-! ## What the points leave -/

/-- The weights' copies after a point. -/
theorem w1_A (h0 : t.val % 16 = 0) : (outsAt0 m c t.val t.isLt).2.2.2.2.1 = w1 m c := by
  rw [outsAt0_A m c t h0]
  frame_out
  rw [kept, host_w1]
  rfl

theorem w2_A (h0 : t.val % 16 = 0) : (outsAt0 m c t.val t.isLt).2.2.2.2.2 = w2 m c := by
  rw [outsAt0_A m c t h0]
  frame_out
  rw [kept, host_w2]
  rfl

theorem w1_B (h0 : ¬t.val % 16 = 0) : (outsAt0 m c t.val t.isLt).2.2.2.2.1 = (outsAt0 m c (t.val - 1) (Nat.lt_of_le_of_lt (Nat.sub_le _ _) t.isLt)).2.2.2.2.1 := by
  rw [outsAt0_B m c t h0]
  rfl

theorem w2_B (h0 : ¬t.val % 16 = 0) : (outsAt0 m c t.val t.isLt).2.2.2.2.2 = (outsAt0 m c (t.val - 1) (Nat.lt_of_le_of_lt (Nat.sub_le _ _) t.isLt)).2.2.2.2.2 := by
  rw [outsAt0_B m c t h0]
  rfl

theorem kept_at : ∀ (n : ℕ) (hn : n < cfg0.N), (outsAt0 m c n hn).2.2.2.2.1 = w1 m c ∧ (outsAt0 m c n hn).2.2.2.2.2 = w2 m c
  | 0, hn => ⟨w1_A ⟨0, hn⟩ rfl, w2_A ⟨0, hn⟩ rfl⟩
  | n + 1, hn => by
    have hN : cfg0.N = 16 := rfl
    have h0 : ¬(⟨n + 1, hn⟩ : Fin cfg0.N).val % 16 = 0 := by show ¬(n + 1) % 16 = 0; omega
    have ih := kept_at n (Nat.lt_of_succ_lt hn)
    exact ⟨(w1_B ⟨n + 1, hn⟩ h0).trans ih.1, (w2_B ⟨n + 1, hn⟩ h0).trans ih.2⟩

theorem kept1 : (outsAt0 m c (t.val - 1) (Nat.lt_of_le_of_lt (Nat.sub_le _ _) t.isLt)).2.2.2.2.1 = w1 m c := (kept_at _ _).1
theorem kept2 : (outsAt0 m c (t.val - 1) (Nat.lt_of_le_of_lt (Nat.sub_le _ _) t.isLt)).2.2.2.2.2 = w2 m c := (kept_at _ _).2

theorem out3 : (outsAt0 m c t.val t.isLt).1 = k0_pay14 (F := Ideal) (acc (iblk m c 0 t) (w1 m c) (w2 m c)) (iblk m c 1 t) (iblk m c 2 t) := by
  by_cases h0 : t.val % 16 = 0
  · rw [outsAt0_A m c t h0, ← host_w1, ← host_w2]
    frame_out
    simp only [View.readCov_eq_canon', kept]
    rfl
  · rw [outsAt0_B m c t h0]
    frame_out
    simp only [read_unread_whole, kept1 t, kept2 t]
    rfl

theorem out4 : (outsAt0 m c t.val t.isLt).2.1 = k0_pay13 (F := Ideal) (acc (iblk m c 0 t) (w1 m c) (w2 m c)) := by
  by_cases h0 : t.val % 16 = 0
  · rw [outsAt0_A m c t h0, ← host_w1, ← host_w2]
    frame_out
    simp only [View.readCov_eq_canon', kept]
    rfl
  · rw [outsAt0_B m c t h0]
    frame_out
    simp only [read_unread_whole, kept1 t, kept2 t]
    rfl

theorem out5 : (outsAt0 m c t.val t.isLt).2.2.1 = k0_pay12 (F := Ideal) (acc (iblk m c 0 t) (w1 m c) (w2 m c)) := by
  by_cases h0 : t.val % 16 = 0
  · rw [outsAt0_A m c t h0, ← host_w1, ← host_w2]
    frame_out
    simp only [View.readCov_eq_canon', kept]
    rfl
  · rw [outsAt0_B m c t h0]
    frame_out
    simp only [read_unread_whole, kept1 t, kept2 t]
    rfl

theorem out6 (y : S512x4096.Idx) : (outsAt0 m c t.val t.isLt).2.2.2.1 y = sq (iblk m c 0 t) (w1 m c) (y 0) (y 1) := by
  by_cases h0 : t.val % 16 = 0
  · rw [outsAt0_A m c t h0, ← host_w1]
    frame_out
    simp only [View.readCov_eq_canon', kept]
    exact hidden _ _ y
  · rw [outsAt0_B m c t h0]
    frame_out
    simp only [read_unread_whole, kept1 t]
    exact hidden _ _ y

theorem point3 (y : S512x1024.Idx) : (outsAt0 m c t.val t.isLt).1 y = res3 m c (ValueIdx.ix2 (row t (y 0)) (y 1)) := by
  rw [out3]
  obtain ⟨l, d, rfl⟩ := pair y
  refine (pay14 _ _ _ l d).trans ?_
  rw [acc_pre, show (fun d => (iblk m c 1 t : S1x1024.Idx → EReal) (ValueIdx.ix2 0 d)) = g m c from funext (blk1 t),
    show (fun d => (iblk m c 2 t : S1x1024.Idx → EReal) (ValueIdx.ix2 0 d)) = b m c from funext (blk2 t)]
  rfl

theorem point4 (y : S512x1024.Idx) : (outsAt0 m c t.val t.isLt).2.1 y = res4 m c (ValueIdx.ix2 (row t (y 0)) (y 1)) := by
  rw [out4]
  obtain ⟨l, d, rfl⟩ := pair y
  refine (pay13 _ l d).trans ?_
  rw [acc_pre]
  rfl

theorem point5 (y : S512x1.Idx) : (outsAt0 m c t.val t.isLt).2.2.1 y = res5 m c (ValueIdx.ix2 (row t (y 0)) (y 1)) := by
  rw [out5]
  obtain ⟨l, d, rfl⟩ := pair y
  refine (pay12 _ l d).trans ?_
  rw [acc_pre]
  rfl

theorem point6 (y : S512x4096.Idx) : (outsAt0 m c t.val t.isLt).2.2.2.1 y = res6 m c (ValueIdx.ix2 (row t (y 0)) (y 1)) :=
  (out6 t y).trans (sq_hid t _ _)

theorem arr3 : (dats m 0 c).arrAt 3 cfg0.N = res3 m c := by
  refine (dats m 0 c).arrAt_eq_of_covers 3 _ (by decide +kernel) fun t hf y => ?_
  rw [after0_3, point3, cast_eq]
  refine congrArg (res3 m c) (funext (on_two ?_ ?_))
  · refine Fin.ext ?_
    blk_simp [idx t, row]
  · refine Fin.ext ?_
    blk_simp [idx t, row]

theorem arr4 : (dats m 0 c).arrAt 4 cfg0.N = res4 m c := by
  refine (dats m 0 c).arrAt_eq_of_covers 4 _ (by decide +kernel) fun t hf y => ?_
  rw [after0_4, point4, cast_eq]
  refine congrArg (res4 m c) (funext (on_two ?_ ?_))
  · refine Fin.ext ?_
    blk_simp [idx t, row]
  · refine Fin.ext ?_
    blk_simp [idx t, row]

theorem arr5 : (dats m 0 c).arrAt 5 cfg0.N = res5 m c := by
  refine (dats m 0 c).arrAt_eq_of_covers 5 _ (by decide +kernel) fun t hf y => ?_
  rw [after0_5, point5, cast_eq]
  refine congrArg (res5 m c) (funext (on_two ?_ ?_))
  · refine Fin.ext ?_
    blk_simp [idx t, row]
  · refine Fin.ext ?_
    blk_simp [idx t, row]

theorem arr6 : (dats m 0 c).arrAt 6 cfg0.N = res6 m c := by
  refine (dats m 0 c).arrAt_eq_of_covers 6 _ (by decide +kernel) fun t hf y => ?_
  rw [after0_6, point6, cast_eq]
  refine congrArg (res6 m c) (funext (on_two ?_ ?_))
  · refine Fin.ext ?_
    blk_simp [idx t, row]
  · refine Fin.ext ?_
    blk_simp [idx t, row]

/-! ## The reference -/

open Cert.Reference12Ideal.Read

theorem ref_hid (i : S8192x4096.Idx) : val_main_v2 (F := Ideal) (m (c.tc.loc main_arg0)) (m (c.tc.loc main_arg1)) i = res6 m c i := by
  rw [val_main_v2_apply, val_main_v1_apply, val_main_v0_apply]
  unfold val_main_call0_v0 val_main_call0_cst
  pointwise
  refine congrArg (fun s : EReal => max s 0 * max s 0) (Finset.sum_congr rfl fun k _ => congrArg₂ (fun a b : EReal => a * b) (congrArg (h2 m c) (funext (on_two rfl rfl))) (congrArg (w1 m c) (funext (on_two rfl rfl))))

theorem ref_pre (i : S8192x1024.Idx) : val_main_v6 (F := Ideal) (m (c.tc.loc main_arg0)) (m (c.tc.loc main_arg1)) (m (c.tc.loc main_arg2)) i = pre m c (i 0) (i 1) := by
  rw [val_main_v6_apply, val_main_v4_apply, val_main_v5_apply]
  unfold val_main_v3 val_main_cst
  pointwise
  refine congrArg₂ (fun a b : EReal => a + b) (congrArg (fun a : EReal => alpha * a) (congrArg (h2 m c) (funext (on_two rfl rfl)))) (Finset.sum_congr rfl fun k _ => congrArg₂ (fun a b : EReal => a * b) (ref_hid _) (congrArg (w2 m c) (funext (on_two rfl rfl))))

theorem ref_mean (i : S8192x1.Idx) : val_main_v10 (F := Ideal) (m (c.tc.loc main_arg0)) (m (c.tc.loc main_arg1)) (m (c.tc.loc main_arg2)) i = mean (pre m c (i 0)) := by
  rw [val_main_v10_apply, val_main_v8_apply, val_main_v7_apply]
  unfold val_main_v9 val_main_cst_1 val_main_cst_0
  pointwise
  exact congrArg (fun s : EReal => Ideal.div s len) (Finset.sum_congr rfl fun k _ => ref_pre _)

theorem ref_cen (i : S8192x1024.Idx) : val_main_v12 (F := Ideal) (m (c.tc.loc main_arg0)) (m (c.tc.loc main_arg1)) (m (c.tc.loc main_arg2)) i = cen (pre m c (i 0)) (i 1) := by
  rw [val_main_v12_apply, val_main_v11_apply, ref_pre, ref_mean]
  rfl

theorem ref_rdev (i : S8192x1.Idx) : val_main_v20 (F := Ideal) (m (c.tc.loc main_arg0)) (m (c.tc.loc main_arg1)) (m (c.tc.loc main_arg2)) i = res5 m c i := by
  rw [val_main_v20_apply, val_main_v19_apply, val_main_v17_apply, val_main_v15_apply, val_main_v14_apply]
  unfold val_main_v16 val_main_cst_3 val_main_v18 val_main_cst_4 val_main_cst_2
  pointwise
  exact congrArg (fun s : EReal => Ideal.rsqrt (Ideal.div s len + eps)) (Finset.sum_congr rfl fun k _ => (val_main_v13_apply _ _ _ _).trans (congrArg₂ (fun a b : EReal => a * b) (ref_cen _) (ref_cen _)))

theorem ref_nrm (i : S8192x1024.Idx) : val_main_v24 (F := Ideal) (m (c.tc.loc main_arg0)) (m (c.tc.loc main_arg1)) (m (c.tc.loc main_arg2)) i = res4 m c i := by
  rw [val_main_v24_apply, val_main_v22_apply, val_main_v21_apply, val_main_v23_apply, ref_pre, ref_mean, ref_rdev]
  rfl

theorem ref_norm (i : S8192x1024.Idx) : val_main_v30 (F := Ideal) (m (c.tc.loc main_arg0)) (m (c.tc.loc main_arg1)) (m (c.tc.loc main_arg2)) (m (c.tc.loc main_arg3)) (m (c.tc.loc main_arg4)) i = res3 m c i := by
  rw [val_main_v30_apply, val_main_v27_apply, ref_nrm]
  unfold val_main_v26 val_main_v25 val_main_v29 val_main_v28
  pointwise
  rfl

theorem ref_out (i : S8192x4096.Idx) : val_main_v31 (F := Ideal) (m (c.tc.loc main_arg0)) (m (c.tc.loc main_arg1)) i = res6 m c i := by
  rw [val_main_v31_apply, ref_hid]
  rfl

end Cert.Kernel12Ideal.Gen

end
-- ==== Proof.Attn13.lean ====
/- Cross-attention with its output projection and layer norm, forward: each point takes 512 rows through the four heads, stores
   each head's columns of the heads' output, reads it back whole for the projection, and normalises. -/
module

public import proofs.«01_k».proof.Proof.Norm
public import proofs.«01_k».proof.Proof.RealStep
public import proofs.«01_k».proof.Proof.Gen.Kernel13Ideal.Value
public import proofs.«01_k».proof.Proof.Gen.Reference13Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel13Ideal.Gen

open Cert.Kernel13Ideal Cert.Kernel13Ideal.Gen Idealize.ShloMosaic Idealize.ShloMosaic.TcCoe Idealize.SL.Sem Cert.Chunks Cert.Norm

/-! ## One row's attention -/

/-- The scale of the scores, 1/16. -/
def scale : EReal := Ideal.ofBits .f32 0x3D800000#32
/-- The largest of a row of scores. -/
def top (s : Fin 256 → EReal) : EReal := Finset.univ.fold max (Ideal.ofBits .f32 0xFF800000#32) s
/-- The exponential of a score, less the largest of its row. -/
def ex (s : Fin 256 → EReal) (n : Fin 256) : EReal := Ideal.exp (s n - top s)
/-- The softmax of a row of scores. -/
def soft (s : Fin 256 → EReal) (n : Fin 256) : EReal := Ideal.div (ex s n) (∑ k : Fin 256, ex s k)
/-- A row's scores against 256 keys. -/
def score (f : Fin 1024 → EReal) (w : Fin 1024 → Fin 256 → EReal) (k : Fin 256 → Fin 256 → EReal) (n : Fin 256) : EReal :=
  (∑ c : Fin 256, (∑ j : Fin 1024, f j * w j c) * k n c) * scale
/-- What one head gives for a row. -/
def head (f : Fin 1024 → EReal) (w : Fin 1024 → Fin 256 → EReal) (k u : Fin 256 → Fin 256 → EReal) (d : Fin 256) : EReal :=
  ∑ n : Fin 256, soft (score f w k) n * u n d

/-- Column `d` of head `p`. -/
def hc (p : Fin 4) (d : Fin 256) : Fin 1024 := ⟨p.val * 256 + d.val, by omega⟩
/-- The head of a column, and the column within it. -/
def hd (e : Fin 1024) : Fin 4 := ⟨e.val / 256, by omega⟩
def sub (e : Fin 1024) : Fin 256 := ⟨e.val % 256, by omega⟩

/-- What head `p` gives for a row, by the whole weight, keys and values. -/
def att (f : Fin 1024 → EReal) (W : S1024x1024.Idx → EReal) (K U : S256x1024.Idx → EReal) (p : Fin 4) : Fin 256 → EReal :=
  head f (fun j c => W (ValueIdx.ix2 j (hc p c))) (fun n c => K (ValueIdx.ix2 n (hc p c))) (fun n c => U (ValueIdx.ix2 n (hc p c)))

/-! ## The payloads -/

theorem pay7 (x : S512x1024.Idx → EReal) (w : S1024x256.Idx → EReal) (k : S256x256.Idx → EReal) (l : Fin 512) (n : Fin 256) :
    k0_pay7 (F := Ideal) x w k (ValueIdx.ix2 l n) = score (fun j => x (ValueIdx.ix2 l j)) (fun j c => w (ValueIdx.ix2 j c)) (fun n c => k (ValueIdx.ix2 n c)) n := by
  unfold k0_pay7 k0_pay5
  pointwise
  rfl

theorem pay8 (s : S512x256.Idx → EReal) (u : S256x256.Idx → EReal) (l : Fin 512) (d : Fin 256) :
    k0_pay8 (F := Ideal) s u (ValueIdx.ix2 l d) = ∑ n : Fin 256, soft (fun n => s (ValueIdx.ix2 l n)) n * u (ValueIdx.ix2 n d) := by
  unfold k0_pay8
  pointwise
  rfl

theorem pay87 (x : S512x1024.Idx → EReal) (w : S1024x256.Idx → EReal) (k u : S256x256.Idx → EReal) (l : Fin 512) (d : Fin 256) :
    k0_pay8 (F := Ideal) (k0_pay7 (F := Ideal) x w k) u (ValueIdx.ix2 l d)
      = head (fun j => x (ValueIdx.ix2 l j)) (fun j c => w (ValueIdx.ix2 j c)) (fun n c => k (ValueIdx.ix2 n c)) (fun n c => u (ValueIdx.ix2 n c)) d := by
  refine (pay8 _ _ _ _).trans ?_
  unfold head
  exact congrArg (fun s : Fin 256 → EReal => ∑ n : Fin 256, soft s n * u (ValueIdx.ix2 n d)) (funext fun n => pay7 x w k l n)

theorem pay6 (x : S512x1024.Idx → EReal) (w : S1024x256.Idx → EReal) (k u : S256x256.Idx → EReal) :
    k0_pay6 (F := Ideal) x w k u = k0_pay8 (F := Ideal) (k0_pay7 (F := Ideal) x w k) u := rfl
theorem pay9 (x : S512x1024.Idx → EReal) (w : S1024x256.Idx → EReal) (k u : S256x256.Idx → EReal) :
    k0_pay9 (F := Ideal) (k0_pay5 (F := Ideal) x) w k u = k0_pay8 (F := Ideal) (k0_pay7 (F := Ideal) x w k) u := rfl
theorem pay10 (x : S512x1024.Idx → EReal) (w : S1024x256.Idx → EReal) (k u : S256x256.Idx → EReal) :
    k0_pay10 (F := Ideal) (k0_pay5 (F := Ideal) x) w k u = k0_pay8 (F := Ideal) (k0_pay7 (F := Ideal) x w k) u := rfl

theorem pay11 (x o : S512x1024.Idx → EReal) (w : S1024x1024.Idx → EReal) (l : Fin 512) (d : Fin 1024) :
    k0_pay11 (F := Ideal) x o w (ValueIdx.ix2 l d) = alpha * x (ValueIdx.ix2 l d) + ∑ e : Fin 1024, o (ValueIdx.ix2 l e) * w (ValueIdx.ix2 e d) := by
  unfold k0_pay11
  pointwise
  rfl

theorem pay1 (r : S512x1024.Idx → EReal) (l : Fin 512) (d : Fin 1024) : k0_pay1 (F := Ideal) r (ValueIdx.ix2 l d) = cen (fun d => r (ValueIdx.ix2 l d)) d := by
  unfold k0_pay1
  pointwise
  rfl
theorem pay2 (r : S512x1024.Idx → EReal) (l : Fin 512) (o : Fin 1) : k0_pay2 (F := Ideal) r (ValueIdx.ix2 l o) = rdev (fun d => r (ValueIdx.ix2 l d)) := by
  unfold k0_pay2
  pointwise
  exact congrArg (fun s : EReal => Ideal.rsqrt (Ideal.div s len + eps)) (Finset.sum_congr rfl fun x _ => congrArg₂ (fun a b : EReal => a * b) (pay1 r l x) (pay1 r l x))
theorem pay3 (r : S512x1024.Idx → EReal) (l : Fin 512) (d : Fin 1024) : k0_pay3 (F := Ideal) r (ValueIdx.ix2 l d) = nrm (fun d => r (ValueIdx.ix2 l d)) d := by
  unfold k0_pay3
  pointwise
  exact congrArg₂ (fun a b : EReal => a * b) (pay1 r l d) (pay2 r l 0)
theorem pay4 (r : S512x1024.Idx → EReal) (g b : S1x1024.Idx → EReal) (l : Fin 512) (d : Fin 1024) :
    k0_pay4 (F := Ideal) r (k0_pay12 (F := Ideal) g) b (ValueIdx.ix2 l d) = norm (fun d => r (ValueIdx.ix2 l d)) (fun d => g (ValueIdx.ix2 0 d)) (fun d => b (ValueIdx.ix2 0 d)) d := by
  unfold k0_pay4 k0_pay12
  pointwise
  exact congrArg (fun a : EReal => a * g (ValueIdx.ix2 0 d) + b (ValueIdx.ix2 0 d)) (pay3 r l d)

/-! ## Ranges of columns, loaded and stored -/

theorem lda (o : ℕ) (inb) (W : S1024x1024.Idx → EReal) (k : Fin 1024) (f : Fin 256) (z : Fin 1024) (h : z.val = o + f.val) :
    View.ld (Val := Elt Ideal) (S := S1024x1024) (e' := .bf16) W (Rect.unit ![0, o] ![1024, 256] inb) (ValueIdx.ix2 k f) = W (ValueIdx.ix2 k z) :=
  congrArg W (funext (on_two (Fin.ext (by show 0 + 1 * k.val = k.val; omega)) (Fin.ext (by show o + 1 * f.val = z.val; omega))))

theorem ldb (o : ℕ) (inb) (W : S256x1024.Idx → EReal) (k : Fin 256) (f : Fin 256) (z : Fin 1024) (h : z.val = o + f.val) :
    View.ld (Val := Elt Ideal) (S := S256x1024) (e' := .f32) W (Rect.unit ![0, o] ![256, 256] inb) (ValueIdx.ix2 k f) = W (ValueIdx.ix2 k z) :=
  congrArg W (funext (on_two (Fin.ext (by show 0 + 1 * k.val = k.val; omega)) (Fin.ext (by show o + 1 * f.val = z.val; omega))))

/-- A head by the columns loaded for it. -/
theorem head_ld (o : ℕ) (ia ib ic) (p : Fin 4) (h : p.val * 256 = o) (x : S512x1024.Idx → EReal) (W : S1024x1024.Idx → EReal) (K U : S256x1024.Idx → EReal) (l : Fin 512) (d : Fin 256) :
    k0_pay8 (F := Ideal) (k0_pay7 (F := Ideal) x
        (View.ld (Val := Elt Ideal) (S := S1024x1024) (e' := .bf16) W (Rect.unit ![0, o] ![1024, 256] ia))
        (View.ld (Val := Elt Ideal) (S := S256x1024) (e' := .f32) K (Rect.unit ![0, o] ![256, 256] ib)))
        (View.ld (Val := Elt Ideal) (S := S256x1024) (e' := .f32) U (Rect.unit ![0, o] ![256, 256] ic)) (ValueIdx.ix2 l d)
      = att (fun j => x (ValueIdx.ix2 l j)) W K U p d := by
  refine (pay87 _ _ _ _ _ _).trans ?_
  have hw : (fun (j : Fin 1024) (c : Fin 256) => View.ld (Val := Elt Ideal) (S := S1024x1024) (e' := .bf16) W (Rect.unit ![0, o] ![1024, 256] ia) (ValueIdx.ix2 j c))
      = fun j c => W (ValueIdx.ix2 j (hc p c)) := funext fun j => funext fun c => lda o ia W j c (hc p c) (by show p.val * 256 + c.val = o + c.val; omega)
  have hk : ∀ (T : S256x1024.Idx → EReal) (i), (fun (j : Fin 256) (c : Fin 256) => View.ld (Val := Elt Ideal) (S := S256x1024) (e' := .f32) T (Rect.unit ![0, o] ![256, 256] i) (ValueIdx.ix2 j c))
      = fun j c => T (ValueIdx.ix2 j (hc p c)) := fun T i => funext fun j => funext fun c => ldb o i T j c (hc p c) (by show p.val * 256 + c.val = o + c.val; omega)
  unfold att
  exact congrFun (congr (congr (congrArg (head fun j => x (ValueIdx.ix2 l j)) hw) (hk K ib)) (hk U ic)) d

theorem hit (o : ℕ) (inb) (v : S512x256.Idx → Elt Ideal .bf16) (L : List (View.Piece (Elt Ideal) S512x1024 .bf16)) (y : S512x1024.Idx)
    (h : o ≤ (y 1).val ∧ (y 1).val < o + 256) :
    View.canon ((⟨Rect.unit ![0, o] ![512, 256] inb, v⟩ : View.Piece (Elt Ideal) S512x1024 .bf16) :: L) y = v (ValueIdx.ix2 (y 0) (⟨(y 1).val - o, by omega⟩ : Fin 256)) := by
  have e1 : y = (Rect.unit (s := S512x1024) ![0, o] ![512, 256] inb).emb (ValueIdx.ix2 (y 0) (⟨(y 1).val - o, by omega⟩ : Fin 256)) := by
    funext a
    match a with
    | 0 => exact Fin.ext (by rw [ValueKit.rect_emb_unit_val]; show (y 0).val = 0 + (y 0).val; omega)
    | 1 => exact Fin.ext (by rw [ValueKit.rect_emb_unit_val]; show (y 1).val = o + ((y 1).val - o); omega)
  conv_lhs => rw [e1]
  exact View.canon_cons_emb _ _ _ _

theorem miss (o : ℕ) (inb) (v : S512x256.Idx → Elt Ideal .bf16) (L : List (View.Piece (Elt Ideal) S512x1024 .bf16)) (y : S512x1024.Idx)
    (h : ¬(o ≤ (y 1).val ∧ (y 1).val < o + 256)) :
    View.canon ((⟨Rect.unit ![0, o] ![512, 256] inb, v⟩ : View.Piece (Elt Ideal) S512x1024 .bf16) :: L) y = View.canon L y := by
  refine View.canon_cons_of_not_mem _ _ fun hm => ?_
  have h1 := (Rect.mem_set_unit (inb := inb)).mp hm 1
  have h2 : o ≤ (y 1).val ∧ (y 1).val < o + 256 := h1
  exact h h2

theorem att_at (f : Fin 1024 → EReal) (W : S1024x1024.Idx → EReal) (K U : S256x1024.Idx → EReal) (e : Fin 1024) (p : Fin 4) (d : Fin 256) (h : e.val = p.val * 256 + d.val) :
    att f W K U p d = att f W K U (hd e) (sub e) := by
  have hp : hd e = p := Fin.ext (by show e.val / 256 = p.val; omega)
  have hq : sub e = d := Fin.ext (by show e.val % 256 = d.val; omega)
  rw [hp, hq]

/-- The heads' output that a point stores, in one buffer. -/
def heads (x : S512x1024.Idx → EReal) (W : S1024x1024.Idx → EReal) (K U : S256x1024.Idx → EReal) : S512x1024.Idx → EReal :=
  View.canon [(⟨Rect.unit ![0, 768] ![512, 256] inb_S512x1024_S512x256_0_768, k0_pay10 (F := Ideal) (k0_pay5 (F := Ideal) x) (View.ld (Val := Elt Ideal) (S := S1024x1024) (e' := .bf16) W (Rect.unit ![0, 768] ![1024, 256] inb_S1024x1024_S1024x256_0_768)) (View.ld (Val := Elt Ideal) (S := S256x1024) (e' := .f32) K (Rect.unit ![0, 768] ![256, 256] inb_S256x1024_S256x256_0_768)) (View.ld (Val := Elt Ideal) (S := S256x1024) (e' := .f32) U (Rect.unit ![0, 768] ![256, 256] inb_S256x1024_S256x256_0_768))⟩ : View.Piece (Elt Ideal) S512x1024 .bf16),
      (⟨Rect.unit ![0, 512] ![512, 256] inb_S512x1024_S512x256_0_512, k0_pay9 (F := Ideal) (k0_pay5 (F := Ideal) x) (View.ld (Val := Elt Ideal) (S := S1024x1024) (e' := .bf16) W (Rect.unit ![0, 512] ![1024, 256] inb_S1024x1024_S1024x256_0_512)) (View.ld (Val := Elt Ideal) (S := S256x1024) (e' := .f32) K (Rect.unit ![0, 512] ![256, 256] inb_S256x1024_S256x256_0_512)) (View.ld (Val := Elt Ideal) (S := S256x1024) (e' := .f32) U (Rect.unit ![0, 512] ![256, 256] inb_S256x1024_S256x256_0_512))⟩ : View.Piece (Elt Ideal) S512x1024 .bf16),
      (⟨Rect.unit ![0, 256] ![512, 256] inb_S512x1024_S512x256_0_256, k0_pay8 (F := Ideal) (k0_pay7 (F := Ideal) x (View.ld (Val := Elt Ideal) (S := S1024x1024) (e' := .bf16) W (Rect.unit ![0, 256] ![1024, 256] inb_S1024x1024_S1024x256_0_256)) (View.ld (Val := Elt Ideal) (S := S256x1024) (e' := .f32) K (Rect.unit ![0, 256] ![256, 256] inb_S256x1024_S256x256_0_256))) (View.ld (Val := Elt Ideal) (S := S256x1024) (e' := .f32) U (Rect.unit ![0, 256] ![256, 256] inb_S256x1024_S256x256_0_256))⟩ : View.Piece (Elt Ideal) S512x1024 .bf16),
      (⟨Rect.unit ![0, 0] ![512, 256] inb_S512x1024_S512x256_0_0, k0_pay6 (F := Ideal) x (View.ld (Val := Elt Ideal) (S := S1024x1024) (e' := .bf16) W (Rect.unit ![0, 0] ![1024, 256] inb_S1024x1024_S1024x256_0_0)) (View.ld (Val := Elt Ideal) (S := S256x1024) (e' := .f32) K (Rect.unit ![0, 0] ![256, 256] inb_S256x1024_S256x256_0_0)) (View.ld (Val := Elt Ideal) (S := S256x1024) (e' := .f32) U (Rect.unit ![0, 0] ![256, 256] inb_S256x1024_S256x256_0_0))⟩ : View.Piece (Elt Ideal) S512x1024 .bf16)]

theorem heads_eq (x : S512x1024.Idx → EReal) (W : S1024x1024.Idx → EReal) (K U : S256x1024.Idx → EReal) (y : S512x1024.Idx) :
    heads x W K U y = att (fun j => x (ValueIdx.ix2 (y 0) j)) W K U (hd (y 1)) (sub (y 1)) := by
  have hy : (y 1).val < 1024 := (y 1).isLt
  unfold heads
  by_cases h3 : 768 ≤ (y 1).val ∧ (y 1).val < 768 + 256
  · rw [hit 768 _ _ _ _ h3, pay10]
    exact (head_ld 768 _ _ _ 3 rfl _ _ _ _ _ _).trans (att_at _ _ _ _ _ _ _ (by show (y 1).val = 3 * 256 + ((y 1).val - 768); omega))
  rw [miss 768 _ _ _ _ h3]
  by_cases h2 : 512 ≤ (y 1).val ∧ (y 1).val < 512 + 256
  · rw [hit 512 _ _ _ _ h2, pay9]
    exact (head_ld 512 _ _ _ 2 rfl _ _ _ _ _ _).trans (att_at _ _ _ _ _ _ _ (by show (y 1).val = 2 * 256 + ((y 1).val - 512); omega))
  rw [miss 512 _ _ _ _ h2]
  by_cases h1 : 256 ≤ (y 1).val ∧ (y 1).val < 256 + 256
  · rw [hit 256 _ _ _ _ h1]
    exact (head_ld 256 _ _ _ 1 rfl _ _ _ _ _ _).trans (att_at _ _ _ _ _ _ _ (by show (y 1).val = 1 * 256 + ((y 1).val - 256); omega))
  rw [miss 256 _ _ _ _ h1, hit 0 _ _ _ _ (by omega), pay6]
  exact (head_ld 0 _ _ _ 0 rfl _ _ _ _ _ _).trans (att_at _ _ _ _ _ _ _ (by show (y 1).val = 0 * 256 + ((y 1).val - 0); omega))

/-! ## The arrays and the blocks -/

variable (m : (ℓ : Loc nD τ sig) → Buf (Elt Ideal) ℓ) (c : Dev nD)

def h1 : S8192x1024.Idx → EReal := m (c.tc.loc main_arg0)
def wq : S1024x1024.Idx → EReal := m (c.tc.loc main_arg1)
def wo : S1024x1024.Idx → EReal := m (c.tc.loc main_arg2)
def ky : S256x1024.Idx → EReal := m (c.tc.loc main_arg3)
def vl : S256x1024.Idx → EReal := m (c.tc.loc main_arg4)
def g (d : Fin 1024) : EReal := (m (c.tc.loc main_arg5) : S1024.Idx → EReal) (ValueIdx.ix1 d)
def b (d : Fin 1024) : EReal := (m (c.tc.loc main_arg6) : S1024.Idx → EReal) (ValueIdx.ix1 d)

/-- The heads' output. -/
def out (s : Fin 8192) (e : Fin 1024) : EReal := att (fun j => h1 m c (ValueIdx.ix2 s j)) (wq m c) (ky m c) (vl m c) (hd e) (sub e)
/-- What is normalised. -/
def pre (s : Fin 8192) (d : Fin 1024) : EReal := alpha * h1 m c (ValueIdx.ix2 s d) + ∑ e : Fin 1024, out m c s e * wo m c (ValueIdx.ix2 e d)

def res7 (i : S8192x1024.Idx) : EReal := norm (pre m c (i 0)) (g m c) (b m c) (i 1)
def res8 (i : S8192x1024.Idx) : EReal := nrm (pre m c (i 0)) (i 1)
def res9 (i : S8192x1.Idx) : EReal := rdev (pre m c (i 0))
def res10 (i : S8192x1024.Idx) : EReal := out m c (i 0) (i 1)

/-- Row `l` of the 512 that point `t` takes. -/
def row (t : Fin cfg0.N) (l : Fin 512) : Fin 8192 := ⟨t.val * 512 + l.val, by have h := t.isLt; have : cfg0.N = 16 := rfl; omega⟩

theorem idx (t : Fin cfg0.N) : (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0)) t

variable {m c} (t : Fin cfg0.N)

theorem host_wq : V m c main_v0 = wq m c := by
  unfold V
  after_reads_simp
  rfl

theorem host_wo : V m c main_v1 = wo m c := by
  unfold V
  after_reads_simp
  rfl

theorem host_g (i : S1x1024.Idx) : V m c main_v2 i = g m c (i 1) := by
  unfold V
  after_reads_at
  rfl

theorem host_b (i : S1x1024.Idx) : V m c main_v3 i = b m c (i 1) := by
  unfold V
  after_reads_at
  rfl

theorem blk0 (l : Fin 512) (d : Fin 1024) : (iblk m c 0 t : S512x1024.Idx → EReal) (ValueIdx.ix2 l d) = h1 m c (ValueIdx.ix2 (row t l) d) := by
  have e : (iblk m c 0 t : S512x1024.Idx → EReal) (ValueIdx.ix2 l d) = (V m c main_arg0 : (⟨S8192x1024, .f32⟩ : BufTy).Contents (Elt Ideal)) (ValueIdx.ix2 (row t l) d) := by
    blk_ext [iblk, idx t, row]
  rw [e, V_main_arg0]
  rfl

theorem blk1 : (iblk m c 1 t : S1024x1024.Idx → EReal) = wq m c := by
  funext y
  have e : (iblk m c 1 t : S1024x1024.Idx → EReal) y = (V m c main_v0 : (⟨S1024x1024, .bf16⟩ : BufTy).Contents (Elt Ideal)) y := by
    blk_ext [iblk, idx t, row]
  rw [e, host_wq]

theorem blk2 : (iblk m c 2 t : S1024x1024.Idx → EReal) = wo m c := by
  funext y
  have e : (iblk m c 2 t : S1024x1024.Idx → EReal) y = (V m c main_v1 : (⟨S1024x1024, .bf16⟩ : BufTy).Contents (Elt Ideal)) y := by
    blk_ext [iblk, idx t, row]
  rw [e, host_wo]

theorem blk3 : (iblk m c 3 t : S256x1024.Idx → EReal) = ky m c := by
  funext y
  have e : (iblk m c 3 t : S256x1024.Idx → EReal) y = (V m c main_arg3 : (⟨S256x1024, .f32⟩ : BufTy).Contents (Elt Ideal)) y := by
    blk_ext [iblk, idx t, row]
  rw [e, V_main_arg3]
  rfl
theorem blk4 : (iblk m c 4 t : S256x1024.Idx → EReal) = vl m c := by
  funext y
  have e : (iblk m c 4 t : S256x1024.Idx → EReal) y = (V m c main_arg4 : (⟨S256x1024, .f32⟩ : BufTy).Contents (Elt Ideal)) y := by
    blk_ext [iblk, idx t, row]
  rw [e, V_main_arg4]
  rfl
theorem blk5 (d : Fin 1024) : (iblk m c 5 t : S1x1024.Idx → EReal) (ValueIdx.ix2 0 d) = g m c d := by
  have e : (iblk m c 5 t : S1x1024.Idx → EReal) (ValueIdx.ix2 0 d) = (V m c main_v2 : (⟨S1x1024, .f32⟩ : BufTy).Contents (Elt Ideal)) (ValueIdx.ix2 0 d) := by
    blk_ext [iblk, idx t, row]
  rw [e, host_g]

theorem blk6 (d : Fin 1024) : (iblk m c 6 t : S1x1024.Idx → EReal) (ValueIdx.ix2 0 d) = b m c d := by
  have e : (iblk m c 6 t : S1x1024.Idx → EReal) (ValueIdx.ix2 0 d) = (V m c main_v3 : (⟨S1x1024, .f32⟩ : BufTy).Contents (Elt Ideal)) (ValueIdx.ix2 0 d) := by
    blk_ext [iblk, idx t, row]
  rw [e, host_b]

theorem row_out (l : Fin 512) (e : Fin 1024) : heads (iblk m c 0 t) (wq m c) (ky m c) (vl m c) (ValueIdx.ix2 l e) = out m c (row t l) e := by
  refine (heads_eq _ _ _ _ _).trans ?_
  unfold out
  exact congrArg (fun f : Fin 1024 → EReal => att f (wq m c) (ky m c) (vl m c) (hd e) (sub e)) (funext fun j => blk0 t l j)

/-- The sum that a point normalises. -/
def acc (x : S512x1024.Idx → EReal) (W Wo : S1024x1024.Idx → EReal) (K U : S256x1024.Idx → EReal) : S512x1024.Idx → EReal :=
  k0_pay11 (F := Ideal) x (heads x W K U) Wo

theorem acc_pre (l : Fin 512) : (fun d => acc (iblk m c 0 t) (wq m c) (wo m c) (ky m c) (vl m c) (ValueIdx.ix2 l d)) = pre m c (row t l) := by
  funext d
  refine (pay11 _ _ _ l d).trans ?_
  unfold pre
  exact congrArg₂ (fun a b : EReal => a + b) (congrArg (fun a : EReal => alpha * a) (blk0 t l d)) (Finset.sum_congr rfl fun e _ => congrArg (fun a : EReal => a * wo m c (ValueIdx.ix2 e d)) (row_out t l e))

/-- The buffer read back whole. -/
theorem heads_whole (x : S512x1024.Idx → EReal) (W : S1024x1024.Idx → EReal) (K U : S256x1024.Idx → EReal) :
    (fun j => heads x W K U ((Rect.unit (s := S512x1024) ![0, 0] ![512, 1024] inb_S512x1024_S512x1024_0_0).idx j)) = heads x W K U :=
  funext fun j => congrArg (heads x W K U) (funext (on_two (Fin.ext (by show 0 + 1 * (j 0).val = (j 0).val; omega)) (Fin.ext (by show 0 + 1 * (j 1).val = (j 1).val; omega))))

/-! ## What the points leave -/

theorem out7 : (outsAt0 m c t).1 = k0_pay4 (F := Ideal) (acc (iblk m c 0 t) (wq m c) (wo m c) (ky m c) (vl m c)) (k0_pay12 (F := Ideal) (iblk m c 5 t)) (iblk m c 6 t) := by
  rw [← blk1 t, ← blk2 t, ← blk3 t, ← blk4 t]
  unfold outsAt0 out0_A_7
  frame_out
  simp only [View.readCov_eq_canon']
  exact congrArg (fun o : S512x1024.Idx → EReal => k0_pay4 (F := Ideal) (k0_pay11 (F := Ideal) (iblk m c 0 t) o (iblk m c 2 t)) (k0_pay12 (F := Ideal) (iblk m c 5 t)) (iblk m c 6 t)) (heads_whole (iblk m c 0 t) (iblk m c 1 t) (iblk m c 3 t) (iblk m c 4 t))

theorem out8 : (outsAt0 m c t).2.1 = k0_pay3 (F := Ideal) (acc (iblk m c 0 t) (wq m c) (wo m c) (ky m c) (vl m c)) := by
  rw [← blk1 t, ← blk2 t, ← blk3 t, ← blk4 t]
  unfold outsAt0 out0_A_8
  frame_out
  simp only [View.readCov_eq_canon']
  exact congrArg (fun o : S512x1024.Idx → EReal => k0_pay3 (F := Ideal) (k0_pay11 (F := Ideal) (iblk m c 0 t) o (iblk m c 2 t))) (heads_whole (iblk m c 0 t) (iblk m c 1 t) (iblk m c 3 t) (iblk m c 4 t))

theorem out9 : (outsAt0 m c t).2.2.1 = k0_pay2 (F := Ideal) (acc (iblk m c 0 t) (wq m c) (wo m c) (ky m c) (vl m c)) := by
  rw [← blk1 t, ← blk2 t, ← blk3 t, ← blk4 t]
  unfold outsAt0 out0_A_9
  frame_out
  simp only [View.readCov_eq_canon']
  exact congrArg (fun o : S512x1024.Idx → EReal => k0_pay2 (F := Ideal) (k0_pay11 (F := Ideal) (iblk m c 0 t) o (iblk m c 2 t))) (heads_whole (iblk m c 0 t) (iblk m c 1 t) (iblk m c 3 t) (iblk m c 4 t))

theorem out10 : (outsAt0 m c t).2.2.2 = heads (iblk m c 0 t) (wq m c) (ky m c) (vl m c) := by
  rw [← blk1 t, ← blk3 t, ← blk4 t]
  unfold outsAt0 out0_A_10
  frame_out

theorem point7 (y : S512x1024.Idx) : (outsAt0 m c t).1 y = res7 m c (ValueIdx.ix2 (row t (y 0)) (y 1)) := by
  rw [out7]
  obtain ⟨l, d, rfl⟩ := pair y
  refine (pay4 _ _ _ l d).trans ?_
  rw [acc_pre, show (fun d => (iblk m c 5 t : S1x1024.Idx → EReal) (ValueIdx.ix2 0 d)) = g m c from funext (blk5 t),
    show (fun d => (iblk m c 6 t : S1x1024.Idx → EReal) (ValueIdx.ix2 0 d)) = b m c from funext (blk6 t)]
  rfl

theorem point8 (y : S512x1024.Idx) : (outsAt0 m c t).2.1 y = res8 m c (ValueIdx.ix2 (row t (y 0)) (y 1)) := by
  rw [out8]
  obtain ⟨l, d, rfl⟩ := pair y
  refine (pay3 _ l d).trans ?_
  rw [acc_pre]
  rfl

theorem point9 (y : S512x1.Idx) : (outsAt0 m c t).2.2.1 y = res9 m c (ValueIdx.ix2 (row t (y 0)) (y 1)) := by
  rw [out9]
  obtain ⟨l, d, rfl⟩ := pair y
  refine (pay2 _ l d).trans ?_
  rw [acc_pre]
  rfl

theorem point10 (y : S512x1024.Idx) : (outsAt0 m c t).2.2.2 y = res10 m c (ValueIdx.ix2 (row t (y 0)) (y 1)) := by
  rw [out10]
  obtain ⟨l, d, rfl⟩ := pair y
  exact row_out t l d

theorem arr7 : (dats m 0 c).arrAt 7 cfg0.N = res7 m c := by
  refine (dats m 0 c).arrAt_eq_of_covers 7 _ (by decide +kernel) fun t hf y => ?_
  rw [after0_7, point7, cast_eq]
  refine congrArg (res7 m c) (funext (on_two ?_ ?_))
  · refine Fin.ext ?_
    blk_simp [idx t, row]
  · refine Fin.ext ?_
    blk_simp [idx t, row]

theorem arr8 : (dats m 0 c).arrAt 8 cfg0.N = res8 m c := by
  refine (dats m 0 c).arrAt_eq_of_covers 8 _ (by decide +kernel) fun t hf y => ?_
  rw [after0_8, point8, cast_eq]
  refine congrArg (res8 m c) (funext (on_two ?_ ?_))
  · refine Fin.ext ?_
    blk_simp [idx t, row]
  · refine Fin.ext ?_
    blk_simp [idx t, row]

theorem arr9 : (dats m 0 c).arrAt 9 cfg0.N = res9 m c := by
  refine (dats m 0 c).arrAt_eq_of_covers 9 _ (by decide +kernel) fun t hf y => ?_
  rw [after0_9, point9, cast_eq]
  refine congrArg (res9 m c) (funext (on_two ?_ ?_))
  · refine Fin.ext ?_
    blk_simp [idx t, row]
  · refine Fin.ext ?_
    blk_simp [idx t, row]

theorem arr10 : (dats m 0 c).arrAt 10 cfg0.N = res10 m c := by
  refine (dats m 0 c).arrAt_eq_of_covers 10 _ (by decide +kernel) fun t hf y => ?_
  rw [after0_10, point10, cast_eq]
  refine congrArg (res10 m c) (funext (on_two ?_ ?_))
  · refine Fin.ext ?_
    blk_simp [idx t, row]
  · refine Fin.ext ?_
    blk_simp [idx t, row]

/-! ## The reference -/

open Cert.Reference13Ideal.Read

/-- The scores of head `p` for row `s`. -/
def sc (m : (ℓ : Loc nD τ sig) → Buf (Elt Ideal) ℓ) (c : Dev nD) (p : Fin 4) (s : Fin 8192) : Fin 256 → EReal :=
  score (fun j => h1 m c (ValueIdx.ix2 s j)) (fun j e => wq m c (ValueIdx.ix2 j (hc p e))) (fun n e => ky m c (ValueIdx.ix2 n (hc p e)))

theorem ref_q (i : Cert.Reference13Ideal.S8192x4x256.Idx) : val_main_v1 (F := Ideal) (m (c.tc.loc main_arg0)) (m (c.tc.loc main_arg1)) i = ∑ j : Fin 1024, h1 m c (ValueIdx.ix2 (i 0) j) * wq m c (ValueIdx.ix2 j (hc (i 1) (i 2))) := by
  rw [val_main_v1_apply, val_main_v0_apply]
  have h0 : (i 0).val < 8192 := (i 0).isLt
  have h1' : (i 1).val < 4 := (i 1).isLt
  have h2 : (i 2).val < 256 := (i 2).isLt
  refine Finset.sum_congr rfl fun j _ => congrArg₂ (fun a b : EReal => a * b) (congrArg (h1 m c) (funext (on_two (Fin.ext ?_) rfl))) (congrArg (wq m c) (funext (on_two rfl (Fin.ext ?_))))
  · show (((i 0).val * 4 + (i 1).val) * 256 + (i 2).val) / 1024 = (i 0).val
    omega
  · show (((i 0).val * 4 + (i 1).val) * 256 + (i 2).val) % 1024 = (i 1).val * 256 + (i 2).val
    omega

theorem ref_k (i : Cert.Reference13Ideal.S256x4x256.Idx) : val_main_v2 (F := Ideal) (m (c.tc.loc main_arg3)) i = ky m c (ValueIdx.ix2 (i 0) (hc (i 1) (i 2))) := by
  rw [val_main_v2_apply]
  have h0 : (i 0).val < 256 := (i 0).isLt
  have h1' : (i 1).val < 4 := (i 1).isLt
  have h2 : (i 2).val < 256 := (i 2).isLt
  refine congrArg (ky m c) (funext (on_two (Fin.ext ?_) (Fin.ext ?_)))
  · show (((i 0).val * 4 + (i 1).val) * 256 + (i 2).val) / 1024 = (i 0).val
    omega
  · show (((i 0).val * 4 + (i 1).val) * 256 + (i 2).val) % 1024 = (i 1).val * 256 + (i 2).val
    omega

theorem ref_v (i : Cert.Reference13Ideal.S256x4x256.Idx) : val_main_v3 (F := Ideal) (m (c.tc.loc main_arg4)) i = vl m c (ValueIdx.ix2 (i 0) (hc (i 1) (i 2))) := by
  rw [val_main_v3_apply]
  have h0 : (i 0).val < 256 := (i 0).isLt
  have h1' : (i 1).val < 4 := (i 1).isLt
  have h2 : (i 2).val < 256 := (i 2).isLt
  refine congrArg (vl m c) (funext (on_two (Fin.ext ?_) (Fin.ext ?_)))
  · show (((i 0).val * 4 + (i 1).val) * 256 + (i 2).val) / 1024 = (i 0).val
    omega
  · show (((i 0).val * 4 + (i 1).val) * 256 + (i 2).val) % 1024 = (i 1).val * 256 + (i 2).val
    omega

theorem ref_sc (i : Cert.Reference13Ideal.S4x8192x256.Idx) : val_main_v6 (F := Ideal) (m (c.tc.loc main_arg0)) (m (c.tc.loc main_arg1)) (m (c.tc.loc main_arg3)) i = sc m c (i 0) (i 1) (i 2) := by
  rw [val_main_v6_apply, val_main_v4_apply]
  unfold val_main_v5 val_main_cst
  pointwise
  exact congrArg (fun s : EReal => s * scale) (Finset.sum_congr rfl fun k _ => congrArg₂ (fun a b : EReal => a * b) (ref_q _) (ref_k _))

theorem ref_top (i : Cert.Reference13Ideal.S4x8192.Idx) : val_main_v9 (F := Ideal) (m (c.tc.loc main_arg0)) (m (c.tc.loc main_arg1)) (m (c.tc.loc main_arg3)) i = top (sc m c (i 0) (i 1)) := by
  have e : val_main_v7 (F := Ideal) (m (c.tc.loc main_arg0)) (m (c.tc.loc main_arg1)) (m (c.tc.loc main_arg3)) i
      = Finset.univ.fold max (Ideal.ofBits .f32 0xFF800000#32) fun k : Fin 256 => val_main_v6 (F := Ideal) (m (c.tc.loc main_arg0)) (m (c.tc.loc main_arg1)) (m (c.tc.loc main_arg3)) ((ValueIdx.ix3 (i 0) (i 1) k : (⟨3, ![4, 8192, 256]⟩ : Shape).Idx)) := by
    unfold val_main_v7
    generalize val_main_v6 (F := Ideal) (m (c.tc.loc main_arg0)) (m (c.tc.loc main_arg1)) (m (c.tc.loc main_arg3)) = w
    pointwise
    rfl
  rw [val_main_v9_apply, e]
  unfold val_main_v8 val_main_cst_1
  pointwise
  rw [Cert.RealStep.ofBits_neg_inf]
  refine (max_eq_right bot_le).trans ?_
  unfold top
  rw [Cert.RealStep.ofBits_neg_inf]
  exact congrArg (Finset.univ.fold max ⊥) (funext fun k => ref_sc _)

theorem ref_ex (i : Cert.Reference13Ideal.S4x8192x256.Idx) : val_main_v13 (F := Ideal) (m (c.tc.loc main_arg0)) (m (c.tc.loc main_arg1)) (m (c.tc.loc main_arg3)) i = ex (sc m c (i 0) (i 1)) (i 2) := by
  rw [val_main_v13_apply, val_main_v12_apply, val_main_v11_apply, val_main_v10_apply, ref_sc, ref_top]
  rfl

theorem ref_soft (i : Cert.Reference13Ideal.S4x8192x256.Idx) : val_main_v17 (F := Ideal) (m (c.tc.loc main_arg0)) (m (c.tc.loc main_arg1)) (m (c.tc.loc main_arg3)) i = soft (sc m c (i 0) (i 1)) (i 2) := by
  rw [val_main_v17_apply, val_main_v16_apply, val_main_v15_apply, val_main_v14_apply, ref_ex]
  unfold val_main_cst_2
  pointwise
  exact congrArg (fun s : EReal => Ideal.div (ex (sc m c (i 0) (i 1)) (i 2)) s) (Finset.sum_congr rfl fun k _ => ref_ex _)

theorem ref_att (i : S8192x1024.Idx) : val_main_v20 (F := Ideal) (m (c.tc.loc main_arg0)) (m (c.tc.loc main_arg1)) (m (c.tc.loc main_arg3)) (m (c.tc.loc main_arg4)) i = out m c (i 0) (i 1) := by
  rw [val_main_v20_apply, val_main_v19_apply, val_main_v18_apply]
  unfold out att head
  have h0 : (i 0).val < 8192 := (i 0).isLt
  have h1' : (i 1).val < 1024 := (i 1).isLt
  have e0 : (idx_main_v20 i 0 : Fin 8192) = i 0 := Fin.ext (by show ((i 0).val * 1024 + (i 1).val) / 1024 = (i 0).val; omega)
  have e1 : (idx_main_v20 i 1 : Fin 4) = hd (i 1) := Fin.ext (by show ((i 0).val * 1024 + (i 1).val) / 256 % 4 = (i 1).val / 256; omega)
  have e2 : (idx_main_v20 i 2 : Fin 256) = sub (i 1) := Fin.ext (by show ((i 0).val * 1024 + (i 1).val) % 256 = (i 1).val % 256; omega)
  refine Finset.sum_congr rfl fun k _ => ?_
  refine (congrArg₂ (fun a b : EReal => a * b) (ref_v _) (ref_soft _)).trans ?_
  refine (mul_comm _ _).trans ?_
  show soft (sc m c (idx_main_v20 i 1) (idx_main_v20 i 0)) k * vl m c (ValueIdx.ix2 k (hc (idx_main_v20 i 1) (idx_main_v20 i 2))) = _
  rw [e0, e1, e2]
  rfl

theorem ref_pre (i : S8192x1024.Idx) : val_main_v24 (F := Ideal) (m (c.tc.loc main_arg0)) (m (c.tc.loc main_arg1)) (m (c.tc.loc main_arg2)) (m (c.tc.loc main_arg3)) (m (c.tc.loc main_arg4)) i = pre m c (i 0) (i 1) := by
  rw [val_main_v24_apply, val_main_v22_apply, val_main_v23_apply]
  unfold val_main_v21 val_main_cst_3
  pointwise
  refine congrArg₂ (fun a b : EReal => a + b) (congrArg (fun a : EReal => alpha * a) (congrArg (h1 m c) (funext (on_two rfl rfl)))) (Finset.sum_congr rfl fun k _ => congrArg₂ (fun a b : EReal => a * b) (ref_att _) (congrArg (wo m c) (funext (on_two rfl rfl))))

theorem ref_mean (i : S8192x1.Idx) : val_main_v28 (F := Ideal) (m (c.tc.loc main_arg0)) (m (c.tc.loc main_arg1)) (m (c.tc.loc main_arg2)) (m (c.tc.loc main_arg3)) (m (c.tc.loc main_arg4)) i = mean (pre m c (i 0)) := by
  rw [val_main_v28_apply, val_main_v26_apply, val_main_v25_apply]
  unfold val_main_v27 val_main_cst_5 val_main_cst_4
  pointwise
  exact congrArg (fun s : EReal => Ideal.div s len) (Finset.sum_congr rfl fun k _ => ref_pre _)

theorem ref_cen (i : S8192x1024.Idx) : val_main_v30 (F := Ideal) (m (c.tc.loc main_arg0)) (m (c.tc.loc main_arg1)) (m (c.tc.loc main_arg2)) (m (c.tc.loc main_arg3)) (m (c.tc.loc main_arg4)) i = cen (pre m c (i 0)) (i 1) := by
  rw [val_main_v30_apply, val_main_v29_apply, ref_pre, ref_mean]
  rfl

theorem ref_rdev (i : S8192x1.Idx) : val_main_v38 (F := Ideal) (m (c.tc.loc main_arg0)) (m (c.tc.loc main_arg1)) (m (c.tc.loc main_arg2)) (m (c.tc.loc main_arg3)) (m (c.tc.loc main_arg4)) i = res9 m c i := by
  rw [val_main_v38_apply, val_main_v37_apply, val_main_v35_apply, val_main_v33_apply, val_main_v32_apply]
  unfold val_main_v34 val_main_cst_7 val_main_v36 val_main_cst_8 val_main_cst_6
  pointwise
  exact congrArg (fun s : EReal => Ideal.rsqrt (Ideal.div s len + eps)) (Finset.sum_congr rfl fun k _ => (val_main_v31_apply _ _ _ _ _ _).trans (congrArg₂ (fun a b : EReal => a * b) (ref_cen _) (ref_cen _)))

theorem ref_nrm (i : S8192x1024.Idx) : val_main_v42 (F := Ideal) (m (c.tc.loc main_arg0)) (m (c.tc.loc main_arg1)) (m (c.tc.loc main_arg2)) (m (c.tc.loc main_arg3)) (m (c.tc.loc main_arg4)) i = res8 m c i := by
  rw [val_main_v42_apply, val_main_v40_apply, val_main_v39_apply, val_main_v41_apply, ref_pre, ref_mean, ref_rdev]
  rfl

theorem ref_norm (i : S8192x1024.Idx) : val_main_v48 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) i = res7 m c i := by
  rw [val_main_v48_apply, val_main_v45_apply, ref_nrm]
  unfold val_main_v44 val_main_v43 val_main_v47 val_main_v46
  pointwise
  rfl

theorem ref_out (i : S8192x1024.Idx) : val_main_v49 (F := Ideal) (m (c.tc.loc main_arg0)) (m (c.tc.loc main_arg1)) (m (c.tc.loc main_arg3)) (m (c.tc.loc main_arg4)) i = res10 m c i := by
  rw [val_main_v49_apply, ref_att]
  rfl

end Cert.Kernel13Ideal.Gen

end
-- ==== Proof.Outproj14.lean ====
/- The output projection of the three mixers with its layer norm, forward: each point adds the products of the three mixers' 512 rows
   with their rows of the weight to the residual, and norms the sum. -/
module

public import proofs.«01_k».proof.Proof.Norm
public import proofs.«01_k».proof.Proof.Gen.Kernel14Ideal.Value
public import proofs.«01_k».proof.Proof.Gen.Reference14Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel14Ideal.Gen

open Cert.Kernel14Ideal Cert.Kernel14Ideal.Gen Idealize.ShloMosaic Idealize.ShloMosaic.TcCoe Idealize.SL.Sem Cert.Chunks Cert.Norm

/-! ## The payloads -/

/-- The residual and the three products. -/
def u (h : S512x1024.Idx → EReal) (a : S512x512.Idx → EReal) (wa : S512x1024.Idx → EReal) (b : S512x256.Idx → EReal) (wb : S256x1024.Idx → EReal)
    (e : S512x256.Idx → EReal) (we : S256x1024.Idx → EReal) (l : Fin 512) (d : Fin 1024) : EReal :=
  ((alpha * h (ValueIdx.ix2 l d) + ∑ x : Fin 512, a (ValueIdx.ix2 l x) * wa (ValueIdx.ix2 x d)) + ∑ x : Fin 256, b (ValueIdx.ix2 l x) * wb (ValueIdx.ix2 x d))
    + ∑ x : Fin 256, e (ValueIdx.ix2 l x) * we (ValueIdx.ix2 x d)

section
variable (h : S512x1024.Idx → EReal) (a : S512x512.Idx → EReal) (wa : S512x1024.Idx → EReal) (b : S512x256.Idx → EReal) (wb : S256x1024.Idx → EReal)
    (e : S512x256.Idx → EReal) (we : S256x1024.Idx → EReal) (l : Fin 512)

theorem pay6 (d : Fin 1024) : k0_pay6 (F := Ideal) h a wa b wb e we (ValueIdx.ix2 l d) = cen (u h a wa b wb e we l) d := by
  unfold k0_pay6
  pointwise
  rfl

theorem pay7 (o : Fin 1) : k0_pay7 (F := Ideal) h a wa b wb e we (ValueIdx.ix2 l o) = mean (fun d => cen (u h a wa b wb e we l) d * cen (u h a wa b wb e we l) d) := by
  unfold k0_pay7
  pointwise
  exact congrArg (fun s : EReal => Ideal.div s len) (Finset.sum_congr rfl fun x _ => congrArg₂ (fun a b : EReal => a * b) (pay6 h a wa b wb e we l x) (pay6 h a wa b wb e we l x))

theorem pay1 (o : Fin 1) : k0_pay1 (F := Ideal) (k0_pay7 (F := Ideal) h a wa b wb e we) (ValueIdx.ix2 l o) = rdev (u h a wa b wb e we l) := by
  unfold k0_pay1
  pointwise
  exact congrArg (fun s : EReal => Ideal.rsqrt (s + eps)) (pay7 h a wa b wb e we l o)

theorem pay2 (d : Fin 1024) : k0_pay2 (F := Ideal) (k0_pay6 (F := Ideal) h a wa b wb e we) (k0_pay7 (F := Ideal) h a wa b wb e we) (ValueIdx.ix2 l d) = nrm (u h a wa b wb e we l) d := by
  unfold k0_pay2
  pointwise
  exact congrArg₂ (fun a b : EReal => a * b) (pay6 h a wa b wb e we l d) (pay1 h a wa b wb e we l 0)

theorem pay3 (g s : S1x1024.Idx → EReal) (d : Fin 1024) :
    k0_pay3 (F := Ideal) (k0_pay4 (F := Ideal) g) (k0_pay5 (F := Ideal) s) (k0_pay6 (F := Ideal) h a wa b wb e we) (k0_pay7 (F := Ideal) h a wa b wb e we) (ValueIdx.ix2 l d)
      = norm (u h a wa b wb e we l) (fun d => g (ValueIdx.ix2 0 d)) (fun d => s (ValueIdx.ix2 0 d)) d := by
  unfold k0_pay3 k0_pay4 k0_pay5
  pointwise
  exact congrArg (fun q : EReal => q * g (ValueIdx.ix2 0 d) + s (ValueIdx.ix2 0 d)) (pay2 h a wa b wb e we l d)
end

/-! ## The arrays and the blocks -/

variable (m : (ℓ : Loc nD τ sig) → Buf (Elt Ideal) ℓ) (c : Dev nD)

def a0 : S8192x512.Idx → EReal := m (c.tc.loc main_arg0)
def a1 : S8192x256.Idx → EReal := m (c.tc.loc main_arg1)
def a2 : S8192x256.Idx → EReal := m (c.tc.loc main_arg2)
def hh : S8192x1024.Idx → EReal := m (c.tc.loc main_arg3)
def wt : S1024x1024.Idx → EReal := m (c.tc.loc main_arg4)
def g (d : Fin 1024) : EReal := (m (c.tc.loc main_arg5) : S1024.Idx → EReal) (ValueIdx.ix1 d)
def b (d : Fin 1024) : EReal := (m (c.tc.loc main_arg6) : S1024.Idx → EReal) (ValueIdx.ix1 d)

/-- What is normed. -/
def pre (s : Fin 8192) (d : Fin 1024) : EReal :=
  ((alpha * hh m c (ValueIdx.ix2 s d) + ∑ x : Fin 512, a0 m c (ValueIdx.ix2 s x) * wt m c (ValueIdx.ix2 ⟨x.val, by omega⟩ d))
    + ∑ x : Fin 256, a1 m c (ValueIdx.ix2 s x) * wt m c (ValueIdx.ix2 ⟨512 + x.val, by omega⟩ d))
    + ∑ x : Fin 256, a2 m c (ValueIdx.ix2 s x) * wt m c (ValueIdx.ix2 ⟨768 + x.val, by omega⟩ d)

def res7 (i : S8192x1024.Idx) : EReal := norm (pre m c (i 0)) (g m c) (b m c) (i 1)
def res8 (i : S8192x1024.Idx) : EReal := nrm (pre m c (i 0)) (i 1)
def res9 (i : S8192x1.Idx) : EReal := rdev (pre m c (i 0))

/-- Row `l` of the 512 that point `t` takes. -/
def row (t : Fin cfg0.N) (l : Fin 512) : Fin 8192 := ⟨t.val * 512 + l.val, by have h := t.isLt; have : cfg0.N = 16 := rfl; omega⟩

theorem idx (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0)) t

variable {m c} (t : Fin cfg0.N)

theorem blk0 (i : S512x512.Idx) : iblk m c 0 t i = a0 m c (ValueIdx.ix2 (row t (i 0)) (i 1)) := by
  have e : iblk m c 0 t i = (V m c main_arg0 : (⟨S8192x512, .bf16⟩ : BufTy).Contents (Elt Ideal)) (ValueIdx.ix2 (row t (i 0)) (i 1)) := by
    blk_ext [iblk, idx t, row]
  rw [e, V_main_arg0]
  rfl

theorem blk1 (i : S512x256.Idx) : iblk m c 1 t i = a1 m c (ValueIdx.ix2 (row t (i 0)) (i 1)) := by
  have e : iblk m c 1 t i = (V m c main_arg1 : (⟨S8192x256, .bf16⟩ : BufTy).Contents (Elt Ideal)) (ValueIdx.ix2 (row t (i 0)) (i 1)) := by
    blk_ext [iblk, idx t, row]
  rw [e, V_main_arg1]
  rfl

theorem blk2 (i : S512x256.Idx) : iblk m c 2 t i = a2 m c (ValueIdx.ix2 (row t (i 0)) (i 1)) := by
  have e : iblk m c 2 t i = (V m c main_arg2 : (⟨S8192x256, .bf16⟩ : BufTy).Contents (Elt Ideal)) (ValueIdx.ix2 (row t (i 0)) (i 1)) := by
    blk_ext [iblk, idx t, row]
  rw [e, V_main_arg2]
  rfl

theorem blk3 (i : S512x1024.Idx) : iblk m c 3 t i = hh m c (ValueIdx.ix2 (row t (i 0)) (i 1)) := by
  have e : iblk m c 3 t i = (V m c main_arg3 : (⟨S8192x1024, .f32⟩ : BufTy).Contents (Elt Ideal)) (ValueIdx.ix2 (row t (i 0)) (i 1)) := by
    blk_ext [iblk, idx t, row]
  rw [e, V_main_arg3]
  rfl

theorem host_w : V m c main_v0 = wt m c := by
  unfold V
  after_reads_simp
  rfl

theorem host_g (i : S1x1024.Idx) : V m c main_v1 i = g m c (i 1) := by
  unfold V
  after_reads_at
  rfl

theorem host_b (i : S1x1024.Idx) : V m c main_v2 i = b m c (i 1) := by
  unfold V
  after_reads_at
  rfl

theorem blk4 (i : S1024x1024.Idx) : iblk m c 4 t i = wt m c i := by
  have e : iblk m c 4 t i = (V m c main_v0 : (⟨S1024x1024, .bf16⟩ : BufTy).Contents (Elt Ideal)) (ValueIdx.ix2 (i 0) (i 1)) := by
    blk_ext [iblk, idx t, row]
  rw [e, host_w]
  exact congrArg (wt m c) (funext (on_two rfl rfl))

theorem blk5 (d : Fin 1024) : (iblk m c 5 t : S1x1024.Idx → EReal) (ValueIdx.ix2 0 d) = g m c d := by
  have e : (iblk m c 5 t : S1x1024.Idx → EReal) (ValueIdx.ix2 0 d) = (V m c main_v1 : (⟨S1x1024, .f32⟩ : BufTy).Contents (Elt Ideal)) (ValueIdx.ix2 0 d) := by
    blk_ext [iblk, idx t, row]
  rw [e, host_g]

theorem blk6 (d : Fin 1024) : (iblk m c 6 t : S1x1024.Idx → EReal) (ValueIdx.ix2 0 d) = b m c d := by
  have e : (iblk m c 6 t : S1x1024.Idx → EReal) (ValueIdx.ix2 0 d) = (V m c main_v2 : (⟨S1x1024, .f32⟩ : BufTy).Contents (Elt Ideal)) (ValueIdx.ix2 0 d) := by
    blk_ext [iblk, idx t, row]
  rw [e, host_b]

/-! ## One point -/

theorem u_pre (l : Fin 512) : u (iblk m c 3 t) (iblk m c 0 t) (View.ld (iblk m c 4 t) r0_2) (iblk m c 1 t) (View.ld (iblk m c 4 t) r0_4) (iblk m c 2 t) (View.ld (iblk m c 4 t) r0_5) l = pre m c (row t l) := by
  funext d
  unfold u pre
  refine congrArg₂ (fun a b : EReal => a + b) (congrArg₂ (fun a b : EReal => a + b) (congrArg₂ (fun a b : EReal => a + b) (congrArg (fun a : EReal => alpha * a) (blk3 t _)) (Finset.sum_congr rfl fun x _ => ?_)) (Finset.sum_congr rfl fun x _ => ?_)) (Finset.sum_congr rfl fun x _ => ?_)
  · refine congrArg₂ (fun a b : EReal => a * b) (blk0 t _) ((blk4 t _).trans (congrArg (wt m c) (funext (on_two ?_ ?_))))
    · exact Fin.ext (by show 0 + 1 * x.val = x.val; omega)
    · exact Fin.ext (by show 0 + 1 * d.val = d.val; omega)
  · refine congrArg₂ (fun a b : EReal => a * b) (blk1 t _) ((blk4 t _).trans (congrArg (wt m c) (funext (on_two ?_ ?_))))
    · exact Fin.ext (by show 512 + 1 * x.val = 512 + x.val; omega)
    · exact Fin.ext (by show 0 + 1 * d.val = d.val; omega)
  · refine congrArg₂ (fun a b : EReal => a * b) (blk2 t _) ((blk4 t _).trans (congrArg (wt m c) (funext (on_two ?_ ?_))))
    · exact Fin.ext (by show 768 + 1 * x.val = 768 + x.val; omega)
    · exact Fin.ext (by show 0 + 1 * d.val = d.val; omega)

theorem point7 (y : S512x1024.Idx) : out0_7 (F := Ideal) (iblk m c 0 t) (iblk m c 1 t) (iblk m c 2 t) (iblk m c 3 t) (iblk m c 4 t) (iblk m c 5 t) (iblk m c 6 t) y = res7 m c (ValueIdx.ix2 (row t (y 0)) (y 1)) := by
  obtain ⟨l, d, rfl⟩ := pair y
  unfold out0_7 k0_pay8 k0_pay9
  frame_out
  refine (pay3 _ _ _ _ _ _ _ l _ _ d).trans (Eq.trans (congrArg (fun q => norm q _ _ d) (u_pre t l)) ?_)
  exact congrArg₂ (fun p q => norm (pre m c (row t l)) p q d) (funext (blk5 t)) (funext (blk6 t))

theorem point8 (y : S512x1024.Idx) : out0_8 (F := Ideal) (iblk m c 0 t) (iblk m c 1 t) (iblk m c 2 t) (iblk m c 3 t) (iblk m c 4 t) (iblk m c 5 t) (iblk m c 6 t) y = res8 m c (ValueIdx.ix2 (row t (y 0)) (y 1)) := by
  obtain ⟨l, d, rfl⟩ := pair y
  unfold out0_8 k0_pay8 k0_pay9
  frame_out
  exact (pay2 _ _ _ _ _ _ _ l d).trans (congrArg (fun q => nrm q d) (u_pre t l))

theorem point9 (y : S512x1.Idx) : out0_9 (F := Ideal) (iblk m c 0 t) (iblk m c 1 t) (iblk m c 2 t) (iblk m c 3 t) (iblk m c 4 t) (iblk m c 5 t) (iblk m c 6 t) y = res9 m c (ValueIdx.ix2 (row t (y 0)) (y 1)) := by
  obtain ⟨l, d, rfl⟩ := pair y
  unfold out0_9 k0_pay9
  frame_out
  exact (pay1 _ _ _ _ _ _ _ l d).trans (congrArg (fun q => rdev q) (u_pre t l))

theorem arr7 : (dats m 0 c).arrAt 7 cfg0.N = res7 m c := by
  refine (dats m 0 c).arrAt_eq_of_covers 7 _ (by decide +kernel) fun t hf y => ?_
  rw [after0_7, point7, cast_eq]
  refine congrArg (res7 m c) (funext (on_two ?_ ?_))
  · refine Fin.ext ?_
    blk_simp [idx t, row]
  · refine Fin.ext ?_
    blk_simp [idx t, row]

theorem arr8 : (dats m 0 c).arrAt 8 cfg0.N = res8 m c := by
  refine (dats m 0 c).arrAt_eq_of_covers 8 _ (by decide +kernel) fun t hf y => ?_
  rw [after0_8, point8, cast_eq]
  refine congrArg (res8 m c) (funext (on_two ?_ ?_))
  · refine Fin.ext ?_
    blk_simp [idx t, row]
  · refine Fin.ext ?_
    blk_simp [idx t, row]

theorem arr9 : (dats m 0 c).arrAt 9 cfg0.N = res9 m c := by
  refine (dats m 0 c).arrAt_eq_of_covers 9 _ (by decide +kernel) fun t hf y => ?_
  rw [after0_9, point9, cast_eq]
  refine congrArg (res9 m c) (funext (on_two ?_ ?_))
  · refine Fin.ext ?_
    blk_simp [idx t, row]
  · refine Fin.ext ?_
    blk_simp [idx t, row]

/-! ## The reference -/

variable (m c) in
/-- The three mixers' outputs side by side. -/
def cat (s : Fin 8192) (x : Fin 1024) : EReal :=
  if h : x.val < 512 then a0 m c (ValueIdx.ix2 s ⟨x.val, h⟩)
  else if h' : x.val - 512 < 256 then a1 m c (ValueIdx.ix2 s ⟨x.val - 512, h'⟩)
  else a2 m c (ValueIdx.ix2 s ⟨x.val - 512 - 256, by omega⟩)

theorem cat0 (s : Fin 8192) (x : Fin 512) (h : x.val < 1024) : cat m c s ⟨x.val, h⟩ = a0 m c (ValueIdx.ix2 s x) :=
  dif_pos (show (⟨x.val, h⟩ : Fin 1024).val < 512 from x.isLt)

theorem cat1 (s : Fin 8192) (x : Fin 256) (h : 512 + x.val < 1024) : cat m c s ⟨512 + x.val, h⟩ = a1 m c (ValueIdx.ix2 s x) := by
  have hx := x.isLt
  unfold cat
  rw [dif_neg (by show ¬(512 + x.val < 512); omega), dif_pos (by show 512 + x.val - 512 < 256; omega)]
  exact congrArg (fun z => a1 m c (ValueIdx.ix2 s z)) (Fin.ext (by show 512 + x.val - 512 = x.val; omega))

theorem cat2 (s : Fin 8192) (x : Fin 256) (h : 768 + x.val < 1024) : cat m c s ⟨768 + x.val, h⟩ = a2 m c (ValueIdx.ix2 s x) := by
  unfold cat
  rw [dif_neg (by show ¬(768 + x.val < 512); omega), dif_neg (by show ¬(768 + x.val - 512 < 256); omega)]
  exact congrArg (fun z => a2 m c (ValueIdx.ix2 s z)) (Fin.ext (by show 768 + x.val - 512 - 256 = x.val; omega))

theorem pre_eq (s : Fin 8192) (d : Fin 1024) : pre m c s d = alpha * hh m c (ValueIdx.ix2 s d) + ∑ x : Fin 1024, cat m c s x * wt m c (ValueIdx.ix2 x d) := by
  unfold pre
  rw [three, ← add_assoc, ← add_assoc]
  refine congrArg₂ (fun a b : EReal => a + b) (congrArg₂ (fun a b : EReal => a + b) (congrArg (fun q : EReal => alpha * hh m c (ValueIdx.ix2 s d) + q) ?_) ?_) ?_
  · exact Finset.sum_congr rfl fun x _ => congrArg (fun q : EReal => q * _) (cat0 s x _).symm
  · exact Finset.sum_congr rfl fun x _ => congrArg (fun q : EReal => q * _) (cat1 s x _).symm
  · exact Finset.sum_congr rfl fun x _ => congrArg (fun q : EReal => q * _) (cat2 s x _).symm

open Cert.Reference14Ideal.Read

theorem ref_cat (i : S8192x1024.Idx) : val_main_v1 (F := Ideal) (m (c.tc.loc main_arg0)) (m (c.tc.loc main_arg1)) (m (c.tc.loc main_arg2)) i = cat m c (i 0) (i 1) := by
  unfold val_main_v1 val_main_v0
  pointwise
  rfl

theorem ref_pre (i : S8192x1024.Idx) : val_main_v5 (F := Ideal) (m (c.tc.loc main_arg0)) (m (c.tc.loc main_arg1)) (m (c.tc.loc main_arg2)) (m (c.tc.loc main_arg3)) (m (c.tc.loc main_arg4)) i = pre m c (i 0) (i 1) := by
  refine Eq.trans ?_ (pre_eq _ _).symm
  rw [val_main_v5_apply, val_main_v3_apply, val_main_v4_apply]
  unfold val_main_v2 val_main_cst
  pointwise
  refine congrArg₂ (fun a b : EReal => a + b) (congrArg (fun a : EReal => alpha * a) (congrArg (hh m c) (funext (on_two rfl rfl)))) (Finset.sum_congr rfl fun k _ => congrArg₂ (fun a b : EReal => a * b) (ref_cat _) (congrArg (wt m c) (funext (on_two rfl rfl))))

theorem ref_mean (i : S8192x1.Idx) : val_main_v9 (F := Ideal) (m (c.tc.loc main_arg0)) (m (c.tc.loc main_arg1)) (m (c.tc.loc main_arg2)) (m (c.tc.loc main_arg3)) (m (c.tc.loc main_arg4)) i = mean (pre m c (i 0)) := by
  rw [val_main_v9_apply, val_main_v7_apply, val_main_v6_apply]
  unfold val_main_v8 val_main_cst_1 val_main_cst_0
  pointwise
  exact congrArg (fun s : EReal => Ideal.div s len) (Finset.sum_congr rfl fun k _ => ref_pre _)

theorem ref_cen (i : S8192x1024.Idx) : val_main_v11 (F := Ideal) (m (c.tc.loc main_arg0)) (m (c.tc.loc main_arg1)) (m (c.tc.loc main_arg2)) (m (c.tc.loc main_arg3)) (m (c.tc.loc main_arg4)) i = cen (pre m c (i 0)) (i 1) := by
  rw [val_main_v11_apply, val_main_v10_apply, ref_pre, ref_mean]
  rfl

theorem ref_rdev (i : S8192x1.Idx) : val_main_v19 (F := Ideal) (m (c.tc.loc main_arg0)) (m (c.tc.loc main_arg1)) (m (c.tc.loc main_arg2)) (m (c.tc.loc main_arg3)) (m (c.tc.loc main_arg4)) i = res9 m c i := by
  rw [val_main_v19_apply, val_main_v18_apply, val_main_v16_apply, val_main_v14_apply, val_main_v13_apply]
  unfold val_main_v15 val_main_cst_3 val_main_v17 val_main_cst_4 val_main_cst_2
  pointwise
  exact congrArg (fun s : EReal => Ideal.rsqrt (Ideal.div s len + eps)) (Finset.sum_congr rfl fun k _ => (val_main_v12_apply _ _ _ _ _ _).trans (congrArg₂ (fun a b : EReal => a * b) (ref_cen _) (ref_cen _)))

theorem ref_nrm (i : S8192x1024.Idx) : val_main_v23 (F := Ideal) (m (c.tc.loc main_arg0)) (m (c.tc.loc main_arg1)) (m (c.tc.loc main_arg2)) (m (c.tc.loc main_arg3)) (m (c.tc.loc main_arg4)) i = res8 m c i := by
  rw [val_main_v23_apply, val_main_v21_apply, val_main_v20_apply, val_main_v22_apply, ref_pre, ref_mean, ref_rdev]
  rfl

theorem ref_norm (i : S8192x1024.Idx) : val_main_v29 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) i = res7 m c i := by
  rw [val_main_v29_apply, val_main_v26_apply, ref_nrm]
  unfold val_main_v25 val_main_v24 val_main_v28 val_main_v27
  pointwise
  rfl

end Cert.Kernel14Ideal.Gen

end
-- ==== Proof.Wgrad15.lean ====
/- The gradient of attention's key weight, as the call leaves it in its rows of the store of gradients: one point takes all
   256 rows of the memory, clears the block and adds the four quarters of the product to it. -/
module

public import proofs.«01_k».proof.Proof.Parts
public import proofs.«01_k».proof.Proof.Gen.Kernel15Ideal.Value
public import proofs.«01_k».proof.Proof.Gen.Reference15Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel15Ideal.Gen

open Cert.Kernel15Ideal Cert.Kernel15Ideal.Gen Idealize.ShloMosaic Idealize.ShloMosaic.TcCoe Idealize.SL.Sem Cert.Chunks Cert.Parts

theorem idx (t : Fin cfg0.N) : (win0_0.index t 0 = 0 ∧ win0_0.index t 1 = 0) ∧ (win0_1.index t 0 = 0 ∧ win0_1.index t 1 = 0) ∧ (win0_2.index t 0 = 0 ∧ win0_2.index t 1 = 26 ∧ win0_2.index t 2 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 26 ∧ win0_2.index t 2 = 0)) t

/-! ## One point's product and additions -/

theorem prod (g : S256x1024.Idx → EReal) (a : S256x1024.Idx → EReal) (i : S1024x1024.Idx) :
    k0_pay2 (F := Ideal) g a i = ∑ l : Fin 256, a (ValueIdx.ix2 l (i 0)) * g (ValueIdx.ix2 l (i 1)) := by
  unfold k0_pay2
  pointwise
  rfl

theorem add0 (g : S256x1024.Idx → EReal) (a : S256x1024.Idx → EReal) (p : S1x256x1024.Idx → EReal) (j : S1x256x1024.Idx) :
    k0_pay5 (F := Ideal) g a p j = p j + ∑ l : Fin 256, a (ValueIdx.ix2 l (quarter 0 (j 1))) * g (ValueIdx.ix2 l (j 2)) := by
  unfold k0_pay5
  pointwise
  rw [show (⟨(j 1).val, Nat.lt_of_lt_of_le (j 1).isLt (by decide)⟩ : Fin 1024) = quarter 0 (j 1) from Fin.ext (by show (j 1).val = 0 * 256 + (j 1).val; omega), prod]
  rfl

theorem add1 (g : S256x1024.Idx → EReal) (a : S256x1024.Idx → EReal) (p : S1x256x1024.Idx → EReal) (j : S1x256x1024.Idx) :
    k0_pay6 (F := Ideal) g a p j = p j + ∑ l : Fin 256, a (ValueIdx.ix2 l (quarter 1 (j 1))) * g (ValueIdx.ix2 l (j 2)) := by
  unfold k0_pay6
  pointwise
  rw [prod]
  rfl

theorem add2 (g : S256x1024.Idx → EReal) (a : S256x1024.Idx → EReal) (p : S1x256x1024.Idx → EReal) (j : S1x256x1024.Idx) :
    k0_pay7 (F := Ideal) g a p j = p j + ∑ l : Fin 256, a (ValueIdx.ix2 l (quarter 2 (j 1))) * g (ValueIdx.ix2 l (j 2)) := by
  unfold k0_pay7
  pointwise
  rw [prod]
  rfl

theorem add3 (g : S256x1024.Idx → EReal) (a : S256x1024.Idx → EReal) (p : S1x256x1024.Idx → EReal) (j : S1x256x1024.Idx) :
    k0_pay1 (F := Ideal) (k0_pay3 (F := Ideal) g a) p j = p j + ∑ l : Fin 256, a (ValueIdx.ix2 l (quarter 3 (j 1))) * g (ValueIdx.ix2 l (j 2)) := by
  unfold k0_pay1 k0_pay3
  pointwise
  rw [prod]
  rfl

/-- The block after a fresh start is zero before the additions. -/
theorem fresh (y : S4x256x1024.Idx) :
    View.canon [(⟨Rect.unit ![0, 0, 0] ![4, 256, 1024] inb_S4x256x1024_S4x256x1024_0_0_0, k0_pay4 (F := Ideal)⟩ : View.Piece (Elt Ideal) S4x256x1024 .f32)] y = 0 := by
  refine (full _ _ y).trans ?_
  unfold k0_pay4
  pointwise

variable {m : (ℓ : Loc nD τ sig) → Buf (Elt Ideal) ℓ} {c : Dev nD} (t : Fin cfg0.N)

variable (m c) in
/-- Argument 0. -/
def a0 : S256x1024.Idx → EReal := m (c.tc.loc main_arg0)
variable (m c) in
/-- The block of argument 0 that the point reads. -/
def b0 : S256x1024.Idx → EReal := iblk m c 0 t

theorem blk0 : b0 m c t = a0 m c := by
  funext i
  show iblk m c 0 t i = _
  have e : iblk m c 0 t i = (V m c main_arg0 : (⟨S256x1024, .f32⟩ : BufTy).Contents (Elt Ideal)) (ValueIdx.ix2 (i 0) (i 1)) := by
    blk_ext [iblk, idx t]
  rw [e, V_main_arg0]
  exact congrArg (a0 m c) (funext (on_two rfl rfl))

variable (m c) in
/-- Argument 1. -/
def a1 : S256x1024.Idx → EReal := m (c.tc.loc main_arg1)
variable (m c) in
/-- The block of argument 1 that the point reads. -/
def b1 : S256x1024.Idx → EReal := iblk m c 1 t

theorem blk1 : b1 m c t = a1 m c := by
  funext i
  show iblk m c 1 t i = _
  have e : iblk m c 1 t i = (V m c main_arg1 : (⟨S256x1024, .f32⟩ : BufTy).Contents (Elt Ideal)) (ValueIdx.ix2 (i 0) (i 1)) := by
    blk_ext [iblk, idx t]
  rw [e, V_main_arg1]
  exact congrArg (a1 m c) (funext (on_two rfl rfl))

variable (m c) in
/-- What row `s` of the arguments adds to place `y` of the block. -/
def term (y : S4x256x1024.Idx) : Fin 256 → EReal :=
  fun s => a0 m c (ValueIdx.ix2 s (quarter (y 0) (y 1))) * a1 m c (ValueIdx.ix2 s (y 2))

theorem part (q : Fin 4) (y : S4x256x1024.Idx) (h : (y 0).val = q.val) (l : Fin 256) :
    b0 m c t (ValueIdx.ix2 l (quarter q (y 1))) * b1 m c t (ValueIdx.ix2 l (y 2)) = term m c y l := by
  rw [blk0, blk1]
  unfold term
  rw [show y 0 = q from Fin.ext h]

/-- What the point leaves in the block. -/
theorem out_A (y : S4x256x1024.Idx) : outsAt0 m c t y = ∑ l, term m c y l := by
  unfold outsAt0
  refine Eq.trans ?_ (zero_add _)
  frame_out
  simp only [View.readCov_eq_canon']
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (fresh _)
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans ((miss 0 _ _ _ _ (show (1 : ℕ) ≠ 0 by decide)).trans (fresh _))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans ((miss 1 _ _ _ _ (show (2 : ℕ) ≠ 1 by decide)).trans ((miss 0 _ _ _ _ (show (2 : ℕ) ≠ 0 by decide)).trans (fresh _)))
  · rw [hit 3 _ _ _ _ h]
    refine (add3 (b1 m c t) (b0 m c t) _ _).trans ?_
    refine congrArg₂ (· + ·) ?_ (Finset.sum_congr rfl fun l _ => part t 3 y h l)
    exact (load 3 _ _ _).trans ((miss 2 _ _ _ _ (show (3 : ℕ) ≠ 2 by decide)).trans ((miss 1 _ _ _ _ (show (3 : ℕ) ≠ 1 by decide)).trans ((miss 0 _ _ _ _ (show (3 : ℕ) ≠ 0 by decide)).trans (fresh _))))

/-! ## The whole array -/

variable (m c) in
/-- What the store of gradients holds after the call: in its rows from 6656 on the product of all rows, elsewhere what it held. -/
def result (i : S4x8192x1024.Idx) : EReal :=
  stored 6656 (a0 m c) (a1 m c) (m (c.tc.loc main_arg2)) i

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 26) (by decide +kernel) (fun t hf y => ?_) (fun j hj => ?_)
  · rw [after0_2, out_A t, cast_eq]
    refine stored_block 6656 (a0 m c) (a1 m c) (m (c.tc.loc main_arg2)) _ _ ?_ ?_ ?_
    · blk_simp [idx t]
    · blk_simp [idx t]
    · blk_simp [idx t]
  · rw [A_eq]
    refine (entry j).trans ?_
    have h1 : ¬(j 1).val / 256 = 26 := hj
    show _ = result m c j
    unfold result stored
    rw [dif_neg (by omega)]

open Cert.Reference15Ideal.Read in
theorem reference (i : S4x8192x1024.Idx) : val_main_v7 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result stored val_main_v7
  pointwise
  by_cases hlo : (i 1).val < 6656
  · rw [dif_pos hlo, dif_neg (by omega), val_main_v4_apply]
    exact congrArg (m (c.tc.loc main_arg2) : S4x8192x1024.Idx → EReal) (funext fun a => match a with
      | 0 => rfl
      | 1 => rfl
      | 2 => rfl)
  · rw [dif_neg hlo]
    by_cases hm : (i 1).val - 6656 < 256
    · rw [dif_pos hm, dif_pos (by omega), val_main_v5_apply, val_main_v3_apply, val_main_v2_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 0).val * 256) + ((i 1).val - 6656)) * 1024 + (i 2).val) / 1024 = (i 0).val * 256 + ((i 1).val - 6656)
          omega
      · refine funext (Chunks.on_two ?_ ?_)
        · rfl
        · refine Fin.ext ?_
          show ((((i 0).val * 256) + ((i 1).val - 6656)) * 1024 + (i 2).val) % 1024 = (i 2).val
          omega
    · rw [dif_neg hm, dif_neg (by omega), val_main_v6_apply]
      refine congrArg (m (c.tc.loc main_arg2) : S4x8192x1024.Idx → EReal) (funext (Chunks.on_three ?_ ?_ ?_))
      · rfl
      · refine Fin.ext ?_
        show 6912 + ((i 1).val - 6656 - 256) = (i 1).val
        omega
      · rfl

end Cert.Kernel15Ideal.Gen

end
-- ==== Proof.Wgrad16.lean ====
/- The gradient of attention's value weight, as the call leaves it in its rows of the store of gradients: one point takes all
   256 rows of the memory, clears the block and adds the four quarters of the product to it. -/
module

public import proofs.«01_k».proof.Proof.Wgrad15
public import proofs.«01_k».proof.Proof.Gen.Kernel16Ideal.Value
public import proofs.«01_k».proof.Proof.Gen.Reference16Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel16Ideal.Gen

open Cert.Kernel15Ideal.Gen (add0 add1 add2 add3 fresh)
open Cert.Kernel16Ideal Cert.Kernel16Ideal.Gen Idealize.ShloMosaic Idealize.ShloMosaic.TcCoe Idealize.SL.Sem Cert.Chunks Cert.Parts

theorem idx (t : Fin cfg0.N) : (win0_0.index t 0 = 0 ∧ win0_0.index t 1 = 0) ∧ (win0_1.index t 0 = 0 ∧ win0_1.index t 1 = 0) ∧ (win0_2.index t 0 = 0 ∧ win0_2.index t 1 = 27 ∧ win0_2.index t 2 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 27 ∧ win0_2.index t 2 = 0)) t

variable {m : (ℓ : Loc nD τ sig) → Buf (Elt Ideal) ℓ} {c : Dev nD} (t : Fin cfg0.N)

variable (m c) in
/-- Argument 0. -/
def a0 : S256x1024.Idx → EReal := m (c.tc.loc main_arg0)
variable (m c) in
/-- The block of argument 0 that the point reads. -/
def b0 : S256x1024.Idx → EReal := iblk m c 0 t

theorem blk0 : b0 m c t = a0 m c := by
  funext i
  show iblk m c 0 t i = _
  have e : iblk m c 0 t i = (V m c main_arg0 : (⟨S256x1024, .f32⟩ : BufTy).Contents (Elt Ideal)) (ValueIdx.ix2 (i 0) (i 1)) := by
    blk_ext [iblk, idx t]
  rw [e, V_main_arg0]
  exact congrArg (a0 m c) (funext (on_two rfl rfl))

variable (m c) in
/-- Argument 1. -/
def a1 : S256x1024.Idx → EReal := m (c.tc.loc main_arg1)
variable (m c) in
/-- The block of argument 1 that the point reads. -/
def b1 : S256x1024.Idx → EReal := iblk m c 1 t

theorem blk1 : b1 m c t = a1 m c := by
  funext i
  show iblk m c 1 t i = _
  have e : iblk m c 1 t i = (V m c main_arg1 : (⟨S256x1024, .f32⟩ : BufTy).Contents (Elt Ideal)) (ValueIdx.ix2 (i 0) (i 1)) := by
    blk_ext [iblk, idx t]
  rw [e, V_main_arg1]
  exact congrArg (a1 m c) (funext (on_two rfl rfl))

variable (m c) in
/-- What row `s` of the arguments adds to place `y` of the block. -/
def term (y : S4x256x1024.Idx) : Fin 256 → EReal :=
  fun s => a0 m c (ValueIdx.ix2 s (quarter (y 0) (y 1))) * a1 m c (ValueIdx.ix2 s (y 2))

theorem part (q : Fin 4) (y : S4x256x1024.Idx) (h : (y 0).val = q.val) (l : Fin 256) :
    b0 m c t (ValueIdx.ix2 l (quarter q (y 1))) * b1 m c t (ValueIdx.ix2 l (y 2)) = term m c y l := by
  rw [blk0, blk1]
  unfold term
  rw [show y 0 = q from Fin.ext h]

/-- What the point leaves in the block. -/
theorem out_A (y : S4x256x1024.Idx) : outsAt0 m c t y = ∑ l, term m c y l := by
  unfold outsAt0
  refine Eq.trans ?_ (zero_add _)
  frame_out
  simp only [View.readCov_eq_canon']
  rcases four y with h | h | h | h
  · rw [miss 3 _ _ _ _ (by omega), miss 2 _ _ _ _ (by omega), miss 1 _ _ _ _ (by omega), hit 0 _ _ _ _ h]
    refine (add0 (b1 m c t) (b0 m c t) _ _).trans ?_
    refine congrArg₂ (· + ·) ?_ (Finset.sum_congr rfl fun l _ => part t 0 y h l)
    exact (load 0 _ _ _).trans (fresh _)
  · rw [miss 3 _ _ _ _ (by omega), miss 2 _ _ _ _ (by omega), hit 1 _ _ _ _ h]
    refine (add1 (b1 m c t) (b0 m c t) _ _).trans ?_
    refine congrArg₂ (· + ·) ?_ (Finset.sum_congr rfl fun l _ => part t 1 y h l)
    exact (load 1 _ _ _).trans ((miss 0 _ _ _ _ (show (1 : ℕ) ≠ 0 by decide)).trans (fresh _))
  · rw [miss 3 _ _ _ _ (by omega), hit 2 _ _ _ _ h]
    refine (add2 (b1 m c t) (b0 m c t) _ _).trans ?_
    refine congrArg₂ (· + ·) ?_ (Finset.sum_congr rfl fun l _ => part t 2 y h l)
    exact (load 2 _ _ _).trans ((miss 1 _ _ _ _ (show (2 : ℕ) ≠ 1 by decide)).trans ((miss 0 _ _ _ _ (show (2 : ℕ) ≠ 0 by decide)).trans (fresh _)))
  · rw [hit 3 _ _ _ _ h]
    refine (add3 (b1 m c t) (b0 m c t) _ _).trans ?_
    refine congrArg₂ (· + ·) ?_ (Finset.sum_congr rfl fun l _ => part t 3 y h l)
    exact (load 3 _ _ _).trans ((miss 2 _ _ _ _ (show (3 : ℕ) ≠ 2 by decide)).trans ((miss 1 _ _ _ _ (show (3 : ℕ) ≠ 1 by decide)).trans ((miss 0 _ _ _ _ (show (3 : ℕ) ≠ 0 by decide)).trans (fresh _))))

/-! ## The whole array -/

variable (m c) in
/-- What the store of gradients holds after the call: in its rows from 6912 on the product of all rows, elsewhere what it held. -/
def result (i : S4x8192x1024.Idx) : EReal :=
  stored 6912 (a0 m c) (a1 m c) (m (c.tc.loc main_arg2)) i

theorem entry (i : S4x8192x1024.Idx) : V m c main_v0 i = (m (c.tc.loc main_arg2) : S4x8192x1024.Idx → EReal) i := by
  unfold V
  after_reads_at
  rfl

theorem arr : (dats m 0 c).arrAt 2 cfg0.N = result m c := by
  refine (dats m 0 c).arrAt_eq_of_coversWhere_of_agree 2 (result m c) (fun β => β ⟨1, by decide⟩ = 27) (by decide +kernel) (fun t hf y => ?_) (fun j hj => ?_)
  · rw [after0_2, out_A t, cast_eq]
    refine stored_block 6912 (a0 m c) (a1 m c) (m (c.tc.loc main_arg2)) _ _ ?_ ?_ ?_
    · blk_simp [idx t]
    · blk_simp [idx t]
    · blk_simp [idx t]
  · rw [A_eq]
    refine (entry j).trans ?_
    have h1 : ¬(j 1).val / 256 = 27 := hj
    show _ = result m c j
    unfold result stored
    rw [dif_neg (by omega)]

open Cert.Reference16Ideal.Read in
theorem reference (i : S4x8192x1024.Idx) : val_main_v7 (F := Ideal) (m (c.tc.loc main_arg0)) (m (c.tc.loc main_arg1)) (m (c.tc.loc main_arg2)) i = result m c i := by
  have hi : (i 1).val < 8192 := (i 1).isLt
  have hi0 : (i 0).val < 4 := (i 0).isLt
  have hi2 : (i 2).val < 1024 := (i 2).isLt
  unfold result stored val_main_v7
  pointwise
  by_cases hlo : (i 1).val < 6912
  · rw [dif_pos hlo, dif_neg (by omega), val_main_v4_apply]
    exact congrArg (m (c.tc.loc main_arg2) : S4x8192x1024.Idx → EReal) (funext fun a => match a with
      | 0 => rfl
      | 1 => rfl
      | 2 => rfl)
  · rw [dif_neg hlo]
    by_cases hm : (i 1).val - 6912 < 256
    · rw [dif_pos hm, dif_pos (by omega), val_main_v5_apply, val_main_v3_apply, val_main_v2_apply]
      refine Finset.sum_congr rfl fun s _ => (mul_comm _ _).trans ?_
      refine congrArg₂ (fun a b : EReal => a * b) (congrArg (a0 m c) ?_) (congrArg (a1 m c) ?_)
      · refine funext (Chunks.on_two ?_ ?_)
        · rfl
        · refine Fin.ext ?_
          show ((((i 0).val * 256) + ((i 1).val - 6912)) * 1024 + (i 2).val) / 1024 = (i 0).val * 256 + ((i 1).val - 6912)
          omega
      · refine funext (Chunks.on_two ?_ ?_)
        · rfl
        · refine Fin.ext ?_
          show ((((i 0).val * 256) + ((i 1).val - 6912)) * 1024 + (i 2).val) % 1024 = (i 2).val
          omega
    · rw [dif_neg hm, dif_neg (by omega), val_main_v6_apply]
      refine congrArg (m (c.tc.loc main_arg2) : S4x8192x1024.Idx → EReal) (funext (Chunks.on_three ?_ ?_ ?_))
      · rfl
      · refine Fin.ext ?_
        show 7168 + ((i 1).val - 6912 - 256) = (i 1).val
        omega
      · rfl

end Cert.Kernel16Ideal.Gen

end
-- ==== Proof.Memproj17.lean ====
/- The memory's keys or values: the one point multiplies all 256 rows by the whole weight. -/
module

public import proofs.«01_k».proof.Proof.Chunks
public import proofs.«01_k».proof.Proof.Gen.Kernel17Ideal.Value
public import proofs.«01_k».proof.Proof.Gen.Reference17Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel17Ideal.Gen

open Cert.Kernel17Ideal Cert.Kernel17Ideal.Gen Idealize.ShloMosaic Idealize.ShloMosaic.TcCoe Idealize.SL.Sem Cert.Chunks

variable (m : (ℓ : Loc nD τ sig) → Buf (Elt Ideal) ℓ) (c : Dev nD)

/-! The arguments. -/
def mem : S256x1024.Idx → EReal := m (c.tc.loc main_arg0)
def wt : S1024x1024.Idx → EReal := m (c.tc.loc main_arg1)

theorem idx (t : Fin cfg0.N) : (win0_0.index t 0 = 0 ∧ win0_0.index t 1 = 0) ∧ (win0_1.index t 0 = 0 ∧ win0_1.index t 1 = 0) ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0)) t

/-- What the call leaves: the product of the rows and the weight. -/
def result (i : S256x1024.Idx) : EReal := ∑ x : Fin 1024, mem m c (ValueIdx.ix2 (i 0) x) * wt m c (ValueIdx.ix2 x (i 1))

variable {m c} (t : Fin cfg0.N)

/-! ## One point -/

theorem blk0 (i : S256x1024.Idx) : iblk m c 0 t i = mem m c (ValueIdx.ix2 (i 0) (i 1)) := by
  have e : iblk m c 0 t i = (V m c main_arg0 : (⟨S256x1024, .f32⟩ : BufTy).Contents (Elt Ideal)) (ValueIdx.ix2 (i 0) (i 1)) := by
    blk_ext [iblk, idx t]
  rw [e, V_main_arg0]
  rfl

theorem host_w : V m c main_v0 = wt m c := by
  funext i
  unfold V
  after_reads_simp
  rfl

theorem blk1 (i : S1024x1024.Idx) : iblk m c 1 t i = wt m c i := by
  have e : iblk m c 1 t i = (V m c main_v0 : (⟨S1024x1024, .bf16⟩ : BufTy).Contents (Elt Ideal)) (ValueIdx.ix2 (i 0) (i 1)) := by
    blk_ext [iblk, idx t]
  rw [e, host_w]
  exact congrArg (wt m c) (funext (on_two rfl rfl))

theorem pay (a : S256x1024.Idx → EReal) (w : S1024x1024.Idx → EReal) (j : S256x1024.Idx) :
    k0_pay1 (F := Ideal) a w j = ∑ x : Fin 1024, a (ValueIdx.ix2 (j 0) x) * w (ValueIdx.ix2 x (j 1)) := by
  unfold k0_pay1
  pointwise
  rfl

theorem point (j : S256x1024.Idx) : out0_2 (F := Ideal) (iblk m c 0 t) (iblk m c 1 t) j = result m c (ValueIdx.ix2 (j 0) (j 1)) := by
  unfold out0_2
  frame_out
  refine (pay _ _ j).trans (Finset.sum_congr rfl fun x _ => congrArg₂ (fun a b : EReal => a * b) (blk0 t _) (blk1 t _))

theorem arr : (dats m 0 c).arrAt 2 cfg0.N = result m c := by
  refine (dats m 0 c).arrAt_eq_of_covers 2 _ (by decide +kernel) fun t hf y => ?_
  rw [after0_2, point, cast_eq]
  refine congrArg (result m c) (funext (on_two ?_ ?_))
  · refine Fin.ext ?_
    blk_simp [idx t]
  · refine Fin.ext ?_
    blk_simp [idx t]

/-! ## The reference -/

open Cert.Reference17Ideal.Read

theorem reference (i : S256x1024.Idx) : val_main_v0 (F := Ideal) (m (c.tc.loc main_arg0)) (m (c.tc.loc main_arg1)) i = result m c i := by
  rw [val_main_v0_apply]
  exact Finset.sum_congr rfl fun k _ => congrArg₂ (fun a b : EReal => a * b) (congrArg (mem m c) (funext (on_two rfl rfl))) (congrArg (wt m c) (funext (on_two rfl rfl)))

end Cert.Kernel17Ideal.Gen

end
-- ==== Proof.Loss18.lean ====
/- The loss head: every point adds half the mean squared errors of its own 512 rows to the loss and writes the loss's gradient
   at those rows. -/
module

public import proofs.«01_k».proof.Proof.Chunks
public import proofs.«01_k».proof.Proof.RealStep
public import proofs.«01_k».proof.Proof.Gen.Kernel18Ideal.Value
public import proofs.«01_k».proof.Proof.Gen.Reference18Ideal.Read
public import Idealize.ShloMosaic.Lib.Pipeline.ReadBack
public import Idealize.ShloMosaic.Lib.StableHlo.ReadAt
public import Idealize.ShloMosaic.Lib.StableHlo.RunRead

@[expose] public section

noncomputable section

namespace Cert.Kernel18Ideal.Gen

open Cert.Kernel18Ideal Cert.Kernel18Ideal.Gen Idealize.ShloMosaic Idealize.ShloMosaic.TcCoe Idealize.SL.Sem Cert.Chunks

variable (m : (ℓ : Loc nD τ sig) → Buf (Elt Ideal) ℓ) (c : Dev nD)

/-! The arguments. -/
def hh : S8192x1024.Idx → EReal := m (c.tc.loc main_arg0)
def tg : S8192x1024.Idx → EReal := m (c.tc.loc main_arg1)

/-! The constants. -/
def half : EReal := ((1 / 2 : ℝ) : EReal)
def len : EReal := ((1024 : ℝ) : EReal)
def inv : EReal := ((1 / 1024 : ℝ) : EReal)

theorem bits_half : Ideal.ofBits .f32 0x3F000000#32 = half := by
  unfold half
  simp [Ideal.ofBits, Ideal.ieee, -EReal.coe_mul]; norm_num
theorem bits_inv : Ideal.ofBits .f32 0x3A800000#32 = inv := by
  unfold inv
  simp [Ideal.ofBits, Ideal.ieee, -EReal.coe_mul]; norm_num

/-- Half of a sum is the sum of the halves, whatever the terms. -/
theorem half_sum {ι : Type*} (s : Finset ι) (f : ι → EReal) : half * ∑ k ∈ s, f k = ∑ k ∈ s, half * f k := by
  classical
  induction s using Finset.induction_on with
  | empty => simp
  | insert a s ha ih =>
    rw [Finset.sum_insert ha, Finset.sum_insert ha, ← ih,
      EReal.left_distrib_of_nonneg_of_ne_top (x := half) (EReal.coe_nonneg.mpr (by norm_num)) (EReal.coe_ne_top _)]

/-- The factor that the chain rule gives is 1/1024. -/
theorem chain (e : EReal) : Ideal.div (half * ((1 : ℝ) : EReal)) len * (((2 : ℝ) : EReal) * e) = e * inv := by
  unfold half len inv
  rw [← EReal.coe_mul, RealStep.div_real _ (by norm_num), ← mul_assoc, ← EReal.coe_mul, mul_comm]
  congr 2
  norm_num

/-! ## What the call leaves -/

/-- The error at a place. -/
def err (i : S8192x1024.Idx) : EReal := hh m c i - tg m c i
/-- A row's mean squared error. -/
def mse (s : Fin 8192) : EReal := Ideal.div (∑ d : Fin 1024, err m c (ValueIdx.ix2 s d) * err m c (ValueIdx.ix2 s d)) len
/-- The loss: half the rows' mean squared errors. -/
def loss (_ : S1x1.Idx) : EReal := ∑ s, half * mse m c s
/-- The loss's gradient. -/
def grad (i : S8192x1024.Idx) : EReal := err m c i * inv

/-! ## Sixteen steps of 512 rows -/

/-- Row `l` of the 512 rows that step `p` (of sixteen) takes. -/
def row (p : ℕ) (l : Fin 512) : Fin 8192 := ⟨p % 16 * 512 + l.val, by omega⟩

theorem all16 (f : Fin 8192 → EReal) : ∑ p ∈ Finset.range 16, ∑ l, f (row p l) = ∑ s, f s := by
  rw [Finset.sum_range, ← Fin.sum_mul_add_fin (S := 16) (n := 512) (L := 8192) f]
  refine Finset.sum_congr rfl fun p _ => Finset.sum_congr rfl fun l _ => congrArg f (Fin.ext ?_)
  show p.val % 16 * 512 + l.val = p.val * 512 + l.val
  rw [Nat.mod_eq_of_lt p.isLt]

/-! ## One point -/

theorem idx (t : Fin cfg0.N) : (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0)) t

variable {m c} (t : Fin cfg0.N)

theorem blk0 (i : S512x1024.Idx) : iblk m c 0 t i = hh m c (ValueIdx.ix2 (row t.val (i 0)) (i 1)) := by
  have ht : t.val < 16 := t.isLt
  have e : iblk m c 0 t i = (V m c main_arg0 : (⟨S8192x1024, .f32⟩ : BufTy).Contents (Elt Ideal)) (ValueIdx.ix2 (row t.val (i 0)) (i 1)) := by
    blk_ext [iblk, idx t, row, Nat.mod_eq_of_lt ht]
  rw [e, V_main_arg0]
  rfl

theorem blk1 (i : S512x1024.Idx) : iblk m c 1 t i = tg m c (ValueIdx.ix2 (row t.val (i 0)) (i 1)) := by
  have ht : t.val < 16 := t.isLt
  have e : iblk m c 1 t i = (V m c main_arg1 : (⟨S8192x1024, .f32⟩ : BufTy).Contents (Elt Ideal)) (ValueIdx.ix2 (row t.val (i 0)) (i 1)) := by
    blk_ext [iblk, idx t, row, Nat.mod_eq_of_lt ht]
  rw [e, V_main_arg1]
  rfl

theorem pay1 (y : S1x1.Idx) : k0_pay1 (F := Ideal) y = 0 := by
  unfold k0_pay1
  pointwise

theorem pay3 (a b : S512x1024.Idx → EReal) (j : S512x1024.Idx) : k0_pay3 (F := Ideal) a b j = (a j - b j) * inv := by
  rw [← bits_inv]
  rfl

theorem pay4 (a b : S512x1024.Idx → EReal) (p : S1x1.Idx → EReal) (y : S1x1.Idx) :
    k0_pay4 (F := Ideal) a b p y = p y + half * ∑ l : Fin 512, Ideal.div (∑ d : Fin 1024, (a (ValueIdx.ix2 l d) - b (ValueIdx.ix2 l d)) * (a (ValueIdx.ix2 l d) - b (ValueIdx.ix2 l d))) len := by
  unfold k0_pay4
  pointwise
  rw [← bits_half]
  unfold len
  rw [← RealStep.ofBits_1024]
  rfl

/-- What the point's rows add to the loss. -/
theorem added (p : S1x1.Idx → EReal) (y : S1x1.Idx) :
    k0_pay4 (F := Ideal) (iblk m c 0 t) (iblk m c 1 t) p y = p y + ∑ l, half * mse m c (row t.val l) := by
  rw [pay4, half_sum]
  refine congrArg (fun s : EReal => p y + s) (Finset.sum_congr rfl fun l _ => congrArg (fun s : EReal => half * Ideal.div s len) (Finset.sum_congr rfl fun d _ => ?_))
  rw [blk0, blk1]
  rfl

theorem loss_A (h0 : t.val % 16 = 0) (y : S1x1.Idx) : (outsAt0 m c t.val t.isLt).1 y = 0 + ∑ l, half * mse m c (row t.val l) := by
  rw [outsAt0_A m c t h0]
  frame_out
  refine (added t _ y).trans (congrArg (fun s : EReal => s + _) ?_)
  exact pay1 _

theorem loss_B (h0 : ¬t.val % 16 = 0) (y : S1x1.Idx) :
    (outsAt0 m c t.val t.isLt).1 y = (outsAt0 m c (t.val - 1) (Nat.lt_of_le_of_lt (Nat.sub_le _ _) t.isLt)).1 y + ∑ l, half * mse m c (row t.val l) := by
  rw [outsAt0_B m c t h0]
  frame_out
  refine (added t _ y).trans (congrArg (fun s : EReal => s + _) ?_)
  rfl

/-- After step `n` the loss holds what the rows so far add. -/
theorem upTo (y : S1x1.Idx) : ∀ (n : ℕ) (hn : n < cfg0.N), (outsAt0 m c n hn).1 y = ∑ p ∈ Finset.range (n + 1), ∑ l, half * mse m c (row p l)
  | 0, hn => by
    rw [Finset.sum_range_one]
    exact (loss_A ⟨0, hn⟩ rfl y).trans (zero_add _)
  | n + 1, hn => by
    have hN : cfg0.N = 16 := rfl
    rw [Finset.sum_range_succ, ← upTo y n (Nat.lt_of_succ_lt hn)]
    exact loss_B ⟨n + 1, hn⟩ (by show ¬(n + 1) % 16 = 0; omega) y

theorem grad_at (j : S512x1024.Idx) : (outsAt0 m c t.val t.isLt).2 j = grad m c (ValueIdx.ix2 (row t.val (j 0)) (j 1)) := by
  have e : (outsAt0 m c t.val t.isLt).2 = k0_pay3 (F := Ideal) (iblk m c 0 t) (iblk m c 1 t) := by
    by_cases h0 : t.val % 16 = 0
    · rw [outsAt0_A m c t h0]
      frame_out
    · rw [outsAt0_B m c t h0]
      frame_out
  rw [e, pay3, blk0, blk1]
  rfl

theorem arr2 : (dats m 0 c).arrAt 2 cfg0.N = loss m c := by
  refine (dats m 0 c).arrAt_eq_of_after_last 2 ⟨15, by decide⟩ (by decide +kernel) _ fun j => ?_
  rw [after0_2]
  exact (upTo _ 15 _).trans (all16 fun s => half * mse m c s)

theorem arr3 : (dats m 0 c).arrAt 3 cfg0.N = grad m c := by
  refine (dats m 0 c).arrAt_eq_of_covers 3 _ (by decide +kernel) fun t hf y => ?_
  have ht : t.val < 16 := t.isLt
  rw [after0_3, grad_at, cast_eq]
  refine congrArg (grad m c) (funext (on_two ?_ ?_))
  · refine Fin.ext ?_
    blk_simp [idx t, row, Nat.mod_eq_of_lt ht]
  · refine Fin.ext ?_
    blk_simp [idx t]

/-! ## The reference -/

open Cert.Reference18Ideal.Read

theorem ref_mse (i : (⟨1, ![8192]⟩ : Shape).Idx) : val_main_v6 (F := Ideal) (hh m c) (tg m c) i = mse m c (i 0) := by
  rw [val_main_v6_apply, val_main_v4_apply, val_main_v5_apply, val_main_cst_1_apply, val_main_cst_0_apply]
  show Ideal.div (Ideal.ofBits .f32 0x00000000#32 + _) (Ideal.ofBits .f32 0x44800000#32) = _
  rw [RealStep.ofBits_zero, RealStep.ofBits_1024, EReal.coe_zero, zero_add]
  refine congrArg (fun s : EReal => Ideal.div s len) (Finset.sum_congr rfl fun k _ => ?_)
  have e : idx_main_v4 i k = ValueIdx.ix2 (i 0) k := funext (on_two rfl rfl)
  rw [e]
  rfl

theorem ref_loss (i : S1x1.Idx) : val_main_v15 (F := Ideal) (m (c.tc.loc main_arg0)) (m (c.tc.loc main_arg1)) i = loss m c i := by
  show val_main_v8 (F := Ideal) (hh m c) (tg m c) _ = _
  rw [val_main_v8_apply, val_main_v7_apply]
  show Ideal.ofBits .f32 0x3F000000#32 * (Ideal.ofBits .f32 0x00000000#32 + _) = _
  rw [bits_half, RealStep.ofBits_zero, EReal.coe_zero, zero_add, sum_idx1]
  exact (half_sum _ _).trans (Finset.sum_congr rfl fun s _ => congrArg (fun s : EReal => half * s) (ref_mse _))

theorem ref_grad (i : S8192x1024.Idx) : val_main_v14 (F := Ideal) (m (c.tc.loc main_arg0)) (m (c.tc.loc main_arg1)) i = grad m c i := by
  show Ideal.div (Ideal.ofBits .f32 0x3F000000#32 * Ideal.ofBits .f32 0x3F800000#32) (Ideal.ofBits .f32 0x44800000#32) * (Ideal.ofBits .f32 0x40000000#32 * err m c i) = _
  rw [bits_half, RealStep.ofBits_one, RealStep.ofBits_1024, RealStep.ofBits_two]
  exact chain _

end Cert.Kernel18Ideal.Gen

end
-- ==== Proof.AdamW.lean ====
module

public import proofs.«01_k».proof.Proof.Chunks
public import Idealize.ShloMosaic.Lib.Pipeline.Value
public import Idealize.ShloMosaic.PureOps.Ideal
public import Idealize.ShloMosaic.PureOps.Ideal.Laws

@[expose] public section

noncomputable section

namespace Cert.AdamW

open Idealize.ShloMosaic

/-- The new first moment. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The first moment with its bias taken out. -/
def hat1 (m : EReal) : EReal := Ideal.div m (Ideal.ofBits .f32 0x3F26BD02#32)

/-- The second moment with its bias taken out. -/
def hat2 (v : EReal) : EReal := Ideal.div v (Ideal.ofBits .f32 0x3C231ACC#32)

/-- The weight's change. -/
def delta (w m v : EReal) : EReal :=
  Ideal.ofBits .f32 0xBA83126F#32
    * (Ideal.div (hat1 m) (Ideal.sqrt (hat2 v) + Ideal.ofBits .f32 0x322BCC77#32) + Ideal.ofBits .f32 0x3C23D70A#32 * w)

/-- The kernel multiplies by the reciprocal of the correction that the reference divides by. -/
theorem hat1_eq (m : EReal) : m * ((8388608 / 5463681 : ℝ) : EReal) = hat1 m := by
  have e : Ideal.ofBits .f32 0x3F26BD02#32 = ((5463681 / 8388608 : ℝ) : EReal) := by
    simp [Ideal.ofBits, Ideal.ieee, -EReal.coe_mul]; norm_num
  unfold hat1
  rw [e, Ideal.div_coe (by norm_num), one_div_div]

theorem hat2_eq (v : EReal) : v * ((268435456 / 2672307 : ℝ) : EReal) = hat2 v := by
  have e : Ideal.ofBits .f32 0x3C231ACC#32 = ((2672307 / 268435456 : ℝ) : EReal) := by
    simp [Ideal.ofBits, Ideal.ieee, -EReal.coe_mul]; norm_num
  unfold hat2
  rw [e, Ideal.div_coe (by norm_num), one_div_div]

/-- The change as the kernel computes it. -/
theorem delta_eq (w m v : EReal) :
    Ideal.ofBits .f32 0xBA83126F#32
      * (Ideal.div (m * ((8388608 / 5463681 : ℝ) : EReal)) (Ideal.sqrt (v * ((268435456 / 2672307 : ℝ) : EReal)) + Ideal.ofBits .f32 0x322BCC77#32)
        + Ideal.ofBits .f32 0x3C23D70A#32 * w) = delta w m v := by
  rw [hat1_eq, hat2_eq]
  rfl

/-! ## A weight whose gradient is rows of the store -/

abbrev Store : Shape := ⟨2, ![8192, 1024]⟩
abbrev Weight (N : ℕ) : Shape := ⟨2, ![N, 1024]⟩

/-- The row of the store that row `r` of the weight has: the first layer's `n` rows lie from `a` on, the second's from `b` on. -/
def rowAt (n a b r : ℕ) : ℕ := if r < n then a + r else b + (r - n)

/-- The weight's gradient, read from the store. -/
def rows {N : ℕ} (n a b : ℕ) (x : Store.Idx → EReal) (i : (Weight N).Idx) : EReal :=
  x (ValueIdx.ix2 ⟨rowAt n a b (i 0).val % 8192, Nat.mod_lt _ (by omega)⟩ (i 1))

/-- The two layers' slices of the store, one after the other, are the weight's gradient. -/
theorem rows_eq {N n a b : ℕ} (x : Store.Idx → EReal) (ha : Store.Slices ![a, 0] (Weight n)) (hb : Store.Slices ![b, 0] (Weight n))
    (h : Shape.Concatenates [Weight n, Weight n] (Weight N) 0) (hn : N = n + n) (h1 : a + n ≤ 8192) (h2 : b + n ≤ 8192) :
    concatenate (Weight N) 0 [⟨Weight n, extractStridedSlice (Weight n) ![a, 0] x ha⟩, ⟨Weight n, extractStridedSlice (Weight n) ![b, 0] x hb⟩] h
      = rows n a b x := by
  funext i
  have hi : (i 0).val < N := (i 0).isLt
  unfold rows rowAt
  by_cases hr : (i 0).val < n
  · refine (concatenate_pair_apply_left 0 _ _ h i rfl (ValueIdx.ix2 ⟨(i 0).val, hr⟩ (i 1)) (Chunks.on_two rfl rfl)).trans ?_
    refine extractStridedSlice_apply _ x ha _ _ (Chunks.on_two ?_ ?_)
    · show (if (i 0).val < n then a + (i 0).val else b + ((i 0).val - n)) % 8192 = a + (i 0).val
      rw [if_pos hr]; omega
    · exact (Nat.zero_add _).symm
  · refine (concatenate_pair_apply_right 0 _ _ h i rfl rfl (ValueIdx.ix2 ⟨(i 0).val - n, by omega⟩ (i 1))
      (Chunks.on_two (fun q => absurd rfl q) fun _ => rfl) (by show (i 0).val - n + n = (i 0).val; omega)).trans ?_
    refine extractStridedSlice_apply _ x hb _ _ (Chunks.on_two ?_ ?_)
    · show (if (i 0).val < n then a + (i 0).val else b + ((i 0).val - n)) % 8192 = b + ((i 0).val - n)
      rw [if_neg hr]; omega
    · exact (Nat.zero_add _).symm

/-- What the calls leave: the change and the two moments, with the gradient read from the store. -/
def change {N : ℕ} (n a b : ℕ) (w m v : (Weight N).Idx → EReal) (x : Store.Idx → EReal) (i : (Weight N).Idx) : EReal :=
  delta (w i) (first (m i) (rows n a b x i)) (second (v i) (rows n a b x i))
def moment1 {N : ℕ} (n a b : ℕ) (m : (Weight N).Idx → EReal) (x : Store.Idx → EReal) (i : (Weight N).Idx) : EReal := first (m i) (rows n a b x i)
def moment2 {N : ℕ} (n a b : ℕ) (v : (Weight N).Idx → EReal) (x : Store.Idx → EReal) (i : (Weight N).Idx) : EReal := second (v i) (rows n a b x i)

end Cert.AdamW

end
-- ==== Proof.Adam19.lean ====
/- The AdamW step of the squared-ReLU layer's first weight, block by block. -/
module

public import proofs.«01_k».proof.Proof.AdamW
public import proofs.«01_k».proof.Proof.Gen.Kernel19Ideal.Value
public import Idealize.ShloMosaic.Lib.Pipeline.ReadBack

@[expose] public section

noncomputable section

namespace Cert.Kernel19Ideal.Gen

open Cert.Kernel19Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 1024 4096 0 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S2048x1024.Idx :=
  ValueIdx.ix2 ⟨t.val * 256 + (y 0).val, by have h : t.val < 8 := t.isLt; have h' : (y 0).val < 256 := (y 0).isLt; omega⟩ (y 1)

theorem blk0 (y : S256x1024.Idx) : iblk m c 0 t y = (V m c main_arg0 : (⟨S2048x1024, .f32⟩ : BufTy).Contents (Elt Ideal)) (place t y) := by
  blk_ext [iblk, idx t, place]
theorem blk1 (y : S256x1024.Idx) : iblk m c 1 t y = (V m c main_arg1 : (⟨S2048x1024, .f32⟩ : BufTy).Contents (Elt Ideal)) (place t y) := by
  blk_ext [iblk, idx t, place]
theorem blk2 (y : S256x1024.Idx) : iblk m c 2 t y = (V m c main_arg2 : (⟨S2048x1024, .f32⟩ : BufTy).Contents (Elt Ideal)) (place t y) := by
  blk_ext [iblk, idx t, place]
theorem blk3 (y : S256x1024.Idx) : iblk m c 3 t y = rows 1024 4096 0 (V m c main_arg3 : (⟨S8192x1024, .f32⟩ : BufTy).Contents (Elt Ideal)) (place t y) := by
  have e := (idx t).1.2.2.2.1
  have h : t.val < 8 := t.isLt
  have h' : (y 0).val < 256 := (y 0).isLt
  have e' : rowAt 1024 4096 0 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 1024 4096 0 (m (c.tc.loc main_arg3)) := by
  refine (dats m 0 c).arrAt_eq_of_covers 4 _ (by decide +kernel) fun t hf y => ?_
  rw [after0_4, cast_eq]
  frame_out
  rw [blk3]
  refine congrArg (rows 1024 4096 0 _) (funext (on_two ?_ ?_)) <;> refine Fin.ext ?_ <;> blk_simp [idx t, place]

theorem arr5 : (dats m 0 c).arrAt 5 cfg0.N = change 1024 4096 0 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 1024 4096 0 (V m c main_arg0) (V m c main_arg1) (V m c main_arg2) (V m c main_arg3)) (funext (on_two ?_ ?_)) <;> refine Fin.ext ?_ <;> blk_simp [idx t, place]

theorem arr6 : (dats m 0 c).arrAt 6 cfg0.N = moment1 1024 4096 0 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 1024 4096 0 (V m c main_arg1) (V m c main_arg3)) (funext (on_two ?_ ?_)) <;> refine Fin.ext ?_ <;> blk_simp [idx t, place]

theorem arr7 : (dats m 0 c).arrAt 7 cfg0.N = moment2 1024 4096 0 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 1024 4096 0 (V m c main_arg2) (V m c main_arg3)) (funext (on_two ?_ ?_)) <;> refine Fin.ext ?_ <;> blk_simp [idx t, place]

end Cert.Kernel19Ideal.Gen

end
-- ==== Proof.Adam32.lean ====
/- The AdamW step of the squared-ReLU layer's second weight, block by block. -/
module

public import proofs.«01_k».proof.Proof.AdamW
public import proofs.«01_k».proof.Proof.Gen.Kernel32Ideal.Value
public import Idealize.ShloMosaic.Lib.Pipeline.ReadBack

@[expose] public section

noncomputable section

namespace Cert.Kernel32Ideal.Gen

open Cert.Kernel32Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 1024 5120 1024 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S2048x1024.Idx :=
  ValueIdx.ix2 ⟨t.val * 256 + (y 0).val, by have h : t.val < 8 := t.isLt; have h' : (y 0).val < 256 := (y 0).isLt; omega⟩ (y 1)

theorem blk0 (y : S256x1024.Idx) : iblk m c 0 t y = (V m c main_arg0 : (⟨S2048x1024, .f32⟩ : BufTy).Contents (Elt Ideal)) (place t y) := by
  blk_ext [iblk, idx t, place]
theorem blk1 (y : S256x1024.Idx) : iblk m c 1 t y = (V m c main_arg1 : (⟨S2048x1024, .f32⟩ : BufTy).Contents (Elt Ideal)) (place t y) := by
  blk_ext [iblk, idx t, place]
theorem blk2 (y : S256x1024.Idx) : iblk m c 2 t y = (V m c main_arg2 : (⟨S2048x1024, .f32⟩ : BufTy).Contents (Elt Ideal)) (place t y) := by
  blk_ext [iblk, idx t, place]
theorem blk3 (y : S256x1024.Idx) : iblk m c 3 t y = rows 1024 5120 1024 (V m c main_arg3 : (⟨S8192x1024, .f32⟩ : BufTy).Contents (Elt Ideal)) (place t y) := by
  have e := (idx t).1.2.2.2.1
  have h : t.val < 8 := t.isLt
  have h' : (y 0).val < 256 := (y 0).isLt
  have e' : rowAt 1024 5120 1024 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 1024 5120 1024 (m (c.tc.loc main_arg3)) := by
  refine (dats m 0 c).arrAt_eq_of_covers 4 _ (by decide +kernel) fun t hf y => ?_
  rw [after0_4, cast_eq]
  frame_out
  rw [blk3]
  refine congrArg (rows 1024 5120 1024 _) (funext (on_two ?_ ?_)) <;> refine Fin.ext ?_ <;> blk_simp [idx t, place]

theorem arr5 : (dats m 0 c).arrAt 5 cfg0.N = change 1024 5120 1024 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 1024 5120 1024 (V m c main_arg0) (V m c main_arg1) (V m c main_arg2) (V m c main_arg3)) (funext (on_two ?_ ?_)) <;> refine Fin.ext ?_ <;> blk_simp [idx t, place]

theorem arr6 : (dats m 0 c).arrAt 6 cfg0.N = moment1 1024 5120 1024 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 1024 5120 1024 (V m c main_arg1) (V m c main_arg3)) (funext (on_two ?_ ?_)) <;> refine Fin.ext ?_ <;> blk_simp [idx t, place]

theorem arr7 : (dats m 0 c).arrAt 7 cfg0.N = moment2 1024 5120 1024 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 1024 5120 1024 (V m c main_arg2) (V m c main_arg3)) (funext (on_two ?_ ?_)) <;> refine Fin.ext ?_ <;> blk_simp [idx t, place]

end Cert.Kernel32Ideal.Gen

end
-- ==== Proof.Adam33.lean ====
/- The AdamW step of the mixers' output weight, block by block. -/
module

public import proofs.«01_k».proof.Proof.AdamW
public import proofs.«01_k».proof.Proof.Gen.Kernel33Ideal.Value
public import Idealize.ShloMosaic.Lib.Pipeline.ReadBack

@[expose] public section

noncomputable section

namespace Cert.Kernel33Ideal.Gen

open Cert.Kernel33Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 256 6144 2048 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S512x1024.Idx :=
  ValueIdx.ix2 ⟨t.val * 256 + (y 0).val, by have h : t.val < 2 := t.isLt; have h' : (y 0).val < 256 := (y 0).isLt; omega⟩ (y 1)

theorem blk0 (y : S256x1024.Idx) : iblk m c 0 t y = (V m c main_arg0 : (⟨S512x1024, .f32⟩ : BufTy).Contents (Elt Ideal)) (place t y) := by
  blk_ext [iblk, idx t, place]
theorem blk1 (y : S256x1024.Idx) : iblk m c 1 t y = (V m c main_arg1 : (⟨S512x1024, .f32⟩ : BufTy).Contents (Elt Ideal)) (place t y) := by
  blk_ext [iblk, idx t, place]
theorem blk2 (y : S256x1024.Idx) : iblk m c 2 t y = (V m c main_arg2 : (⟨S512x1024, .f32⟩ : BufTy).Contents (Elt Ideal)) (place t y) := by
  blk_ext [iblk, idx t, place]
theorem blk3 (y : S256x1024.Idx) : iblk m c 3 t y = rows 256 6144 2048 (V m c main_arg3 : (⟨S8192x1024, .f32⟩ : BufTy).Contents (Elt Ideal)) (place t y) := by
  have e := (idx t).1.2.2.2.1
  have h : t.val < 2 := t.isLt
  have h' : (y 0).val < 256 := (y 0).isLt
  have e' : rowAt 256 6144 2048 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 256 6144 2048 (m (c.tc.loc main_arg3)) := by
  refine (dats m 0 c).arrAt_eq_of_covers 4 _ (by decide +kernel) fun t hf y => ?_
  rw [after0_4, cast_eq]
  frame_out
  rw [blk3]
  refine congrArg (rows 256 6144 2048 _) (funext (on_two ?_ ?_)) <;> refine Fin.ext ?_ <;> blk_simp [idx t, place]

theorem arr5 : (dats m 0 c).arrAt 5 cfg0.N = change 256 6144 2048 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 256 6144 2048 (V m c main_arg0) (V m c main_arg1) (V m c main_arg2) (V m c main_arg3)) (funext (on_two ?_ ?_)) <;> refine Fin.ext ?_ <;> blk_simp [idx t, place]

theorem arr6 : (dats m 0 c).arrAt 6 cfg0.N = moment1 256 6144 2048 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 256 6144 2048 (V m c main_arg1) (V m c main_arg3)) (funext (on_two ?_ ?_)) <;> refine Fin.ext ?_ <;> blk_simp [idx t, place]

theorem arr7 : (dats m 0 c).arrAt 7 cfg0.N = moment2 256 6144 2048 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 256 6144 2048 (V m c main_arg2) (V m c main_arg3)) (funext (on_two ?_ ?_)) <;> refine Fin.ext ?_ <;> blk_simp [idx t, place]

end Cert.Kernel33Ideal.Gen

end
-- ==== Proof.Adam34.lean ====
/- The AdamW step of the query weight, block by block. -/
module

public import proofs.«01_k».proof.Proof.AdamW
public import proofs.«01_k».proof.Proof.Gen.Kernel34Ideal.Value
public import Idealize.ShloMosaic.Lib.Pipeline.ReadBack

@[expose] public section

noncomputable section

namespace Cert.Kernel34Ideal.Gen

open Cert.Kernel34Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 256 6400 2304 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S512x1024.Idx :=
  ValueIdx.ix2 ⟨t.val * 256 + (y 0).val, by have h : t.val < 2 := t.isLt; have h' : (y 0).val < 256 := (y 0).isLt; omega⟩ (y 1)

theorem blk0 (y : S256x1024.Idx) : iblk m c 0 t y = (V m c main_arg0 : (⟨S512x1024, .f32⟩ : BufTy).Contents (Elt Ideal)) (place t y) := by
  blk_ext [iblk, idx t, place]
theorem blk1 (y : S256x1024.Idx) : iblk m c 1 t y = (V m c main_arg1 : (⟨S512x1024, .f32⟩ : BufTy).Contents (Elt Ideal)) (place t y) := by
  blk_ext [iblk, idx t, place]
theorem blk2 (y : S256x1024.Idx) : iblk m c 2 t y = (V m c main_arg2 : (⟨S512x1024, .f32⟩ : BufTy).Contents (Elt Ideal)) (place t y) := by
  blk_ext [iblk, idx t, place]
theorem blk3 (y : S256x1024.Idx) : iblk m c 3 t y = rows 256 6400 2304 (V m c main_arg3 : (⟨S8192x1024, .f32⟩ : BufTy).Contents (Elt Ideal)) (place t y) := by
  have e := (idx t).1.2.2.2.1
  have h : t.val < 2 := t.isLt
  have h' : (y 0).val < 256 := (y 0).isLt
  have e' : rowAt 256 6400 2304 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 256 6400 2304 (m (c.tc.loc main_arg3)) := by
  refine (dats m 0 c).arrAt_eq_of_covers 4 _ (by decide +kernel) fun t hf y => ?_
  rw [after0_4, cast_eq]
  frame_out
  rw [blk3]
  refine congrArg (rows 256 6400 2304 _) (funext (on_two ?_ ?_)) <;> refine Fin.ext ?_ <;> blk_simp [idx t, place]

theorem arr5 : (dats m 0 c).arrAt 5 cfg0.N = change 256 6400 2304 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 256 6400 2304 (V m c main_arg0) (V m c main_arg1) (V m c main_arg2) (V m c main_arg3)) (funext (on_two ?_ ?_)) <;> refine Fin.ext ?_ <;> blk_simp [idx t, place]

theorem arr6 : (dats m 0 c).arrAt 6 cfg0.N = moment1 256 6400 2304 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 256 6400 2304 (V m c main_arg1) (V m c main_arg3)) (funext (on_two ?_ ?_)) <;> refine Fin.ext ?_ <;> blk_simp [idx t, place]

theorem arr7 : (dats m 0 c).arrAt 7 cfg0.N = moment2 256 6400 2304 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 256 6400 2304 (V m c main_arg2) (V m c main_arg3)) (funext (on_two ?_ ?_)) <;> refine Fin.ext ?_ <;> blk_simp [idx t, place]

end Cert.Kernel34Ideal.Gen

end
-- ==== Proof.Adam35.lean ====
/- The AdamW step of the key weight, block by block. -/
module

public import proofs.«01_k».proof.Proof.AdamW
public import proofs.«01_k».proof.Proof.Gen.Kernel35Ideal.Value
public import Idealize.ShloMosaic.Lib.Pipeline.ReadBack

@[expose] public section

noncomputable section

namespace Cert.Kernel35Ideal.Gen

open Cert.Kernel35Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 256 6656 2560 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S512x1024.Idx :=
  ValueIdx.ix2 ⟨t.val * 256 + (y 0).val, by have h : t.val < 2 := t.isLt; have h' : (y 0).val < 256 := (y 0).isLt; omega⟩ (y 1)

theorem blk0 (y : S256x1024.Idx) : iblk m c 0 t y = (V m c main_arg0 : (⟨S512x1024, .f32⟩ : BufTy).Contents (Elt Ideal)) (place t y) := by
  blk_ext [iblk, idx t, place]
theorem blk1 (y : S256x1024.Idx) : iblk m c 1 t y = (V m c main_arg1 : (⟨S512x1024, .f32⟩ : BufTy).Contents (Elt Ideal)) (place t y) := by
  blk_ext [iblk, idx t, place]
theorem blk2 (y : S256x1024.Idx) : iblk m c 2 t y = (V m c main_arg2 : (⟨S512x1024, .f32⟩ : BufTy).Contents (Elt Ideal)) (place t y) := by
  blk_ext [iblk, idx t, place]
theorem blk3 (y : S256x1024.Idx) : iblk m c 3 t y = rows 256 6656 2560 (V m c main_arg3 : (⟨S8192x1024, .f32⟩ : BufTy).Contents (Elt Ideal)) (place t y) := by
  have e := (idx t).1.2.2.2.1
  have h : t.val < 2 := t.isLt
  have h' : (y 0).val < 256 := (y 0).isLt
  have e' : rowAt 256 6656 2560 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 256 6656 2560 (m (c.tc.loc main_arg3)) := by
  refine (dats m 0 c).arrAt_eq_of_covers 4 _ (by decide +kernel) fun t hf y => ?_
  rw [after0_4, cast_eq]
  frame_out
  rw [blk3]
  refine congrArg (rows 256 6656 2560 _) (funext (on_two ?_ ?_)) <;> refine Fin.ext ?_ <;> blk_simp [idx t, place]

theorem arr5 : (dats m 0 c).arrAt 5 cfg0.N = change 256 6656 2560 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 256 6656 2560 (V m c main_arg0) (V m c main_arg1) (V m c main_arg2) (V m c main_arg3)) (funext (on_two ?_ ?_)) <;> refine Fin.ext ?_ <;> blk_simp [idx t, place]

theorem arr6 : (dats m 0 c).arrAt 6 cfg0.N = moment1 256 6656 2560 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 256 6656 2560 (V m c main_arg1) (V m c main_arg3)) (funext (on_two ?_ ?_)) <;> refine Fin.ext ?_ <;> blk_simp [idx t, place]

theorem arr7 : (dats m 0 c).arrAt 7 cfg0.N = moment2 256 6656 2560 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 256 6656 2560 (V m c main_arg2) (V m c main_arg3)) (funext (on_two ?_ ?_)) <;> refine Fin.ext ?_ <;> blk_simp [idx t, place]

end Cert.Kernel35Ideal.Gen

end
-- ==== Proof.Adam36.lean ====
/- The AdamW step of the value weight, block by block. -/
module

public import proofs.«01_k».proof.Proof.AdamW
public import proofs.«01_k».proof.Proof.Gen.Kernel36Ideal.Value
public import Idealize.ShloMosaic.Lib.Pipeline.ReadBack

@[expose] public section

noncomputable section

namespace Cert.Kernel36Ideal.Gen

open Cert.Kernel36Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 256 6912 2816 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S512x1024.Idx :=
  ValueIdx.ix2 ⟨t.val * 256 + (y 0).val, by have h : t.val < 2 := t.isLt; have h' : (y 0).val < 256 := (y 0).isLt; omega⟩ (y 1)

theorem blk0 (y : S256x1024.Idx) : iblk m c 0 t y = (V m c main_arg0 : (⟨S512x1024, .f32⟩ : BufTy).Contents (Elt Ideal)) (place t y) := by
  blk_ext [iblk, idx t, place]
theorem blk1 (y : S256x1024.Idx) : iblk m c 1 t y = (V m c main_arg1 : (⟨S512x1024, .f32⟩ : BufTy).Contents (Elt Ideal)) (place t y) := by
  blk_ext [iblk, idx t, place]
theorem blk2 (y : S256x1024.Idx) : iblk m c 2 t y = (V m c main_arg2 : (⟨S512x1024, .f32⟩ : BufTy).Contents (Elt Ideal)) (place t y) := by
  blk_ext [iblk, idx t, place]
theorem blk3 (y : S256x1024.Idx) : iblk m c 3 t y = rows 256 6912 2816 (V m c main_arg3 : (⟨S8192x1024, .f32⟩ : BufTy).Contents (Elt Ideal)) (place t y) := by
  have e := (idx t).1.2.2.2.1
  have h : t.val < 2 := t.isLt
  have h' : (y 0).val < 256 := (y 0).isLt
  have e' : rowAt 256 6912 2816 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 256 6912 2816 (m (c.tc.loc main_arg3)) := by
  refine (dats m 0 c).arrAt_eq_of_covers 4 _ (by decide +kernel) fun t hf y => ?_
  rw [after0_4, cast_eq]
  frame_out
  rw [blk3]
  refine congrArg (rows 256 6912 2816 _) (funext (on_two ?_ ?_)) <;> refine Fin.ext ?_ <;> blk_simp [idx t, place]

theorem arr5 : (dats m 0 c).arrAt 5 cfg0.N = change 256 6912 2816 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 256 6912 2816 (V m c main_arg0) (V m c main_arg1) (V m c main_arg2) (V m c main_arg3)) (funext (on_two ?_ ?_)) <;> refine Fin.ext ?_ <;> blk_simp [idx t, place]

theorem arr6 : (dats m 0 c).arrAt 6 cfg0.N = moment1 256 6912 2816 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 256 6912 2816 (V m c main_arg1) (V m c main_arg3)) (funext (on_two ?_ ?_)) <;> refine Fin.ext ?_ <;> blk_simp [idx t, place]

theorem arr7 : (dats m 0 c).arrAt 7 cfg0.N = moment2 256 6912 2816 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 256 6912 2816 (V m c main_arg2) (V m c main_arg3)) (funext (on_two ?_ ?_)) <;> refine Fin.ext ?_ <;> blk_simp [idx t, place]

end Cert.Kernel36Ideal.Gen

end
-- ==== Proof.Adam37.lean ====
/- The AdamW step of the cross attention's output weight, block by block. -/
module

public import proofs.«01_k».proof.Proof.AdamW
public import proofs.«01_k».proof.Proof.Gen.Kernel37Ideal.Value
public import Idealize.ShloMosaic.Lib.Pipeline.ReadBack

@[expose] public section

noncomputable section

namespace Cert.Kernel37Ideal.Gen

open Cert.Kernel37Ideal Idealize.ShloMosaic Idealize.ShloMosaic.TcCoe Idealize.SL.Sem Cert.Chunks Cert.AdamW

variable {m : (ℓ : Loc nD τ sig) → Buf (Elt Ideal) ℓ} {c : Dev nD} (t : Fin cfg0.N)

/-- Every window but the store's takes block `t`; the store's takes the block that holds the same rows' gradients. -/
theorem idx : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ win0_3.index t 0 * 256 = rowAt 256 7168 3072 (t.val * 256) ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Where place `y` of block `t` lies. -/
def place (y : S256x1024.Idx) : S512x1024.Idx :=
  ValueIdx.ix2 ⟨t.val * 256 + (y 0).val, by have h : t.val < 2 := t.isLt; have h' : (y 0).val < 256 := (y 0).isLt; omega⟩ (y 1)

theorem blk0 (y : S256x1024.Idx) : iblk m c 0 t y = (V m c main_arg0 : (⟨S512x1024, .f32⟩ : BufTy).Contents (Elt Ideal)) (place t y) := by
  blk_ext [iblk, idx t, place]
theorem blk1 (y : S256x1024.Idx) : iblk m c 1 t y = (V m c main_arg1 : (⟨S512x1024, .f32⟩ : BufTy).Contents (Elt Ideal)) (place t y) := by
  blk_ext [iblk, idx t, place]
theorem blk2 (y : S256x1024.Idx) : iblk m c 2 t y = (V m c main_arg2 : (⟨S512x1024, .f32⟩ : BufTy).Contents (Elt Ideal)) (place t y) := by
  blk_ext [iblk, idx t, place]
theorem blk3 (y : S256x1024.Idx) : iblk m c 3 t y = rows 256 7168 3072 (V m c main_arg3 : (⟨S8192x1024, .f32⟩ : BufTy).Contents (Elt Ideal)) (place t y) := by
  have e := (idx t).1.2.2.2.1
  have h : t.val < 2 := t.isLt
  have h' : (y 0).val < 256 := (y 0).isLt
  have e' : rowAt 256 7168 3072 (t.val * 256 + (y 0).val) % 8192 = win0_3.index t 0 * 256 + (y 0).val := by
    rw [e]; unfold rowAt; split <;> split <;> omega
  unfold rows
  blk_ext [iblk, idx t, place, e']

theorem arr4 : (dats m 0 c).arrAt 4 cfg0.N = rows 256 7168 3072 (m (c.tc.loc main_arg3)) := by
  refine (dats m 0 c).arrAt_eq_of_covers 4 _ (by decide +kernel) fun t hf y => ?_
  rw [after0_4, cast_eq]
  frame_out
  rw [blk3]
  refine congrArg (rows 256 7168 3072 _) (funext (on_two ?_ ?_)) <;> refine Fin.ext ?_ <;> blk_simp [idx t, place]

theorem arr5 : (dats m 0 c).arrAt 5 cfg0.N = change 256 7168 3072 (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5, cast_eq]
  frame_out
  refine (delta_eq (iblk m c 0 t _) (first (iblk m c 1 t _) (iblk m c 3 t _)) (second (iblk m c 2 t _) (iblk m c 3 t _))).trans ?_
  rw [blk0, blk1, blk2, blk3]
  refine congrArg (change 256 7168 3072 (V m c main_arg0) (V m c main_arg1) (V m c main_arg2) (V m c main_arg3)) (funext (on_two ?_ ?_)) <;> refine Fin.ext ?_ <;> blk_simp [idx t, place]

theorem arr6 : (dats m 0 c).arrAt 6 cfg0.N = moment1 256 7168 3072 (m (c.tc.loc main_arg1)) (m (c.tc.loc main_arg3)) := by
  refine (dats m 0 c).arrAt_eq_of_covers 6 _ (by decide +kernel) fun t hf y => ?_
  rw [after0_6, cast_eq]
  frame_out
  show first (iblk m c 1 t _) (iblk m c 3 t _) = _
  rw [blk1, blk3]
  refine congrArg (moment1 256 7168 3072 (V m c main_arg1) (V m c main_arg3)) (funext (on_two ?_ ?_)) <;> refine Fin.ext ?_ <;> blk_simp [idx t, place]

theorem arr7 : (dats m 0 c).arrAt 7 cfg0.N = moment2 256 7168 3072 (m (c.tc.loc main_arg2)) (m (c.tc.loc main_arg3)) := by
  refine (dats m 0 c).arrAt_eq_of_covers 7 _ (by decide +kernel) fun t hf y => ?_
  rw [after0_7, cast_eq]
  frame_out
  show second (iblk m c 2 t _) (iblk m c 3 t _) = _
  rw [blk2, blk3]
  refine congrArg (moment2 256 7168 3072 (V m c main_arg2) (V m c main_arg3)) (funext (on_two ?_ ?_)) <;> refine Fin.ext ?_ <;> blk_simp [idx t, place]

end Cert.Kernel37Ideal.Gen

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite_inputs2
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_inputs5
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run
public import proofs.«01_k».proof.Proof.Finite
public import proofs.«01_k».proof.Proof.KerValue
public import proofs.«01_k».proof.Proof.Finite2
public import proofs.«01_k».proof.Proof.KerValue2
public import proofs.«01_k».proof.Proof.Wgrad3
public import proofs.«01_k».proof.Proof.Wgrad4
public import proofs.«01_k».proof.Proof.Finite5
public import proofs.«01_k».proof.Proof.KerValue5
public import proofs.«01_k».proof.Proof.Inproj6
public import proofs.«01_k».proof.Proof.Wgrad7
public import proofs.«01_k».proof.Proof.Wgrad8
public import proofs.«01_k».proof.Proof.Wgrad9
public import proofs.«01_k».proof.Proof.Wgrad10
public import proofs.«01_k».proof.Proof.Inproj11
public import proofs.«01_k».proof.Proof.Mlp12
public import proofs.«01_k».proof.Proof.Attn13
public import proofs.«01_k».proof.Proof.Outproj14
public import proofs.«01_k».proof.Proof.Wgrad15
public import proofs.«01_k».proof.Proof.Wgrad16
public import proofs.«01_k».proof.Proof.Memproj17
public import proofs.«01_k».proof.Proof.Loss18
public import proofs.«01_k».proof.Proof.Adam19
public import proofs.«01_k».proof.Proof.Adam32
public import proofs.«01_k».proof.Proof.Adam33
public import proofs.«01_k».proof.Proof.Adam34
public import proofs.«01_k».proof.Proof.Adam35
public import proofs.«01_k».proof.Proof.Adam36
public import proofs.«01_k».proof.Proof.Adam37
public import Idealize.ShloMosaic.Adequacy
public import Idealize.ShloMosaic.Init

@[expose] public section

noncomputable section

namespace Cert.Proof

open Idealize.ShloMosaic Idealize.SL.Sem Cert.RealStep Cert.KernelIdeal

/-- Both programs run from one set of real arguments and end with the same seven arrays. -/
theorem equal : algebraic_KernelIdeal_ReferenceIdeal_pre_finite_inputs := by
  intro m g m' g' hm hargs
  choose D H using fun c => layer m hm c
  refine ⟨fun c => (L2 (D c).dr : S8192x1024.Idx → EReal), fun c => (L2 (D c).dq : S8192x1024.Idx → EReal), fun c => (L2 (D c).dh1 : S8192x1024.Idx → EReal), fun c => (L2 (D c).dk : S256x1024.Idx → EReal), fun c => (L2 (D c).dv : S256x1024.Idx → EReal), fun c => (L2 (fun _ d => (D c).dg d) : S1x1024.Idx → EReal), fun c => (L2 (fun _ d => (D c).db d) : S1x1024.Idx → EReal),
    ?_, ?_⟩
  · refine (θ_run KernelIdeal.defs _ _).mono (fun r h c => ?_) (KernelIdeal.Value.run_blocks m g)
    obtain ⟨k0, k1, k2, k3, k4, k5, k6, ka⟩ := h c
    exact ⟨k0.trans (KernelIdeal.Gen.arr_dr (H c)), k1.trans (KernelIdeal.Gen.arr_dq (H c)), k2.trans (KernelIdeal.Gen.arr_dh1 (H c)), k3.trans (KernelIdeal.Gen.arr_dk (H c)), k4.trans (KernelIdeal.Gen.arr_dv (H c)), k5.trans (KernelIdeal.Gen.arr_dg (H c)), k6.trans (KernelIdeal.Gen.arr_db (H c)), ka⟩
  · refine (θ_run ReferenceIdeal.defs _ _).mono (fun r h c => ?_) (ReferenceIdeal.Value.run m' g')
    obtain ⟨k0, k1, k2, k3, k4, k5, k6, ka⟩ := h c
    obtain ⟨a0, a1, a2, a3, a4, a5, a6, a7⟩ := hargs c
    have b0 := a0.trans (H c).h0
    have b1 := a1.trans (H c).h1
    have b2 := a2.trans (H c).h2
    have b3 := a3.trans (H c).h3
    have b4 := a4.trans (H c).h4
    have b5 := a5.trans (H c).h5
    have b6 := a6.trans (H c).h6
    have b7 := a7.trans (H c).h7
    refine ⟨k0.trans ?_, k1.trans ?_, k2.trans ?_, k3.trans ?_, k4.trans ?_, k5.trans ?_, k6.trans ?_, ka⟩
    · refine (ReferenceIdeal.Read.val_main_v139_eq _).trans ?_
      show ReferenceIdeal.Read.val_main_v139 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [b0, b1, b2, b3, b4, b5, b6]
      exact funext fun i => (D c).v139 i
    · refine (ReferenceIdeal.Read.val_main_v140_eq _).trans ?_
      show ReferenceIdeal.Read.val_main_v140 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [b0, b1, b2, b3, b4, b5, b6]
      exact funext fun i => (D c).v140 i
    · refine (ReferenceIdeal.Read.val_main_v138_eq _).trans ?_
      show ReferenceIdeal.Read.val_main_v138 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [b0, b1, b2, b3, b4, b5, b6]
      exact funext fun i => (D c).v138 i
    · refine (ReferenceIdeal.Read.val_main_v133_eq _).trans ?_
      show ReferenceIdeal.Read.val_main_v133 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [b0, b1, b2, b3, b4, b5, b6]
      exact funext fun i => (D c).v133 i
    · refine (ReferenceIdeal.Read.val_main_v132_eq _).trans ?_
      show ReferenceIdeal.Read.val_main_v132 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [b0, b1, b2, b3, b4, b5, b6]
      exact funext fun i => (D c).v132 i
    · refine (ReferenceIdeal.Read.val_main_v141_eq _).trans ?_
      show ReferenceIdeal.Read.val_main_v141 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) = _
      rw [b0, b1, b2, b3, b4, b5]
      exact funext fun i => (D c).v141 i
    · refine (ReferenceIdeal.Read.val_main_v142_eq _).trans ?_
      show ReferenceIdeal.Read.val_main_v142 (F := Ideal) (m' (c.tc.loc ReferenceIdeal.main_arg0)) = _
      rw [b0]
      exact funext fun i => (D c).v142 i

/-- The feed-forward layer's two programs run from one set of real arguments and end with the same five arrays. -/
theorem equal2 : algebraic_Kernel2Ideal_Reference2Ideal_pre_finite_inputs2 := by
  intro m g m' g' hm hargs
  choose D H using fun c => Mlp.layer m hm c
  refine ⟨fun c => (L2 (D c).dr : Kernel2Ideal.S8192x1024.Idx → EReal), fun c => (L2 (D c).du : Kernel2Ideal.S8192x4096.Idx → EReal), fun c => (L2 (D c).dh2 : Kernel2Ideal.S8192x1024.Idx → EReal), fun c => (L2 (fun _ d => (D c).dg d) : Kernel2Ideal.S1x1024.Idx → EReal), fun c => (L2 (fun _ d => (D c).db d) : Kernel2Ideal.S1x1024.Idx → EReal),
    ?_, ?_⟩
  · refine (θ_run Kernel2Ideal.defs _ _).mono (fun r h c => ?_) (Kernel2Ideal.Value.run_blocks m g)
    obtain ⟨k0, k1, k2, k3, k4, ka⟩ := h c
    exact ⟨k0.trans (Kernel2Ideal.Gen.arr_dr (H c)), k1.trans (Kernel2Ideal.Gen.arr_du (H c)), k2.trans (Kernel2Ideal.Gen.arr_dh2 (H c)), k3.trans (Kernel2Ideal.Gen.arr_dg (H c)), k4.trans (Kernel2Ideal.Gen.arr_db (H c)), ka⟩
  · refine (θ_run Reference2Ideal.defs _ _).mono (fun r h c => ?_) (Reference2Ideal.Value.run m' g')
    obtain ⟨k0, k1, k2, k3, k4, ka⟩ := h c
    obtain ⟨a0, a1, a2, a3, a4, a5⟩ := hargs c
    have b0 := a0.trans (H c).h0
    have b1 := a1.trans (H c).h1
    have b2 := a2.trans (H c).h2
    have b3 := a3.trans (H c).h3
    have b4 := a4.trans (H c).h4
    have b5 := a5.trans (H c).h5
    refine ⟨k0.trans ?_, k1.trans ?_, k2.trans ?_, k3.trans ?_, k4.trans ?_, ka⟩
    · refine (Reference2Ideal.Read.val_main_v87_eq _ _).trans ?_
      show Reference2Ideal.Read.val_main_v87 (F := Ideal) (m' (c.tc.loc Reference2Ideal.main_arg0)) (m' (c.tc.loc Reference2Ideal.main_arg1)) (m' (c.tc.loc Reference2Ideal.main_arg2)) (m' (c.tc.loc Reference2Ideal.main_arg3)) (m' (c.tc.loc Reference2Ideal.main_arg4)) = _
      rw [b0, b1, b2, b3, b4]
      exact funext fun i => (D c).v87 i
    · refine (Reference2Ideal.Read.val_main_v88_eq _ _).trans ?_
      show Reference2Ideal.Read.val_main_v88 (F := Ideal) (m' (c.tc.loc Reference2Ideal.main_arg0)) (m' (c.tc.loc Reference2Ideal.main_arg1)) (m' (c.tc.loc Reference2Ideal.main_arg2)) (m' (c.tc.loc Reference2Ideal.main_arg3)) (m' (c.tc.loc Reference2Ideal.main_arg4)) = _
      rw [b0, b1, b2, b3, b4]
      exact funext fun i => (D c).v88 i
    · refine (Reference2Ideal.Read.val_main_v86_eq _ _).trans ?_
      show Reference2Ideal.Read.val_main_v86 (F := Ideal) (m' (c.tc.loc Reference2Ideal.main_arg0)) (m' (c.tc.loc Reference2Ideal.main_arg1)) (m' (c.tc.loc Reference2Ideal.main_arg2)) (m' (c.tc.loc Reference2Ideal.main_arg3)) (m' (c.tc.loc Reference2Ideal.main_arg4)) = _
      rw [b0, b1, b2, b3, b4]
      exact funext fun i => (D c).v86 i
    · refine (Reference2Ideal.Read.val_main_v89_eq _ _).trans ?_
      show Reference2Ideal.Read.val_main_v89 (F := Ideal) (m' (c.tc.loc Reference2Ideal.main_arg0)) (m' (c.tc.loc Reference2Ideal.main_arg1)) (m' (c.tc.loc Reference2Ideal.main_arg2)) (m' (c.tc.loc Reference2Ideal.main_arg3)) = _
      rw [b0, b1, b2, b3]
      exact funext fun i => (D c).v89 i
    · refine (Reference2Ideal.Read.val_main_v90_eq _).trans ?_
      show Reference2Ideal.Read.val_main_v90 (F := Ideal) (m' (c.tc.loc Reference2Ideal.main_arg0)) = _
      rw [b0]
      exact funext fun i => (D c).v90 i

/-- The two programs of the first weight's gradient end with the same store. -/
theorem equal3 : algebraic_Kernel3Ideal_Reference3Ideal := by
  intro m g m' g' _ hargs
  refine ⟨fun c => Kernel3Ideal.Gen.result m c, ?_, ?_⟩
  · refine (θ_run Kernel3Ideal.defs _ _).mono (fun r h c => ?_) (Kernel3Ideal.Value.run_blocks m g)
    obtain ⟨k0, ka⟩ := h c
    exact ⟨k0.trans Kernel3Ideal.Gen.arr, ka⟩
  · refine (θ_run Reference3Ideal.defs _ _).mono (fun r h c => ?_) (Reference3Ideal.Value.run m' g')
    obtain ⟨k0, ka⟩ := h c
    obtain ⟨b0, b1, b2⟩ := hargs c
    refine ⟨k0.trans ?_, ka⟩
    refine (Reference3Ideal.Read.val_main_v9_eq _ _ _).trans ?_
    show Reference3Ideal.Read.val_main_v9 (F := Ideal) (m' (c.tc.loc Reference3Ideal.main_arg0)) (m' (c.tc.loc Reference3Ideal.main_arg1)) (m' (c.tc.loc Reference3Ideal.main_arg2)) = _
    rw [b0, b1, b2]
    exact funext fun i => Kernel3Ideal.Gen.reference i

/-- The two programs of the second weight's gradient end with the same store. -/
theorem equal4 : algebraic_Kernel4Ideal_Reference4Ideal := by
  intro m g m' g' _ hargs
  refine ⟨fun c => Kernel4Ideal.Gen.result m c, ?_, ?_⟩
  · refine (θ_run Kernel4Ideal.defs _ _).mono (fun r h c => ?_) (Kernel4Ideal.Value.run_blocks m g)
    obtain ⟨k0, ka⟩ := h c
    exact ⟨k0.trans Kernel4Ideal.Gen.arr, ka⟩
  · refine (θ_run Reference4Ideal.defs _ _).mono (fun r h c => ?_) (Reference4Ideal.Value.run m' g')
    obtain ⟨k0, ka⟩ := h c
    obtain ⟨b0, b1, b2⟩ := hargs c
    refine ⟨k0.trans ?_, ka⟩
    refine (Reference4Ideal.Read.val_main_v9_eq _ _ _).trans ?_
    show Reference4Ideal.Read.val_main_v9 (F := Ideal) (m' (c.tc.loc Reference4Ideal.main_arg0)) (m' (c.tc.loc Reference4Ideal.main_arg1)) (m' (c.tc.loc Reference4Ideal.main_arg2)) = _
    rw [b0, b1, b2]
    exact funext fun i => Kernel4Ideal.Gen.reference i

/-- At finite arguments the two programs of the output projection's gradient end with the same arrays. -/
theorem equal5 : algebraic_Kernel5Ideal_Reference5Ideal_pre_finite_inputs5 := by
  intro m g m' g' hm hargs
  choose D H using fun c => Outp.layer m hm c
  refine ⟨fun c => (L2 (D c).dr : Kernel5Ideal.S8192x1024.Idx → EReal), fun c => (L2 (D c).res : Kernel5Ideal.S8192x1024.Idx → EReal), fun c => (L2 (D c).dy : Kernel5Ideal.S8192x1024.Idx → EReal), fun c => (L2 (fun _ d => (D c).dg d) : Kernel5Ideal.S1x1024.Idx → EReal), fun c => (L2 (fun _ d => (D c).db d) : Kernel5Ideal.S1x1024.Idx → EReal),
    ?_, ?_⟩
  · refine (θ_run Kernel5Ideal.defs _ _).mono (fun r h c => ?_) (Kernel5Ideal.Value.run_blocks m g)
    obtain ⟨k0, k1, k2, k3, k4, ka⟩ := h c
    exact ⟨k0.trans (Kernel5Ideal.Gen.arr_dr (H c)), k1.trans (Kernel5Ideal.Gen.arr_res (H c)), k2.trans (Kernel5Ideal.Gen.arr_dy (H c)), k3.trans (Kernel5Ideal.Gen.arr_dg (H c)), k4.trans (Kernel5Ideal.Gen.arr_db (H c)), ka⟩
  · refine (θ_run Reference5Ideal.defs _ _).mono (fun r h c => ?_) (Reference5Ideal.Value.run m' g')
    obtain ⟨k0, k1, k2, k3, k4, ka⟩ := h c
    obtain ⟨a0, a1, a2, a3, a4, a5⟩ := hargs c
    have b0 := a0.trans (H c).h0
    have b1 := a1.trans (H c).h1
    have b2 := a2.trans (H c).h2
    have b3 := a3.trans (H c).h3
    have b4 := a4.trans (H c).h4
    have b5 := a5.trans (H c).h5
    refine ⟨k0.trans ?_, k1.trans ?_, k2.trans ?_, k3.trans ?_, k4.trans ?_, ka⟩
    · refine (Reference5Ideal.Read.val_main_v72_eq m' c).trans ?_
      show Reference5Ideal.Read.val_main_v72 (F := Ideal) (m' (c.tc.loc Reference5Ideal.main_arg0)) (m' (c.tc.loc Reference5Ideal.main_arg1)) (m' (c.tc.loc Reference5Ideal.main_arg2)) (m' (c.tc.loc Reference5Ideal.main_arg3)) (m' (c.tc.loc Reference5Ideal.main_arg4)) = _
      rw [b0, b1, b2, b3, b4]
      exact funext fun i => (D c).v72 i
    · refine (Reference5Ideal.Read.val_main_v71_eq m' c).trans ?_
      show Reference5Ideal.Read.val_main_v71 (F := Ideal) (m' (c.tc.loc Reference5Ideal.main_arg0)) (m' (c.tc.loc Reference5Ideal.main_arg1)) (m' (c.tc.loc Reference5Ideal.main_arg2)) (m' (c.tc.loc Reference5Ideal.main_arg3)) (m' (c.tc.loc Reference5Ideal.main_arg4)) = _
      rw [b0, b1, b2, b3, b4]
      exact funext fun i => (D c).v71 i
    · refine (Reference5Ideal.Read.val_main_v69_eq m' c).trans ?_
      show Reference5Ideal.Read.val_main_v69 (F := Ideal) (m' (c.tc.loc Reference5Ideal.main_arg0)) (m' (c.tc.loc Reference5Ideal.main_arg1)) (m' (c.tc.loc Reference5Ideal.main_arg2)) (m' (c.tc.loc Reference5Ideal.main_arg3)) (m' (c.tc.loc Reference5Ideal.main_arg4)) = _
      rw [b0, b1, b2, b3, b4]
      exact funext fun i => (D c).v69 i
    · refine (Reference5Ideal.Read.val_main_v73_eq _ _ _ _).trans ?_
      show Reference5Ideal.Read.val_main_v73 (F := Ideal) (m' (c.tc.loc Reference5Ideal.main_arg0)) (m' (c.tc.loc Reference5Ideal.main_arg1)) (m' (c.tc.loc Reference5Ideal.main_arg2)) (m' (c.tc.loc Reference5Ideal.main_arg3)) = _
      rw [b0, b1, b2, b3]
      exact funext fun i => (D c).v73 i
    · refine (Reference5Ideal.Read.val_main_v74_eq _).trans ?_
      show Reference5Ideal.Read.val_main_v74 (F := Ideal) (m' (c.tc.loc Reference5Ideal.main_arg0)) = _
      rw [b0]
      exact funext fun i => (D c).v74 i

/-- The two programs of the input projection's gradient end with the same array. -/
theorem equal6 : algebraic_Kernel6Ideal_Reference6Ideal := by
  intro m g m' g' _ hargs
  refine ⟨fun c => Kernel6Ideal.Gen.result m c, ?_, ?_⟩
  · refine (θ_run Kernel6Ideal.defs _ _).mono (fun r h c => ?_) (Kernel6Ideal.Value.run_blocks m g)
    obtain ⟨k0, ka⟩ := h c
    exact ⟨k0.trans Kernel6Ideal.Gen.arr, ka⟩
  · refine (θ_run Reference6Ideal.defs _ _).mono (fun r h c => ?_) (Reference6Ideal.Value.run m' g')
    obtain ⟨k0, ka⟩ := h c
    obtain ⟨b0, b1, b2, b3, b4, b5, b6, b7⟩ := hargs c
    refine ⟨k0.trans ?_, ka⟩
    refine (Reference6Ideal.Read.val_main_v5_eq _ _ _ _ _ _ _ _).trans ?_
    show Reference6Ideal.Read.val_main_v5 (F := Ideal) (m' (c.tc.loc Reference6Ideal.main_arg0)) (m' (c.tc.loc Reference6Ideal.main_arg1)) (m' (c.tc.loc Reference6Ideal.main_arg2)) (m' (c.tc.loc Reference6Ideal.main_arg3)) (m' (c.tc.loc Reference6Ideal.main_arg4)) (m' (c.tc.loc Reference6Ideal.main_arg5)) (m' (c.tc.loc Reference6Ideal.main_arg6)) (m' (c.tc.loc Reference6Ideal.main_arg7)) = _
    rw [b0, b1, b2, b3, b4, b5, b6, b7]
    exact funext fun i => Kernel6Ideal.Gen.reference i

/-- The two programs of the input projection's weight gradient end with the same array. -/
theorem equal7 : algebraic_Kernel7Ideal_Reference7Ideal := by
  intro m g m' g' _ hargs
  refine ⟨fun c => Kernel7Ideal.Gen.result m c, ?_, ?_⟩
  · refine (θ_run Kernel7Ideal.defs _ _).mono (fun r h c => ?_) (Kernel7Ideal.Value.run_blocks m g)
    obtain ⟨k0, ka⟩ := h c
    exact ⟨k0.trans Kernel7Ideal.Gen.arr, ka⟩
  · refine (θ_run Reference7Ideal.defs _ _).mono (fun r h c => ?_) (Reference7Ideal.Value.run m' g')
    obtain ⟨k0, ka⟩ := h c
    obtain ⟨b0, b1, b2, b3, b4, b5, b6⟩ := hargs c
    refine ⟨k0.trans ?_, ka⟩
    refine (Reference7Ideal.Read.val_main_v5_eq _ _ _ _ _ _ _).trans ?_
    show Reference7Ideal.Read.val_main_v5 (F := Ideal) (m' (c.tc.loc Reference7Ideal.main_arg0)) (m' (c.tc.loc Reference7Ideal.main_arg1)) (m' (c.tc.loc Reference7Ideal.main_arg2)) (m' (c.tc.loc Reference7Ideal.main_arg3)) (m' (c.tc.loc Reference7Ideal.main_arg4)) (m' (c.tc.loc Reference7Ideal.main_arg5)) (m' (c.tc.loc Reference7Ideal.main_arg6)) = _
    rw [b0, b1, b2, b3, b4, b5, b6]
    exact funext fun i => Kernel7Ideal.Gen.reference i

/-- The two programs of the attention's output weight's gradient end with the same store. -/
theorem equal8 : algebraic_Kernel8Ideal_Reference8Ideal := by
  intro m g m' g' _ hargs
  refine ⟨fun c => Kernel8Ideal.Gen.result m c, ?_, ?_⟩
  · refine (θ_run Kernel8Ideal.defs _ _).mono (fun r h c => ?_) (Kernel8Ideal.Value.run_blocks m g)
    obtain ⟨k0, ka⟩ := h c
    exact ⟨k0.trans Kernel8Ideal.Gen.arr, ka⟩
  · refine (θ_run Reference8Ideal.defs _ _).mono (fun r h c => ?_) (Reference8Ideal.Value.run m' g')
    obtain ⟨k0, ka⟩ := h c
    obtain ⟨b0, b1, b2⟩ := hargs c
    refine ⟨k0.trans ?_, ka⟩
    refine (Reference8Ideal.Read.val_main_v9_eq _ _ _).trans ?_
    show Reference8Ideal.Read.val_main_v9 (F := Ideal) (m' (c.tc.loc Reference8Ideal.main_arg0)) (m' (c.tc.loc Reference8Ideal.main_arg1)) (m' (c.tc.loc Reference8Ideal.main_arg2)) = _
    rw [b0, b1, b2]
    exact funext fun i => Kernel8Ideal.Gen.reference i

/-- The two programs of the query weight's gradient end with the same store. -/
theorem equal9 : algebraic_Kernel9Ideal_Reference9Ideal := by
  intro m g m' g' _ hargs
  refine ⟨fun c => Kernel9Ideal.Gen.result m c, ?_, ?_⟩
  · refine (θ_run Kernel9Ideal.defs _ _).mono (fun r h c => ?_) (Kernel9Ideal.Value.run_blocks m g)
    obtain ⟨k0, ka⟩ := h c
    exact ⟨k0.trans Kernel9Ideal.Gen.arr, ka⟩
  · refine (θ_run Reference9Ideal.defs _ _).mono (fun r h c => ?_) (Reference9Ideal.Value.run m' g')
    obtain ⟨k0, ka⟩ := h c
    obtain ⟨b0, b1, b2⟩ := hargs c
    refine ⟨k0.trans ?_, ka⟩
    refine (Reference9Ideal.Read.val_main_v8_eq _ _ _).trans ?_
    show Reference9Ideal.Read.val_main_v8 (F := Ideal) (m' (c.tc.loc Reference9Ideal.main_arg0)) (m' (c.tc.loc Reference9Ideal.main_arg1)) (m' (c.tc.loc Reference9Ideal.main_arg2)) = _
    rw [b0, b1, b2]
    exact funext fun i => Kernel9Ideal.Gen.reference i

/-- The two programs of the mixers' output weight's gradient end with the same store. -/
theorem equal10 : algebraic_Kernel10Ideal_Reference10Ideal := by
  intro m g m' g' _ hargs
  refine ⟨fun c => Kernel10Ideal.Gen.result m c, ?_, ?_⟩
  · refine (θ_run Kernel10Ideal.defs _ _).mono (fun r h c => ?_) (Kernel10Ideal.Value.run_blocks m g)
    obtain ⟨k0, ka⟩ := h c
    exact ⟨k0.trans Kernel10Ideal.Gen.arr, ka⟩
  · refine (θ_run Reference10Ideal.defs _ _).mono (fun r h c => ?_) (Reference10Ideal.Value.run m' g')
    obtain ⟨k0, ka⟩ := h c
    obtain ⟨b0, b1, b2, b3, b4⟩ := hargs c
    refine ⟨k0.trans ?_, ka⟩
    refine (Reference10Ideal.Read.val_main_v10_eq _ _ _ _ _).trans ?_
    show Reference10Ideal.Read.val_main_v10 (F := Ideal) (m' (c.tc.loc Reference10Ideal.main_arg0)) (m' (c.tc.loc Reference10Ideal.main_arg1)) (m' (c.tc.loc Reference10Ideal.main_arg2)) (m' (c.tc.loc Reference10Ideal.main_arg3)) (m' (c.tc.loc Reference10Ideal.main_arg4)) = _
    rw [b0, b1, b2, b3, b4]
    exact funext fun i => Kernel10Ideal.Gen.reference i

/-- The two programs of the input projection end with the same array. -/
theorem equal11 : algebraic_Kernel11Ideal_Reference11Ideal := by
  intro m g m' g' _ hargs
  refine ⟨fun c => Kernel11Ideal.Gen.result m c, ?_, ?_⟩
  · refine (θ_run Kernel11Ideal.defs _ _).mono (fun r h c => ?_) (Kernel11Ideal.Value.run_blocks m g)
    obtain ⟨k0, ka⟩ := h c
    exact ⟨k0.trans Kernel11Ideal.Gen.arr, ka⟩
  · refine (θ_run Reference11Ideal.defs _ _).mono (fun r h c => ?_) (Reference11Ideal.Value.run m' g')
    obtain ⟨k0, ka⟩ := h c
    obtain ⟨b0, b1⟩ := hargs c
    refine ⟨k0.trans ?_, ka⟩
    refine (Reference11Ideal.Read.val_main_v0_eq _ _).trans ?_
    show Reference11Ideal.Read.val_main_v0 (F := Ideal) (m' (c.tc.loc Reference11Ideal.main_arg0)) (m' (c.tc.loc Reference11Ideal.main_arg1)) = _
    rw [b0, b1]
    exact funext fun i => Kernel11Ideal.Gen.reference i

/-- The two programs of the squared-ReLU layer end with the same arrays. -/
theorem equal12 : algebraic_Kernel12Ideal_Reference12Ideal := by
  intro m g m' g' _ hargs
  refine ⟨fun c => Kernel12Ideal.Gen.res3 m c, fun c => Kernel12Ideal.Gen.res4 m c, fun c => Kernel12Ideal.Gen.res5 m c, fun c => Kernel12Ideal.Gen.res6 m c, ?_, ?_⟩
  · refine (θ_run Kernel12Ideal.defs _ _).mono (fun r h c => ?_) (Kernel12Ideal.Value.run_blocks m g)
    obtain ⟨k0, k1, k2, k3, ka⟩ := h c
    exact ⟨k0.trans Kernel12Ideal.Gen.arr3, k1.trans Kernel12Ideal.Gen.arr4, k2.trans Kernel12Ideal.Gen.arr5, k3.trans Kernel12Ideal.Gen.arr6, ka⟩
  · refine (θ_run Reference12Ideal.defs _ _).mono (fun r h c => ?_) (Reference12Ideal.Value.run m' g')
    obtain ⟨k0, k1, k2, k3, ka⟩ := h c
    obtain ⟨b0, b1, b2, b3, b4⟩ := hargs c
    refine ⟨k0.trans ?_, k1.trans ?_, k2.trans ?_, k3.trans ?_, ka⟩
    · refine (Reference12Ideal.Read.val_main_v30_eq m' c).trans ?_
      show Reference12Ideal.Read.val_main_v30 (F := Ideal) (m' (c.tc.loc Reference12Ideal.main_arg0)) (m' (c.tc.loc Reference12Ideal.main_arg1)) (m' (c.tc.loc Reference12Ideal.main_arg2)) (m' (c.tc.loc Reference12Ideal.main_arg3)) (m' (c.tc.loc Reference12Ideal.main_arg4)) = _
      rw [b0, b1, b2, b3, b4]
      exact funext fun i => Kernel12Ideal.Gen.ref_norm i
    · refine (Reference12Ideal.Read.val_main_v24_eq m' c).trans ?_
      show Reference12Ideal.Read.val_main_v24 (F := Ideal) (m' (c.tc.loc Reference12Ideal.main_arg0)) (m' (c.tc.loc Reference12Ideal.main_arg1)) (m' (c.tc.loc Reference12Ideal.main_arg2)) = _
      rw [b0, b1, b2]
      exact funext fun i => Kernel12Ideal.Gen.ref_nrm i
    · refine (Reference12Ideal.Read.val_main_v20_eq _ _ _).trans ?_
      show Reference12Ideal.Read.val_main_v20 (F := Ideal) (m' (c.tc.loc Reference12Ideal.main_arg0)) (m' (c.tc.loc Reference12Ideal.main_arg1)) (m' (c.tc.loc Reference12Ideal.main_arg2)) = _
      rw [b0, b1, b2]
      exact funext fun i => Kernel12Ideal.Gen.ref_rdev i
    · refine (Reference12Ideal.Read.val_main_v31_eq _ _).trans ?_
      show Reference12Ideal.Read.val_main_v31 (F := Ideal) (m' (c.tc.loc Reference12Ideal.main_arg0)) (m' (c.tc.loc Reference12Ideal.main_arg1)) = _
      rw [b0, b1]
      exact funext fun i => Kernel12Ideal.Gen.ref_out i

/-- The two programs of the attention layer end with the same arrays. -/
theorem equal13 : algebraic_Kernel13Ideal_Reference13Ideal := by
  intro m g m' g' _ hargs
  refine ⟨fun c => Kernel13Ideal.Gen.res7 m c, fun c => Kernel13Ideal.Gen.res8 m c, fun c => Kernel13Ideal.Gen.res9 m c, fun c => Kernel13Ideal.Gen.res10 m c, ?_, ?_⟩
  · refine (θ_run Kernel13Ideal.defs _ _).mono (fun r h c => ?_) (Kernel13Ideal.Value.run_blocks m g)
    obtain ⟨k0, k1, k2, k3, ka⟩ := h c
    exact ⟨k0.trans Kernel13Ideal.Gen.arr7, k1.trans Kernel13Ideal.Gen.arr8, k2.trans Kernel13Ideal.Gen.arr9, k3.trans Kernel13Ideal.Gen.arr10, ka⟩
  · refine (θ_run Reference13Ideal.defs _ _).mono (fun r h c => ?_) (Reference13Ideal.Value.run m' g')
    obtain ⟨k0, k1, k2, k3, ka⟩ := h c
    obtain ⟨b0, b1, b2, b3, b4, b5, b6⟩ := hargs c
    refine ⟨k0.trans ?_, k1.trans ?_, k2.trans ?_, k3.trans ?_, ka⟩
    · refine (Reference13Ideal.Read.val_main_v48_eq m' c).trans ?_
      show Reference13Ideal.Read.val_main_v48 (F := Ideal) (m' (c.tc.loc Reference13Ideal.main_arg0)) (m' (c.tc.loc Reference13Ideal.main_arg1)) (m' (c.tc.loc Reference13Ideal.main_arg2)) (m' (c.tc.loc Reference13Ideal.main_arg3)) (m' (c.tc.loc Reference13Ideal.main_arg4)) (m' (c.tc.loc Reference13Ideal.main_arg5)) (m' (c.tc.loc Reference13Ideal.main_arg6)) = _
      rw [b0, b1, b2, b3, b4, b5, b6]
      exact funext fun i => Kernel13Ideal.Gen.ref_norm i
    · refine (Reference13Ideal.Read.val_main_v42_eq m' c).trans ?_
      show Reference13Ideal.Read.val_main_v42 (F := Ideal) (m' (c.tc.loc Reference13Ideal.main_arg0)) (m' (c.tc.loc Reference13Ideal.main_arg1)) (m' (c.tc.loc Reference13Ideal.main_arg2)) (m' (c.tc.loc Reference13Ideal.main_arg3)) (m' (c.tc.loc Reference13Ideal.main_arg4)) = _
      rw [b0, b1, b2, b3, b4]
      exact funext fun i => Kernel13Ideal.Gen.ref_nrm i
    · refine (Reference13Ideal.Read.val_main_v38_eq m' c).trans ?_
      show Reference13Ideal.Read.val_main_v38 (F := Ideal) (m' (c.tc.loc Reference13Ideal.main_arg0)) (m' (c.tc.loc Reference13Ideal.main_arg1)) (m' (c.tc.loc Reference13Ideal.main_arg2)) (m' (c.tc.loc Reference13Ideal.main_arg3)) (m' (c.tc.loc Reference13Ideal.main_arg4)) = _
      rw [b0, b1, b2, b3, b4]
      exact funext fun i => Kernel13Ideal.Gen.ref_rdev i
    · refine (Reference13Ideal.Read.val_main_v49_eq _ _ _ _).trans ?_
      show Reference13Ideal.Read.val_main_v49 (F := Ideal) (m' (c.tc.loc Reference13Ideal.main_arg0)) (m' (c.tc.loc Reference13Ideal.main_arg1)) (m' (c.tc.loc Reference13Ideal.main_arg3)) (m' (c.tc.loc Reference13Ideal.main_arg4)) = _
      rw [b0, b1, b3, b4]
      exact funext fun i => Kernel13Ideal.Gen.ref_out i

/-- The two programs of the mixers' output projection end with the same arrays. -/
theorem equal14 : algebraic_Kernel14Ideal_Reference14Ideal := by
  intro m g m' g' _ hargs
  refine ⟨fun c => Kernel14Ideal.Gen.res7 m c, fun c => Kernel14Ideal.Gen.res8 m c, fun c => Kernel14Ideal.Gen.res9 m c, ?_, ?_⟩
  · refine (θ_run Kernel14Ideal.defs _ _).mono (fun r h c => ?_) (Kernel14Ideal.Value.run_blocks m g)
    obtain ⟨k0, k1, k2, ka⟩ := h c
    exact ⟨k0.trans Kernel14Ideal.Gen.arr7, k1.trans Kernel14Ideal.Gen.arr8, k2.trans Kernel14Ideal.Gen.arr9, ka⟩
  · refine (θ_run Reference14Ideal.defs _ _).mono (fun r h c => ?_) (Reference14Ideal.Value.run m' g')
    obtain ⟨k0, k1, k2, ka⟩ := h c
    obtain ⟨b0, b1, b2, b3, b4, b5, b6⟩ := hargs c
    refine ⟨k0.trans ?_, k1.trans ?_, k2.trans ?_, ka⟩
    · refine (Reference14Ideal.Read.val_main_v29_eq m' c).trans ?_
      show Reference14Ideal.Read.val_main_v29 (F := Ideal) (m' (c.tc.loc Reference14Ideal.main_arg0)) (m' (c.tc.loc Reference14Ideal.main_arg1)) (m' (c.tc.loc Reference14Ideal.main_arg2)) (m' (c.tc.loc Reference14Ideal.main_arg3)) (m' (c.tc.loc Reference14Ideal.main_arg4)) (m' (c.tc.loc Reference14Ideal.main_arg5)) (m' (c.tc.loc Reference14Ideal.main_arg6)) = _
      rw [b0, b1, b2, b3, b4, b5, b6]
      exact funext fun i => Kernel14Ideal.Gen.ref_norm i
    · refine (Reference14Ideal.Read.val_main_v23_eq m' c).trans ?_
      show Reference14Ideal.Read.val_main_v23 (F := Ideal) (m' (c.tc.loc Reference14Ideal.main_arg0)) (m' (c.tc.loc Reference14Ideal.main_arg1)) (m' (c.tc.loc Reference14Ideal.main_arg2)) (m' (c.tc.loc Reference14Ideal.main_arg3)) (m' (c.tc.loc Reference14Ideal.main_arg4)) = _
      rw [b0, b1, b2, b3, b4]
      exact funext fun i => Kernel14Ideal.Gen.ref_nrm i
    · refine (Reference14Ideal.Read.val_main_v19_eq _ _ _ _ _).trans ?_
      show Reference14Ideal.Read.val_main_v19 (F := Ideal) (m' (c.tc.loc Reference14Ideal.main_arg0)) (m' (c.tc.loc Reference14Ideal.main_arg1)) (m' (c.tc.loc Reference14Ideal.main_arg2)) (m' (c.tc.loc Reference14Ideal.main_arg3)) (m' (c.tc.loc Reference14Ideal.main_arg4)) = _
      rw [b0, b1, b2, b3, b4]
      exact funext fun i => Kernel14Ideal.Gen.ref_rdev i

/-- The two programs of the key weight's gradient end with the same store. -/
theorem equal15 : algebraic_Kernel15Ideal_Reference15Ideal := by
  intro m g m' g' _ hargs
  refine ⟨fun c => Kernel15Ideal.Gen.result m c, ?_, ?_⟩
  · refine (θ_run Kernel15Ideal.defs _ _).mono (fun r h c => ?_) (Kernel15Ideal.Value.run_blocks m g)
    obtain ⟨k0, ka⟩ := h c
    exact ⟨k0.trans Kernel15Ideal.Gen.arr, ka⟩
  · refine (θ_run Reference15Ideal.defs _ _).mono (fun r h c => ?_) (Reference15Ideal.Value.run m' g')
    obtain ⟨k0, ka⟩ := h c
    obtain ⟨b0, b1, b2⟩ := hargs c
    refine ⟨k0.trans ?_, ka⟩
    refine (Reference15Ideal.Read.val_main_v7_eq _ _ _).trans ?_
    show Reference15Ideal.Read.val_main_v7 (F := Ideal) (m' (c.tc.loc Reference15Ideal.main_arg0)) (m' (c.tc.loc Reference15Ideal.main_arg1)) (m' (c.tc.loc Reference15Ideal.main_arg2)) = _
    rw [b0, b1, b2]
    exact funext fun i => Kernel15Ideal.Gen.reference i

/-- The two programs of the value weight's gradient end with the same store. -/
theorem equal16 : algebraic_Kernel16Ideal_Reference16Ideal := by
  intro m g m' g' _ hargs
  refine ⟨fun c => Kernel16Ideal.Gen.result m c, ?_, ?_⟩
  · refine (θ_run Kernel16Ideal.defs _ _).mono (fun r h c => ?_) (Kernel16Ideal.Value.run_blocks m g)
    obtain ⟨k0, ka⟩ := h c
    exact ⟨k0.trans Kernel16Ideal.Gen.arr, ka⟩
  · refine (θ_run Reference16Ideal.defs _ _).mono (fun r h c => ?_) (Reference16Ideal.Value.run m' g')
    obtain ⟨k0, ka⟩ := h c
    obtain ⟨b0, b1, b2⟩ := hargs c
    refine ⟨k0.trans ?_, ka⟩
    refine (Reference16Ideal.Read.val_main_v7_eq _ _ _).trans ?_
    show Reference16Ideal.Read.val_main_v7 (F := Ideal) (m' (c.tc.loc Reference16Ideal.main_arg0)) (m' (c.tc.loc Reference16Ideal.main_arg1)) (m' (c.tc.loc Reference16Ideal.main_arg2)) = _
    rw [b0, b1, b2]
    exact funext fun i => Kernel16Ideal.Gen.reference i

/-- The two programs of the memory's keys or values end with the same array. -/
theorem equal17 : algebraic_Kernel17Ideal_Reference17Ideal := by
  intro m g m' g' _ hargs
  refine ⟨fun c => Kernel17Ideal.Gen.result m c, ?_, ?_⟩
  · refine (θ_run Kernel17Ideal.defs _ _).mono (fun r h c => ?_) (Kernel17Ideal.Value.run_blocks m g)
    obtain ⟨k0, ka⟩ := h c
    exact ⟨k0.trans Kernel17Ideal.Gen.arr, ka⟩
  · refine (θ_run Reference17Ideal.defs _ _).mono (fun r h c => ?_) (Reference17Ideal.Value.run m' g')
    obtain ⟨k0, ka⟩ := h c
    obtain ⟨b0, b1⟩ := hargs c
    refine ⟨k0.trans ?_, ka⟩
    refine (Reference17Ideal.Read.val_main_v0_eq _ _).trans ?_
    show Reference17Ideal.Read.val_main_v0 (F := Ideal) (m' (c.tc.loc Reference17Ideal.main_arg0)) (m' (c.tc.loc Reference17Ideal.main_arg1)) = _
    rw [b0, b1]
    exact funext fun i => Kernel17Ideal.Gen.reference i

/-- The two programs of the loss head end with the same loss and the same gradient. -/
theorem equal18 : algebraic_Kernel18Ideal_Reference18Ideal := by
  intro m g m' g' _ hargs
  refine ⟨fun c => Kernel18Ideal.Gen.loss m c, fun c => Kernel18Ideal.Gen.grad m c, ?_, ?_⟩
  · refine (θ_run Kernel18Ideal.defs _ _).mono (fun r h c => ?_) (Kernel18Ideal.Value.run_blocks m g)
    obtain ⟨k0, k1, ka⟩ := h c
    exact ⟨k0.trans Kernel18Ideal.Gen.arr2, k1.trans Kernel18Ideal.Gen.arr3, ka⟩
  · refine (θ_run Reference18Ideal.defs _ _).mono (fun r h c => ?_) (Reference18Ideal.Value.run m' g')
    obtain ⟨k0, k1, ka⟩ := h c
    obtain ⟨b0, b1⟩ := hargs c
    refine ⟨k0.trans ?_, k1.trans ?_, ka⟩
    · refine (Reference18Ideal.Read.val_main_v15_eq _ _).trans ?_
      show Reference18Ideal.Read.val_main_v15 (F := Ideal) (m' (c.tc.loc Reference18Ideal.main_arg0)) (m' (c.tc.loc Reference18Ideal.main_arg1)) = _
      rw [b0, b1]
      exact funext fun i => Kernel18Ideal.Gen.ref_loss i
    · refine (Reference18Ideal.Read.val_main_v14_eq _ _).trans ?_
      show Reference18Ideal.Read.val_main_v14 (F := Ideal) (m' (c.tc.loc Reference18Ideal.main_arg0)) (m' (c.tc.loc Reference18Ideal.main_arg1)) = _
      rw [b0, b1]
      exact funext fun i => Kernel18Ideal.Gen.ref_grad i

/-- The two programs of the AdamW step of the squared-ReLU layer's first weight end with the same arrays. -/
theorem equal19 : algebraic_Kernel19Ideal_Reference19Ideal := by
  intro m g m' g' _ hargs
  refine ⟨_, _, _, _, Kernel19Ideal.Value.run_blocks m g, ?_⟩
  refine (θ_run Reference19Ideal.defs _ _).mono (fun r h c => ?_) (Reference19Ideal.Value.run m' g')
  obtain ⟨b0, b1, b2, b3⟩ := hargs c
  obtain ⟨k0, k1, k2, k3, ka⟩ := h c
  have e := @AdamW.rows_eq 2048 1024 4096 0 (m' (c.tc.loc Reference19Ideal.main_arg3)) (by decide) (by decide) (by decide) rfl (by omega) (by omega)
  rw [e, b3] at k0
  rw [e, b0, b1, b2, b3] at k1
  rw [e, b1, b3] at k2
  rw [e, b2, b3] at k3
  exact ⟨k0.trans Kernel19Ideal.Gen.arr4.symm, k1.trans Kernel19Ideal.Gen.arr5.symm, k2.trans Kernel19Ideal.Gen.arr6.symm, k3.trans Kernel19Ideal.Gen.arr7.symm, ka⟩

/-- The two programs of the AdamW step of a gain, a bias or another weight of 2 rows of 1024 end with the same arrays. -/
theorem equal20 : algebraic_Kernel20Ideal_Reference20Ideal := by
  intro m g m' g' _ hargs
  refine ⟨_, _, _, Kernel20Ideal.Value.run m g, ?_⟩
  refine (θ_run Reference20Ideal.defs _ _).mono (fun r h c => ?_) (Reference20Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 2 rows of 8 end with the same arrays. -/
theorem equal21 : algebraic_Kernel21Ideal_Reference21Ideal := by
  intro m g m' g' _ hargs
  refine ⟨_, _, _, Kernel21Ideal.Value.run m g, ?_⟩
  refine (θ_run Reference21Ideal.defs _ _).mono (fun r h c => ?_) (Reference21Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 2 rows of 256 end with the same arrays. -/
theorem equal22 : algebraic_Kernel22Ideal_Reference22Ideal := by
  intro m g m' g' _ hargs
  refine ⟨_, _, _, Kernel22Ideal.Value.run m g, ?_⟩
  refine (θ_run Reference22Ideal.defs _ _).mono (fun r h c => ?_) (Reference22Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 2 rows of 512 end with the same arrays. -/
theorem equal23 : algebraic_Kernel23Ideal_Reference23Ideal := by
  intro m g m' g' _ hargs
  refine ⟨_, _, _, Kernel23Ideal.Value.run m g, ?_⟩
  refine (θ_run Reference23Ideal.defs _ _).mono (fun r h c => ?_) (Reference23Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 2 rows of 16 end with the same arrays. -/
theorem equal24 : algebraic_Kernel24Ideal_Reference24Ideal := by
  intro m g m' g' _ hargs
  refine ⟨_, _, _, Kernel24Ideal.Value.run m g, ?_⟩
  refine (θ_run Reference24Ideal.defs _ _).mono (fun r h c => ?_) (Reference24Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 32 rows of 64 end with the same arrays. -/
theorem equal25 : algebraic_Kernel25Ideal_Reference25Ideal := by
  intro m g m' g' _ hargs
  refine ⟨_, _, _, Kernel25Ideal.Value.run m g, ?_⟩
  refine (θ_run Reference25Ideal.defs _ _).mono (fun r h c => ?_) (Reference25Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 8 rows of 64 end with the same arrays. -/
theorem equal26 : algebraic_Kernel26Ideal_Reference26Ideal := by
  intro m g m' g' _ hargs
  refine ⟨_, _, _, Kernel26Ideal.Value.run m g, ?_⟩
  refine (θ_run Reference26Ideal.defs _ _).mono (fun r h c => ?_) (Reference26Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 8 rows of 256 end with the same arrays. -/
theorem equal27 : algebraic_Kernel27Ideal_Reference27Ideal := by
  intro m g m' g' _ hargs
  refine ⟨_, _, _, Kernel27Ideal.Value.run m g, ?_⟩
  refine (θ_run Reference27Ideal.defs _ _).mono (fun r h c => ?_) (Reference27Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 128 rows of 256 end with the same arrays. -/
theorem equal28 : algebraic_Kernel28Ideal_Reference28Ideal := by
  intro m g m' g' _ hargs
  refine ⟨_, _, _, Kernel28Ideal.Value.run m g, ?_⟩
  refine (θ_run Reference28Ideal.defs _ _).mono (fun r h c => ?_) (Reference28Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 512 rows of 64 end with the same arrays. -/
theorem equal29 : algebraic_Kernel29Ideal_Reference29Ideal := by
  intro m g m' g' _ hargs
  refine ⟨_, _, _, Kernel29Ideal.Value.run m g, ?_⟩
  refine (θ_run Reference29Ideal.defs _ _).mono (fun r h c => ?_) (Reference29Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of a weight of 2048 rows of 16 end with the same arrays. -/
theorem equal30 : algebraic_Kernel30Ideal_Reference30Ideal := by
  intro m g m' g' _ hargs
  refine ⟨_, _, _, Kernel30Ideal.Value.run m g, ?_⟩
  refine (θ_run Reference30Ideal.defs _ _).mono (fun r h c => ?_) (Reference30Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of the input projection end with the same arrays. -/
theorem equal31 : algebraic_Kernel31Ideal_Reference31Ideal := by
  intro m g m' g' _ hargs
  refine ⟨_, _, _, Kernel31Ideal.Value.run m g, ?_⟩
  refine (θ_run Reference31Ideal.defs _ _).mono (fun r h c => ?_) (Reference31Ideal.Value.run m' g')
  obtain ⟨b0, b1, b2, b3⟩ := hargs c
  obtain ⟨k0, k1, k2, ka⟩ := h c
  rw [b0, b1, b2, b3] at k0
  rw [b1, b3] at k1
  rw [b2, b3] at k2
  exact ⟨k0.trans (funext fun i => (AdamW.delta_eq _ _ _).symm), k1, k2, ka⟩

/-- The two programs of the AdamW step of the squared-ReLU layer's second weight end with the same arrays. -/
theorem equal32 : algebraic_Kernel32Ideal_Reference32Ideal := by
  intro m g m' g' _ hargs
  refine ⟨_, _, _, _, Kernel32Ideal.Value.run_blocks m g, ?_⟩
  refine (θ_run Reference32Ideal.defs _ _).mono (fun r h c => ?_) (Reference32Ideal.Value.run m' g')
  obtain ⟨b0, b1, b2, b3⟩ := hargs c
  obtain ⟨k0, k1, k2, k3, ka⟩ := h c
  have e := @AdamW.rows_eq 2048 1024 5120 1024 (m' (c.tc.loc Reference32Ideal.main_arg3)) (by decide) (by decide) (by decide) rfl (by omega) (by omega)
  rw [e, b3] at k0
  rw [e, b0, b1, b2, b3] at k1
  rw [e, b1, b3] at k2
  rw [e, b2, b3] at k3
  exact ⟨k0.trans Kernel32Ideal.Gen.arr4.symm, k1.trans Kernel32Ideal.Gen.arr5.symm, k2.trans Kernel32Ideal.Gen.arr6.symm, k3.trans Kernel32Ideal.Gen.arr7.symm, ka⟩

/-- The two programs of the AdamW step of the mixers' output weight end with the same arrays. -/
theorem equal33 : algebraic_Kernel33Ideal_Reference33Ideal := by
  intro m g m' g' _ hargs
  refine ⟨_, _, _, _, Kernel33Ideal.Value.run_blocks m g, ?_⟩
  refine (θ_run Reference33Ideal.defs _ _).mono (fun r h c => ?_) (Reference33Ideal.Value.run m' g')
  obtain ⟨b0, b1, b2, b3⟩ := hargs c
  obtain ⟨k0, k1, k2, k3, ka⟩ := h c
  have e := @AdamW.rows_eq 512 256 6144 2048 (m' (c.tc.loc Reference33Ideal.main_arg3)) (by decide) (by decide) (by decide) rfl (by omega) (by omega)
  rw [e, b3] at k0
  rw [e, b0, b1, b2, b3] at k1
  rw [e, b1, b3] at k2
  rw [e, b2, b3] at k3
  exact ⟨k0.trans Kernel33Ideal.Gen.arr4.symm, k1.trans Kernel33Ideal.Gen.arr5.symm, k2.trans Kernel33Ideal.Gen.arr6.symm, k3.trans Kernel33Ideal.Gen.arr7.symm, ka⟩

/-- The two programs of the AdamW step of the query weight end with the same arrays. -/
theorem equal34 : algebraic_Kernel34Ideal_Reference34Ideal := by
  intro m g m' g' _ hargs
  refine ⟨_, _, _, _, Kernel34Ideal.Value.run_blocks m g, ?_⟩
  refine (θ_run Reference34Ideal.defs _ _).mono (fun r h c => ?_) (Reference34Ideal.Value.run m' g')
  obtain ⟨b0, b1, b2, b3⟩ := hargs c
  obtain ⟨k0, k1, k2, k3, ka⟩ := h c
  have e := @AdamW.rows_eq 512 256 6400 2304 (m' (c.tc.loc Reference34Ideal.main_arg3)) (by decide) (by decide) (by decide) rfl (by omega) (by omega)
  rw [e, b3] at k0
  rw [e, b0, b1, b2, b3] at k1
  rw [e, b1, b3] at k2
  rw [e, b2, b3] at k3
  exact ⟨k0.trans Kernel34Ideal.Gen.arr4.symm, k1.trans Kernel34Ideal.Gen.arr5.symm, k2.trans Kernel34Ideal.Gen.arr6.symm, k3.trans Kernel34Ideal.Gen.arr7.symm, ka⟩

/-- The two programs of the AdamW step of the key weight end with the same arrays. -/
theorem equal35 : algebraic_Kernel35Ideal_Reference35Ideal := by
  intro m g m' g' _ hargs
  refine ⟨_, _, _, _, Kernel35Ideal.Value.run_blocks m g, ?_⟩
  refine (θ_run Reference35Ideal.defs _ _).mono (fun r h c => ?_) (Reference35Ideal.Value.run m' g')
  obtain ⟨b0, b1, b2, b3⟩ := hargs c
  obtain ⟨k0, k1, k2, k3, ka⟩ := h c
  have e := @AdamW.rows_eq 512 256 6656 2560 (m' (c.tc.loc Reference35Ideal.main_arg3)) (by decide) (by decide) (by decide) rfl (by omega) (by omega)
  rw [e, b3] at k0
  rw [e, b0, b1, b2, b3] at k1
  rw [e, b1, b3] at k2
  rw [e, b2, b3] at k3
  exact ⟨k0.trans Kernel35Ideal.Gen.arr4.symm, k1.trans Kernel35Ideal.Gen.arr5.symm, k2.trans Kernel35Ideal.Gen.arr6.symm, k3.trans Kernel35Ideal.Gen.arr7.symm, ka⟩

/-- The two programs of the AdamW step of the value weight end with the same arrays. -/
theorem equal36 : algebraic_Kernel36Ideal_Reference36Ideal := by
  intro m g m' g' _ hargs
  refine ⟨_, _, _, _, Kernel36Ideal.Value.run_blocks m g, ?_⟩
  refine (θ_run Reference36Ideal.defs _ _).mono (fun r h c => ?_) (Reference36Ideal.Value.run m' g')
  obtain ⟨b0, b1, b2, b3⟩ := hargs c
  obtain ⟨k0, k1, k2, k3, ka⟩ := h c
  have e := @AdamW.rows_eq 512 256 6912 2816 (m' (c.tc.loc Reference36Ideal.main_arg3)) (by decide) (by decide) (by decide) rfl (by omega) (by omega)
  rw [e, b3] at k0
  rw [e, b0, b1, b2, b3] at k1
  rw [e, b1, b3] at k2
  rw [e, b2, b3] at k3
  exact ⟨k0.trans Kernel36Ideal.Gen.arr4.symm, k1.trans Kernel36Ideal.Gen.arr5.symm, k2.trans Kernel36Ideal.Gen.arr6.symm, k3.trans Kernel36Ideal.Gen.arr7.symm, ka⟩

/-- The two programs of the AdamW step of the cross attention's output weight end with the same arrays. -/
theorem equal37 : algebraic_Kernel37Ideal_Reference37Ideal := by
  intro m g m' g' _ hargs
  refine ⟨_, _, _, _, Kernel37Ideal.Value.run_blocks m g, ?_⟩
  refine (θ_run Reference37Ideal.defs _ _).mono (fun r h c => ?_) (Reference37Ideal.Value.run m' g')
  obtain ⟨b0, b1, b2, b3⟩ := hargs c
  obtain ⟨k0, k1, k2, k3, ka⟩ := h c
  have e := @AdamW.rows_eq 512 256 7168 3072 (m' (c.tc.loc Reference37Ideal.main_arg3)) (by decide) (by decide) (by decide) rfl (by omega) (by omega)
  rw [e, b3] at k0
  rw [e, b0, b1, b2, b3] at k1
  rw [e, b1, b3] at k2
  rw [e, b2, b3] at k3
  exact ⟨k0.trans Kernel37Ideal.Gen.arr4.symm, k1.trans Kernel37Ideal.Gen.arr5.symm, k2.trans Kernel37Ideal.Gen.arr6.symm, k3.trans Kernel37Ideal.Gen.arr7.symm, ka⟩

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Kernel31.Gen.facts, Kernel31Ideal.Gen.facts, Reference31Ideal.Gen.facts, Kernel32.Gen.facts, Kernel32Ideal.Gen.facts, Reference32Ideal.Gen.facts, Kernel33.Gen.facts, Kernel33Ideal.Gen.facts, Reference33Ideal.Gen.facts, Kernel34.Gen.facts, Kernel34Ideal.Gen.facts, Reference34Ideal.Gen.facts, Kernel35.Gen.facts, Kernel35Ideal.Gen.facts, Reference35Ideal.Gen.facts, Kernel36.Gen.facts, Kernel36Ideal.Gen.facts, Reference36Ideal.Gen.facts, Kernel37.Gen.facts, Kernel37Ideal.Gen.facts, Reference37Ideal.Gen.facts, Pre_finite_inputs.Gen.facts, Pre_finite_inputs2.Gen.facts, Pre_finite_inputs5.Gen.facts,
  fun m ρ _ => Kernel.Gen.frame m ρ, fun m ρ _ => KernelIdeal.Gen.frame m ρ, fun m ρ _ => KernelIdeal.Gen.frame m ρ,
  fun m ρ _ => (θ_run ReferenceIdeal.defs _ _).mono (fun r h => ⟨fun c => (h c).2.2.2.2.2.2.2, sem_eq_zero_of_no_sems (by decide) r.2⟩) (ReferenceIdeal.Value.run m ρ), fun m ρ _ => (θ_run ReferenceIdeal.defs _ _).mono (fun r h => ⟨fun c => (h c).2.2.2.2.2.2.2, sem_eq_zero_of_no_sems (by decide) r.2⟩) (ReferenceIdeal.Value.run m ρ),
  fun m ρ _ => Kernel2.Gen.frame m ρ, fun m ρ _ => Kernel2Ideal.Gen.frame m ρ, fun m ρ _ => Kernel2Ideal.Gen.frame m ρ,
  fun m ρ _ => (θ_run Reference2Ideal.defs _ _).mono (fun r h => ⟨fun c => (h c).2.2.2.2.2, sem_eq_zero_of_no_sems (by decide) r.2⟩) (Reference2Ideal.Value.run m ρ), fun m ρ _ => (θ_run Reference2Ideal.defs _ _).mono (fun r h => ⟨fun c => (h c).2.2.2.2.2, sem_eq_zero_of_no_sems (by decide) r.2⟩) (Reference2Ideal.Value.run m ρ),
  fun m ρ _ => Kernel3.Gen.frame m ρ, fun m ρ _ => Kernel3Ideal.Gen.frame m ρ,
  fun m ρ _ => (θ_run Reference3Ideal.defs _ _).mono (fun r h => ⟨fun c => (h c).2, sem_eq_zero_of_no_sems (by decide) r.2⟩) (Reference3Ideal.Value.run m ρ),
  fun m ρ _ => Kernel4.Gen.frame m ρ, fun m ρ _ => Kernel4Ideal.Gen.frame m ρ,
  fun m ρ _ => (θ_run Reference4Ideal.defs _ _).mono (fun r h => ⟨fun c => (h c).2, sem_eq_zero_of_no_sems (by decide) r.2⟩) (Reference4Ideal.Value.run m ρ),
  fun m ρ _ => Kernel5.Gen.frame m ρ, fun m ρ _ => Kernel5Ideal.Gen.frame m ρ, fun m ρ _ => Kernel5Ideal.Gen.frame m ρ,
  fun m ρ _ => (θ_run Reference5Ideal.defs _ _).mono (fun r h => ⟨fun c => (h c).2.2.2.2.2, sem_eq_zero_of_no_sems (by decide) r.2⟩) (Reference5Ideal.Value.run m ρ), fun m ρ _ => (θ_run Reference5Ideal.defs _ _).mono (fun r h => ⟨fun c => (h c).2.2.2.2.2, sem_eq_zero_of_no_sems (by decide) r.2⟩) (Reference5Ideal.Value.run m ρ),
  fun m ρ _ => Kernel6.Gen.frame m ρ, fun m ρ _ => Kernel6Ideal.Gen.frame m ρ,
  fun m ρ _ => (θ_run Reference6Ideal.defs _ _).mono (fun r h => ⟨fun c => (h c).2, sem_eq_zero_of_no_sems (by decide) r.2⟩) (Reference6Ideal.Value.run m ρ),
  fun m ρ _ => Kernel7.Gen.frame m ρ, fun m ρ _ => Kernel7Ideal.Gen.frame m ρ,
  fun m ρ _ => (θ_run Reference7Ideal.defs _ _).mono (fun r h => ⟨fun c => (h c).2, sem_eq_zero_of_no_sems (by decide) r.2⟩) (Reference7Ideal.Value.run m ρ),
  fun m ρ _ => Kernel8.Gen.frame m ρ, fun m ρ _ => Kernel8Ideal.Gen.frame m ρ,
  fun m ρ _ => (θ_run Reference8Ideal.defs _ _).mono (fun r h => ⟨fun c => (h c).2, sem_eq_zero_of_no_sems (by decide) r.2⟩) (Reference8Ideal.Value.run m ρ),
  fun m ρ _ => Kernel9.Gen.frame m ρ, fun m ρ _ => Kernel9Ideal.Gen.frame m ρ,
  fun m ρ _ => (θ_run Reference9Ideal.defs _ _).mono (fun r h => ⟨fun c => (h c).2, sem_eq_zero_of_no_sems (by decide) r.2⟩) (Reference9Ideal.Value.run m ρ),
  fun m ρ _ => Kernel10.Gen.frame m ρ, fun m ρ _ => Kernel10Ideal.Gen.frame m ρ,
  fun m ρ _ => (θ_run Reference10Ideal.defs _ _).mono (fun r h => ⟨fun c => (h c).2, sem_eq_zero_of_no_sems (by decide) r.2⟩) (Reference10Ideal.Value.run m ρ),
  fun m ρ _ => Kernel11.Gen.frame m ρ, fun m ρ _ => Kernel11Ideal.Gen.frame m ρ,
  fun m ρ _ => (θ_run Reference11Ideal.defs _ _).mono (fun r h => ⟨fun c => (h c).2, sem_eq_zero_of_no_sems (by decide) r.2⟩) (Reference11Ideal.Value.run m ρ),
  fun m ρ _ => Kernel12.Gen.frame m ρ, fun m ρ _ => Kernel12Ideal.Gen.frame m ρ,
  fun m ρ _ => (θ_run Reference12Ideal.defs _ _).mono (fun r h => ⟨fun c => (h c).2.2.2.2, sem_eq_zero_of_no_sems (by decide) r.2⟩) (Reference12Ideal.Value.run m ρ),
  fun m ρ _ => Kernel13.Gen.frame m ρ, fun m ρ _ => Kernel13Ideal.Gen.frame m ρ,
  fun m ρ _ => (θ_run Reference13Ideal.defs _ _).mono (fun r h => ⟨fun c => (h c).2.2.2.2, sem_eq_zero_of_no_sems (by decide) r.2⟩) (Reference13Ideal.Value.run m ρ),
  fun m ρ _ => Kernel14.Gen.frame m ρ, fun m ρ _ => Kernel14Ideal.Gen.frame m ρ,
  fun m ρ _ => (θ_run Reference14Ideal.defs _ _).mono (fun r h => ⟨fun c => (h c).2.2.2, sem_eq_zero_of_no_sems (by decide) r.2⟩) (Reference14Ideal.Value.run m ρ),
  fun m ρ _ => Kernel15.Gen.frame m ρ, fun m ρ _ => Kernel15Ideal.Gen.frame m ρ,
  fun m ρ _ => (θ_run Reference15Ideal.defs _ _).mono (fun r h => ⟨fun c => (h c).2, sem_eq_zero_of_no_sems (by decide) r.2⟩) (Reference15Ideal.Value.run m ρ),
  fun m ρ _ => Kernel16.Gen.frame m ρ, fun m ρ _ => Kernel16Ideal.Gen.frame m ρ,
  fun m ρ _ => (θ_run Reference16Ideal.defs _ _).mono (fun r h => ⟨fun c => (h c).2, sem_eq_zero_of_no_sems (by decide) r.2⟩) (Reference16Ideal.Value.run m ρ),
  fun m ρ _ => Kernel17.Gen.frame m ρ, fun m ρ _ => Kernel17Ideal.Gen.frame m ρ,
  fun m ρ _ => (θ_run Reference17Ideal.defs _ _).mono (fun r h => ⟨fun c => (h c).2, sem_eq_zero_of_no_sems (by decide) r.2⟩) (Reference17Ideal.Value.run m ρ),
  fun m ρ _ => Kernel18.Gen.frame m ρ, fun m ρ _ => Kernel18Ideal.Gen.frame m ρ,
  fun m ρ _ => (θ_run Reference18Ideal.defs _ _).mono (fun r h => ⟨fun c => (h c).2.2, sem_eq_zero_of_no_sems (by decide) r.2⟩) (Reference18Ideal.Value.run m ρ),
  fun m ρ _ => Kernel19.Gen.frame m ρ, fun m ρ _ => Kernel19Ideal.Gen.frame m ρ,
  fun m ρ _ => (θ_run Reference19Ideal.defs _ _).mono (fun r h => ⟨fun c => (h c).2.2.2.2, sem_eq_zero_of_no_sems (by decide) r.2⟩) (Reference19Ideal.Value.run m ρ),
  fun m ρ _ => Kernel20.Gen.frame m ρ, fun m ρ _ => Kernel20Ideal.Gen.frame m ρ,
  fun m ρ _ => (θ_run Reference20Ideal.defs _ _).mono (fun r h => ⟨fun c => (h c).2.2.2, sem_eq_zero_of_no_sems (by decide) r.2⟩) (Reference20Ideal.Value.run m ρ),
  fun m ρ _ => Kernel21.Gen.frame m ρ, fun m ρ _ => Kernel21Ideal.Gen.frame m ρ,
  fun m ρ _ => (θ_run Reference21Ideal.defs _ _).mono (fun r h => ⟨fun c => (h c).2.2.2, sem_eq_zero_of_no_sems (by decide) r.2⟩) (Reference21Ideal.Value.run m ρ),
  fun m ρ _ => Kernel22.Gen.frame m ρ, fun m ρ _ => Kernel22Ideal.Gen.frame m ρ,
  fun m ρ _ => (θ_run Reference22Ideal.defs _ _).mono (fun r h => ⟨fun c => (h c).2.2.2, sem_eq_zero_of_no_sems (by decide) r.2⟩) (Reference22Ideal.Value.run m ρ),
  fun m ρ _ => Kernel23.Gen.frame m ρ, fun m ρ _ => Kernel23Ideal.Gen.frame m ρ,
  fun m ρ _ => (θ_run Reference23Ideal.defs _ _).mono (fun r h => ⟨fun c => (h c).2.2.2, sem_eq_zero_of_no_sems (by decide) r.2⟩) (Reference23Ideal.Value.run m ρ),
  fun m ρ _ => Kernel24.Gen.frame m ρ, fun m ρ _ => Kernel24Ideal.Gen.frame m ρ,
  fun m ρ _ => (θ_run Reference24Ideal.defs _ _).mono (fun r h => ⟨fun c => (h c).2.2.2, sem_eq_zero_of_no_sems (by decide) r.2⟩) (Reference24Ideal.Value.run m ρ),
  fun m ρ _ => Kernel25.Gen.frame m ρ, fun m ρ _ => Kernel25Ideal.Gen.frame m ρ,
  fun m ρ _ => (θ_run Reference25Ideal.defs _ _).mono (fun r h => ⟨fun c => (h c).2.2.2, sem_eq_zero_of_no_sems (by decide) r.2⟩) (Reference25Ideal.Value.run m ρ),
  fun m ρ _ => Kernel26.Gen.frame m ρ, fun m ρ _ => Kernel26Ideal.Gen.frame m ρ,
  fun m ρ _ => (θ_run Reference26Ideal.defs _ _).mono (fun r h => ⟨fun c => (h c).2.2.2, sem_eq_zero_of_no_sems (by decide) r.2⟩) (Reference26Ideal.Value.run m ρ),
  fun m ρ _ => Kernel27.Gen.frame m ρ, fun m ρ _ => Kernel27Ideal.Gen.frame m ρ,
  fun m ρ _ => (θ_run Reference27Ideal.defs _ _).mono (fun r h => ⟨fun c => (h c).2.2.2, sem_eq_zero_of_no_sems (by decide) r.2⟩) (Reference27Ideal.Value.run m ρ),
  fun m ρ _ => Kernel28.Gen.frame m ρ, fun m ρ _ => Kernel28Ideal.Gen.frame m ρ,
  fun m ρ _ => (θ_run Reference28Ideal.defs _ _).mono (fun r h => ⟨fun c => (h c).2.2.2, sem_eq_zero_of_no_sems (by decide) r.2⟩) (Reference28Ideal.Value.run m ρ),
  fun m ρ _ => Kernel29.Gen.frame m ρ, fun m ρ _ => Kernel29Ideal.Gen.frame m ρ,
  fun m ρ _ => (θ_run Reference29Ideal.defs _ _).mono (fun r h => ⟨fun c => (h c).2.2.2, sem_eq_zero_of_no_sems (by decide) r.2⟩) (Reference29Ideal.Value.run m ρ),
  fun m ρ _ => Kernel30.Gen.frame m ρ, fun m ρ _ => Kernel30Ideal.Gen.frame m ρ,
  fun m ρ _ => (θ_run Reference30Ideal.defs _ _).mono (fun r h => ⟨fun c => (h c).2.2.2, sem_eq_zero_of_no_sems (by decide) r.2⟩) (Reference30Ideal.Value.run m ρ),
  fun m ρ _ => Kernel31.Gen.frame m ρ, fun m ρ _ => Kernel31Ideal.Gen.frame m ρ,
  fun m ρ _ => (θ_run Reference31Ideal.defs _ _).mono (fun r h => ⟨fun c => (h c).2.2.2, sem_eq_zero_of_no_sems (by decide) r.2⟩) (Reference31Ideal.Value.run m ρ),
  fun m ρ _ => Kernel32.Gen.frame m ρ, fun m ρ _ => Kernel32Ideal.Gen.frame m ρ,
  fun m ρ _ => (θ_run Reference32Ideal.defs _ _).mono (fun r h => ⟨fun c => (h c).2.2.2.2, sem_eq_zero_of_no_sems (by decide) r.2⟩) (Reference32Ideal.Value.run m ρ),
  fun m ρ _ => Kernel33.Gen.frame m ρ, fun m ρ _ => Kernel33Ideal.Gen.frame m ρ,
  fun m ρ _ => (θ_run Reference33Ideal.defs _ _).mono (fun r h => ⟨fun c => (h c).2.2.2.2, sem_eq_zero_of_no_sems (by decide) r.2⟩) (Reference33Ideal.Value.run m ρ),
  fun m ρ _ => Kernel34.Gen.frame m ρ, fun m ρ _ => Kernel34Ideal.Gen.frame m ρ,
  fun m ρ _ => (θ_run Reference34Ideal.defs _ _).mono (fun r h => ⟨fun c => (h c).2.2.2.2, sem_eq_zero_of_no_sems (by decide) r.2⟩) (Reference34Ideal.Value.run m ρ),
  fun m ρ _ => Kernel35.Gen.frame m ρ, fun m ρ _ => Kernel35Ideal.Gen.frame m ρ,
  fun m ρ _ => (θ_run Reference35Ideal.defs _ _).mono (fun r h => ⟨fun c => (h c).2.2.2.2, sem_eq_zero_of_no_sems (by decide) r.2⟩) (Reference35Ideal.Value.run m ρ),
  fun m ρ _ => Kernel36.Gen.frame m ρ, fun m ρ _ => Kernel36Ideal.Gen.frame m ρ,
  fun m ρ _ => (θ_run Reference36Ideal.defs _ _).mono (fun r h => ⟨fun c => (h c).2.2.2.2, sem_eq_zero_of_no_sems (by decide) r.2⟩) (Reference36Ideal.Value.run m ρ),
  fun m ρ _ => Kernel37.Gen.frame m ρ, fun m ρ _ => Kernel37Ideal.Gen.frame m ρ,
  fun m ρ _ => (θ_run Reference37Ideal.defs _ _).mono (fun r h => ⟨fun c => (h c).2.2.2.2, sem_eq_zero_of_no_sems (by decide) r.2⟩) (Reference37Ideal.Value.run m ρ),
  trivial, equal, trivial, equal2, trivial, equal3, trivial, equal4, trivial, equal5, trivial, equal6, trivial, equal7, trivial, equal8, trivial, equal9, trivial, equal10, trivial, equal11, trivial, equal12, trivial, equal13, trivial, equal14, trivial, equal15, trivial, equal16, trivial, equal17, trivial, equal18, ⟨IdealRules.named_const.statement _ _ _ _ _ rfl, IdealRules.named_const.statement _ _ _ _ _ rfl⟩, equal19, ⟨IdealRules.named_const.statement _ _ _ _ _ rfl, IdealRules.named_const.statement _ _ _ _ _ rfl⟩, equal20, ⟨IdealRules.named_const.statement _ _ _ _ _ rfl, IdealRules.named_const.statement _ _ _ _ _ rfl⟩, equal21, ⟨IdealRules.named_const.statement _ _ _ _ _ rfl, IdealRules.named_const.statement _ _ _ _ _ rfl⟩, equal22, ⟨IdealRules.named_const.statement _ _ _ _ _ rfl, IdealRules.named_const.statement _ _ _ _ _ rfl⟩, equal23, ⟨IdealRules.named_const.statement _ _ _ _ _ rfl, IdealRules.named_const.statement _ _ _ _ _ rfl⟩, equal24, ⟨IdealRules.named_const.statement _ _ _ _ _ rfl, IdealRules.named_const.statement _ _ _ _ _ rfl⟩, equal25, ⟨IdealRules.named_const.statement _ _ _ _ _ rfl, IdealRules.named_const.statement _ _ _ _ _ rfl⟩, equal26, ⟨IdealRules.named_const.statement _ _ _ _ _ rfl, IdealRules.named_const.statement _ _ _ _ _ rfl⟩, equal27, ⟨IdealRules.named_const.statement _ _ _ _ _ rfl, IdealRules.named_const.statement _ _ _ _ _ rfl⟩, equal28, ⟨IdealRules.named_const.statement _ _ _ _ _ rfl, IdealRules.named_const.statement _ _ _ _ _ rfl⟩, equal29, ⟨IdealRules.named_const.statement _ _ _ _ _ rfl, IdealRules.named_const.statement _ _ _ _ _ rfl⟩, equal30, ⟨IdealRules.named_const.statement _ _ _ _ _ rfl, IdealRules.named_const.statement _ _ _ _ _ rfl⟩, equal31, ⟨IdealRules.named_const.statement _ _ _ _ _ rfl, IdealRules.named_const.statement _ _ _ _ _ rfl⟩, equal32, ⟨IdealRules.named_const.statement _ _ _ _ _ rfl, IdealRules.named_const.statement _ _ _ _ _ rfl⟩, equal33, ⟨IdealRules.named_const.statement _ _ _ _ _ rfl, IdealRules.named_const.statement _ _ _ _ _ rfl⟩, equal34, ⟨IdealRules.named_const.statement _ _ _ _ _ rfl, IdealRules.named_const.statement _ _ _ _ _ rfl⟩, equal35, ⟨IdealRules.named_const.statement _ _ _ _ _ rfl, IdealRules.named_const.statement _ _ _ _ _ rfl⟩, equal36, ⟨IdealRules.named_const.statement _ _ _ _ _ rfl, IdealRules.named_const.statement _ _ _ _ _ rfl⟩, equal37⟩

end Cert.Proof

end
